-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  IdealRules.named_const.Statement Cert.KernelIdeal.κ "ca" .f32 0x3D122279#32 (((6693141 / 8388608) * (12003091 / 268435456) : ℝ) : EReal)
  ∧ IdealRules.named_const.Statement Cert.KernelIdeal.κ "ca3" .f32 0x3DDB33B6#32 ((3 * ((6693141 / 8388608) * (12003091 / 268435456)) : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_v117) = v5 c
          ∧ r.2.mem ((c.tc : Thread Cert.ReferenceIdeal.nD Cert.ReferenceIdeal.τ).loc Cert.ReferenceIdeal.main_v112) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_admissible (hKernelIdeal := hKernelIdeal) (hReferenceIdeal := hReferenceIdeal) (hPre_admissible := hPre_admissible)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_admissible.lean ====
abbrev S8192x2048 : Shape := ⟨2, ![8192, 2048]⟩
abbrev S8192x9216 : Shape := ⟨2, ![8192, 9216]⟩
abbrev S8x256x256 : Shape := ⟨3, ![8, 256, 256]⟩
abbrev S1x2048 : Shape := ⟨2, ![1, 2048]⟩
abbrev S8192x8x256 : Shape := ⟨3, ![8192, 8, 256]⟩
abbrev S8x256x8192 : Shape := ⟨3, ![8, 256, 8192]⟩
abbrev S_ : Shape := ⟨0, ![]⟩
abbrev S8191x2048 : Shape := ⟨2, ![8191, 2048]⟩

class Facts : Prop where
  shapeCasts_S8192x2048_S8192x8x256 : S8192x2048.ShapeCasts S8192x8x256
  transposes_S8x256x8192_S8192x8x256_2_0_1 : S8x256x8192.Transposes [2, 0, 1] S8192x8x256
  shapeCasts_S8192x8x256_S8192x2048 : S8192x8x256.ShapeCasts S8192x2048
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S1x2048 : S_.BroadcastsInDim S1x2048 (![] : Fin 0 → Fin S1x2048.rank)
  slices_S8192x2048_S8191x2048_0_0 : S8192x2048.Slices ![0, 0] S8191x2048
  concatenates_S1x2048_S8191x2048_S8192x2048_d0 : Shape.Concatenates [S1x2048, S8191x2048] S8192x2048 0
  reducesTo_S8192x2048_S_d0_1 : S8192x2048.ReducesTo [0, 1] S_
  h_S_ : 0 < S_.numel
  bcast_S_S8192x9216 : S_.BroadcastsInDim S8192x9216 (![] : Fin 0 → Fin S8192x9216.rank)
  reducesTo_S8192x9216_S_d0_1 : S8192x9216.ReducesTo [0, 1] S_
  bcast_S_S8x256x256 : S_.BroadcastsInDim S8x256x256 (![] : Fin 0 → Fin S8x256x256.rank)
  reducesTo_S8x256x256_S_d0_1_2 : S8x256x256.ReducesTo [0, 1, 2] S_
  reducesTo_S1x2048_S_d0_1 : S1x2048.ReducesTo [0, 1] S_
  dot_S8x256x256_S8192x8x256_S8x256x8192_1_2_2_0_0_1_wf : DotDims.WF S8x256x256 S8192x8x256 S8x256x8192 [1] [2] [2] [0] [0] [1]

variable [Facts]

def dot_S8x256x256_S8192x8x256_S8x256x8192_1_2_2_0_0_1 : DotDims S8x256x256 S8192x8x256 S8x256x8192 where
  lhsContracting := [1]
  rhsContracting := [2]
  lhsNonContracting := [2]
  rhsNonContracting := [0]
  lhsBatch := [0]
  rhsBatch := [1]
  wf := dot_S8x256x256_S8192x8x256_S8x256x8192_1_2_2_0_0_1_wf
def fn_part5 {F : FTy → Type} [FloatOps F] (main_v66 : IVec S_ 1) (main_v70 : IVec S_ 1) (main_v74 : IVec S_ 1) (main_v85 : IVec S_ 1) (main_v90 : IVec S_ 1) : IVec S_ 1 :=
  let main_v91 : IVec S_ 1 := andi main_v90 main_v66
  let main_v92 : IVec S_ 1 := andi main_v91 main_v70
  let main_v93 : IVec S_ 1 := andi main_v92 main_v74
  let main_v94 : IVec S_ 1 := andi main_v85 main_v93
  main_v94

def fn_part4 {F : FTy → Type} [FloatOps F] (main_arg1 : FVec F S8192x2048 .f32) (main_arg5 : FVec F S8192x2048 .f32) (main_v22 : FVec F S8192x2048 .f32) (main_v32 : FVec F S8192x2048 .f32) (main_v35 : FVec F S8192x2048 .f32) (main_v38 : FVec F S8192x2048 .f32) (main_v42 : IVec S_ 1) (main_v46 : IVec S_ 1) (main_v50 : IVec S_ 1) (main_v54 : IVec S_ 1) (main_v58 : IVec S_ 1) (main_v62 : IVec S_ 1) (main_v66 : IVec S_ 1) (main_v70 : IVec S_ 1) (main_v71 : FVec F S1x2048 .f32) : IVec S_ 1 :=
  let main_cst_22 : FVec F S_ .f32 := constant S_ .f32 0x7F800000#32
  let main_v72 : FVec F S1x2048 .f32 := broadcastInDim S1x2048 ![] bcast_S_S1x2048 main_cst_22
  let main_v73 : IVec S1x2048 1 := cmpf .olt main_v71 main_v72
  let main_c_23 : IVec S_ 1 := constantI S_ 1 1#1
  let main_v74 : IVec S_ 1 := (fun x v => Host.reduce IntOp.andi x v reducesTo_S1x2048_S_d0_1 h_S_) main_v73 main_c_23
  let main_cst_24 : FVec F S_ .f32 := constant S_ .f32 0x0DA24260#32
  let main_v75 : FVec F S8192x2048 .f32 := broadcastInDim S8192x2048 ![] bcast_S_S8192x2048 main_cst_24
  let main_v76 : IVec S8192x2048 1 := cmpf .oge main_v35 main_v75
  let main_c_25 : IVec S_ 1 := constantI S_ 1 1#1
  let main_v77 : IVec S_ 1 := (fun x v => Host.reduce IntOp.andi x v reducesTo_S8192x2048_S_d0_1 h_S_) main_v76 main_c_25
  let main_v78 : FVec F S8192x2048 .f32 := mulf main_v32 main_v38
  let main_v79 : FVec F S8192x2048 .f32 := Host.sqrt main_v35
  let main_v80 : FVec F S8192x2048 .f32 := mulf main_v22 main_arg5
  let main_v81 : FVec F S8192x2048 .f32 := mulf main_v79 main_v80
  let main_v82 : FVec F S8192x2048 .f32 := addf main_v78 main_v81
  let main_v83 : IVec S8192x2048 1 := cmpf .oeq main_arg1 main_v82
  let main_c_26 : IVec S_ 1 := constantI S_ 1 1#1
  let main_v84 : IVec S_ 1 := (fun x v => Host.reduce IntOp.andi x v reducesTo_S8192x2048_S_d0_1 h_S_) main_v83 main_c_26
  let main_v85 : IVec S_ 1 := andi main_v77 main_v84
  let main_v86 : IVec S_ 1 := andi main_v42 main_v46
  let main_v87 : IVec S_ 1 := andi main_v86 main_v50
  let main_v88 : IVec S_ 1 := andi main_v87 main_v54
  let main_v89 : IVec S_ 1 := andi main_v88 main_v58
  let main_v90 : IVec S_ 1 := andi main_v89 main_v62
  fn_part5 (F := F) main_v66 main_v70 main_v74 main_v85 main_v90

def fn_part3 {F : FTy → Type} [FloatOps F] (main_arg1 : FVec F S8192x2048 .f32) (main_arg5 : FVec F S8192x2048 .f32) (main_arg6 : FVec F S1x2048 .f32) (main_arg7 : FVec F S1x2048 .f32) (main_arg8 : FVec F S1x2048 .f32) (main_v22 : FVec F S8192x2048 .f32) (main_v32 : FVec F S8192x2048 .f32) (main_v35 : FVec F S8192x2048 .f32) (main_v38 : FVec F S8192x2048 .f32) (main_v42 : IVec S_ 1) (main_v46 : IVec S_ 1) (main_v50 : IVec S_ 1) (main_v54 : IVec S_ 1) (main_v55 : FVec F S8x256x256 .f32) : IVec S_ 1 :=
  let main_cst_14 : FVec F S_ .f32 := constant S_ .f32 0x7F800000#32
  let main_v56 : FVec F S8x256x256 .f32 := broadcastInDim S8x256x256 ![] bcast_S_S8x256x256 main_cst_14
  let main_v57 : IVec S8x256x256 1 := cmpf .olt main_v55 main_v56
  let main_c_15 : IVec S_ 1 := constantI S_ 1 1#1
  let main_v58 : IVec S_ 1 := (fun x v => Host.reduce IntOp.andi x v reducesTo_S8x256x256_S_d0_1_2 h_S_) main_v57 main_c_15
  let main_v59 : FVec F S8192x2048 .f32 := Host.absf main_arg5
  let main_cst_16 : FVec F S_ .f32 := constant S_ .f32 0x7F800000#32
  let main_v60 : FVec F S8192x2048 .f32 := broadcastInDim S8192x2048 ![] bcast_S_S8192x2048 main_cst_16
  let main_v61 : IVec S8192x2048 1 := cmpf .olt main_v59 main_v60
  let main_c_17 : IVec S_ 1 := constantI S_ 1 1#1
  let main_v62 : IVec S_ 1 := (fun x v => Host.reduce IntOp.andi x v reducesTo_S8192x2048_S_d0_1 h_S_) main_v61 main_c_17
  let main_v63 : FVec F S1x2048 .f32 := Host.absf main_arg6
  let main_cst_18 : FVec F S_ .f32 := constant S_ .f32 0x7F800000#32
  let main_v64 : FVec F S1x2048 .f32 := broadcastInDim S1x2048 ![] bcast_S_S1x2048 main_cst_18
  let main_v65 : IVec S1x2048 1 := cmpf .olt main_v63 main_v64
  let main_c_19 : IVec S_ 1 := constantI S_ 1 1#1
  let main_v66 : IVec S_ 1 := (fun x v => Host.reduce IntOp.andi x v reducesTo_S1x2048_S_d0_1 h_S_) main_v65 main_c_19
  let main_v67 : FVec F S1x2048 .f32 := Host.absf main_arg7
  let main_cst_20 : FVec F S_ .f32 := constant S_ .f32 0x7F800000#32
  let main_v68 : FVec F S1x2048 .f32 := broadcastInDim S1x2048 ![] bcast_S_S1x2048 main_cst_20
  let main_v69 : IVec S1x2048 1 := cmpf .olt main_v67 main_v68
  let main_c_21 : IVec S_ 1 := constantI S_ 1 1#1
  let main_v70 : IVec S_ 1 := (fun x v => Host.reduce IntOp.andi x v reducesTo_S1x2048_S_d0_1 h_S_) main_v69 main_c_21
  let main_v71 : FVec F S1x2048 .f32 := Host.absf main_arg8
  fn_part4 (F := F) main_arg1 main_arg5 main_v22 main_v32 main_v35 main_v38 main_v42 main_v46 main_v50 main_v54 main_v58 main_v62 main_v66 main_v70 main_v71

def fn_part2 {F : FTy → Type} [FloatOps F] (main_arg1 : FVec F S8192x2048 .f32) (main_arg2 : FVec F S8192x9216 .f32) (main_arg3 : FVec F S8x256x256 .f32) (main_arg4 : FVec F S8x256x256 .f32) (main_arg5 : FVec F S8192x2048 .f32) (main_arg6 : FVec F S1x2048 .f32) (main_arg7 : FVec F S1x2048 .f32) (main_arg8 : FVec F S1x2048 .f32) (main_v22 : FVec F S8192x2048 .f32) (main_v32 : FVec F S8192x2048 .f32) (main_v35 : FVec F S8192x2048 .f32) (main_v38 : FVec F S8192x2048 .f32) (main_v39 : FVec F S8192x2048 .f32) : IVec S_ 1 :=
  let main_cst_7 : FVec F S_ .f32 := constant S_ .f32 0x7F800000#32
  let main_v40 : FVec F S8192x2048 .f32 := broadcastInDim S8192x2048 ![] bcast_S_S8192x2048 main_cst_7
  let main_v41 : IVec S8192x2048 1 := cmpf .olt main_v39 main_v40
  let main_c : IVec S_ 1 := constantI S_ 1 1#1
  let main_v42 : IVec S_ 1 := (fun x v => Host.reduce IntOp.andi x v reducesTo_S8192x2048_S_d0_1 h_S_) main_v41 main_c
  let main_v43 : FVec F S8192x2048 .f32 := Host.absf main_arg1
  let main_cst_8 : FVec F S_ .f32 := constant S_ .f32 0x7F800000#32
  let main_v44 : FVec F S8192x2048 .f32 := broadcastInDim S8192x2048 ![] bcast_S_S8192x2048 main_cst_8
  let main_v45 : IVec S8192x2048 1 := cmpf .olt main_v43 main_v44
  let main_c_9 : IVec S_ 1 := constantI S_ 1 1#1
  let main_v46 : IVec S_ 1 := (fun x v => Host.reduce IntOp.andi x v reducesTo_S8192x2048_S_d0_1 h_S_) main_v45 main_c_9
  let main_v47 : FVec F S8192x9216 .f32 := Host.absf main_arg2
  let main_cst_10 : FVec F S_ .f32 := constant S_ .f32 0x7F800000#32
  let main_v48 : FVec F S8192x9216 .f32 := broadcastInDim S8192x9216 ![] bcast_S_S8192x9216 main_cst_10
  let main_v49 : IVec S8192x9216 1 := cmpf .olt main_v47 main_v48
  let main_c_11 : IVec S_ 1 := constantI S_ 1 1#1
  let main_v50 : IVec S_ 1 := (fun x v => Host.reduce IntOp.andi x v reducesTo_S8192x9216_S_d0_1 h_S_) main_v49 main_c_11
  let main_v51 : FVec F S8x256x256 .f32 := Host.absf main_arg3
  let main_cst_12 : FVec F S_ .f32 := constant S_ .f32 0x7F800000#32
  let main_v52 : FVec F S8x256x256 .f32 := broadcastInDim S8x256x256 ![] bcast_S_S8x256x256 main_cst_12
  let main_v53 : IVec S8x256x256 1 := cmpf .olt main_v51 main_v52
  let main_c_13 : IVec S_ 1 := constantI S_ 1 1#1
  let main_v54 : IVec S_ 1 := (fun x v => Host.reduce IntOp.andi x v reducesTo_S8x256x256_S_d0_1_2 h_S_) main_v53 main_c_13
  let main_v55 : FVec F S8x256x256 .f32 := Host.absf main_arg4
  fn_part3 (F := F) main_arg1 main_arg5 main_arg6 main_arg7 main_arg8 main_v22 main_v32 main_v35 main_v38 main_v42 main_v46 main_v50 main_v54 main_v55

def fn_part1 {F : FTy → Type} [FloatOps F] (main_arg0 : FVec F S8192x2048 .f32) (main_arg1 : FVec F S8192x2048 .f32) (main_arg2 : FVec F S8192x9216 .f32) (main_arg3 : FVec F S8x256x256 .f32) (main_arg4 : FVec F S8x256x256 .f32) (main_arg5 : FVec F S8192x2048 .f32) (main_arg6 : FVec F S1x2048 .f32) (main_arg7 : FVec F S1x2048 .f32) (main_arg8 : FVec F S1x2048 .f32) (main_v11 : FVec F S8192x2048 .f32) (main_v20 : FVec F S8192x2048 .f32) : IVec S_ 1 :=
  let main_cst_2 : FVec F S_ .f32 := constant S_ .f32 0x3F800000#32
  let main_v21 : FVec F S8192x2048 .f32 := broadcastInDim S8192x2048 ![] bcast_S_S8192x2048 main_cst_2
  let main_v22 : FVec F S8192x2048 .f32 := Host.divf main_v21 main_v20
  let main_cst_3 : FVec F S_ .f32 := constant S_ .f32 0xC1000000#32
  let main_v23 : FVec F S8192x2048 .f32 := broadcastInDim S8192x2048 ![] bcast_S_S8192x2048 main_cst_3
  let main_v24 : FVec F S8192x2048 .f32 := mulf main_v23 main_v11
  let main_v25 : FVec F S1x2048 .f32 := Host.negf main_arg8
  let main_v26 : FVec F S1x2048 .f32 := Host.exp main_v25
  let main_cst_4 : FVec F S_ .f32 := constant S_ .f32 0x3F800000#32
  let main_v27 : FVec F S1x2048 .f32 := broadcastInDim S1x2048 ![] bcast_S_S1x2048 main_cst_4
  let main_v28 : FVec F S1x2048 .f32 := addf main_v27 main_v26
  let main_v29 : FVec F S1x2048 .f32 := Host.log main_v28
  let main_v30 : FVec F S8192x2048 .f32 := broadcastInDim S8192x2048 ![0, 1] bcast_S1x2048_S8192x2048_0_1 main_v29
  let main_v31 : FVec F S8192x2048 .f32 := mulf main_v24 main_v30
  let main_v32 : FVec F S8192x2048 .f32 := Host.exp main_v31
  let main_v33 : FVec F S8192x2048 .f32 := mulf main_v32 main_v32
  let main_cst_5 : FVec F S_ .f32 := constant S_ .f32 0x3F800000#32
  let main_v34 : FVec F S8192x2048 .f32 := broadcastInDim S8192x2048 ![] bcast_S_S8192x2048 main_cst_5
  let main_v35 : FVec F S8192x2048 .f32 := subf main_v34 main_v33
  let main_cst_6 : FVec F S_ .f32 := constant S_ .f32 0x00000000#32
  let main_v36 : FVec F S1x2048 .f32 := broadcastInDim S1x2048 ![] bcast_S_S1x2048 main_cst_6
  let main_v37 : FVec F S8191x2048 .f32 := (extractStridedSlice S8191x2048 ![0, 0] · slices_S8192x2048_S8191x2048_0_0) main_arg1
  let main_v38 : FVec F S8192x2048 .f32 := (fun a b => concatenate S8192x2048 0 [⟨S1x2048, a⟩, ⟨S8191x2048, b⟩] concatenates_S1x2048_S8191x2048_S8192x2048_d0) main_v36 main_v37
  let main_v39 : FVec F S8192x2048 .f32 := Host.absf main_arg0
  fn_part2 (F := F) main_arg1 main_arg2 main_arg3 main_arg4 main_arg5 main_arg6 main_arg7 main_arg8 main_v22 main_v32 main_v35 main_v38 main_v39

def fn {F : FTy → Type} [FloatOps F] (main_arg0 : FVec F S8192x2048 .f32) (main_arg1 : FVec F S8192x2048 .f32) (main_arg2 : FVec F S8192x9216 .f32) (main_arg3 : FVec F S8x256x256 .f32) (main_arg4 : FVec F S8x256x256 .f32) (main_arg5 : FVec F S8192x2048 .f32) (main_arg6 : FVec F S1x2048 .f32) (main_arg7 : FVec F S1x2048 .f32) (main_arg8 : FVec F S1x2048 .f32) : IVec S_ 1 :=
  let main_v0 : FVec F S8192x8x256 .f32 := shapeCast S8192x8x256 main_arg5 shapeCasts_S8192x2048_S8192x8x256
  let main_v1 : FVec F S8x256x8192 .f32 := (fun l r => Host.dotGeneral dot_S8x256x256_S8192x8x256_S8x256x8192_1_2_2_0_0_1 none l r) main_arg3 main_v0
  let main_v2 : FVec F S8192x8x256 .f32 := (transpose S8192x8x256 [2, 0, 1] · transposes_S8x256x8192_S8192x8x256_2_0_1) main_v1
  let main_v3 : FVec F S8192x2048 .f32 := shapeCast S8192x2048 main_v2 shapeCasts_S8192x8x256_S8192x2048
  let main_v4 : FVec F S8192x2048 .f32 := broadcastInDim S8192x2048 ![0, 1] bcast_S1x2048_S8192x2048_0_1 main_arg6
  let main_v5 : FVec F S8192x2048 .f32 := addf main_v3 main_v4
  let main_v6 : FVec F S8192x2048 .f32 := Host.negf main_v5
  let main_v7 : FVec F S8192x2048 .f32 := Host.exp main_v6
  let main_cst : FVec F S_ .f32 := constant S_ .f32 0x3F800000#32
  let main_v8 : FVec F S8192x2048 .f32 := broadcastInDim S8192x2048 ![] bcast_S_S8192x2048 main_cst
  let main_v9 : FVec F S8192x2048 .f32 := addf main_v8 main_v7
  let main_cst_0 : FVec F S_ .f32 := constant S_ .f32 0x3F800000#32
  let main_v10 : FVec F S8192x2048 .f32 := broadcastInDim S8192x2048 ![] bcast_S_S8192x2048 main_cst_0
  let main_v11 : FVec F S8192x2048 .f32 := Host.divf main_v10 main_v9
  let main_v12 : FVec F S8x256x8192 .f32 := (fun l r => Host.dotGeneral dot_S8x256x256_S8192x8x256_S8x256x8192_1_2_2_0_0_1 none l r) main_arg4 main_v0
  let main_v13 : FVec F S8192x8x256 .f32 := (transpose S8192x8x256 [2, 0, 1] · transposes_S8x256x8192_S8192x8x256_2_0_1) main_v12
  let main_v14 : FVec F S8192x2048 .f32 := shapeCast S8192x2048 main_v13 shapeCasts_S8192x8x256_S8192x2048
  let main_v15 : FVec F S8192x2048 .f32 := broadcastInDim S8192x2048 ![0, 1] bcast_S1x2048_S8192x2048_0_1 main_arg7
  let main_v16 : FVec F S8192x2048 .f32 := addf main_v14 main_v15
  let main_v17 : FVec F S8192x2048 .f32 := Host.negf main_v16
  let main_v18 : FVec F S8192x2048 .f32 := Host.exp main_v17
  let main_cst_1 : FVec F S_ .f32 := constant S_ .f32 0x3F800000#32
  let main_v19 : FVec F S8192x2048 .f32 := broadcastInDim S8192x2048 ![] bcast_S_S8192x2048 main_cst_1
  let main_v20 : FVec F S8192x2048 .f32 := addf main_v19 main_v18
  fn_part1 (F := F) main_arg0 main_arg1 main_arg2 main_arg3 main_arg4 main_arg5 main_arg6 main_arg7 main_arg8 main_v11 main_v20
-- ==== Kernel.lean ====
abbrev S8192x2048 : Shape := ⟨2, ![8192, 2048]⟩
abbrev S8192x9216 : Shape := ⟨2, ![8192, 9216]⟩
abbrev S8x256x256 : Shape := ⟨3, ![8, 256, 256]⟩
abbrev S1x2048 : Shape := ⟨2, ![1, 2048]⟩
abbrev S512x512 : Shape := ⟨2, ![512, 512]⟩
abbrev S16x512 : Shape := ⟨2, ![16, 512]⟩
abbrev S2x256x256 : Shape := ⟨3, ![2, 256, 256]⟩
abbrev S1x512 : Shape := ⟨2, ![1, 512]⟩
abbrev S8x512 : Shape := ⟨2, ![8, 512]⟩
abbrev S512x256 : Shape := ⟨2, ![512, 256]⟩
abbrev S1x256x256 : Shape := ⟨3, ![1, 256, 256]⟩
abbrev S256x256 : Shape := ⟨2, ![256, 256]⟩
abbrev S528x512 : Shape := ⟨2, ![528, 512]⟩
abbrev S512x1 : Shape := ⟨2, ![512, 1]⟩
abbrev S512 : Shape := ⟨1, ![512]⟩

abbrev nBuf : Space → Nat
  | .hbm => 18
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x9216, .f32⟩
  | .hbm, ⟨3, _⟩ => ⟨S8x256x256, .f32⟩
  | .hbm, ⟨4, _⟩ => ⟨S8x256x256, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8x256x256, .bf16⟩
  | .hbm, ⟨10, _⟩ => ⟨S8x256x256, .bf16⟩
  | .hbm, ⟨11, _⟩ => ⟨S8192x2048, .bf16⟩
  | .hbm, ⟨12, _⟩ => ⟨S8192x2048, .bf16⟩
  | .hbm, ⟨13, _⟩ => ⟨S8192x2048, .f32⟩
  | .hbm, ⟨14, _⟩ => ⟨S8192x2048, .bf16⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S16x512, .f32⟩
  | .local _ .vmem, ⟨5, _⟩ => ⟨S16x512, .f32⟩
  | .local _ .vmem, ⟨6, _⟩ => ⟨S512x512, .f32⟩
  | .local _ .vmem, ⟨7, _⟩ => ⟨S512x512, .f32⟩
  | .local _ .vmem, ⟨8, _⟩ => ⟨S2x256x256, .bf16⟩
  | .local _ .vmem, ⟨9, _⟩ => ⟨S2x256x256, .bf16⟩
  | .local _ .vmem, ⟨10, _⟩ => ⟨S2x256x256, .bf16⟩
  | .local _ .vmem, ⟨11, _⟩ => ⟨S2x256x256, .bf16⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S512x512, .bf16⟩
  | .local _ .vmem, ⟨27, _⟩ => ⟨S512x512, .bf16⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S8x512, .f32⟩
  | .local _ .vmem, ⟨35, _⟩ => ⟨S8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c6_i32 : BitVec 32 := 6#32
  let v1 : BitVec 32 := Scalar.addi arg0 c6_i32
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== KernelIdeal.lean ====
variable {F : FTy → Type} [FloatOps F] [Named F]
def κ : String → Option EReal := fun
  | "ca" => some (((6693141 / 8388608) * (12003091 / 268435456) : ℝ) : EReal)
  | "ca3" => some ((3 * ((6693141 / 8388608) * (12003091 / 268435456)) : ℝ) : EReal)
  | _ => none
-- ==== ReferenceIdeal.lean ====
abbrev S8192x2048 : Shape := ⟨2, ![8192, 2048]⟩
abbrev S8192x9216 : Shape := ⟨2, ![8192, 9216]⟩
abbrev S8x256x256 : Shape := ⟨3, ![8, 256, 256]⟩
abbrev S1x2048 : Shape := ⟨2, ![1, 2048]⟩
abbrev S_ : Shape := ⟨0, ![]⟩
abbrev S8192x8x256 : Shape := ⟨3, ![8192, 8, 256]⟩
abbrev S8x256x8192 : Shape := ⟨3, ![8, 256, 8192]⟩
abbrev S2048 : Shape := ⟨1, ![2048]⟩
abbrev S8x8192x256 : Shape := ⟨3, ![8, 8192, 256]⟩

abbrev nBuf : Space → Nat
  | .hbm => 278
  | .vmem => 0
  | .smem => 0
  | _ => 0

abbrev hbmTy0_0 (i : Nat) : BufTy := match i % 128 with
  | 0 => ⟨S8192x2048, .f32⟩
  | 1 => ⟨S8192x2048, .f32⟩
  | 2 => ⟨S8192x9216, .f32⟩
  | 3 => ⟨S8x256x256, .f32⟩
  | 4 => ⟨S8x256x256, .f32⟩
  | 5 => ⟨S8192x2048, .f32⟩
  | 6 => ⟨S1x2048, .f32⟩
  | 7 => ⟨S1x2048, .f32⟩
  | 8 => ⟨S1x2048, .f32⟩
  | 9 => ⟨S_, .f32⟩
  | 10 => ⟨S8192x2048, .f32⟩
  | 11 => ⟨S8192x2048, .f32⟩
  | 12 => ⟨S8192x8x256, .f32⟩
  | 13 => ⟨S8x256x8192, .f32⟩
  | 14 => ⟨S8192x8x256, .f32⟩
  | 15 => ⟨S8192x2048, .f32⟩
  | 16 => ⟨S8192x2048, .f32⟩
  | 17 => ⟨S8192x2048, .f32⟩
  | 18 => ⟨S8192x2048, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S_, .f32⟩
  | 28 => ⟨S8192x2048, .f32⟩
  | 29 => ⟨S8192x2048, .f32⟩
  | 30 => ⟨S8192x2048, .f32⟩
  | 31 => ⟨S8x256x8192, .f32⟩
  | 32 => ⟨S8192x8x256, .f32⟩
  | 33 => ⟨S8192x2048, .f32⟩
  | 34 => ⟨S8192x2048, .f32⟩
  | 35 => ⟨S8192x2048, .f32⟩
  | 36 => ⟨S8192x2048, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S_, .f32⟩
  | 43 => ⟨S8192x2048, .f32⟩
  | 44 => ⟨S8192x2048, .f32⟩
  | 45 => ⟨S_, .f32⟩
  | 46 => ⟨S8192x2048, .f32⟩
  | 47 => ⟨S8192x2048, .f32⟩
  | 48 => ⟨S8192x2048, .f32⟩
  | 49 => ⟨S_, .f32⟩
  | 50 => ⟨S8192x2048, .f32⟩
  | 51 => ⟨S8192x2048, .f32⟩
  | 52 => ⟨S1x2048, .f32⟩
  | 53 => ⟨S_, .f32⟩
  | 54 => ⟨S1x2048, .f32⟩
  | 55 => ⟨S1x2048, .f32⟩
  | 56 => ⟨S1x2048, .f32⟩
  | 57 => ⟨S1x2048, .f32⟩
  | 58 => ⟨S1x2048, .i1⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x2048, .f32⟩
  | 66 => ⟨S1x2048, .f32⟩
  | 67 => ⟨S_, .f32⟩
  | 68 => ⟨S1x2048, .f32⟩
  | 69 => ⟨S1x2048, .i1⟩
  | 70 => ⟨S_, .f32⟩
  | 71 => ⟨S1x2048, .f32⟩
  | 72 => ⟨S1x2048, .f32⟩
  | 73 => ⟨S_, .f32⟩
  | 74 => ⟨S1x2048, .f32⟩
  | 75 => ⟨S1x2048, .i1⟩
  | 76 => ⟨S_, .f32⟩
  | 77 => ⟨S1x2048, .f32⟩
  | 78 => ⟨S1x2048, .f32⟩
  | 79 => ⟨S1x2048, .f32⟩
  | 80 => ⟨S1x2048, .f32⟩
  | 81 => ⟨S_, .f32⟩
  | 82 => ⟨S_, .f32⟩
  | 83 => ⟨S_, .i1⟩
  | 84 => ⟨S_, .f32⟩
  | 85 => ⟨S_, .f32⟩
  | 86 => ⟨S_, .f32⟩
  | 87 => ⟨S_, .f32⟩
  | 88 => ⟨S1x2048, .f32⟩
  | 89 => ⟨S1x2048, .i1⟩
  | 90 => ⟨S_, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S8192x2048, .f32⟩
  | 100 => ⟨S8192x2048, .f32⟩
  | 101 => ⟨S8192x2048, .f32⟩
  | 102 => ⟨S_, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S8192x2048, .f32⟩
  | 109 => ⟨S_, .f32⟩
  | 110 => ⟨S8192x2048, .f32⟩
  | 111 => ⟨S8192x2048, .f32⟩
  | 112 => ⟨S8192x2048, .f32⟩
  | 113 => ⟨S8192x2048, .f32⟩
  | 114 => ⟨S_, .f32⟩
  | 115 => ⟨S2048, .f32⟩
  | 116 => ⟨S_, .f32⟩
  | 117 => ⟨S8192x2048, .f32⟩
  | 118 => ⟨S_, .f32⟩
  | 119 => ⟨S8192x2048, .f32⟩
  | 120 => ⟨S_, .i32⟩
  | 121 => ⟨S8192x2048, .f32⟩
  | 122 => ⟨S8192x2048, .f32⟩
  | 123 => ⟨S_, .i32⟩
  | 124 => ⟨S2048, .f32⟩
  | 125 => ⟨S8192x2048, .f32⟩
  | 126 => ⟨S8192x2048, .f32⟩
  | 127 => ⟨S_, .i32⟩
  | _ => ⟨S8192x2048, .f32⟩

abbrev hbmTy0_1 (i : Nat) : BufTy := match i % 128 with
  | 0 => ⟨S_, .i1⟩
  | 1 => ⟨S_, .i32⟩
  | 2 => ⟨S1x2048, .f32⟩
  | 3 => ⟨S2048, .f32⟩
  | 4 => ⟨S_, .i32⟩
  | 5 => ⟨S1x2048, .f32⟩
  | 6 => ⟨S2048, .f32⟩
  | 7 => ⟨S2048, .f32⟩
  | 8 => ⟨S2048, .f32⟩
  | 9 => ⟨S1x2048, .f32⟩
  | 10 => ⟨S_, .i32⟩
  | 11 => ⟨S8192x2048, .f32⟩
  | 12 => ⟨S1x2048, .f32⟩
  | 13 => ⟨S_, .i32⟩
  | 14 => ⟨S8192x2048, .f32⟩
  | 15 => ⟨S_, .i32⟩
  | 16 => ⟨S_, .i32⟩
  | 17 => ⟨S8192x2048, .f32⟩
  | 18 => ⟨S8192x2048, .f32⟩
  | 19 => ⟨S8192x2048, .f32⟩
  | 20 => ⟨S_, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S8192x2048, .f32⟩
  | 27 => ⟨S_, .f32⟩
  | 28 => ⟨S8192x2048, .f32⟩
  | 29 => ⟨S8192x2048, .f32⟩
  | 30 => ⟨S8192x2048, .f32⟩
  | 31 => ⟨S_, .f32⟩
  | 32 => ⟨S8192x2048, .f32⟩
  | 33 => ⟨S8192x2048, .f32⟩
  | 34 => ⟨S_, .f32⟩
  | 35 => ⟨S8192x2048, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S_, .f32⟩
  | 42 => ⟨S8192x2048, .f32⟩
  | 43 => ⟨S8192x2048, .f32⟩
  | 44 => ⟨S8192x2048, .f32⟩
  | 45 => ⟨S8192x2048, .f32⟩
  | 46 => ⟨S_, .f32⟩
  | 47 => ⟨S2048, .f32⟩
  | 48 => ⟨S8192x2048, .f32⟩
  | 49 => ⟨S8192x2048, .f32⟩
  | 50 => ⟨S8192x2048, .f32⟩
  | 51 => ⟨S8192x2048, .f32⟩
  | 52 => ⟨S_, .f32⟩
  | 53 => ⟨S8192x2048, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S8192x2048, .f32⟩
  | 60 => ⟨S_, .f32⟩
  | 61 => ⟨S8192x2048, .f32⟩
  | 62 => ⟨S8192x2048, .f32⟩
  | 63 => ⟨S8192x2048, .f32⟩
  | 64 => ⟨S8192x2048, .f32⟩
  | 65 => ⟨S_, .f32⟩
  | 66 => ⟨S2048, .f32⟩
  | 67 => ⟨S_, .f32⟩
  | 68 => ⟨S8192x2048, .f32⟩
  | 69 => ⟨S_, .f32⟩
  | 70 => ⟨S8192x2048, .f32⟩
  | 71 => ⟨S_, .i32⟩
  | 72 => ⟨S8192x2048, .f32⟩
  | 73 => ⟨S8192x2048, .f32⟩
  | 74 => ⟨S8192x2048, .f32⟩
  | 75 => ⟨S_, .i32⟩
  | 76 => ⟨S2048, .f32⟩
  | 77 => ⟨S8192x2048, .f32⟩
  | 78 => ⟨S8192x2048, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S1x2048, .f32⟩
  | 87 => ⟨S2048, .f32⟩
  | 88 => ⟨S_, .i32⟩
  | 89 => ⟨S1x2048, .f32⟩
  | 90 => ⟨S2048, .f32⟩
  | 91 => ⟨S_, .i32⟩
  | 92 => ⟨S1x2048, .f32⟩
  | 93 => ⟨S2048, .f32⟩
  | 94 => ⟨S2048, .f32⟩
  | 95 => ⟨S2048, .f32⟩
  | 96 => ⟨S2048, .f32⟩
  | 97 => ⟨S1x2048, .f32⟩
  | 98 => ⟨S_, .i32⟩
  | 99 => ⟨S8192x2048, .f32⟩
  | 100 => ⟨S1x2048, .f32⟩
  | 101 => ⟨S_, .i32⟩
  | 102 => ⟨S8192x2048, .f32⟩
  | 103 => ⟨S_, .i32⟩
  | 104 => ⟨S_, .i32⟩
  | 105 => ⟨S8192x2048, .f32⟩
  | 106 => ⟨S8192x2048, .f32⟩
  | 107 => ⟨S8192x2048, .f32⟩
  | 108 => ⟨S8192x2048, .f32⟩
  | 109 => ⟨S8192x2048, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S8192x2048, .f32⟩
  | 116 => ⟨S8192x2048, .f32⟩
  | 117 => ⟨S8192x2048, .f32⟩
  | 118 => ⟨S_, .f32⟩
  | 119 => ⟨S2048, .f32⟩
  | 120 => ⟨S1x2048, .f32⟩
  | 121 => ⟨S8192x2048, .f32⟩
  | 122 => ⟨S8192x2048, .f32⟩
  | 123 => ⟨S1x2048, .f32⟩
  | 124 => ⟨S1x2048, .f32⟩
  | 125 => ⟨S_, .f32⟩
  | 126 => ⟨S8192x2048, .f32⟩
  | 127 => ⟨S8192x2048, .f32⟩
  | _ => ⟨S8192x2048, .f32⟩

abbrev hbmTy0_2 (i : Nat) : BufTy := match i % 128 with
  | 0 => ⟨S8192x2048, .f32⟩
  | 1 => ⟨S_, .f32⟩
  | 2 => ⟨S2048, .f32⟩
  | 3 => ⟨S1x2048, .f32⟩
  | 4 => ⟨S8192x8x256, .f32⟩
  | 5 => ⟨S8x256x8192, .f32⟩
  | 6 => ⟨S8x8192x256, .f32⟩
  | 7 => ⟨S8192x8x256, .f32⟩
  | 8 => ⟨S8192x2048, .f32⟩
  | 9 => ⟨S_, .f32⟩
  | 10 => ⟨S2048, .f32⟩
  | 11 => ⟨S1x2048, .f32⟩
  | 12 => ⟨S8192x8x256, .f32⟩
  | 13 => ⟨S8x256x8192, .f32⟩
  | 14 => ⟨S8x8192x256, .f32⟩
  | 15 => ⟨S8192x8x256, .f32⟩
  | 16 => ⟨S8192x8x256, .f32⟩
  | 17 => ⟨S8192x2048, .f32⟩
  | 18 => ⟨S8192x2048, .f32⟩
  | 19 => ⟨S8192x2048, .bf16⟩
  | 20 => ⟨S8192x2048, .bf16⟩
  | 21 => ⟨S8192x2048, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v36_0 : Ref sig .tc := ⟨.hbm, 66, rfl⟩
abbrev main_call0_cst_0 : Ref sig .tc := ⟨.hbm, 67, rfl⟩
abbrev main_call0_v13 : Ref sig .tc := ⟨.hbm, 68, rfl⟩
abbrev main_call0_v14 : Ref sig .tc := ⟨.hbm, 69, rfl⟩
abbrev main_call0_cst_1 : Ref sig .tc := ⟨.hbm, 70, rfl⟩
abbrev main_call0_v15 : Ref sig .tc := ⟨.hbm, 71, rfl⟩
abbrev main_call0_v16 : Ref sig .tc := ⟨.hbm, 72, rfl⟩
abbrev main_call0_cst_2 : Ref sig .tc := ⟨.hbm, 73, rfl⟩
abbrev main_call0_v17 : Ref sig .tc := ⟨.hbm, 74, rfl⟩
abbrev main_call0_v18 : Ref sig .tc := ⟨.hbm, 75, rfl⟩
abbrev main_call0_cst_3 : Ref sig .tc := ⟨.hbm, 76, rfl⟩
abbrev main_call0_v19 : Ref sig .tc := ⟨.hbm, 77, rfl⟩
abbrev main_call0_v20 : Ref sig .tc := ⟨.hbm, 78, rfl⟩
abbrev main_call0_v21 : Ref sig .tc := ⟨.hbm, 79, rfl⟩
abbrev main_v36_1 : Ref sig .tc := ⟨.hbm, 80, rfl⟩
abbrev main_call0_cst_4 : Ref sig .tc := ⟨.hbm, 81, rfl⟩
abbrev main_call0_cst_5 : Ref sig .tc := ⟨.hbm, 82, rfl⟩
abbrev main_call0_v23 : Ref sig .tc := ⟨.hbm, 83, rfl⟩
abbrev main_call0_cst_6 : Ref sig .tc := ⟨.hbm, 84, rfl⟩
abbrev main_call0_cst_7 : Ref sig .tc := ⟨.hbm, 85, rfl⟩
abbrev main_call0_v24 : Ref sig .tc := ⟨.hbm, 86, rfl⟩
abbrev main_call0_cst_8 : Ref sig .tc := ⟨.hbm, 87, rfl⟩
abbrev main_call0_v25 : Ref sig .tc := ⟨.hbm, 88, rfl⟩
abbrev main_call0_v26 : Ref sig .tc := ⟨.hbm, 89, rfl⟩
abbrev main_call0_cst_9 : Ref sig .tc := ⟨.hbm, 90, rfl⟩
abbrev main_call0_v27 : Ref sig .tc := ⟨.hbm, 91, rfl⟩
abbrev main_call0_v28 : Ref sig .tc := ⟨.hbm, 92, rfl⟩
abbrev main_call0_v29 : Ref sig .tc := ⟨.hbm, 93, rfl⟩
abbrev main_call0_v30 : Ref sig .tc := ⟨.hbm, 94, rfl⟩
abbrev main_call0_v31 : Ref sig .tc := ⟨.hbm, 95, rfl⟩
abbrev main_call0_cst_10 : Ref sig .tc := ⟨.hbm, 96, rfl⟩
abbrev main_call0_v32 : Ref sig .tc := ⟨.hbm, 97, rfl⟩
abbrev main_v36_2 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_7 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_8 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_cst_9 : Ref sig .tc := ⟨.hbm, 114, rfl⟩
abbrev main_v50 : Ref sig .tc := ⟨.hbm, 115, rfl⟩
abbrev main_cst_10 : Ref sig .tc := ⟨.hbm, 116, rfl⟩
abbrev main_v51 : Ref sig .tc := ⟨.hbm, 117, rfl⟩
abbrev main_cst_11 : Ref sig .tc := ⟨.hbm, 118, rfl⟩
abbrev main_v52 : Ref sig .tc := ⟨.hbm, 119, rfl⟩
abbrev main_c : Ref sig .tc := ⟨.hbm, 120, rfl⟩
abbrev main_v53_0 : Ref sig .tc := ⟨.hbm, 121, rfl⟩
abbrev main_v53_1 : Ref sig .tc := ⟨.hbm, 122, rfl⟩
abbrev main_v53_2 : Ref sig .tc := ⟨.hbm, 123, rfl⟩
abbrev main_v53_3 : Ref sig .tc := ⟨.hbm, 124, rfl⟩
abbrev main_v53_4 : Ref sig .tc := ⟨.hbm, 125, rfl⟩
abbrev main_v53_5 : Ref sig .tc := ⟨.hbm, 126, rfl⟩
abbrev main_while0c_c_37 : Ref sig .tc := ⟨.hbm, 127, rfl⟩
abbrev main_while0c_v135 : Ref sig .tc := ⟨.hbm, 128, rfl⟩
abbrev main_while0b_call1_c : Ref sig .tc := ⟨.hbm, 129, rfl⟩
abbrev main_while0b_call1_v0 : Ref sig .tc := ⟨.hbm, 130, rfl⟩
abbrev main_while0b_v135 : Ref sig .tc := ⟨.hbm, 131, rfl⟩
abbrev main_while0b_call2_c : Ref sig .tc := ⟨.hbm, 132, rfl⟩
abbrev main_while0b_call2_v0 : Ref sig .tc := ⟨.hbm, 133, rfl⟩
abbrev main_while0b_v136 : Ref sig .tc := ⟨.hbm, 134, rfl⟩
abbrev main_while0b_v137 : Ref sig .tc := ⟨.hbm, 135, rfl⟩
abbrev main_while0b_v138 : Ref sig .tc := ⟨.hbm, 136, rfl⟩
abbrev main_while0b_call3_v0 : Ref sig .tc := ⟨.hbm, 137, rfl⟩
abbrev main_while0b_call3_c : Ref sig .tc := ⟨.hbm, 138, rfl⟩
abbrev main_while0b_v139 : Ref sig .tc := ⟨.hbm, 139, rfl⟩
abbrev main_while0b_call4_v0 : Ref sig .tc := ⟨.hbm, 140, rfl⟩
abbrev main_while0b_call4_c : Ref sig .tc := ⟨.hbm, 141, rfl⟩
abbrev main_while0b_v140 : Ref sig .tc := ⟨.hbm, 142, rfl⟩
abbrev main_while0b_c_37 : Ref sig .tc := ⟨.hbm, 143, rfl⟩
abbrev main_while0b_v141 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_cst_12 : Ref sig .tc := ⟨.hbm, 148, rfl⟩
abbrev main_v57 : Ref sig .tc := ⟨.hbm, 149, rfl⟩
abbrev main_v58 : Ref sig .tc := ⟨.hbm, 150, rfl⟩
abbrev main_cst_13 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_cst_14 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_cst_15 : Ref sig .tc := ⟨.hbm, 159, rfl⟩
abbrev main_v65 : Ref sig .tc := ⟨.hbm, 160, rfl⟩
abbrev main_v66 : Ref sig .tc := ⟨.hbm, 161, rfl⟩
abbrev main_cst_16 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_cst_17 : Ref sig .tc := ⟨.hbm, 166, rfl⟩
abbrev main_v70 : Ref sig .tc := ⟨.hbm, 167, rfl⟩
abbrev main_v71 : Ref sig .tc := ⟨.hbm, 168, rfl⟩
abbrev main_cst_18 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_cst_19 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_cst_20 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_cst_21 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_cst_22 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_cst_23 : Ref sig .tc := ⟨.hbm, 193, rfl⟩
abbrev main_v91 : Ref sig .tc := ⟨.hbm, 194, rfl⟩
abbrev main_cst_24 : Ref sig .tc := ⟨.hbm, 195, rfl⟩
abbrev main_v92 : Ref sig .tc := ⟨.hbm, 196, rfl⟩
abbrev main_cst_25 : Ref sig .tc := ⟨.hbm, 197, rfl⟩
abbrev main_v93 : Ref sig .tc := ⟨.hbm, 198, rfl⟩
abbrev main_c_26 : Ref sig .tc := ⟨.hbm, 199, rfl⟩
abbrev main_v94_0 : Ref sig .tc := ⟨.hbm, 200, rfl⟩
abbrev main_v94_1 : Ref sig .tc := ⟨.hbm, 201, rfl⟩
abbrev main_v94_2 : Ref sig .tc := ⟨.hbm, 202, rfl⟩
abbrev main_v94_3 : Ref sig .tc := ⟨.hbm, 203, rfl⟩
abbrev main_v94_4 : Ref sig .tc := ⟨.hbm, 204, rfl⟩
abbrev main_v94_5 : Ref sig .tc := ⟨.hbm, 205, rfl⟩
abbrev main_v94_6 : Ref sig .tc := ⟨.hbm, 206, rfl⟩
abbrev main_while1c_c_38 : Ref sig .tc := ⟨.hbm, 207, rfl⟩
abbrev main_while1c_v135 : Ref sig .tc := ⟨.hbm, 208, rfl⟩
abbrev main_while1b_c_38 : Ref sig .tc := ⟨.hbm, 209, rfl⟩
abbrev main_while1b_v135 : Ref sig .tc := ⟨.hbm, 210, rfl⟩
abbrev main_while1b_c_39 : Ref sig .tc := ⟨.hbm, 211, rfl⟩
abbrev main_while1b_v136 : Ref sig .tc := ⟨.hbm, 212, rfl⟩
abbrev main_while1b_call5_c : Ref sig .tc := ⟨.hbm, 213, rfl⟩
abbrev main_while1b_call5_v0 : Ref sig .tc := ⟨.hbm, 214, rfl⟩
abbrev main_while1b_v137 : Ref sig .tc := ⟨.hbm, 215, rfl⟩
abbrev main_while1b_call6_c : Ref sig .tc := ⟨.hbm, 216, rfl⟩
abbrev main_while1b_call6_v0 : Ref sig .tc := ⟨.hbm, 217, rfl⟩
abbrev main_while1b_v138 : Ref sig .tc := ⟨.hbm, 218, rfl⟩
abbrev main_while1b_call7_c : Ref sig .tc := ⟨.hbm, 219, rfl⟩
abbrev main_while1b_call7_v0 : Ref sig .tc := ⟨.hbm, 220, rfl⟩
abbrev main_while1b_v139 : Ref sig .tc := ⟨.hbm, 221, rfl⟩
abbrev main_while1b_v140 : Ref sig .tc := ⟨.hbm, 222, rfl⟩
abbrev main_while1b_v141 : Ref sig .tc := ⟨.hbm, 223, rfl⟩
abbrev main_while1b_v142 : Ref sig .tc := ⟨.hbm, 224, rfl⟩
abbrev main_while1b_call8_v0 : Ref sig .tc := ⟨.hbm, 225, rfl⟩
abbrev main_while1b_call8_c : Ref sig .tc := ⟨.hbm, 226, rfl⟩
abbrev main_while1b_v143 : Ref sig .tc := ⟨.hbm, 227, rfl⟩
abbrev main_while1b_call9_v0 : Ref sig .tc := ⟨.hbm, 228, rfl⟩
abbrev main_while1b_call9_c : Ref sig .tc := ⟨.hbm, 229, rfl⟩
abbrev main_while1b_v144 : Ref sig .tc := ⟨.hbm, 230, rfl⟩
abbrev main_while1b_c_40 : Ref sig .tc := ⟨.hbm, 231, rfl⟩
abbrev main_while1b_v145 : Ref sig .tc := ⟨.hbm, 232, rfl⟩
abbrev main_v95 : Ref sig .tc := ⟨.hbm, 233, rfl⟩
abbrev main_v96 : Ref sig .tc := ⟨.hbm, 234, rfl⟩
abbrev main_v97 : Ref sig .tc := ⟨.hbm, 235, rfl⟩
abbrev main_v98 : Ref sig .tc := ⟨.hbm, 236, rfl⟩
abbrev main_v99 : Ref sig .tc := ⟨.hbm, 237, rfl⟩
abbrev main_v100 : Ref sig .tc := ⟨.hbm, 238, rfl⟩
abbrev main_v101 : Ref sig .tc := ⟨.hbm, 239, rfl⟩
abbrev main_cst_27 : Ref sig .tc := ⟨.hbm, 240, rfl⟩
abbrev main_v102 : Ref sig .tc := ⟨.hbm, 241, rfl⟩
abbrev main_v103 : Ref sig .tc := ⟨.hbm, 242, rfl⟩
abbrev main_v104 : Ref sig .tc := ⟨.hbm, 243, rfl⟩
abbrev main_v105 : Ref sig .tc := ⟨.hbm, 244, rfl⟩
abbrev main_v106 : Ref sig .tc := ⟨.hbm, 245, rfl⟩
abbrev main_cst_28 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_cst_29 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_cst_30 : Ref sig .tc := ⟨.hbm, 257, rfl⟩
abbrev main_v116 : Ref sig .tc := ⟨.hbm, 258, rfl⟩
abbrev main_v117 : Ref sig .tc := ⟨.hbm, 259, rfl⟩
abbrev main_v118 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_cst_31 : Ref sig .tc := ⟨.hbm, 265, rfl⟩
abbrev main_v123 : Ref sig .tc := ⟨.hbm, 266, rfl⟩
abbrev main_v124 : Ref sig .tc := ⟨.hbm, 267, rfl⟩
abbrev main_v125 : Ref sig .tc := ⟨.hbm, 268, rfl⟩
abbrev main_v126 : Ref sig .tc := ⟨.hbm, 269, rfl⟩
abbrev main_v127 : Ref sig .tc := ⟨.hbm, 270, rfl⟩
abbrev main_v128 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== Kernel2.lean ====
abbrev S2x8192x6144 : Shape := ⟨3, ![2, 8192, 6144]⟩
abbrev S4x2048x3072 : Shape := ⟨3, ![4, 2048, 3072]⟩
abbrev S1x8192x2048 : Shape := ⟨3, ![1, 8192, 2048]⟩
abbrev S1x1024x3072 : Shape := ⟨3, ![1, 1024, 3072]⟩
abbrev S1x1024x1024 : Shape := ⟨3, ![1, 1024, 1024]⟩
abbrev S1024x1024 : Shape := ⟨2, ![1024, 1024]⟩
abbrev S1024x3072 : Shape := ⟨2, ![1024, 3072]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x6144, .bf16⟩
  | .hbm, ⟨1, _⟩ => ⟨S4x2048x3072, .bf16⟩
  | .hbm, ⟨2, _⟩ => ⟨S1x8192x2048, .f32⟩
  | .local _ .vmem, ⟨0, _⟩ => ⟨S1x1024x3072, .bf16⟩
  | .local _ .vmem, ⟨1, _⟩ => ⟨S1x1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x8192x6144 : Shape := ⟨3, ![2, 8192, 6144]⟩
abbrev S4x2048x3072 : Shape := ⟨3, ![4, 2048, 3072]⟩
abbrev S_ : Shape := ⟨0, ![]⟩
abbrev S8192x2048 : Shape := ⟨2, ![8192, 2048]⟩
abbrev S2048x4x3072 : Shape := ⟨3, ![2048, 4, 3072]⟩
abbrev S2048x12288 : Shape := ⟨2, ![2048, 12288]⟩
abbrev S8192x12288 : Shape := ⟨2, ![8192, 12288]⟩
abbrev S8192x2x6144 : Shape := ⟨3, ![8192, 2, 6144]⟩
abbrev S1x8192x2048 : Shape := ⟨3, ![1, 8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x6144, .bf16⟩
  | .hbm, ⟨1, _⟩ => ⟨S4x2048x3072, .bf16⟩
  | .hbm, ⟨2, _⟩ => ⟨S_, .f32⟩
  | .hbm, ⟨3, _⟩ => ⟨S8192x2048, .f32⟩
  | .hbm, ⟨4, _⟩ => ⟨S4x2048x3072, .f32⟩
  | .hbm, ⟨5, _⟩ => ⟨S2048x4x3072, .f32⟩
  | .hbm, ⟨6, _⟩ => ⟨S2048x12288, .f32⟩
  | .hbm, ⟨7, _⟩ => ⟨S8192x12288, .f32⟩
  | .hbm, ⟨8, _⟩ => ⟨S8192x2x6144, .f32⟩
  | .hbm, ⟨9, _⟩ => ⟨S2x8192x6144, .f32⟩
  | .hbm, ⟨10, _⟩ => ⟨S2x8192x6144, .f32⟩
  | .hbm, ⟨11, _⟩ => ⟨S8192x2x6144, .f32⟩
  | .hbm, ⟨12, _⟩ => ⟨S8192x12288, .f32⟩
  | .hbm, ⟨13, _⟩ => ⟨S8192x2048, .f32⟩
  | .hbm, ⟨14, _⟩ => ⟨S1x8192x2048, .f32⟩
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel3.lean ====
abbrev S8192x2048 : Shape := ⟨2, ![8192, 2048]⟩
abbrev S2x8192x6144 : Shape := ⟨3, ![2, 8192, 6144]⟩
abbrev S1x8192x2048 : Shape := ⟨3, ![1, 8192, 2048]⟩
abbrev S4x2048x3072 : Shape := ⟨3, ![4, 2048, 3072]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x6144, .bf16⟩
  | .hbm, ⟨2, _⟩ => ⟨S1x8192x2048, .bf16⟩
  | .hbm, ⟨3, _⟩ => ⟨S4x2048x3072, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2x8192x6144 : Shape := ⟨3, ![2, 8192, 6144]⟩
abbrev S_ : Shape := ⟨0, ![]⟩
abbrev S4x2048x3072 : Shape := ⟨3, ![4, 2048, 3072]⟩
abbrev S2048x4x3072 : Shape := ⟨3, ![2048, 4, 3072]⟩
abbrev S2048x12288 : Shape := ⟨2, ![2048, 12288]⟩
abbrev S8192x12288 : Shape := ⟨2, ![8192, 12288]⟩
abbrev S8192x2x6144 : Shape := ⟨3, ![8192, 2, 6144]⟩
abbrev S12288x2048 : Shape := ⟨2, ![12288, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x6144, .bf16⟩
  | .hbm, ⟨2, _⟩ => ⟨S_, .f32⟩
  | .hbm, ⟨3, _⟩ => ⟨S4x2048x3072, .f32⟩
  | .hbm, ⟨4, _⟩ => ⟨S8192x2048, .f32⟩
  | .hbm, ⟨5, _⟩ => ⟨S2048x4x3072, .f32⟩
  | .hbm, ⟨6, _⟩ => ⟨S2048x12288, .f32⟩
  | .hbm, ⟨7, _⟩ => ⟨S8192x12288, .f32⟩
  | .hbm, ⟨8, _⟩ => ⟨S8192x2x6144, .f32⟩
  | .hbm, ⟨9, _⟩ => ⟨S2x8192x6144, .f32⟩
  | .hbm, ⟨10, _⟩ => ⟨S2x8192x6144, .f32⟩
  | .hbm, ⟨11, _⟩ => ⟨S8192x2x6144, .f32⟩
  | .hbm, ⟨12, _⟩ => ⟨S8192x12288, .f32⟩
  | .hbm, ⟨13, _⟩ => ⟨S12288x2048, .f32⟩
  | .hbm, ⟨14, _⟩ => ⟨S2048x12288, .f32⟩
  | .hbm, ⟨15, _⟩ => ⟨S2048x4x3072, .f32⟩
  | .hbm, ⟨16, _⟩ => ⟨S4x2048x3072, .f32⟩
  | .hbm, ⟨17, _⟩ => ⟨S4x2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel4.lean ====
abbrev S8192x2048 : Shape := ⟨2, ![8192, 2048]⟩
abbrev S4x2048x3072 : Shape := ⟨3, ![4, 2048, 3072]⟩
abbrev S1x8192x2048 : Shape := ⟨3, ![1, 8192, 2048]⟩
abbrev S1x8192x12288 : Shape := ⟨3, ![1, 8192, 12288]⟩
abbrev S1x1024x2048 : Shape := ⟨3, ![1, 1024, 2048]⟩
abbrev S1x2048x1536 : Shape := ⟨3, ![1, 2048, 1536]⟩
abbrev S1x1024x1536 : Shape := ⟨3, ![1, 1024, 1536]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S1x8192x2048, .bf16⟩
  | .hbm, ⟨3, _⟩ => ⟨S1x8192x12288, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x1024x1536, .bf16⟩
  | .local _ .vmem, ⟨5, _⟩ => ⟨S1x1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S4x2048x3072 : Shape := ⟨3, ![4, 2048, 3072]⟩
abbrev S2048x4x3072 : Shape := ⟨3, ![2048, 4, 3072]⟩
abbrev S2048x12288 : Shape := ⟨2, ![2048, 12288]⟩
abbrev S8192x12288 : Shape := ⟨2, ![8192, 12288]⟩
abbrev S1x8192x12288 : Shape := ⟨3, ![1, 8192, 12288]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S4x2048x3072, .f32⟩
  | .hbm, ⟨3, _⟩ => ⟨S2048x4x3072, .f32⟩
  | .hbm, ⟨4, _⟩ => ⟨S2048x12288, .f32⟩
  | .hbm, ⟨5, _⟩ => ⟨S8192x2048, .f32⟩
  | .hbm, ⟨6, _⟩ => ⟨S8192x12288, .f32⟩
  | .hbm, ⟨7, _⟩ => ⟨S8192x12288, .bf16⟩
  | .hbm, ⟨8, _⟩ => ⟨S1x8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S6144x2048 : Shape := ⟨2, ![6144, 2048]⟩
abbrev S1x8192x2048 : Shape := ⟨3, ![1, 8192, 2048]⟩
abbrev S1x6144x2048 : Shape := ⟨3, ![1, 6144, 2048]⟩
abbrev S1x8192x6144 : Shape := ⟨3, ![1, 8192, 6144]⟩
abbrev S1x1024x2048 : Shape := ⟨3, ![1, 1024, 2048]⟩
abbrev S1x1536x2048 : Shape := ⟨3, ![1, 1536, 2048]⟩
abbrev S1x1024x1536 : Shape := ⟨3, ![1, 1024, 1536]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S6144x2048, .bf16⟩
  | .hbm, ⟨2, _⟩ => ⟨S1x8192x2048, .bf16⟩
  | .hbm, ⟨3, _⟩ => ⟨S1x6144x2048, .bf16⟩
  | .hbm, ⟨4, _⟩ => ⟨S1x8192x6144, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1536x2048, .bf16⟩
  | .local _ .vmem, ⟨3, _⟩ => ⟨S1x1536x2048, .bf16⟩
  | .local _ .vmem, ⟨4, _⟩ => ⟨S1x1024x1536, .bf16⟩
  | .local _ .vmem, ⟨5, _⟩ => ⟨S1x1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S6144x2048 : Shape := ⟨2, ![6144, 2048]⟩
abbrev S_ : Shape := ⟨0, ![]⟩
abbrev S8192x6144 : Shape := ⟨2, ![8192, 6144]⟩
abbrev S1x8192x6144 : Shape := ⟨3, ![1, 8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S6144x2048, .bf16⟩
  | .hbm, ⟨2, _⟩ => ⟨S_, .f32⟩
  | .hbm, ⟨3, _⟩ => ⟨S8192x6144, .f32⟩
  | .hbm, ⟨4, _⟩ => ⟨S6144x2048, .f32⟩
  | .hbm, ⟨5, _⟩ => ⟨S8192x2048, .f32⟩
  | .hbm, ⟨6, _⟩ => ⟨S8192x2048, .f32⟩
  | .hbm, ⟨7, _⟩ => ⟨S8192x6144, .f32⟩
  | .hbm, ⟨8, _⟩ => ⟨S8192x6144, .bf16⟩
  | .hbm, ⟨9, _⟩ => ⟨S1x8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x6144 : Shape := ⟨2, ![8192, 6144]⟩
abbrev S8192x2048 : Shape := ⟨2, ![8192, 2048]⟩
abbrev S1x8192x6144 : Shape := ⟨3, ![1, 8192, 6144]⟩
abbrev S1x8192x2048 : Shape := ⟨3, ![1, 8192, 2048]⟩
abbrev S1x6144x2048 : Shape := ⟨3, ![1, 6144, 2048]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S1x8192x6144, .bf16⟩
  | .hbm, ⟨3, _⟩ => ⟨S1x8192x2048, .bf16⟩
  | .hbm, ⟨4, _⟩ => ⟨S1x6144x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x6144 : Shape := ⟨2, ![8192, 6144]⟩
abbrev S8192x2048 : Shape := ⟨2, ![8192, 2048]⟩
abbrev S_ : Shape := ⟨0, ![]⟩
abbrev S6144x2048 : Shape := ⟨2, ![6144, 2048]⟩
abbrev S2048x6144 : Shape := ⟨2, ![2048, 6144]⟩
abbrev S1x6144x2048 : Shape := ⟨3, ![1, 6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S_, .f32⟩
  | .hbm, ⟨3, _⟩ => ⟨S6144x2048, .f32⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S2048x6144, .f32⟩
  | .hbm, ⟨8, _⟩ => ⟨S6144x2048, .f32⟩
  | .hbm, ⟨9, _⟩ => ⟨S6144x2048, .bf16⟩
  | .hbm, ⟨10, _⟩ => ⟨S1x6144x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1x8192x2048 : Shape := ⟨3, ![1, 8192, 2048]⟩
abbrev S1x2048x2048 : Shape := ⟨3, ![1, 2048, 2048]⟩
abbrev S1x1024x2048 : Shape := ⟨3, ![1, 1024, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x8192x2048, .bf16⟩
  | .hbm, ⟨3, _⟩ => ⟨S1x2048x2048, .bf16⟩
  | .hbm, ⟨4, _⟩ => ⟨S1x8192x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x2048, .bf16⟩
  | .local _ .vmem, ⟨3, _⟩ => ⟨S1x1024x2048, .bf16⟩
  | .local _ .vmem, ⟨4, _⟩ => ⟨S1x1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x2048 : Shape := ⟨2, ![2048, 2048]⟩
abbrev S_ : Shape := ⟨0, ![]⟩
abbrev S1x8192x2048 : Shape := ⟨3, ![1, 8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | .hbm, ⟨9, _⟩ => ⟨S1x8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1x8192x2048 : Shape := ⟨3, ![1, 8192, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x8192x2048, .bf16⟩
  | .hbm, ⟨3, _⟩ => ⟨S1x2048x2048, .bf16⟩
  | .hbm, ⟨4, _⟩ => ⟨S1x8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩
abbrev S_ : Shape := ⟨0, ![]⟩
abbrev S1x8192x2048 : Shape := ⟨3, ![1, 8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S1x8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S1x8192x2048 : Shape := ⟨3, ![1, 8192, 2048]⟩
abbrev S1x2048x2048 : Shape := ⟨3, ![1, 2048, 2048]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x8192x2048, .bf16⟩
  | .hbm, ⟨3, _⟩ => ⟨S1x8192x2048, .bf16⟩
  | .hbm, ⟨4, _⟩ => ⟨S1x2048x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S4x1024x512 : Shape := ⟨3, ![4, 1024, 512]⟩
abbrev S1x8192x1024 : Shape := ⟨3, ![1, 8192, 1024]⟩
abbrev S1x8192x2048 : Shape := ⟨3, ![1, 8192, 2048]⟩
abbrev S1x2048x1024 : Shape := ⟨3, ![1, 2048, 1024]⟩
abbrev S1x1024x512 : Shape := ⟨3, ![1, 1024, 512]⟩
abbrev S1x2048x512 : Shape := ⟨3, ![1, 2048, 512]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S1x8192x1024, .bf16⟩
  | .hbm, ⟨3, _⟩ => ⟨S1x8192x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x2048x512, .bf16⟩
  | .local _ .vmem, ⟨5, _⟩ => ⟨S1x2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S8192x2048 : Shape := ⟨2, ![8192, 2048]⟩
abbrev S1x8192x2048 : Shape := ⟨3, ![1, 8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S8192x2048, .f32⟩
  | .hbm, ⟨7, _⟩ => ⟨S8192x2048, .bf16⟩
  | .hbm, ⟨8, _⟩ => ⟨S1x8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S4x1024x512 : Shape := ⟨3, ![4, 1024, 512]⟩
abbrev S1x8192x2048 : Shape := ⟨3, ![1, 8192, 2048]⟩
abbrev S1x8192x1024 : Shape := ⟨3, ![1, 8192, 1024]⟩
abbrev S1x2048x512 : Shape := ⟨3, ![1, 2048, 512]⟩
abbrev S1x1024x512 : Shape := ⟨3, ![1, 1024, 512]⟩
abbrev S1x2048x1024 : Shape := ⟨3, ![1, 2048, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S1x8192x2048, .bf16⟩
  | .hbm, ⟨3, _⟩ => ⟨S1x8192x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x2048x1024, .f32⟩
  | .local _ .vmem, ⟨5, _⟩ => ⟨S1x2048x1024, .f32⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S4x1024x512 : Shape := ⟨3, ![4, 1024, 512]⟩
abbrev S_ : Shape := ⟨0, ![]⟩
abbrev S8192x1024 : Shape := ⟨2, ![8192, 1024]⟩
abbrev S1024x4x512 : Shape := ⟨3, ![1024, 4, 512]⟩
abbrev S1024x2048 : Shape := ⟨2, ![1024, 2048]⟩
abbrev S1x8192x1024 : Shape := ⟨3, ![1, 8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S_, .f32⟩
  | .hbm, ⟨3, _⟩ => ⟨S8192x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S1x8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S1x8192x1024 : Shape := ⟨3, ![1, 8192, 1024]⟩
abbrev S1x8192x2048 : Shape := ⟨3, ![1, 8192, 2048]⟩
abbrev S4x1024x512 : Shape := ⟨3, ![4, 1024, 512]⟩
abbrev S1x2048x1024 : Shape := ⟨3, ![1, 2048, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x8192x1024, .bf16⟩
  | .hbm, ⟨3, _⟩ => ⟨S1x8192x2048, .bf16⟩
  | .hbm, ⟨4, _⟩ => ⟨S4x1024x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x2048 : Shape := ⟨2, ![8192, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S4x1024x512, .f32⟩
  | .hbm, ⟨4, _⟩ => ⟨S8192x1024, .f32⟩
  | .hbm, ⟨5, _⟩ => ⟨S1024x4x512, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel13.lean ====
abbrev S2048x2304 : Shape := ⟨2, ![2048, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2048x3072 : Shape := ⟨2, ![2048, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1536x2048 : Shape := ⟨2, ![1536, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1536x2048, .f32⟩
  | .hbm, ⟨1, _⟩ => ⟨S1536x2048, .f32⟩
  | .hbm, ⟨2, _⟩ => ⟨S1536x2048, .f32⟩
  | .hbm, ⟨3, _⟩ => ⟨S1536x2048, .f32⟩
  | .hbm, ⟨4, _⟩ => ⟨S1536x2048, .f32⟩
  | .hbm, ⟨5, _⟩ => ⟨S1536x2048, .f32⟩
  | .hbm, ⟨6, _⟩ => ⟨S1536x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1536x2048 : Shape := ⟨2, ![1536, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x2048, .f32⟩
  | .hbm, ⟨1, _⟩ => ⟨S1536x2048, .f32⟩
  | .hbm, ⟨2, _⟩ => ⟨S1536x2048, .f32⟩
  | .hbm, ⟨3, _⟩ => ⟨S1536x2048, .f32⟩
  | .hbm, ⟨4, _⟩ => ⟨S_, .f32⟩
  | .hbm, ⟨5, _⟩ => ⟨S1536x2048, .f32⟩
  | .hbm, ⟨6, _⟩ => ⟨S1536x2048, .f32⟩
  | .hbm, ⟨7, _⟩ => ⟨S_, .f32⟩
  | .hbm, ⟨8, _⟩ => ⟨S1536x2048, .f32⟩
  | .hbm, ⟨9, _⟩ => ⟨S1536x2048, .f32⟩
  | .hbm, ⟨10, _⟩ => ⟨S1536x2048, .f32⟩
  | .hbm, ⟨11, _⟩ => ⟨S_, .f32⟩
  | .hbm, ⟨12, _⟩ => ⟨S1536x2048, .f32⟩
  | .hbm, ⟨13, _⟩ => ⟨S1536x2048, .f32⟩
  | .hbm, ⟨14, _⟩ => ⟨S1536x2048, .f32⟩
  | .hbm, ⟨15, _⟩ => ⟨S_, .f32⟩
  | .hbm, ⟨16, _⟩ => ⟨S1536x2048, .f32⟩
  | .hbm, ⟨17, _⟩ => ⟨S1536x2048, .f32⟩
  | .hbm, ⟨18, _⟩ => ⟨S1536x2048, .f32⟩
  | .hbm, ⟨19, _⟩ => ⟨S_, .f32⟩
  | .hbm, ⟨20, _⟩ => ⟨S1536x2048, .f32⟩
  | .hbm, ⟨21, _⟩ => ⟨S1536x2048, .f32⟩
  | .hbm, ⟨22, _⟩ => ⟨S_, .f32⟩
  | .hbm, ⟨23, _⟩ => ⟨S1536x2048, .f32⟩
  | .hbm, ⟨24, _⟩ => ⟨S1536x2048, .f32⟩
  | .hbm, ⟨25, _⟩ => ⟨S1536x2048, .f32⟩
  | .hbm, ⟨26, _⟩ => ⟨S_, .f32⟩
  | .hbm, ⟨27, _⟩ => ⟨S1536x2048, .f32⟩
  | .hbm, ⟨28, _⟩ => ⟨S1536x2048, .f32⟩
  | .hbm, ⟨29, _⟩ => ⟨S1536x2048, .f32⟩
  | .hbm, ⟨30, _⟩ => ⟨S_, .f32⟩
  | .hbm, ⟨31, _⟩ => ⟨S1536x2048, .f32⟩
  | .hbm, ⟨32, _⟩ => ⟨S1536x2048, .f32⟩
  | .hbm, ⟨33, _⟩ => ⟨S1536x2048, .f32⟩
  | .hbm, ⟨34, _⟩ => ⟨S_, .f32⟩
  | .hbm, ⟨35, _⟩ => ⟨S1536x2048, .f32⟩
  | .hbm, ⟨36, _⟩ => ⟨S1536x2048, .f32⟩
  | _, _ => ⟨S1536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Up.lean ====
module

public import Idealize.ShloMosaic.Lib.ValueIdx
public import Idealize.ShloMosaic.Lib.IdealHost
public import Idealize.ShloMosaic.Lib.KernelVsHost
public import Idealize.ShloMosaic.Lib.Pipeline.Value
public import Idealize.ShloMosaic.Lib.MatmulPlain
public import Idealize.ShloMosaic.Lib.Pointwise.Reduce
public import Idealize.ShloMosaic.PureOps.Ideal.Laws

/-!
Arrays of extended reals that hold a real function of their coordinates, and what the operations make of such arrays:
an operation on arrays of reals is again an array of reals, with the real operation at each coordinate.
-/

@[expose] public section

noncomputable section

namespace Up

open Idealize.ShloMosaic Idealize.ShloMosaic.ValueIdx

variable {n m l : ℕ} {φ ψ : FTy}

/-- The row of reals `f 0, f 1, …`. -/
def up1 (f : ℕ → ℝ) : FVec Ideal ⟨1, ![n]⟩ φ := fun i => ((f (i 0).val : ℝ) : EReal)
/-- The matrix with the real `f t j` at row `t` and column `j`. -/
def up2 (f : ℕ → ℕ → ℝ) : FVec Ideal ⟨2, ![n, m]⟩ φ := fun i => ((f (i 0).val (i 1).val : ℝ) : EReal)
/-- The stack of matrices with the real `f q t j` at `q`, `t`, `j`. -/
def up3 (f : ℕ → ℕ → ℕ → ℝ) : FVec Ideal ⟨3, ![n, m, l]⟩ φ := fun i => ((f (i 0).val (i 1).val (i 2).val : ℝ) : EReal)
/-- The matrix of bits that is set where `p` holds. -/
def bits (p : ℕ → ℕ → Bool) : IVec ⟨2, ![n, m]⟩ 1 := fun i => if p (i 0).val (i 1).val then 1#1 else 0#1

/-- Only the coordinates inside the array count. -/
theorem up2_congr {f g : ℕ → ℕ → ℝ} (h : ∀ t < n, ∀ j < m, f t j = g t j) : (up2 f : FVec Ideal ⟨2, ![n, m]⟩ φ) = up2 g :=
  funext fun i => congrArg _ (h _ (i 0).isLt _ (i 1).isLt)
/-- An array of reals read at a coordinate. -/
theorem up2_apply (f : ℕ → ℕ → ℝ) (i : (⟨2, ![n, m]⟩ : Shape).Idx) :
    (up2 f : FVec Ideal ⟨2, ![n, m]⟩ φ) i = ((f (i 0).val (i 1).val : ℝ) : EReal) := rfl
/-- Equal arrays of reals have equal functions inside. -/
theorem up2_inj {f g : ℕ → ℕ → ℝ} (h : (up2 f : FVec Ideal ⟨2, ![n, m]⟩ φ) = up2 g) (t : ℕ) (ht : t < n) (j : ℕ) (hj : j < m) : f t j = g t j :=
  EReal.coe_eq_coe_iff.mp (congrFun h (ValueIdx.ix2 ⟨t, ht⟩ ⟨j, hj⟩))

/-! Elementwise operations. -/

theorem mul2 (f g : ℕ → ℕ → ℝ) : mulf (up2 f : FVec Ideal ⟨2, ![n, m]⟩ φ) (up2 g) = up2 fun t j => f t j * g t j :=
  funext fun _ => (EReal.coe_mul _ _).symm
theorem add2 (f g : ℕ → ℕ → ℝ) : addf (up2 f : FVec Ideal ⟨2, ![n, m]⟩ φ) (up2 g) = up2 fun t j => f t j + g t j :=
  funext fun _ => (EReal.coe_add _ _).symm
theorem sub2 (f g : ℕ → ℕ → ℝ) : subf (up2 f : FVec Ideal ⟨2, ![n, m]⟩ φ) (up2 g) = up2 fun t j => f t j - g t j :=
  funext fun _ => (EReal.coe_sub _ _).symm
theorem coe_max (x y : ℝ) : ((max x y : ℝ) : EReal) = max (x : EReal) (y : EReal) := EReal.coe_strictMono.monotone.map_max
theorem max2 (f g : ℕ → ℕ → ℝ) : maximumf (up2 f : FVec Ideal ⟨2, ![n, m]⟩ φ) (up2 g) = up2 fun t j => max (f t j) (g t j) :=
  funext fun i => (show max ((f (i 0).val (i 1).val : ℝ) : EReal) ((g (i 0).val (i 1).val : ℝ) : EReal) = _ from
    (coe_max _ _).symm)
theorem tanh2 (f : ℕ → ℕ → ℝ) : tanh (up2 f : FVec Ideal ⟨2, ![n, m]⟩ φ) = up2 fun t j => Real.tanh (f t j) := rfl
theorem exp2 (f : ℕ → ℕ → ℝ) : exp (up2 f : FVec Ideal ⟨2, ![n, m]⟩ φ) = up2 fun t j => Real.exp (f t j) := rfl
theorem htanh2 (f : ℕ → ℕ → ℝ) : Host.tanh (up2 f : FVec Ideal ⟨2, ![n, m]⟩ φ) = up2 fun t j => Real.tanh (f t j) := rfl
theorem hexp2 (f : ℕ → ℕ → ℝ) : Host.exp (up2 f : FVec Ideal ⟨2, ![n, m]⟩ φ) = up2 fun t j => Real.exp (f t j) := rfl
theorem hneg2 (f : ℕ → ℕ → ℝ) : Host.negf (up2 f : FVec Ideal ⟨2, ![n, m]⟩ φ) = up2 fun t j => - f t j :=
  funext fun _ => (EReal.coe_neg _).symm
theorem abs_coe (x : ℝ) : max ((x : ℝ) : EReal) (-(x : EReal)) = ((|x| : ℝ) : EReal) := by
  rw [← EReal.coe_neg, ← coe_max]; rfl
theorem abs2 (f : ℕ → ℕ → ℝ) : absf (up2 f : FVec Ideal ⟨2, ![n, m]⟩ φ) = up2 fun t j => |f t j| :=
  funext fun _ => abs_coe _
theorem habs2 (f : ℕ → ℕ → ℝ) : Host.absf (up2 f : FVec Ideal ⟨2, ![n, m]⟩ φ) = up2 fun t j => |f t j| :=
  funext fun _ => abs_coe _
theorem trunc2 (f : ℕ → ℕ → ℝ) (h : ψ.bits < φ.bits) : truncf ψ (up2 f : FVec Ideal ⟨2, ![n, m]⟩ φ) h = up2 f := rfl
theorem hexpm12 (f : ℕ → ℕ → ℝ) : Host.expm1 (up2 f : FVec Ideal ⟨2, ![n, m]⟩ φ) = up2 fun t j => Real.exp (f t j) - 1 :=
  funext fun i => (show ((Real.exp (f (i 0).val (i 1).val) : ℝ) : EReal) - 1 = _ from
    (by rw [show (1 : EReal) = ((1 : ℝ) : EReal) from rfl, ← EReal.coe_sub]; rfl))
theorem log_pos {x : ℝ} (h : 0 < x) : Ideal.log (x : EReal) = ((Real.log x : ℝ) : EReal) := by
  rw [Ideal.log_coe, if_neg (not_le.mpr h)]
theorem log2 (f : ℕ → ℕ → ℝ) (h : ∀ t j, 0 < f t j) : log (up2 f : FVec Ideal ⟨2, ![n, m]⟩ φ) = up2 fun t j => Real.log (f t j) :=
  funext fun _ => log_pos (h _ _)
theorem hlog1p2 (f : ℕ → ℕ → ℝ) (h : ∀ t j, 0 < 1 + f t j) : Host.log1p (up2 f : FVec Ideal ⟨2, ![n, m]⟩ φ) = up2 fun t j => Real.log (1 + f t j) :=
  funext fun i => (show Ideal.log (1 + ((f (i 0).val (i 1).val : ℝ) : EReal)) = _ from by
    rw [show (1 : EReal) = ((1 : ℝ) : EReal) from rfl, ← EReal.coe_add]; exact log_pos (h _ _))
theorem div_ne {x y : ℝ} (h : y ≠ 0) : Ideal.div (x : EReal) (y : EReal) = ((x / y : ℝ) : EReal) := by
  rw [Ideal.div_coe h, ← EReal.coe_mul, mul_one_div]
theorem div2 (f g : ℕ → ℕ → ℝ) (h : ∀ t < n, ∀ j < m, g t j ≠ 0) :
    divf (up2 f : FVec Ideal ⟨2, ![n, m]⟩ φ) (up2 g) = up2 fun t j => f t j / g t j :=
  funext fun i => div_ne (h _ (i 0).isLt _ (i 1).isLt)
theorem hdiv2 (f g : ℕ → ℕ → ℝ) (h : ∀ t < n, ∀ j < m, g t j ≠ 0) :
    Host.divf (up2 f : FVec Ideal ⟨2, ![n, m]⟩ φ) (up2 g) = up2 fun t j => f t j / g t j :=
  funext fun i => div_ne (h _ (i 0).isLt _ (i 1).isLt)
theorem rsqrt2 (f : ℕ → ℕ → ℝ) (h : ∀ t < n, ∀ j < m, 0 < f t j) :
    rsqrt (up2 f : FVec Ideal ⟨2, ![n, m]⟩ φ) = up2 fun t j => (Real.sqrt (f t j))⁻¹ :=
  funext fun i => (show Ideal.rsqrt ((f (i 0).val (i 1).val : ℝ) : EReal) = _ from by
    have := h _ (i 0).isLt _ (i 1).isLt
    rw [Ideal.rsqrt_coe, if_neg (not_lt.mpr this.le), if_neg this.ne']; rfl)
theorem hsqrt2 (f : ℕ → ℕ → ℝ) (h : ∀ t < n, ∀ j < m, 0 ≤ f t j) :
    Host.sqrt (up2 f : FVec Ideal ⟨2, ![n, m]⟩ φ) = up2 fun t j => Real.sqrt (f t j) :=
  funext fun i => (show Ideal.sqrt ((f (i 0).val (i 1).val : ℝ) : EReal) = _ from by
    rw [Ideal.sqrt_coe, if_neg (not_lt.mpr (h _ (i 0).isLt _ (i 1).isLt))]; rfl)

/-! Constants, choices, rows spread over a matrix, and layout. -/

theorem const2 {c : EReal} {r : ℝ} (h : c = (r : EReal)) : (broadcast ⟨2, ![n, m]⟩ c : FVec Ideal ⟨2, ![n, m]⟩ φ) = up2 fun _ _ => r :=
  funext fun _ => h
theorem hconst2 {w : BitVec φ.bits} {r : ℝ} (h : Ideal.ofBits φ w = (r : EReal)) (hb) :
    (broadcastInDim ⟨2, ![n, m]⟩ ![] hb (constant (F := Ideal) ⟨0, ![]⟩ φ w) : FVec Ideal ⟨2, ![n, m]⟩ φ) = up2 fun _ _ => r :=
  funext fun _ => h
theorem select2 (p : ℕ → ℕ → Bool) (f g : ℕ → ℕ → ℝ) :
    select (bits p) (up2 f : FVec Ideal ⟨2, ![n, m]⟩ φ) (up2 g) = up2 fun t j => if p t j then f t j else g t j := by
  funext i
  show (if (bits p : IVec ⟨2, ![n, m]⟩ 1) i = 1#1 then _ else _) = _
  unfold bits up2
  by_cases h : p (i 0).val (i 1).val <;> simp [h]
theorem cmp_eq2 (f g : ℕ → ℕ → ℝ) : cmpf .oeq (up2 f : FVec Ideal ⟨2, ![n, m]⟩ φ) (up2 g) = bits fun t j => decide (f t j = g t j) := by
  funext i
  show Ideal.cmp .oeq ((f (i 0).val (i 1).val : ℝ) : EReal) ((g (i 0).val (i 1).val : ℝ) : EReal) = _
  by_cases h : f (i 0).val (i 1).val = g (i 0).val (i 1).val <;> simp [Ideal.cmp, bits, h]
theorem cmp_ne2 (f : ℕ → ℕ → ℝ) : cmpf .une (up2 f : FVec Ideal ⟨2, ![n, m]⟩ φ) (up2 f) = bits fun _ _ => false := by
  funext i
  show Ideal.cmp .une ((f (i 0).val (i 1).val : ℝ) : EReal) ((f (i 0).val (i 1).val : ℝ) : EReal) = _
  simp [Ideal.cmp, bits]
theorem row2 (f : ℕ → ℕ → ℝ) (h) (hm : m ≠ 1) : broadcastTo ⟨2, ![n, m]⟩ (up2 f : FVec Ideal ⟨2, ![1, m]⟩ φ) h = up2 fun _ j => f 0 j := by
  funext i
  rw [broadcastTo_apply _ h i (ValueIdx.ix2 0 (i 1)) (fun a => by
    match a with
    | ⟨0, _⟩ => rfl
    | ⟨1, _⟩ => exact (if_neg hm).symm)]
  rfl
theorem hrow2 (f : ℕ → ℕ → ℝ) (h) (hm : m ≠ 1) :
    broadcastInDim ⟨2, ![n, m]⟩ ![0, 1] h (up2 f : FVec Ideal ⟨2, ![1, m]⟩ φ) = up2 fun _ j => f 0 j := by
  funext i
  rw [broadcastInDim_apply _ h _ i (ValueIdx.ix2 0 (i 1)) (fun a => by
    match a with
    | ⟨0, _⟩ => rfl
    | ⟨1, _⟩ => exact (if_neg hm).symm)]
  rfl
theorem column2 (p : ℕ → ℕ → Bool) (h) (hn : n ≠ 1) :
    broadcastTo ⟨2, ![n, m]⟩ (bits p : IVec ⟨2, ![n, 1]⟩ 1) h = bits fun t _ => p t 0 := by
  funext i
  rw [broadcastTo_apply _ h i (ValueIdx.ix2 (i 0) 0) (fun a => by
    match a with
    | ⟨0, _⟩ => exact (if_neg hn).symm
    | ⟨1, _⟩ => rfl)]
  rfl
theorem slice2 {n' m' : ℕ} (o : Fin 2 → ℕ) (f : ℕ → ℕ → ℝ) (h) :
    extractStridedSlice ⟨2, ![n', m']⟩ o (up2 f : FVec Ideal ⟨2, ![n, m]⟩ φ) h = up2 fun t j => f (o 0 + t) (o 1 + j) := by
  funext i
  have h0 := h.2 0
  have h1 := h.2 1
  have i0 := (i 0).isLt
  have i1 := (i 1).isLt
  refine (extractStridedSlice_apply o _ h i (ValueIdx.ix2 ⟨o 0 + (i 0).val, ?_⟩ ⟨o 1 + (i 1).val, ?_⟩) (fun a => ?_)).trans rfl
  · exact lt_of_lt_of_le (Nat.add_lt_add_left i0 _) h0
  · exact lt_of_lt_of_le (Nat.add_lt_add_left i1 _) h1
  · match a with
    | ⟨0, _⟩ => rfl
    | ⟨1, _⟩ => rfl
theorem sliceAt {n' m' : ℕ} (a b : ℕ) (f : ℕ → ℕ → ℝ) (h) :
    extractStridedSlice ⟨2, ![n', m']⟩ ![a, b] (up2 f : FVec Ideal ⟨2, ![n, m]⟩ φ) h = up2 fun t j => f (a + t) (b + j) := slice2 ![a, b] f h
theorem rotate2 (f : ℕ → ℕ → ℝ) (w : BitVec 32) (h) :
    dynamicRotate 0 w none (up2 f : FVec Ideal ⟨2, ![n, m]⟩ φ) h = up2 fun t j => f ((t + n - w.toNat % n) % n) j := by
  funext i
  have i0 := (i 0).isLt
  have hn : 0 < n := lt_of_le_of_lt (Nat.zero_le _) i0
  refine (dynamicRotate_apply 0 w _ h i (ValueIdx.ix2 ⟨((i 0).val + n - w.toNat % n) % n, Nat.mod_lt _ hn⟩ (i 1)) (fun a => ?_)).trans rfl
  match a with
  | ⟨0, _⟩ => rfl
  | ⟨1, _⟩ => rfl
theorem below2 {n₁ n₂ : ℕ} (f g : ℕ → ℕ → ℝ) (h) :
    concatenate ⟨2, ![n, m]⟩ 0 [⟨⟨2, ![n₁, m]⟩, (up2 f : FVec Ideal ⟨2, ![n₁, m]⟩ φ)⟩, ⟨⟨2, ![n₂, m]⟩, (up2 g : FVec Ideal ⟨2, ![n₂, m]⟩ φ)⟩] h
      = (up2 fun t j => if t < n₁ then f t j else g (t - n₁) j : FVec Ideal ⟨2, ![n, m]⟩ φ) := by
  funext i
  have i0 := (i 0).isLt
  by_cases ht : (i 0).val < n₁
  · refine (concatenate_pair_apply_left 0 _ _ h i rfl (ValueIdx.ix2 ⟨(i 0).val, ht⟩ (i 1)) (fun a => ?_)).trans ?_
    · match a with
      | ⟨0, _⟩ => rfl
      | ⟨1, _⟩ => rfl
    · simp only [up2, if_pos ht]; rfl
  · have hs : n₁ + n₂ = n := by simpa using h.2.2
    refine (concatenate_pair_apply_right 0 _ _ h i rfl rfl (ValueIdx.ix2 ⟨(i 0).val - n₁, by have : (i 0).val < n := i0; omega⟩ (i 1)) (fun a ha => ?_) ?_).trans ?_
    · match a with
      | ⟨0, _⟩ => exact absurd rfl ha
      | ⟨1, _⟩ => rfl
    · show (i 0).val - n₁ + n₁ = (i 0).val
      omega
    · simp only [up2, if_neg ht]; rfl
theorem beside2 {m₁ m₂ : ℕ} (f g : ℕ → ℕ → ℝ) (h) :
    concatenate ⟨2, ![n, m]⟩ 1 [⟨⟨2, ![n, m₁]⟩, (up2 f : FVec Ideal ⟨2, ![n, m₁]⟩ φ)⟩, ⟨⟨2, ![n, m₂]⟩, (up2 g : FVec Ideal ⟨2, ![n, m₂]⟩ φ)⟩] h
      = (up2 fun t j => if j < m₁ then f t j else g t (j - m₁) : FVec Ideal ⟨2, ![n, m]⟩ φ) := by
  funext i
  have i1 := (i 1).isLt
  by_cases ht : (i 1).val < m₁
  · refine (concatenate_pair_apply_left 1 _ _ h i rfl (ValueIdx.ix2 (i 0) ⟨(i 1).val, ht⟩) (fun a => ?_)).trans ?_
    · match a with
      | ⟨0, _⟩ => rfl
      | ⟨1, _⟩ => rfl
    · simp only [up2, if_pos ht]; rfl
  · have hs : m₁ + m₂ = m := by simpa using h.2.2
    refine (concatenate_pair_apply_right 1 _ _ h i rfl rfl (ValueIdx.ix2 (i 0) ⟨(i 1).val - m₁, by have : (i 1).val < m := i1; omega⟩) (fun a ha => ?_) ?_).trans ?_
    · match a with
      | ⟨0, _⟩ => rfl
      | ⟨1, _⟩ => exact absurd rfl ha
    · show (i 1).val - m₁ + m₁ = (i 1).val
      omega
    · simp only [up2, if_neg ht]; rfl
/-- Two arrays one after the other. -/
def join {α : Type} {t : Shape} (a : Fin t.rank) {s₁ s₂ : Shape} (x : s₁.Idx → α) (y : s₂.Idx → α) (h : Shape.Concatenates [s₁, s₂] t a) : t.Idx → α :=
  concatenate t a [⟨s₁, x⟩, ⟨s₂, y⟩] h
theorem to_join {α : Type} {t : Shape} (a : Fin t.rank) {s₁ s₂ : Shape} (x : s₁.Idx → α) (y : s₂.Idx → α) (h) :
    concatenate t a [⟨s₁, x⟩, ⟨s₂, y⟩] h = join a x y h := rfl
theorem join_below {n₁ n₂ : ℕ} (f g : ℕ → ℕ → ℝ) (h) :
    join (t := ⟨2, ![n, m]⟩) 0 (up2 f : FVec Ideal ⟨2, ![n₁, m]⟩ φ) (up2 g : FVec Ideal ⟨2, ![n₂, m]⟩ φ) h
      = (up2 fun t j => if t < n₁ then f t j else g (t - n₁) j : FVec Ideal ⟨2, ![n, m]⟩ φ) := below2 f g h
theorem join_beside {m₁ m₂ : ℕ} (f g : ℕ → ℕ → ℝ) (h) :
    join (t := ⟨2, ![n, m]⟩) 1 (up2 f : FVec Ideal ⟨2, ![n, m₁]⟩ φ) (up2 g : FVec Ideal ⟨2, ![n, m₂]⟩ φ) h
      = (up2 fun t j => if j < m₁ then f t j else g t (j - m₁) : FVec Ideal ⟨2, ![n, m]⟩ φ) := beside2 f g h
/-- The rows turned round by `w`. -/
def turn {α : Type} (w : BitVec 32) (x : (⟨2, ![n, m]⟩ : Shape).Idx → α) (h : Shape.Rotates ⟨2, ![n, m]⟩ 0 none) : (⟨2, ![n, m]⟩ : Shape).Idx → α :=
  dynamicRotate 0 w none x h
theorem to_turn {α : Type} (w : BitVec 32) (x : (⟨2, ![n, m]⟩ : Shape).Idx → α) (h) : dynamicRotate 0 w none x h = turn w x h := rfl
theorem turn_up (w : BitVec 32) (f : ℕ → ℕ → ℝ) (h) :
    turn w (up2 f : FVec Ideal ⟨2, ![n, m]⟩ φ) h = up2 fun t j => f ((t + n - w.toNat % n) % n) j := rotate2 f w h
/-- A shape cast to the same shape changes nothing. -/
theorem cast_self {s : Shape} {α : Type} (x : s.Idx → α) (h : s.ShapeCasts s) : shapeCast s x h = x :=
  funext fun i => shapeCast_apply x h i i rfl
theorem drop2 (f : ℕ → ℕ → ℕ → ℝ) (h) : shapeCast ⟨2, ![n, m]⟩ (up3 f : FVec Ideal ⟨3, ![1, n, m]⟩ φ) h = up2 (f 0) :=
  funext fun i => (shapeCast_dropUnit_apply ![n, m] _ h i).trans rfl
theorem addRow (f : ℕ → ℝ) (h) : shapeCast ⟨2, ![1, m]⟩ (up1 f : FVec Ideal ⟨1, ![m]⟩ φ) h = up2 fun _ j => f j :=
  funext fun i => (shapeCast_addUnit_apply ![m] _ h i).trans rfl

/-! The constants' words. -/

theorem half_word : Ideal.ofBits .f32 0x3F000000#32 = ((1 / 2 : ℝ) : EReal) := by simp [Ideal.ofBits, Ideal.ieee, -EReal.coe_mul]; norm_num
theorem one_word : Ideal.ofBits .f32 0x3F800000#32 = ((1 : ℝ) : EReal) := by simp [Ideal.ofBits, Ideal.ieee, -EReal.coe_mul]; norm_num
theorem two_word : Ideal.ofBits .f32 0x40000000#32 = ((2 : ℝ) : EReal) := by simp [Ideal.ofBits, Ideal.ieee, -EReal.coe_mul]; norm_num
theorem three_word : Ideal.ofBits .f32 0x40400000#32 = ((3 : ℝ) : EReal) := by simp [Ideal.ofBits, Ideal.ieee, -EReal.coe_mul]; norm_num
theorem minus_eight_word : Ideal.ofBits .f32 0xC1000000#32 = ((-8 : ℝ) : EReal) := by simp [Ideal.ofBits, Ideal.ieee, -EReal.coe_mul]; norm_num
theorem gelu_c_word : Ideal.ofBits .f32 0x3F4C422A#32 = ((6693141 / 8388608 : ℝ) : EReal) := by simp [Ideal.ofBits, Ideal.ieee, -EReal.coe_mul]; norm_num
theorem gelu_a_word : Ideal.ofBits .f32 0x3D372713#32 = ((12003091 / 268435456 : ℝ) : EReal) := by simp [Ideal.ofBits, Ideal.ieee, -EReal.coe_mul]; norm_num
/-- The least value one less the squared decay is held above. -/
def floor : ℝ := 10633824 / 2 ^ 123
theorem floor_pos : 0 < floor := by unfold floor; positivity
theorem floor_word : Ideal.ofBits .f32 0x0DA24260#32 = ((floor : ℝ) : EReal) := by simp [Ideal.ofBits, Ideal.ieee, -EReal.coe_mul, floor]; norm_num
theorem inf_word : Ideal.ofBits .f32 0x7F800000#32 = ⊤ := by simp [Ideal.ofBits, Ideal.ieee]

/-! Sums. -/

theorem coe_sum (s : Finset ℕ) (f : ℕ → ℝ) : ((∑ k ∈ s, f k : ℝ) : EReal) = ∑ k ∈ s, (f k : EReal) :=
  map_sum (⟨⟨Real.toEReal, rfl⟩, EReal.coe_add⟩ : ℝ →+ EReal) f s
theorem sum_fin (K : ℕ) (f : ℕ → ℝ) : ∑ k : Fin K, ((f k.val : ℝ) : EReal) = ((∑ k ∈ Finset.range K, f k : ℝ) : EReal) := by
  rw [coe_sum, Finset.sum_range]
theorem zero_word : Ideal.ofBits .f32 0x00000000#32 = ((0 : ℝ) : EReal) := Ideal.ofBits_zero_f32
theorem matmul2 {K : ℕ} {d : DotDims ⟨2, ![n, K]⟩ ⟨2, ![K, m]⟩ ⟨2, ![n, m]⟩} (hd : d = DotDims.plain n K m) (f g : ℕ → ℕ → ℝ) (p) :
    matmul d p (up2 f : FVec Ideal ⟨2, ![n, K]⟩ φ) (up2 g : FVec Ideal ⟨2, ![K, m]⟩ ψ) (constant ⟨2, ![n, m]⟩ .f32 0x00000000#32)
      = up2 fun t j => ∑ k ∈ Finset.range K, f t k * g k j := by
  subst hd
  funext i
  obtain ⟨t, j, rfl⟩ : ∃ a b, i = ValueIdx.ix2 a b := ⟨i 0, i 1, by funext a; match a with | ⟨0, _⟩ => rfl | ⟨1, _⟩ => rfl⟩
  refine (Ideal.matmul_plain_apply p _ _ _ t j).trans ?_
  show Ideal.ofBits .f32 0x00000000#32 + ∑ k : Fin K, ((f t.val k.val : ℝ) : EReal) * ((g k.val j.val : ℝ) : EReal) = _
  rw [zero_word, EReal.coe_zero, zero_add]
  simp only [← EReal.coe_mul]
  exact sum_fin K fun k => f t.val k * g k j.val
theorem matmulT2 {K : ℕ} {d : DotDims ⟨2, ![n, K]⟩ ⟨2, ![m, K]⟩ ⟨2, ![n, m]⟩} (hd : d = DotDims.transposedRhs n K m) (f g : ℕ → ℕ → ℝ) (p) :
    matmul d p (up2 f : FVec Ideal ⟨2, ![n, K]⟩ φ) (up2 g : FVec Ideal ⟨2, ![m, K]⟩ ψ) (constant ⟨2, ![n, m]⟩ .f32 0x00000000#32)
      = up2 fun t j => ∑ k ∈ Finset.range K, f t k * g j k := by
  subst hd
  funext i
  obtain ⟨t, j, rfl⟩ : ∃ a b, i = ValueIdx.ix2 a b := ⟨i 0, i 1, by funext a; match a with | ⟨0, _⟩ => rfl | ⟨1, _⟩ => rfl⟩
  refine (Ideal.matmul_transposedRhs_apply p _ _ _ t j).trans ?_
  show Ideal.ofBits .f32 0x00000000#32 + ∑ k : Fin K, ((f t.val k.val : ℝ) : EReal) * ((g j.val k.val : ℝ) : EReal) = _
  rw [zero_word, EReal.coe_zero, zero_add]
  simp only [← EReal.coe_mul]
  exact sum_fin K fun k => f t.val k * g j.val k
theorem colSums (f : ℕ → ℕ → ℝ) (h h' h'') :
    multiReduction .add [0] ⟨1, ![m]⟩ (up2 f : FVec Ideal ⟨2, ![n, m]⟩ .f32) 0x00000000#32 h h' h''
      = up1 fun j => ∑ t ∈ Finset.range n, f t j := by
  funext i
  refine (Ideal.reduceAdd_r2_a0 h _ i).trans ?_
  exact sum_fin n fun t => f t (i 0).val
theorem hcolSums (f : ℕ → ℕ → ℝ) (h h') :
    Host.reduceAdd (up2 f : FVec Ideal ⟨2, ![n, m]⟩ .f32) (constant (F := Ideal) ⟨0, ![]⟩ .f32 0x00000000#32) (t := ⟨1, ![m]⟩) (axes := [0]) h h'
      = up1 fun j => ∑ t ∈ Finset.range n, f t j := by
  funext i
  refine (Ideal.hostReduceAdd_r2_a0 h _ _ i).trans ?_
  refine (congrArg (· + _) zero_word).trans ?_
  rw [EReal.coe_zero, zero_add]
  exact sum_fin n fun t => f t (i 0).val

end Up

end
-- ==== Proof.HostUp.lean ====
module

public import proofs.«01_k».proof.Proof.Up
public import Idealize.ShloMosaic.Lib.DynamicIndex
public import Idealize.ShloMosaic.Lib.WordCmp

/-!
The host's operations on arrays of reals: rows read and written at an index, the columns in heads, the products head by head.
-/

@[expose] public section

noncomputable section

namespace Up

open Idealize.ShloMosaic Idealize.ShloMosaic.ValueIdx

variable {n m l : ℕ} {φ ψ : FTy}

theorem mul1 (f g : ℕ → ℝ) : mulf (up1 f : FVec Ideal ⟨1, ![n]⟩ φ) (up1 g) = up1 fun j => f j * g j :=
  funext fun _ => (EReal.coe_mul _ _).symm
theorem add1 (f g : ℕ → ℝ) : addf (up1 f : FVec Ideal ⟨1, ![n]⟩ φ) (up1 g) = up1 fun j => f j + g j :=
  funext fun _ => (EReal.coe_add _ _).symm
theorem add3 (f g : ℕ → ℕ → ℕ → ℝ) : addf (up3 f : FVec Ideal ⟨3, ![n, m, l]⟩ φ) (up3 g) = up3 fun i j k => f i j k + g i j k :=
  funext fun _ => (EReal.coe_add _ _).symm

/-- An array of one row as the row. -/
theorem oneRow (f : ℕ → ℕ → ℝ) (h) : shapeCast ⟨1, ![m]⟩ (up2 f : FVec Ideal ⟨2, ![1, m]⟩ φ) h = up1 (f 0) :=
  funext fun i => (shapeCast_dropUnit_apply ![m] _ h i).trans rfl
/-- A row as an array of one row. -/
theorem asRow (f : ℕ → ℝ) (h) (hm : m ≠ 1) :
    broadcastInDim ⟨2, ![1, m]⟩ (![1] : Fin 1 → Fin 2) h (up1 f : FVec Ideal ⟨1, ![m]⟩ φ) = up2 fun _ j => f j := by
  funext i
  refine (broadcastInDim_apply _ _ _ i (fun a => ⟨(i 1).val, by match a with | ⟨0, _⟩ => exact (i 1).isLt⟩) (fun a => ?_)).trans rfl
  match a with
  | ⟨0, _⟩ => exact (if_neg hm).symm

/-- A row read at an index. -/
theorem rowRead (f : ℕ → ℕ → ℝ) (start : Fin 2 → Int) (k : ℕ) (hk : k < n) (e0 : start 0 = (k : Int)) (e1 : start 1 = 0) (h) :
    Host.dynamicSlice ⟨2, ![1, m]⟩ (up2 f : FVec Ideal ⟨2, ![n, m]⟩ φ) start h = up2 fun t j => f (k + t) j := by
  refine (Host.dynamicSlice_eq_extractStridedSlice _ _ start ![k, 0] h ⟨rfl, fun a => ?_⟩ (fun a => ?_)).trans ?_
  · match a with
    | ⟨0, _⟩ => exact hk
    | ⟨1, _⟩ => exact (Nat.zero_add m).le
  · match a with
    | ⟨0, _⟩ => exact e0
    | ⟨1, _⟩ => exact e1
  · refine (sliceAt k 0 f _).trans ?_
    simp only [Nat.zero_add]

/-- A row written at an index. -/
theorem rowWrite (f : ℕ → ℕ → ℝ) (g : ℕ → ℝ) (start : Fin 2 → Int) (k : ℕ) (hk : k < n) (e0 : start 0 = (k : Int)) (e1 : start 1 = 0) (h) :
    Host.dynamicUpdateSlice (up2 f : FVec Ideal ⟨2, ![n, m]⟩ φ) (up2 fun _ j => g j : FVec Ideal ⟨2, ![1, m]⟩ φ) start h
      = up2 fun t j => if t = k then g j else f t j := by
  have hs : (⟨2, ![n, m]⟩ : Shape).Slices ![k, 0] ⟨2, ![1, m]⟩ := ⟨rfl, fun a => by
    match a with
    | ⟨0, _⟩ => exact hk
    | ⟨1, _⟩ => exact (Nat.zero_add m).le⟩
  rw [WordCmp.dynamicUpdateSlice_eq_update _ _ start h ![k, 0] hs (fun a => by
    match a with
    | ⟨0, _⟩ => exact e0
    | ⟨1, _⟩ => exact e1)]
  funext i
  have i1 := (i 1).isLt
  unfold updateSlice
  by_cases ht : (i 0).val = k
  · rw [dif_pos (fun a => by
      match a with
      | ⟨0, _⟩ => exact ⟨ht.ge, ht ▸ Nat.lt_succ_self _⟩
      | ⟨1, _⟩ => exact ⟨Nat.zero_le _, (Nat.zero_add m).symm ▸ i1⟩)]
    simp only [up2, if_pos ht]
    rfl
  · rw [dif_neg (fun hin => ht (by
      have h0 := hin 0
      have h1 : k ≤ (i 0).val := h0.1
      have h2 : (i 0).val < k + 1 := h0.2
      omega))]
    simp only [up2, if_neg ht]

/-- The columns in heads of 256. -/
theorem heads (f : ℕ → ℕ → ℝ) (h) : shapeCast ⟨3, ![n, 8, 256]⟩ (up2 f : FVec Ideal ⟨2, ![n, 2048]⟩ φ) h = up3 fun t b k => f t (256 * b + k) := by
  funext i
  have i1 : (i 1).val < 8 := (i 1).isLt
  have i2 : (i 2).val < 256 := (i 2).isLt
  refine (shapeCast_apply _ h i (ValueIdx.ix2 (i 0) ⟨256 * (i 1).val + (i 2).val, by omega⟩) ?_).trans rfl
  rw [Shape.rowMajor_val_two, Shape.rowMajor_val_three]
  show (i 0).val * 2048 + (256 * (i 1).val + (i 2).val) = ((i 0).val * 8 + (i 1).val) * 256 + (i 2).val
  ring
/-- The heads' columns side by side. -/
theorem unheads (f : ℕ → ℕ → ℕ → ℝ) (h) : shapeCast ⟨2, ![n, 2048]⟩ (up3 f : FVec Ideal ⟨3, ![n, 8, 256]⟩ φ) h = up2 fun t j => f t (j / 256) (j % 256) := by
  funext i
  have i1 : (i 1).val < 2048 := (i 1).isLt
  refine (shapeCast_apply _ h i (ValueIdx.ix3 (i 0) ⟨(i 1).val / 256, by omega⟩ ⟨(i 1).val % 256, by omega⟩) ?_).trans rfl
  rw [Shape.rowMajor_val_two, Shape.rowMajor_val_three]
  show ((i 0).val * 8 + (i 1).val / 256) * 256 + (i 1).val % 256 = (i 0).val * 2048 + (i 1).val
  omega

theorem turn201 (f : ℕ → ℕ → ℕ → ℝ) (h) : transpose ⟨3, ![l, n, m]⟩ [2, 0, 1] (up3 f : FVec Ideal ⟨3, ![n, m, l]⟩ φ) h = up3 fun t b j => f b j t := by
  funext i
  refine (transpose_apply _ _ h i (ValueIdx.ix3 (i 1) (i 2) (i 0)) (fun b => ?_)).trans rfl
  match b with
  | ⟨0, _⟩ => rfl
  | ⟨1, _⟩ => rfl
  | ⟨2, _⟩ => rfl
theorem turn120 (f : ℕ → ℕ → ℕ → ℝ) (h) : transpose ⟨3, ![m, l, n]⟩ [1, 2, 0] (up3 f : FVec Ideal ⟨3, ![n, m, l]⟩ φ) h = up3 fun b j t => f t b j := by
  funext i
  refine (transpose_apply _ _ h i (ValueIdx.ix3 (i 2) (i 0) (i 1)) (fun b => ?_)).trans rfl
  match b with
  | ⟨0, _⟩ => rfl
  | ⟨1, _⟩ => rfl
  | ⟨2, _⟩ => rfl
theorem turn102 (f : ℕ → ℕ → ℕ → ℝ) (h) : transpose ⟨3, ![m, n, l]⟩ [1, 0, 2] (up3 f : FVec Ideal ⟨3, ![n, m, l]⟩ φ) h = up3 fun t b j => f b t j := by
  funext i
  refine (transpose_apply _ _ h i (ValueIdx.ix3 (i 1) (i 0) (i 2)) (fun b => ?_)).trans rfl
  match b with
  | ⟨0, _⟩ => rfl
  | ⟨1, _⟩ => rfl
  | ⟨2, _⟩ => rfl

/-- A product head by head: the heads' weights by the heads' columns. -/
theorem byHead (w : DotDims.WF ⟨3, ![8, 256, 256]⟩ ⟨3, ![n, 8, 256]⟩ ⟨3, ![8, 256, n]⟩ [1] [2] [2] [0] [0] [1]) (f g : ℕ → ℕ → ℕ → ℝ) (p) :
    Host.dotGeneral (⟨[1], [2], [2], [0], [0], [1], w⟩ : DotDims ⟨3, ![8, 256, 256]⟩ ⟨3, ![n, 8, 256]⟩ ⟨3, ![8, 256, n]⟩) p (up3 f : FVec Ideal ⟨3, ![8, 256, 256]⟩ φ) (up3 g : FVec Ideal ⟨3, ![n, 8, 256]⟩ φ) = up3 fun b j t => ∑ k ∈ Finset.range 256, f b k j * g t b k := by
  funext i
  obtain ⟨b, j, t, rfl⟩ : ∃ b j t, i = ValueIdx.ix3 b j t := ⟨i 0, i 1, i 2, by funext a; match a with | ⟨0, _⟩ => rfl | ⟨1, _⟩ => rfl | ⟨2, _⟩ => rfl⟩
  show FloatOps.dotGeneral _ p _ _ _ (ValueIdx.ix3 b j t) = _
  rw [Ideal.dotGeneral_apply, ← Equiv.sum_comp (contrEquiv1 (⟨[1], [2], [2], [0], [0], [1], w⟩ : DotDims ⟨3, ![8, 256, 256]⟩ ⟨3, ![n, 8, 256]⟩ ⟨3, ![8, 256, n]⟩) 256 rfl rfl).symm]
  refine Eq.trans (Finset.sum_congr rfl fun k _ => ?_) (sum_fin 256 fun k => f b.val k j.val * g t.val b.val k)
  have hk := contrEquiv1_symm_val (⟨[1], [2], [2], [0], [0], [1], w⟩ : DotDims ⟨3, ![8, 256, 256]⟩ ⟨3, ![n, 8, 256]⟩ ⟨3, ![8, 256, n]⟩) 256 rfl rfl k
  have hl : (⟨[1], [2], [2], [0], [0], [1], w⟩ : DotDims ⟨3, ![8, 256, 256]⟩ ⟨3, ![n, 8, 256]⟩ ⟨3, ![8, 256, n]⟩).lhsIdx (ValueIdx.ix3 b j t) ((contrEquiv1 _ 256 rfl rfl).symm k) = ValueIdx.ix3 b k j := by
    funext a; apply Fin.ext
    match a with
    | ⟨0, _⟩ => simp [DotDims.lhsIdx]; rfl
    | ⟨1, _⟩ => simp [DotDims.lhsIdx]; exact hk
    | ⟨2, _⟩ => simp [DotDims.lhsIdx]; rfl
  have hr : (⟨[1], [2], [2], [0], [0], [1], w⟩ : DotDims ⟨3, ![8, 256, 256]⟩ ⟨3, ![n, 8, 256]⟩ ⟨3, ![8, 256, n]⟩).rhsIdx (ValueIdx.ix3 b j t) ((contrEquiv1 _ 256 rfl rfl).symm k) = ValueIdx.ix3 t b k := by
    funext a; apply Fin.ext
    match a with
    | ⟨0, _⟩ => simp [DotDims.rhsIdx]; rfl
    | ⟨1, _⟩ => simp [DotDims.rhsIdx]; rfl
    | ⟨2, _⟩ => simp [DotDims.rhsIdx]; exact hk
  rw [hl, hr, EReal.coe_mul]
  rfl

/-- The product with the weights transposed, head by head. -/
theorem byHeadT (w : DotDims.WF ⟨3, ![8, 256, n]⟩ ⟨3, ![8, 256, 256]⟩ ⟨3, ![8, n, 256]⟩ [1] [2] [2] [1] [0] [0]) (f g : ℕ → ℕ → ℕ → ℝ) (p) :
    Host.dotGeneral (⟨[1], [2], [2], [1], [0], [0], w⟩ : DotDims ⟨3, ![8, 256, n]⟩ ⟨3, ![8, 256, 256]⟩ ⟨3, ![8, n, 256]⟩) p (up3 f : FVec Ideal ⟨3, ![8, 256, n]⟩ φ) (up3 g : FVec Ideal ⟨3, ![8, 256, 256]⟩ φ) = up3 fun b t j => ∑ k ∈ Finset.range 256, f b k t * g b j k := by
  funext i
  obtain ⟨b, t, j, rfl⟩ : ∃ b t j, i = ValueIdx.ix3 b t j := ⟨i 0, i 1, i 2, by funext a; match a with | ⟨0, _⟩ => rfl | ⟨1, _⟩ => rfl | ⟨2, _⟩ => rfl⟩
  show FloatOps.dotGeneral _ p _ _ _ (ValueIdx.ix3 b t j) = _
  rw [Ideal.dotGeneral_apply, ← Equiv.sum_comp (contrEquiv1 (⟨[1], [2], [2], [1], [0], [0], w⟩ : DotDims ⟨3, ![8, 256, n]⟩ ⟨3, ![8, 256, 256]⟩ ⟨3, ![8, n, 256]⟩) 256 rfl rfl).symm]
  refine Eq.trans (Finset.sum_congr rfl fun k _ => ?_) (sum_fin 256 fun k => f b.val k t.val * g b.val j.val k)
  have hk := contrEquiv1_symm_val (⟨[1], [2], [2], [1], [0], [0], w⟩ : DotDims ⟨3, ![8, 256, n]⟩ ⟨3, ![8, 256, 256]⟩ ⟨3, ![8, n, 256]⟩) 256 rfl rfl k
  have hl : (⟨[1], [2], [2], [1], [0], [0], w⟩ : DotDims ⟨3, ![8, 256, n]⟩ ⟨3, ![8, 256, 256]⟩ ⟨3, ![8, n, 256]⟩).lhsIdx (ValueIdx.ix3 b t j) ((contrEquiv1 _ 256 rfl rfl).symm k) = ValueIdx.ix3 b k t := by
    funext a; apply Fin.ext
    match a with
    | ⟨0, _⟩ => simp [DotDims.lhsIdx]; rfl
    | ⟨1, _⟩ => simp [DotDims.lhsIdx]; exact hk
    | ⟨2, _⟩ => simp [DotDims.lhsIdx]; rfl
  have hr : (⟨[1], [2], [2], [1], [0], [0], w⟩ : DotDims ⟨3, ![8, 256, n]⟩ ⟨3, ![8, 256, 256]⟩ ⟨3, ![8, n, 256]⟩).rhsIdx (ValueIdx.ix3 b t j) ((contrEquiv1 _ 256 rfl rfl).symm k) = ValueIdx.ix3 b j k := by
    funext a; apply Fin.ext
    match a with
    | ⟨0, _⟩ => simp [DotDims.rhsIdx]; rfl
    | ⟨1, _⟩ => simp [DotDims.rhsIdx]; rfl
    | ⟨2, _⟩ => simp [DotDims.rhsIdx]; exact hk
  rw [hl, hr, EReal.coe_mul]
  rfl

end Up

end
-- ==== Proof.Spec.lean ====
module

public import Idealize.ShloMosaic.PureOps.Ideal

/-!
The gated linear recurrence over the reals, and its gradients: what the kernel and the reference both compute.
-/

@[expose] public section

noncomputable section

open Finset

/-- The logistic function. -/
def sig (x : ℝ) : ℝ := 1 / (1 + Real.exp (-x))
/-- The logistic function by the hyperbolic tangent of the half. -/
theorem sig_eq_tanh (x : ℝ) : 1 / 2 * Real.tanh (1 / 2 * x) + 1 / 2 = sig x := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add, add_neg_cancel, Real.exp_zero]
  have hp := Real.exp_pos (1 / 2 * x)
  have hn := Real.exp_pos (-(1 / 2 * x))
  rw [sig, h, Real.tanh_eq_sinh_div_cosh, Real.sinh_eq, Real.cosh_eq]
  generalize Real.exp (1 / 2 * x) = p at *
  generalize Real.exp (-(1 / 2 * x)) = q at *
  have hq : (0 : ℝ) < 1 + q * q := by positivity
  have hpq : (0 : ℝ) < p + q := by positivity
  field_simp
  linear_combination (2 * q) * h1

/-- The softplus function. -/
def splus (x : ℝ) : ℝ := Real.log (1 + Real.exp x)
/-- The softplus function by its larger branch. -/
theorem splus_eq (x : ℝ) : max x 0 + Real.log (1 + Real.exp (-|x|)) = splus x := by
  have h := Real.exp_pos x
  rcases le_total 0 x with hx | hx
  · rw [max_eq_left hx, abs_of_nonneg hx, splus]
    have e : 1 + Real.exp x = Real.exp x * (1 + Real.exp (-x)) := by
      rw [mul_add, ← Real.exp_add, add_neg_cancel, Real.exp_zero, mul_one, add_comm]
    rw [e, Real.log_mul h.ne' (by have := Real.exp_pos (-x); positivity), Real.log_exp]
  · rw [max_eq_right hx, abs_of_nonpos hx, neg_neg, zero_add, splus]
/-- The slope of the softplus function is the logistic function. -/
theorem exp_sub_splus (x : ℝ) : Real.exp (x - splus x) = sig x := by
  have h := Real.exp_pos x
  rw [Real.exp_sub, splus, Real.exp_log (by positivity), sig, Real.exp_neg]
  field_simp
  ring

/-- The gelu's inner factor: the `f32` number nearest to `√(2/π)`. -/
def gc : ℝ := 6693141 / 8388608
/-- The gelu's cubic factor: the `f32` number nearest to `0.044715`. -/
def gA : ℝ := 12003091 / 268435456
/-- The hyperbolic tangent inside the gelu. -/
def gt (u : ℝ) : ℝ := Real.tanh (u * (gc + gc * gA * (u * u)))
/-- The gelu. -/
def gelu (u : ℝ) : ℝ := 1 / 2 * u + 1 / 2 * u * gt u
/-- The gelu's slope. -/
def gelu' (u : ℝ) : ℝ := 1 / 2 + 1 / 2 * gt u + 1 / 2 * u * (1 - gt u * gt u) * (gc + 3 * (gc * gA) * (u * u))

/-- What the gradient is taken at: the cotangent, the states, the gelu branch's input, the gated input, the two gates' weights and biases,
    and the decay parameter. -/
structure Data where
  dy : ℕ → ℕ → ℝ
  h : ℕ → ℕ → ℝ
  ug : ℕ → ℕ → ℝ
  v : ℕ → ℕ → ℝ
  wa : ℕ → ℕ → ℕ → ℝ
  wi : ℕ → ℕ → ℕ → ℝ
  ba : ℕ → ℝ
  bi : ℕ → ℝ
  lam : ℕ → ℝ

namespace Data

variable (D : Data)

/-- A gate's input: the head's 256 channels by its weights, and the bias. -/
def pre (w : ℕ → ℕ → ℕ → ℝ) (b : ℕ → ℝ) (t j : ℕ) : ℝ := (∑ k ∈ range 256, D.v t (256 * (j / 256) + k) * w (j / 256) k (j % 256)) + b j
/-- The recurrence gate. -/
def r (t j : ℕ) : ℝ := sig (D.pre D.wa D.ba t j)
/-- The input gate. -/
def ig (t j : ℕ) : ℝ := sig (D.pre D.wi D.bi t j)
/-- The decay rate of a channel. -/
def sp (j : ℕ) : ℝ := splus (-D.lam j)
/-- The decay. -/
def a (t j : ℕ) : ℝ := Real.exp (-8 * D.r t j * D.sp j)
/-- One less the squared decay. -/
def om (t j : ℕ) : ℝ := 1 - D.a t j * D.a t j
/-- What multiplies the gated input. -/
def mult (t j : ℕ) : ℝ := Real.sqrt (D.om t j)
/-- The states one row earlier. -/
def before (t j : ℕ) : ℝ := if t = 0 then 0 else D.h (t - 1) j
/-- The cotangent of a state from its own row. -/
def dh (t j : ℕ) : ℝ := D.dy t j * gelu (D.ug t j)
/-- The cotangent that flows into a state from the `k` last rows, the state being the one before them. -/
def tail : ℕ → ℕ → ℝ
  | 0, _ => 0
  | k + 1, j => D.a (8191 - k) j * (tail k j + D.dh (8191 - k) j)
/-- The gradient of a state. -/
def g (t j : ℕ) : ℝ := D.tail (8191 - t) j + D.dh t j
/-- The gradient of the gated input's multiplied form. -/
def dgm (t j : ℕ) : ℝ := D.g t j * D.mult t j
/-- The gradient of the decay's logarithm. -/
def dlog (t j : ℕ) : ℝ := D.g t j * D.before t j * D.a t j - D.g t j * (D.ig t j * D.v t j) * (D.a t j * D.a t j) * (D.mult t j)⁻¹
/-- The gradient of the recurrence gate's input. -/
def dpa (t j : ℕ) : ℝ := D.dlog t j * (-8 * D.sp j) * D.r t j * (1 - D.r t j)
/-- The gradient of the input gate's input. -/
def dpi (t j : ℕ) : ℝ := D.dgm t j * D.v t j * D.ig t j * (1 - D.ig t j)
/-- A gate's gradient sent back through its weights. -/
def back (w : ℕ → ℕ → ℕ → ℝ) (e : ℕ → ℕ → ℝ) (t j : ℕ) : ℝ := ∑ k ∈ range 256, e t (256 * (j / 256) + k) * w (j / 256) (j % 256) k
/-- The gradient of the gated input. -/
def dv (t j : ℕ) : ℝ := back D.wa D.dpa t j + back D.wi D.dpi t j + D.dgm t j * D.ig t j
/-- The gradient of the gelu branch's input. -/
def dug (t j : ℕ) : ℝ := D.dy t j * D.h t j * gelu' (D.ug t j)
/-- The gradients of the two biases. -/
def dba (n j : ℕ) : ℝ := ∑ t ∈ range n, D.dpa t j
@[inherit_doc dba] def dbi (n j : ℕ) : ℝ := ∑ t ∈ range n, D.dpi t j
/-- The gradient of the decay rate. -/
def drate (t j : ℕ) : ℝ := D.dlog t j * (-8 * D.r t j)
/-- The gradient of the decay parameter. -/
def dlam (j : ℕ) : ℝ := (∑ t ∈ range 8192, D.drate t j) * (0 - sig (0 - D.lam j))

/-- The gradient of the states goes from a row to the row before it through the decay between them. -/
theorem tail_eq (t j : ℕ) (ht : t < 8191) : D.tail (8191 - t) j = D.a (t + 1) j * D.g (t + 1) j := by
  obtain ⟨k, hk⟩ : ∃ k, 8191 - t = k + 1 := ⟨8190 - t, by omega⟩
  have h1 : 8191 - k = t + 1 := by omega
  have h2 : 8191 - (t + 1) = k := by omega
  rw [hk, tail, h1, g, h2]

end Data

/-! ## The recurrence inside a tile of 512 rows

Three doubling steps carry the gradient inside groups of eight rows; then group after group takes the first row of the group after it. -/

namespace Scan

/-- One doubling step of the gradient: rows that have a row `k` below them in their group take it, through the decay. -/
def stepB (k : ℕ) (b a : ℕ → ℕ → ℝ) (t j : ℕ) : ℝ := if t % 8 < 8 - k then b t j + a t j * b ((t + k) % 512) j else b t j
/-- One doubling step of the decay. -/
def stepA (k : ℕ) (a : ℕ → ℕ → ℝ) (t j : ℕ) : ℝ := if t % 8 < 8 - k then a t j * a ((t + k) % 512) j else a t j

variable (b a : ℕ → ℕ → ℝ) (d : ℕ → ℝ)

/-- The gradient and the decay after one, two and three steps. -/
def b1 : ℕ → ℕ → ℝ := stepB 1 b a
@[inherit_doc b1] def a1 : ℕ → ℕ → ℝ := stepA 1 a
@[inherit_doc b1] def b2 : ℕ → ℕ → ℝ := stepB 2 (b1 b a) (a1 a)
@[inherit_doc b1] def a2 : ℕ → ℕ → ℝ := stepA 2 (a1 a)
@[inherit_doc b1] def b3 : ℕ → ℕ → ℝ := stepB 4 (b2 b a) (a2 a)
@[inherit_doc b1] def a3 : ℕ → ℕ → ℝ := stepA 4 (a2 a)

/-- The gradient of the `k`-th group from the last; `d` is the row after the tile. -/
def group (β α : ℕ → ℕ → ℝ) (d : ℕ → ℝ) : ℕ → ℕ → ℕ → ℝ
  | 0, t, j => β (504 + t) j + α (504 + t) j * d j
  | k + 1, t, j => β (504 - 8 * (k + 1) + t) j + α (504 - 8 * (k + 1) + t) j * group β α d k 0 j

/-- The gradient of the tile's rows. -/
def out (β α : ℕ → ℕ → ℝ) (d : ℕ → ℝ) (t j : ℕ) : ℝ := group β α d (63 - t / 8) (t % 8) j

/-- What the group after a row's group hands to it. -/
def nxt (β α : ℕ → ℕ → ℝ) (d : ℕ → ℝ) (g j : ℕ) : ℝ := if g = 63 then d j else out β α d (8 * (g + 1)) j

theorem out_eq (β α : ℕ → ℕ → ℝ) (g p j : ℕ) (hg : g < 64) (hp : p < 8) :
    out β α d (8 * g + p) j = β (8 * g + p) j + α (8 * g + p) j * nxt β α d g j := by
  have e1 : (8 * g + p) / 8 = g := by omega
  have e2 : (8 * g + p) % 8 = p := by omega
  rw [out, e1, e2, nxt]
  split_ifs with h
  · subst h; rw [show 63 - 63 = 0 from rfl, group]
  · obtain ⟨k, hk⟩ : ∃ k, 63 - g = k + 1 := ⟨62 - g, by omega⟩
    have e3 : (8 * (g + 1)) / 8 = g + 1 := by omega
    have e4 : (8 * (g + 1)) % 8 = 0 := by omega
    rw [hk, group, out, e3, e4, show 63 - (g + 1) = k by omega, show 504 - 8 * (k + 1) + p = 8 * g + p by omega]

/-- Inside a group each row takes the next through the decay. -/
theorem inside (g p j : ℕ) (hg : g < 64) (hp : p < 7) :
    out (b3 b a) (a3 a) d (8 * g + p) j = b (8 * g + p) j + a (8 * g + p) j * out (b3 b a) (a3 a) d (8 * g + p + 1) j := by
  rw [out_eq d _ _ g p j hg (by omega), add_assoc (8 * g) p 1, out_eq d _ _ g (p + 1) j hg (by omega)]
  generalize nxt (b3 b a) (a3 a) d g j = X
  have hm : ∀ q < 8, (8 * g + q) % 512 = 8 * g + q := fun q hq => by omega
  have hr : ∀ q < 8, (8 * g + q) % 8 = q := fun q hq => by omega
  interval_cases p <;>
    simp [b3, a3, b2, a2, b1, a1, stepB, stepA, hr, hm, add_assoc] <;> ring

/-- The last row of a group takes the first row of the group after it. -/
theorem across (g j : ℕ) (hg : g < 64) :
    out (b3 b a) (a3 a) d (8 * g + 7) j = b (8 * g + 7) j + a (8 * g + 7) j * nxt (b3 b a) (a3 a) d g j := by
  rw [out_eq d _ _ g 7 j hg (by omega)]
  have hr : (8 * g + 7) % 8 = 7 := by omega
  simp [b3, a3, b2, a2, b1, a1, stepB, stepA, hr]

/-- Every row takes the next through the decay; the last row takes what comes from the tile after. -/
theorem out_step (t j : ℕ) (ht : t < 511) :
    out (b3 b a) (a3 a) d t j = b t j + a t j * out (b3 b a) (a3 a) d (t + 1) j := by
  obtain ⟨g, p, hp, rfl⟩ : ∃ g p, p < 8 ∧ t = 8 * g + p := ⟨t / 8, t % 8, by omega, by omega⟩
  rcases Nat.lt_or_ge p 7 with h | h
  · exact inside b a d g p j (by omega) h
  · obtain rfl : p = 7 := by omega
    rw [across b a d g j (by omega), nxt, if_neg (by omega), show 8 * (g + 1) = 8 * g + 7 + 1 by ring]
theorem out_last (j : ℕ) : out (b3 b a) (a3 a) d 511 j = b 511 j + a 511 j * d j := by
  have := across b a d 63 j (by omega)
  rwa [nxt, if_pos rfl] at this

end Scan

/-- The tile's recurrence is the whole recurrence, on the tile's rows: `s` is the tile's first row, and what the tile after hands over is
    the gradient that flows into the tile's last row. -/
theorem Data.out_eq_g (D : Data) (s c : ℕ) (hs : s + 511 < 8192) (A : ℕ → ℕ → ℝ) (d : ℕ → ℝ) (j : ℕ)
    (hA : ∀ t < 511, A t j = D.a (s + t + 1) (c + j)) (hd : A 511 j * d j = D.tail (8191 - (s + 511)) (c + j)) (t : ℕ) (ht : t < 512) :
    Scan.out (Scan.b3 (fun t j => D.dh (s + t) (c + j)) A) (Scan.a3 A) d t j = D.g (s + t) (c + j) := by
  obtain ⟨k, rfl⟩ : ∃ k, t = 511 - k := ⟨511 - t, by omega⟩
  induction k with
  | zero => rw [Nat.sub_zero, Scan.out_last, hd, Data.g, add_comm]
  | succ k ih =>
    rcases Nat.lt_or_ge k 511 with hk | hk
    · have e : 511 - (k + 1) + 1 = 511 - k := by omega
      have e' : s + (511 - (k + 1)) + 1 = s + (511 - k) := by omega
      have h := D.tail_eq (s + (511 - (k + 1))) (c + j) (by omega)
      rw [Scan.out_step _ _ _ _ _ (by omega), e, ih (by omega), hA _ (by omega), e', add_comm]
      rw [e'] at h
      rw [← h]
      rfl
    · rw [show 511 - (k + 1) = 511 - k by omega]; exact ih (by omega)

end
-- ==== Proof.Admissible.lean ====
module

public import proofs.«01_k».proof.Pre_admissible
public import proofs.«01_k».proof.Proof.HostUp
public import proofs.«01_k».proof.Proof.Spec
public import Idealize.ShloMosaic.Lib.ReduceAll
public import Idealize.ShloMosaic.Lib.Affine

/-!
What the precondition says over the reals: every argument is an array of reals, one less the squared decay is nowhere below the floor,
and the states follow the recurrence.
-/

@[expose] public section

set_option maxRecDepth 16384

noncomputable section

namespace Admissible

open Cert.Pre_admissible Cert.Pre_admissible.Facts
open Idealize.ShloMosaic Up Finset

/-- The side conditions of the precondition's operations. -/
instance facts : Cert.Pre_admissible.Facts where
  shapeCasts_S8192x2048_S8192x8x256 := by decide
  transposes_S8x256x8192_S8192x8x256_2_0_1 := by decide
  shapeCasts_S8192x8x256_S8192x2048 := by decide
  bcast_S1x2048_S8192x2048_0_1 := by decide
  bcast_S_S8192x2048 := by decide
  bcast_S_S1x2048 := by decide
  slices_S8192x2048_S8191x2048_0_0 := by decide
  concatenates_S1x2048_S8191x2048_S8192x2048_d0 := by decide
  reducesTo_S8192x2048_S_d0_1 := by decide
  h_S_ := by decide
  bcast_S_S8192x9216 := by decide
  reducesTo_S8192x9216_S_d0_1 := by decide
  bcast_S_S8x256x256 := by decide
  reducesTo_S8x256x256_S_d0_1_2 := by decide
  reducesTo_S1x2048_S_d0_1 := by decide
  dot_S8x256x256_S8192x8x256_S8x256x8192_1_2_2_0_0_1_wf := by decide

/-! ## Arrays of finite numbers -/

theorem real_of_finite {x : EReal} (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- An array is finite at every index. -/
def Finite {s : Shape} (x : FVec Ideal s .f32) (hb : S_.BroadcastsInDim s (![] : Fin 0 → Fin s.rank)) : Prop :=
  ∀ i, cmpf .olt (Host.absf x) (broadcastInDim s ![] hb (constant (F := Ideal) S_ .f32 0x7F800000#32)) i = 1#1

theorem Finite.real {s : Shape} {x : FVec Ideal s .f32} {hb} (h : Finite x hb) (i : s.Idx) : ∃ r : ℝ, x i = (r : EReal) := real_of_finite (h i)
/-- A finite matrix holds reals. -/
theorem Finite.up2 {n m : ℕ} {x : FVec Ideal ⟨2, ![n, m]⟩ .f32} {hb} (h : Finite x hb) : ∃ f : ℕ → ℕ → ℝ, x = up2 f := by
  refine ⟨fun t j => if w : t < n ∧ j < m then (x (ValueIdx.ix2 ⟨t, w.1⟩ ⟨j, w.2⟩)).toReal else 0, funext fun i => ?_⟩
  obtain ⟨r, hr⟩ := h.real i
  have w : (i 0).val < n ∧ (i 1).val < m := ⟨(i 0).isLt, (i 1).isLt⟩
  have e : ValueIdx.ix2 ⟨(i 0).val, w.1⟩ ⟨(i 1).val, w.2⟩ = i := funext fun a => match a with
    | ⟨0, _⟩ => rfl
    | ⟨1, _⟩ => rfl
  rw [up2_apply, dif_pos w, e, hr, EReal.toReal_coe]
/-- A finite stack of matrices holds reals. -/
theorem Finite.up3 {n m l : ℕ} {x : FVec Ideal ⟨3, ![n, m, l]⟩ .f32} {hb} (h : Finite x hb) : ∃ f : ℕ → ℕ → ℕ → ℝ, x = up3 f := by
  refine ⟨fun q t j => if w : q < n ∧ t < m ∧ j < l then (x (ValueIdx.ix3 ⟨q, w.1⟩ ⟨t, w.2.1⟩ ⟨j, w.2.2⟩)).toReal else 0, funext fun i => ?_⟩
  obtain ⟨r, hr⟩ := h.real i
  have w : (i 0).val < n ∧ (i 1).val < m ∧ (i 2).val < l := ⟨(i 0).isLt, (i 1).isLt, (i 2).isLt⟩
  have e : ValueIdx.ix3 ⟨(i 0).val, w.1⟩ ⟨(i 1).val, w.2.1⟩ ⟨(i 2).val, w.2.2⟩ = i := funext fun a => match a with
    | ⟨0, _⟩ => rfl
    | ⟨1, _⟩ => rfl
    | ⟨2, _⟩ => rfl
  show x i = ((dite _ _ _ : ℝ) : EReal)
  rw [dif_pos w, e, hr, EReal.toReal_coe]
/-- A finite row holds reals. -/
theorem Finite.row {m : ℕ} {x : FVec Ideal ⟨2, ![1, m]⟩ .f32} {hb} (h : Finite x hb) : ∃ f : ℕ → ℝ, x = Up.up2 fun _ j => f j := by
  obtain ⟨f, hf⟩ := h.up2
  exact ⟨f 0, hf.trans (up2_congr fun t ht j _ => by rw [Nat.lt_one_iff.mp ht])⟩

/-! ## The precondition's lines -/

/-- A gate. -/
def gate (w : FVec Ideal S8x256x256 .f32) (v : FVec Ideal S8192x2048 .f32) (b : FVec Ideal S1x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf (addf
      (shapeCast S8192x2048 (transpose S8192x8x256 [2, 0, 1] (Host.dotGeneral dot_S8x256x256_S8192x8x256_S8x256x8192_1_2_2_0_0_1 none w
        (shapeCast S8192x8x256 v shapeCasts_S8192x2048_S8192x8x256)) transposes_S8x256x8192_S8192x8x256_2_0_1) shapeCasts_S8192x8x256_S8192x2048)
      (broadcastInDim S8192x2048 ![0, 1] bcast_S1x2048_S8192x2048_0_1 b)))))
/-- The decay. -/
def decay (r : FVec Ideal S8192x2048 .f32) (lam : FVec Ideal S1x2048 .f32) : FVec Ideal S8192x2048 .f32 :=
  Host.exp (mulf (mulf (broadcastInDim S8192x2048 ![] bcast_S_S8192x2048 (constant S_ .f32 0xC1000000#32)) r)
    (broadcastInDim S8192x2048 ![0, 1] bcast_S1x2048_S8192x2048_0_1 (Host.log (addf (broadcastInDim S1x2048 ![] bcast_S_S1x2048 (constant S_ .f32 0x3F800000#32))
      (Host.exp (Host.negf lam))))))
/-- One less the square. -/
def rest (a : FVec Ideal S8192x2048 .f32) : FVec Ideal S8192x2048 .f32 :=
  subf (broadcastInDim S8192x2048 ![] bcast_S_S8192x2048 (constant S_ .f32 0x3F800000#32)) (mulf a a)
/-- The rows one step earlier, zeros before the first. -/
def earlier (h : FVec Ideal S8192x2048 .f32) : FVec Ideal S8192x2048 .f32 :=
  concatenate S8192x2048 0 [⟨S1x2048, (broadcastInDim S1x2048 ![] bcast_S_S1x2048 (constant S_ .f32 0x00000000#32) : FVec Ideal S1x2048 .f32)⟩,
    ⟨S8191x2048, extractStridedSlice S8191x2048 ![0, 0] h slices_S8192x2048_S8191x2048_0_0⟩] concatenates_S1x2048_S8191x2048_S8192x2048_d0
/-- One step of the recurrence. -/
def next (a h i v : FVec Ideal S8192x2048 .f32) : FVec Ideal S8192x2048 .f32 :=
  addf (mulf a (earlier h)) (mulf (Host.sqrt (rest a)) (mulf i v))

theorem gate_up (w : ℕ → ℕ → ℕ → ℝ) (v : ℕ → ℕ → ℝ) (b : ℕ → ℝ) :
    gate (up3 w) (up2 v) (up2 fun _ j => b j) = up2 fun t j => sig ((∑ k ∈ range 256, v t (256 * (j / 256) + k) * w (j / 256) k (j % 256)) + b j) := by
  have dot : ∀ f g : ℕ → ℕ → ℕ → ℝ, Host.dotGeneral dot_S8x256x256_S8192x8x256_S8x256x8192_1_2_2_0_0_1 none (up3 f : FVec Ideal S8x256x256 .f32) (up3 g : FVec Ideal S8192x8x256 .f32)
      = (up3 fun b j t => ∑ k ∈ range 256, f b k j * g t b k : FVec Ideal S8x256x8192 .f32) := fun f g => byHead _ f g none
  unfold gate
  rw [heads, dot, turn201, unheads, hrow2 _ _ (by decide), add2, hneg2, hexp2, hconst2 one_word, add2, hdiv2 _ _ (fun t _ j _ => by positivity)]
  refine up2_congr fun t _ j _ => ?_
  rw [sig, sum_congr rfl fun k _ => mul_comm (v t (256 * (j / 256) + k)) (w (j / 256) k (j % 256))]
theorem hlog2 {n m : ℕ} (f : ℕ → ℕ → ℝ) (h : ∀ t j, 0 < f t j) : Host.log (up2 f : FVec Ideal ⟨2, ![n, m]⟩ .f32) = up2 fun t j => Real.log (f t j) :=
  funext fun i => Up.log_pos (h _ _)
theorem decay_up (r : ℕ → ℕ → ℝ) (lam : ℕ → ℝ) : decay (up2 r) (up2 fun _ j => lam j) = (up2 fun t j => Real.exp (-8 * r t j * splus (-lam j)) : FVec Ideal S8192x2048 .f32) := by
  unfold decay
  rw [hneg2, hexp2, hconst2 one_word, add2, hlog2 _ (fun t j => by positivity), hrow2 _ _ (by decide), hconst2 minus_eight_word, mul2, mul2, hexp2]
  rfl
theorem rest_up (a : ℕ → ℕ → ℝ) : rest (up2 a) = up2 fun t j => 1 - a t j * a t j := by
  unfold rest
  rw [mul2, hconst2 one_word, sub2]
theorem earlier_up (h : ℕ → ℕ → ℝ) : earlier (up2 h) = up2 fun t j => if t = 0 then 0 else h (t - 1) j := by
  unfold earlier
  rw [hconst2 zero_word, sliceAt, below2]
  refine up2_congr fun t _ j _ => ?_
  simp only [Nat.lt_one_iff, zero_add]

/-- What the precondition says, line by line. -/
theorem lines {dy h : FVec Ideal S8192x2048 .f32} {ug : FVec Ideal S8192x9216 .f32} {wa wi : FVec Ideal S8x256x256 .f32} {v : FVec Ideal S8192x2048 .f32}
    {ba bi lam : FVec Ideal S1x2048 .f32} (e : fn (F := Ideal) dy h ug wa wi v ba bi lam = fun _ => 1#1) :
    ((∀ i, cmpf .oge (rest (decay (gate wa v ba) lam)) (broadcastInDim S8192x2048 ![] bcast_S_S8192x2048 (constant S_ .f32 0x0DA24260#32)) i = 1#1)
      ∧ ∀ i, cmpf .oeq h (next (decay (gate wa v ba) lam) h (gate wi v bi) v) i = 1#1)
    ∧ ((((((((Finite dy bcast_S_S8192x2048 ∧ Finite h bcast_S_S8192x2048) ∧ Finite ug bcast_S_S8192x9216) ∧ Finite wa bcast_S_S8x256x256)
      ∧ Finite wi bcast_S_S8x256x256) ∧ Finite v bcast_S_S8192x2048) ∧ Finite ba bcast_S_S1x2048) ∧ Finite bi bcast_S_S1x2048) ∧ Finite lam bcast_S_S1x2048) := by
  have : Subsingleton S_.Idx := ⟨fun a b => funext fun k => k.elim0⟩
  have both : ∀ {x y : IVec S_ 1}, andi x y (fun k => k.elim0) = 1#1 → x (fun k => k.elim0) = 1#1 ∧ y (fun k => k.elim0) = 1#1 := fun h => IntOp.andi_eq_one.mp h
  have e0 := congrFun e (fun k => k.elim0)
  unfold fn fn_part1 fn_part2 fn_part3 fn_part4 fn_part5 at e0
  obtain ⟨el, er⟩ := both e0
  obtain ⟨e1, e2⟩ := both el
  obtain ⟨er, f8⟩ := both er
  obtain ⟨er, f7⟩ := both er
  obtain ⟨er, f6⟩ := both er
  obtain ⟨er, f5⟩ := both er
  obtain ⟨er, f4⟩ := both er
  obtain ⟨er, f3⟩ := both er
  obtain ⟨er, f2⟩ := both er
  obtain ⟨f0, f1⟩ := both er
  exact ⟨⟨fun i => Host.reduce_andi_all _ _ _ _ _ e1 i, fun i => Host.reduce_andi_all _ _ _ _ _ e2 i⟩,
    ⟨⟨⟨⟨⟨⟨⟨⟨fun i => Host.reduce_andi_all _ _ _ _ _ f0 i, fun i => Host.reduce_andi_all _ _ _ _ _ f1 i⟩, fun i => Host.reduce_andi_all _ _ _ _ _ f2 i⟩,
      fun i => Host.reduce_andi_all _ _ _ _ _ f3 i⟩, fun i => Host.reduce_andi_all _ _ _ _ _ f4 i⟩, fun i => Host.reduce_andi_all _ _ _ _ _ f5 i⟩,
      fun i => Host.reduce_andi_all _ _ _ _ _ f6 i⟩, fun i => Host.reduce_andi_all _ _ _ _ _ f7 i⟩, fun i => Host.reduce_andi_all _ _ _ _ _ f8 i⟩⟩

/-- Where the comparison of two matrices of reals holds. -/
theorem ge_at {n m : ℕ} {f g : ℕ → ℕ → ℝ} (h : ∀ i, cmpf .oge (up2 f : FVec Ideal ⟨2, ![n, m]⟩ .f32) (up2 g) i = 1#1) (t : ℕ) (ht : t < n) (j : ℕ) (hj : j < m) : g t j ≤ f t j := by
  have e : Ideal.cmp .oge ((f t j : ℝ) : EReal) ((g t j : ℝ) : EReal) = 1#1 := h (ValueIdx.ix2 ⟨t, ht⟩ ⟨j, hj⟩)
  by_contra hn
  simp [Ideal.cmp, hn] at e
@[inherit_doc ge_at] theorem eq_at {n m : ℕ} {f g : ℕ → ℕ → ℝ} (h : ∀ i, cmpf .oeq (up2 f : FVec Ideal ⟨2, ![n, m]⟩ .f32) (up2 g) i = 1#1) (t : ℕ) (ht : t < n) (j : ℕ) (hj : j < m) : f t j = g t j := by
  have e : Ideal.cmp .oeq ((f t j : ℝ) : EReal) ((g t j : ℝ) : EReal) = 1#1 := h (ValueIdx.ix2 ⟨t, ht⟩ ⟨j, hj⟩)
  by_contra hn
  simp [Ideal.cmp, hn] at e

/-- The precondition over the reals. -/
theorem reals {dy h : FVec Ideal S8192x2048 .f32} {ug : FVec Ideal S8192x9216 .f32} {wa wi : FVec Ideal S8x256x256 .f32} {v : FVec Ideal S8192x2048 .f32}
    {ba bi lam : FVec Ideal S1x2048 .f32} (e : fn (F := Ideal) dy h ug wa wi v ba bi lam = fun _ => 1#1) :
    ∃ (D : Data) (P : ℕ → ℕ → ℝ), dy = up2 D.dy ∧ h = up2 D.h ∧ (ug = up2 P ∧ ∀ t j, D.ug t j = P t (3072 + j)) ∧ wa = up3 D.wa ∧ wi = up3 D.wi ∧ v = up2 D.v
      ∧ (ba = up2 fun _ j => D.ba j) ∧ (bi = up2 fun _ j => D.bi j) ∧ (lam = up2 fun _ j => D.lam j)
      ∧ (∀ t < 8192, ∀ j < 2048, Up.floor ≤ D.om t j)
      ∧ ∀ t < 8192, ∀ j < 2048, D.h t j = D.a t j * D.before t j + D.mult t j * (D.ig t j * D.v t j) := by
  obtain ⟨⟨e1, e2⟩, ⟨⟨⟨⟨⟨⟨⟨⟨f0, f1⟩, f2⟩, f3⟩, f4⟩, f5⟩, f6⟩, f7⟩, f8⟩⟩ := lines e
  obtain ⟨Dy, rfl⟩ := f0.up2
  obtain ⟨Dh, rfl⟩ := f1.up2
  obtain ⟨P, rfl⟩ := f2.up2
  obtain ⟨Dwa, rfl⟩ := f3.up3
  obtain ⟨Dwi, rfl⟩ := f4.up3
  obtain ⟨Dv, rfl⟩ := f5.up2
  obtain ⟨Dba, rfl⟩ := f6.row
  obtain ⟨Dbi, rfl⟩ := f7.row
  obtain ⟨Dlam, rfl⟩ := f8.row
  rw [gate_up, decay_up, rest_up, hconst2 floor_word] at e1
  have above := ge_at e1
  unfold next at e2
  rw [gate_up, gate_up, decay_up, rest_up, earlier_up, hsqrt2 _ (fun t ht j hj => Up.floor_pos.le.trans (above t ht j hj)), mul2, mul2, mul2, add2] at e2
  exact ⟨⟨Dy, Dh, fun t j => P t (3072 + j), Dv, Dwa, Dwi, Dba, Dbi, Dlam⟩, P, rfl, rfl, ⟨rfl, fun _ _ => rfl⟩, rfl, rfl, rfl, rfl, rfl, rfl, above, eq_at e2⟩

end Admissible

end
-- ==== Proof.Tile.lean ====
module

public import proofs.«01_k».proof.Proof.Gen.KernelIdeal.Frame.RunC

/-!
What one grid point of the kernel computes, as a function of the blocks it reads and of what the point before left: `Tile.outs`
(the four blocks it writes) and `Tile.next` (what it hands on). Every value is the printed payload of the same place in the kernel.
-/

@[expose] public section

noncomputable section

namespace Tile

open Cert.KernelIdeal Cert.KernelIdeal.Gen
open Idealize.ShloMosaic Idealize.ShloMosaic.TcCoe

variable {F : FTy → Type} [FloatOps F] [Named F]

/-- The blocks a point reads: the gradient, the states and the sixteen rows before them, the gelu branch's input, the two gates' weights,
    the gated input, the two biases and the decay parameter. -/
structure Blk (F : FTy → Type) where
  dy : Vec F S512x512 .f32
  hs : Vec F S512x512 .f32
  prev : Vec F S16x512 .f32
  ug : Vec F S512x512 .f32
  wa : Vec F S2x256x256 .bf16
  wi : Vec F S2x256x256 .bf16
  v : Vec F S512x512 .f32
  ba : Vec F S1x512 .f32
  bi : Vec F S1x512 .f32
  lam : Vec F S1x512 .f32

/-- What a point hands to the next one: the carried gradient of the state and the carried decay (each in row 0 of eight), and the three sums so far. -/
structure Carry (F : FTy → Type) where
  dh : Vec F S8x512 .f32
  ac : Vec F S8x512 .f32
  gba : Vec F S1x512 .f32
  gbi : Vec F S1x512 .f32
  glam : Vec F S1x512 .f32

/-- What the first point of a column starts from. -/
def start : Carry F := ⟨k0_pay2, k0_pay3, k0_pay4, k0_pay5, k0_pay6⟩

/-- Row 0 of a carried buffer. -/
def row (s : Vec F S8x512 .f32) : Vec F S1x512 .f32 := View.ld s (Rect.unit (s := S8x512) ![0, 0] S1x512.size inb_S8x512_S1x512_0_0)
/-- The first head's weights of a block of two. -/
def fst (w : Vec F S2x256x256 .bf16) : Vec F S1x256x256 .bf16 := View.ld w (Rect.unit (s := S2x256x256) ![0, 0, 0] S1x256x256.size inb_S2x256x256_S1x256x256_0_0_0)
/-- The second head's weights. -/
def snd (w : Vec F S2x256x256 .bf16) : Vec F S1x256x256 .bf16 := View.ld w (Rect.unit (s := S2x256x256) ![1, 0, 0] S1x256x256.size inb_S2x256x256_S1x256x256_1_0_0)

/-! ## The gates -/

/-- The recurrence gate's input. -/
def preA (x : Blk F) : FVec F S512x512 .f32 := k0_pay8 x.v (fst x.wa) (snd x.wa) x.ba
/-- The recurrence gate. -/
def r (x : Blk F) : FVec F S512x512 .f32 := k0_pay10 (preA x) k0_pay9
/-- The input gate. -/
def ig (x : Blk F) : FVec F S512x512 .f32 := k0_pay11 (k0_pay7 x.v (fst x.wi) (snd x.wi)) x.bi
/-- The decay rate of a column. -/
def rate (x : Blk F) : FVec F S1x512 .f32 := k0_pay12 x.lam
/-- The decay. -/
def a (x : Blk F) : FVec F S512x512 .f32 := k0_pay13 x.lam (preA x) k0_pay9
/-- The inverse root of one less the squared decay. -/
def rs (x : Blk F) : FVec F S512x512 .f32 := k0_pay15 x.lam (preA x) k0_pay9
/-- The root of one less the squared decay. -/
def mult (x : Blk F) : FVec F S512x512 .f32 := k0_pay16 x.lam (preA x) k0_pay9

/-! ## The recurrence of the gradient -/

/-- The gradient that reaches each state from its own row. -/
def inj (x : Blk F) : FVec F S512x512 .f32 := k0_pay21 x.ug x.dy
/-- The decay one row later. -/
def ahead (x : Blk F) (s : Carry F) : FVec F S512x512 .f32 := k0_pay22 (a x) (row s.ac)
/-- The row numbers. -/
def rows : IVec S512x1 32 := iota .tc S512x1 32 [0] iota_S512x1_d0_w32
/-- The gradient after two doubling steps. -/
def b2 (x : Blk F) (s : Carry F) : FVec F S512x512 .f32 := k0_pay27 (inj x) (ahead x s) rows
/-- The decay after two doubling steps. -/
def a2 (x : Blk F) (s : Carry F) : FVec F S512x512 .f32 := k0_pay28 (ahead x s) rows
/-- The shifted gradient of the third step. -/
def b2s (x : Blk F) (s : Carry F) : FVec F S512x512 .f32 := k0_pay30 (inj x) (ahead x s) rows
/-- The gradient after three doubling steps: what reaches a row from the rows of its own group of eight. -/
def b3 (x : Blk F) (s : Carry F) : FVec F S512x512 .f32 := k0_pay31 (b2 x s) (k0_pay29 rows) (b2s x s)
/-- The decay after three doubling steps: from the group's end to the row. -/
def a3 (x : Blk F) (s : Carry F) : FVec F S512x512 .f32 := k0_pay32 (a2 x s) (k0_pay29 rows)

/-! The gradient of the states, group of eight rows after group from the last. -/

def g0 (x : Blk F) (s : Carry F) : FVec F S8x512 .f32 := k0_pay33 (b2 x s) (a2 x s) (k0_pay29 rows) (b2s x s) (row s.dh)
def g1 (x : Blk F) (s : Carry F) : FVec F S8x512 .f32 := k0_pay34 (b2 x s) (a2 x s) (k0_pay29 rows) (b2s x s) (row s.dh)
def g2 (x : Blk F) (s : Carry F) : FVec F S8x512 .f32 := k0_pay35 (b2 x s) (a2 x s) (k0_pay29 rows) (b2s x s) (row s.dh)
def g3 (x : Blk F) (s : Carry F) : FVec F S8x512 .f32 := k0_pay36 (b2 x s) (a2 x s) (k0_pay29 rows) (b2s x s) (row s.dh)
def g4 (x : Blk F) (s : Carry F) : FVec F S8x512 .f32 := k0_pay37 (b2 x s) (a2 x s) (k0_pay29 rows) (b2s x s) (row s.dh)
def g5 (x : Blk F) (s : Carry F) : FVec F S8x512 .f32 := k0_pay38 (b2 x s) (a2 x s) (k0_pay29 rows) (b2s x s) (row s.dh)
def g6 (x : Blk F) (s : Carry F) : FVec F S8x512 .f32 := k0_pay39 (b2 x s) (a2 x s) (k0_pay29 rows) (b2s x s) (row s.dh)
def g7 (x : Blk F) (s : Carry F) : FVec F S8x512 .f32 := k0_pay40 (b2 x s) (a2 x s) (k0_pay29 rows) (b2s x s) (row s.dh)
def g8 (x : Blk F) (s : Carry F) : FVec F S8x512 .f32 := k0_pay41 (b3 x s) (a3 x s) (g7 x s)
def g9 (x : Blk F) (s : Carry F) : FVec F S8x512 .f32 := k0_pay42 (b3 x s) (a3 x s) (g7 x s)
def g10 (x : Blk F) (s : Carry F) : FVec F S8x512 .f32 := k0_pay43 (b3 x s) (a3 x s) (g7 x s)
def g11 (x : Blk F) (s : Carry F) : FVec F S8x512 .f32 := k0_pay44 (b3 x s) (a3 x s) (g7 x s)
def g12 (x : Blk F) (s : Carry F) : FVec F S8x512 .f32 := k0_pay45 (b3 x s) (a3 x s) (g7 x s)
def g13 (x : Blk F) (s : Carry F) : FVec F S8x512 .f32 := k0_pay46 (b3 x s) (a3 x s) (g7 x s)
def g14 (x : Blk F) (s : Carry F) : FVec F S8x512 .f32 := k0_pay47 (b3 x s) (a3 x s) (g7 x s)
def g15 (x : Blk F) (s : Carry F) : FVec F S8x512 .f32 := k0_pay48 (b3 x s) (a3 x s) (g7 x s)
def g16 (x : Blk F) (s : Carry F) : FVec F S8x512 .f32 := k0_pay49 (b3 x s) (a3 x s) (g7 x s)
def g17 (x : Blk F) (s : Carry F) : FVec F S8x512 .f32 := k0_pay50 (b3 x s) (a3 x s) (g7 x s)
def g18 (x : Blk F) (s : Carry F) : FVec F S8x512 .f32 := k0_pay51 (b3 x s) (a3 x s) (g17 x s)
def g19 (x : Blk F) (s : Carry F) : FVec F S8x512 .f32 := k0_pay52 (b3 x s) (a3 x s) (g17 x s)
def g20 (x : Blk F) (s : Carry F) : FVec F S8x512 .f32 := k0_pay53 (b3 x s) (a3 x s) (g17 x s)
def g21 (x : Blk F) (s : Carry F) : FVec F S8x512 .f32 := k0_pay54 (b3 x s) (a3 x s) (g17 x s)
def g22 (x : Blk F) (s : Carry F) : FVec F S8x512 .f32 := k0_pay55 (b3 x s) (a3 x s) (g17 x s)
def g23 (x : Blk F) (s : Carry F) : FVec F S8x512 .f32 := k0_pay56 (b3 x s) (a3 x s) (g17 x s)
def g24 (x : Blk F) (s : Carry F) : FVec F S8x512 .f32 := k0_pay57 (b3 x s) (a3 x s) (g17 x s)
def g25 (x : Blk F) (s : Carry F) : FVec F S8x512 .f32 := k0_pay58 (b3 x s) (a3 x s) (g17 x s)
def g26 (x : Blk F) (s : Carry F) : FVec F S8x512 .f32 := k0_pay59 (b3 x s) (a3 x s) (g17 x s)
def g27 (x : Blk F) (s : Carry F) : FVec F S8x512 .f32 := k0_pay60 (b3 x s) (a3 x s) (g17 x s)
def g28 (x : Blk F) (s : Carry F) : FVec F S8x512 .f32 := k0_pay61 (b3 x s) (a3 x s) (g27 x s)
def g29 (x : Blk F) (s : Carry F) : FVec F S8x512 .f32 := k0_pay62 (b3 x s) (a3 x s) (g27 x s)
def g30 (x : Blk F) (s : Carry F) : FVec F S8x512 .f32 := k0_pay63 (b3 x s) (a3 x s) (g27 x s)
def g31 (x : Blk F) (s : Carry F) : FVec F S8x512 .f32 := k0_pay64 (b3 x s) (a3 x s) (g27 x s)
def g32 (x : Blk F) (s : Carry F) : FVec F S8x512 .f32 := k0_pay65 (b3 x s) (a3 x s) (g27 x s)
def g33 (x : Blk F) (s : Carry F) : FVec F S8x512 .f32 := k0_pay66 (b3 x s) (a3 x s) (g27 x s)
def g34 (x : Blk F) (s : Carry F) : FVec F S8x512 .f32 := k0_pay67 (b3 x s) (a3 x s) (g27 x s)
def g35 (x : Blk F) (s : Carry F) : FVec F S8x512 .f32 := k0_pay68 (b3 x s) (a3 x s) (g27 x s)
def g36 (x : Blk F) (s : Carry F) : FVec F S8x512 .f32 := k0_pay69 (b3 x s) (a3 x s) (g27 x s)
def g37 (x : Blk F) (s : Carry F) : FVec F S8x512 .f32 := k0_pay70 (b3 x s) (a3 x s) (g27 x s)
def g38 (x : Blk F) (s : Carry F) : FVec F S8x512 .f32 := k0_pay71 (b3 x s) (a3 x s) (g37 x s)
def g39 (x : Blk F) (s : Carry F) : FVec F S8x512 .f32 := k0_pay72 (b3 x s) (a3 x s) (g37 x s)
def g40 (x : Blk F) (s : Carry F) : FVec F S8x512 .f32 := k0_pay73 (b3 x s) (a3 x s) (g37 x s)
def g41 (x : Blk F) (s : Carry F) : FVec F S8x512 .f32 := k0_pay74 (b3 x s) (a3 x s) (g37 x s)
def g42 (x : Blk F) (s : Carry F) : FVec F S8x512 .f32 := k0_pay75 (b3 x s) (a3 x s) (g37 x s)
def g43 (x : Blk F) (s : Carry F) : FVec F S8x512 .f32 := k0_pay76 (b3 x s) (a3 x s) (g37 x s)
def g44 (x : Blk F) (s : Carry F) : FVec F S8x512 .f32 := k0_pay77 (b3 x s) (a3 x s) (g37 x s)
def g45 (x : Blk F) (s : Carry F) : FVec F S8x512 .f32 := k0_pay78 (b3 x s) (a3 x s) (g37 x s)
def g46 (x : Blk F) (s : Carry F) : FVec F S8x512 .f32 := k0_pay79 (b3 x s) (a3 x s) (g37 x s)
def g47 (x : Blk F) (s : Carry F) : FVec F S8x512 .f32 := k0_pay80 (b3 x s) (a3 x s) (g37 x s)
def g48 (x : Blk F) (s : Carry F) : FVec F S8x512 .f32 := k0_pay81 (b3 x s) (a3 x s) (g47 x s)
def g49 (x : Blk F) (s : Carry F) : FVec F S8x512 .f32 := k0_pay82 (b3 x s) (a3 x s) (g47 x s)
def g50 (x : Blk F) (s : Carry F) : FVec F S8x512 .f32 := k0_pay83 (b3 x s) (a3 x s) (g47 x s)
def g51 (x : Blk F) (s : Carry F) : FVec F S8x512 .f32 := k0_pay84 (b3 x s) (a3 x s) (g47 x s)
def g52 (x : Blk F) (s : Carry F) : FVec F S8x512 .f32 := k0_pay85 (b3 x s) (a3 x s) (g47 x s)
def g53 (x : Blk F) (s : Carry F) : FVec F S8x512 .f32 := k0_pay86 (b3 x s) (a3 x s) (g47 x s)
def g54 (x : Blk F) (s : Carry F) : FVec F S8x512 .f32 := k0_pay87 (b3 x s) (a3 x s) (g47 x s)
def g55 (x : Blk F) (s : Carry F) : FVec F S8x512 .f32 := k0_pay88 (b3 x s) (a3 x s) (g47 x s)
def g56 (x : Blk F) (s : Carry F) : FVec F S8x512 .f32 := k0_pay89 (b3 x s) (a3 x s) (g47 x s)
def g57 (x : Blk F) (s : Carry F) : FVec F S8x512 .f32 := k0_pay90 (b3 x s) (a3 x s) (g47 x s)

/-- The gradient of the states. -/
def dg (x : Blk F) (s : Carry F) : FVec F S512x512 .f32 :=
  k0_pay97 (b3 x s) (a3 x s) (g0 x s) (g1 x s) (g2 x s) (g3 x s) (g4 x s) (g5 x s) (g6 x s) (g7 x s) (g8 x s) (g9 x s) (g10 x s) (g11 x s) (g12 x s) (g13 x s) (g14 x s) (g15 x s) (g16 x s) (g17 x s) (g18 x s) (g19 x s) (g20 x s) (g21 x s) (g22 x s) (g23 x s) (g24 x s) (g25 x s) (g26 x s) (g27 x s) (g28 x s) (g29 x s) (g30 x s) (g31 x s) (g32 x s) (g33 x s) (g34 x s) (g35 x s) (g36 x s) (g37 x s) (g38 x s) (g39 x s) (g40 x s) (g41 x s) (g42 x s) (g43 x s) (g44 x s) (g45 x s) (g46 x s) (g47 x s) (g48 x s) (g49 x s) (g50 x s) (g51 x s) (g52 x s) (g53 x s) (g54 x s) (g55 x s) (g56 x s) (g57 x s)

/-! ## The gradients -/

/-- The states one row earlier, before their first row is chosen. -/
def back (i1 : ℕ) (x : Blk F) : FVec F S528x512 .f32 := k0_pay100 (BitVec.ofNat 32 i1) x.hs x.prev
/-- The gradient of the gated input before its root. -/
def dgm (x : Blk F) (s : Carry F) : FVec F S512x512 .f32 := k0_pay101 (mult x) (dg x s)
/-- The gradient of the decay's logarithm. -/
def dlog (i1 : ℕ) (x : Blk F) (s : Carry F) : FVec F S512x512 .f32 := k0_pay102 x.v (ig x) (a x) (rs x) (dg x s) (back i1 x) 1#32
/-- The gradient of the recurrence gate's input. -/
def dpa (i1 : ℕ) (x : Blk F) (s : Carry F) : FVec F S512x512 .f32 := k0_pay103 x.v (r x) (ig x) (rate x) (a x) (rs x) (dg x s) (back i1 x) 1#32
/-- The gradient of the input gate's input. -/
def dpi (x : Blk F) (s : Carry F) : FVec F S512x512 .f32 := k0_pay104 x.v (ig x) (mult x) (dg x s)

/-- The four blocks a point writes. -/
def dra (i1 : ℕ) (x : Blk F) (s : Carry F) : FVec F S512x512 .bf16 := k0_pay105 x.v (r x) (ig x) (rate x) (a x) (rs x) (dg x s) (back i1 x) 1#32
@[inherit_doc dra] def dia (x : Blk F) (s : Carry F) : FVec F S512x512 .bf16 := k0_pay106 x.v (ig x) (mult x) (dg x s)
@[inherit_doc dra] def dv (i1 : ℕ) (x : Blk F) (s : Carry F) : FVec F S512x512 .f32 :=
  k0_pay110 (ig x) (dgm x s) (k0_pay107 x.v (r x) (ig x) (rate x) (a x) (rs x) (dg x s) (back i1 x) 1#32 (fst x.wa) (snd x.wa))
    (k0_pay108 x.v (ig x) (mult x) (dg x s)) (k0_pay109 x.v (ig x) (mult x) (dg x s)) (fst x.wi) (snd x.wi)
@[inherit_doc dra] def dug (x : Blk F) : FVec F S512x512 .bf16 := k0_pay20 x.hs x.ug x.dy

/-- What a point hands on. -/
def next (i1 : ℕ) (x : Blk F) (s : Carry F) : Carry F :=
  ⟨k0_pay98 (b3 x s) (a3 x s) (g57 x s), k0_pay99 (a x), k0_pay111 (dpa i1 x s) s.gba, k0_pay112 (dpi x s) s.gbi, k0_pay113 (r x) (dlog i1 x s) s.glam⟩

/-- The last point of a column multiplies the third sum by the slope of the rate. -/
def finish (x : Blk F) (s : Carry F) : Carry F := { s with glam := k0_pay1 x.lam s.glam }

end Tile

end
-- ==== Proof.Body.lean ====
module

public import proofs.«01_k».proof.Proof.Tile
public import proofs.«01_k».proof.Proof.Gen.KernelIdeal.Launch
public import Idealize.ShloMosaic.Lib.Pipeline.Value

/-!
The body of the kernel at one point: on buffers that hold the point's blocks it leaves the blocks `Tile` names. One theorem
per kind of point — the first of a column (`first`), one between (`between`), the last (`last`).
-/

@[expose] public section

noncomputable section

namespace Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers a point works on, each a whole one. -/
structure Bufs where
  m2 : Memref sig .tc .vmem S512x512 .f32
  h2 : m2.IsWhole
  m3 : Memref sig .tc .vmem S512x512 .f32
  h3 : m3.IsWhole
  m4 : Memref sig .tc .vmem S16x512 .f32
  h4 : m4.IsWhole
  m5 : Memref sig .tc .vmem S512x512 .f32
  h5 : m5.IsWhole
  m6 : Memref sig .tc .vmem S2x256x256 .bf16
  h6 : m6.IsWhole
  m7 : Memref sig .tc .vmem S2x256x256 .bf16
  h7 : m7.IsWhole
  m8 : Memref sig .tc .vmem S512x512 .f32
  h8 : m8.IsWhole
  m9 : Memref sig .tc .vmem S1x512 .f32
  h9 : m9.IsWhole
  m10 : Memref sig .tc .vmem S1x512 .f32
  h10 : m10.IsWhole
  m11 : Memref sig .tc .vmem S1x512 .f32
  h11 : m11.IsWhole
  m12 : Memref sig .tc .vmem S512x512 .bf16
  h12 : m12.IsWhole
  m13 : Memref sig .tc .vmem S512x512 .bf16
  h13 : m13.IsWhole
  m14 : Memref sig .tc .vmem S512x512 .f32
  h14 : m14.IsWhole
  m15 : Memref sig .tc .vmem S512x512 .bf16
  h15 : m15.IsWhole
  m16 : Memref sig .tc .vmem S1x512 .f32
  h16 : m16.IsWhole
  m17 : Memref sig .tc .vmem S1x512 .f32
  h17 : m17.IsWhole
  m18 : Memref sig .tc .vmem S1x512 .f32
  h18 : m18.IsWhole
  m19 : Memref sig .tc .vmem S8x512 .f32
  h19 : m19.IsWhole
  m20 : Memref sig .tc .vmem S8x512 .f32
  h20 : m20.IsWhole

/-- What a point leaves: the four blocks, and what it hands on. -/
structure Left (F : FTy → Type) where
  dra : Vec F S512x512 .bf16
  dia : Vec F S512x512 .bf16
  dv : Vec F S512x512 .f32
  dug : Vec F S512x512 .bf16
  out : Carry F

/-- What a point that is not the last of its column leaves, from what the point before handed on. -/
def left (i1 : ℕ) (x : Blk F) (s : Carry F) : Left F := ⟨dra i1 x s, dia x s, dv i1 x s, dug x, next i1 x s⟩
/-- What the last point of a column leaves. -/
def leftLast (i1 : ℕ) (x : Blk F) (s : Carry F) : Left F := { left i1 x s with out := finish x (next i1 x s) }

/-- The body on a point's buffers. -/
abbrev body (i : grid0.Coords) (b : Bufs) : Prog (TpuEff nD τ sig (Elt F) Λ₀ .tc) PUnit :=
  cc0_lru_scan_bwd i b.m2 b.h2 b.m3 b.h3 b.m4 b.h4 b.m5 b.h5 b.m6 b.h6 b.m7 b.h7 b.m8 b.h8 b.m9 b.h9 b.m10 b.h10 b.m11 b.h11 b.m12 b.h12 b.m13 b.h13 b.m14 b.h14 b.m15 b.h15 b.m16 b.h16 b.m17 b.h17 b.m18 b.h18 b.m19 b.h19 b.m20 b.h20

/-- The input buffers hold the point's blocks. -/
abbrev reads (c : Dev nD) (b : Bufs) (x : Blk F) : sProp 𝕄 :=
  iprop(owns (c : Thread nD τ) b.m2 fullShare x.dy ∗ owns (c : Thread nD τ) b.m3 fullShare x.hs ∗ owns (c : Thread nD τ) b.m4 fullShare x.prev ∗ owns (c : Thread nD τ) b.m5 fullShare x.ug ∗ owns (c : Thread nD τ) b.m6 fullShare x.wa ∗ owns (c : Thread nD τ) b.m7 fullShare x.wi ∗ owns (c : Thread nD τ) b.m8 fullShare x.v ∗ owns (c : Thread nD τ) b.m9 fullShare x.ba ∗ owns (c : Thread nD τ) b.m10 fullShare x.bi ∗ owns (c : Thread nD τ) b.m11 fullShare x.lam)
/-- The other buffers hold what the point leaves. -/
abbrev writes (c : Dev nD) (b : Bufs) (o : Left F) : sProp 𝕄 :=
  iprop(owns (c : Thread nD τ) b.m12 fullShare o.dra ∗ owns (c : Thread nD τ) b.m13 fullShare o.dia ∗ owns (c : Thread nD τ) b.m14 fullShare o.dv ∗ owns (c : Thread nD τ) b.m15 fullShare o.dug ∗ owns (c : Thread nD τ) b.m16 fullShare o.out.gba ∗ owns (c : Thread nD τ) b.m17 fullShare o.out.gbi ∗ owns (c : Thread nD τ) b.m18 fullShare o.out.glam ∗ owns (c : Thread nD τ) b.m19 fullShare o.out.dh ∗ owns (c : Thread nD τ) b.m20 fullShare o.out.ac)

/-- A run of the body that leaves lists of stores, each read back as the named contents, leaves the named contents. -/
theorem close (c : Dev nD) (b : Bufs) (x : Blk F) (o : Left F) (p : Prog (TpuEff nD τ sig (Elt F) Λ₀ .tc) PUnit) (E : Set ℕ) (K : PUnit → sProp 𝕄)
    (P12 P13 P14 P15 P16 P17 P18 P19 P20 : sProp 𝕄)
    {L12 : List (View.Piece (Elt F) S512x512 .bf16)} {L13 : List (View.Piece (Elt F) S512x512 .bf16)} {L14 : List (View.Piece (Elt F) S512x512 .f32)} {L15 : List (View.Piece (Elt F) S512x512 .bf16)} {L16 : List (View.Piece (Elt F) S1x512 .f32)} {L17 : List (View.Piece (Elt F) S1x512 .f32)} {L18 : List (View.Piece (Elt F) S1x512 .f32)} {L19 : List (View.Piece (Elt F) S8x512 .f32)} {L20 : List (View.Piece (Elt F) S8x512 .f32)}
    (w12 : ∀ f, b.m12.view.read (Elt F) (b.m12.view.writes (Elt F) f L12) = o.dra)
    (w13 : ∀ f, b.m13.view.read (Elt F) (b.m13.view.writes (Elt F) f L13) = o.dia)
    (w14 : ∀ f, b.m14.view.read (Elt F) (b.m14.view.writes (Elt F) f L14) = o.dv)
    (w15 : ∀ f, b.m15.view.read (Elt F) (b.m15.view.writes (Elt F) f L15) = o.dug)
    (w16 : ∀ f, b.m16.view.read (Elt F) (b.m16.view.writes (Elt F) f L16) = o.out.gba)
    (w17 : ∀ f, b.m17.view.read (Elt F) (b.m17.view.writes (Elt F) f L17) = o.out.gbi)
    (w18 : ∀ f, b.m18.view.read (Elt F) (b.m18.view.writes (Elt F) f L18) = o.out.glam)
    (w19 : ∀ f, b.m19.view.read (Elt F) (b.m19.view.writes (Elt F) f L19) = o.out.dh)
    (w20 : ∀ f, b.m20.view.read (Elt F) (b.m20.view.writes (Elt F) f L20) = o.out.ac)
    (run : iprop(owns (c : Thread nD τ) b.m2 fullShare x.dy ∗ owns (c : Thread nD τ) b.m3 fullShare x.hs ∗ owns (c : Thread nD τ) b.m4 fullShare x.prev ∗ owns (c : Thread nD τ) b.m5 fullShare x.ug ∗ owns (c : Thread nD τ) b.m6 fullShare x.wa ∗ owns (c : Thread nD τ) b.m7 fullShare x.wi ∗ owns (c : Thread nD τ) b.m8 fullShare x.v ∗ owns (c : Thread nD τ) b.m9 fullShare x.ba ∗ owns (c : Thread nD τ) b.m10 fullShare x.bi ∗ owns (c : Thread nD τ) b.m11 fullShare x.lam ∗ P12 ∗ P13 ∗ P14 ∗ P15 ∗ P16 ∗ P17 ∗ P18 ∗ P19 ∗ P20
      ∗ (iprop(owns (c : Thread nD τ) b.m2 fullShare x.dy ∗ owns (c : Thread nD τ) b.m3 fullShare x.hs ∗ owns (c : Thread nD τ) b.m4 fullShare x.prev ∗ owns (c : Thread nD τ) b.m5 fullShare x.ug ∗ owns (c : Thread nD τ) b.m6 fullShare x.wa ∗ owns (c : Thread nD τ) b.m7 fullShare x.wi ∗ owns (c : Thread nD τ) b.m8 fullShare x.v ∗ owns (c : Thread nD τ) b.m9 fullShare x.ba ∗ owns (c : Thread nD τ) b.m10 fullShare x.bi ∗ owns (c : Thread nD τ) b.m11 fullShare x.lam ∗ (∃ f, b.m12.view.loc (c : Thread nD τ) ↦[b.m12.view.set]{fullShare} b.m12.view.writes (Elt F) f L12) ∗ (∃ f, b.m13.view.loc (c : Thread nD τ) ↦[b.m13.view.set]{fullShare} b.m13.view.writes (Elt F) f L13) ∗ (∃ f, b.m14.view.loc (c : Thread nD τ) ↦[b.m14.view.set]{fullShare} b.m14.view.writes (Elt F) f L14) ∗ (∃ f, b.m15.view.loc (c : Thread nD τ) ↦[b.m15.view.set]{fullShare} b.m15.view.writes (Elt F) f L15) ∗ (∃ f, b.m16.view.loc (c : Thread nD τ) ↦[b.m16.view.set]{fullShare} b.m16.view.writes (Elt F) f L16) ∗ (∃ f, b.m17.view.loc (c : Thread nD τ) ↦[b.m17.view.set]{fullShare} b.m17.view.writes (Elt F) f L17) ∗ (∃ f, b.m18.view.loc (c : Thread nD τ) ↦[b.m18.view.set]{fullShare} b.m18.view.writes (Elt F) f L18) ∗ (∃ f, b.m19.view.loc (c : Thread nD τ) ↦[b.m19.view.set]{fullShare} b.m19.view.writes (Elt F) f L19) ∗ (∃ f, b.m20.view.loc (c : Thread nD τ) ↦[b.m20.view.set]{fullShare} b.m20.view.writes (Elt F) f L20)) -∗ K ⟨⟩))
      ⊢ wp frame (wpE (defs₀ (F := F)) Variants.none c none) E p K) :
    iprop(reads c b x ∗ (P12 ∗ P13 ∗ P14 ∗ P15 ∗ P16 ∗ P17 ∗ P18 ∗ P19 ∗ P20) ∗ (iprop(reads c b x ∗ writes c b o) -∗ K ⟨⟩)) ⊢ wp frame (wpE (defs₀ (F := F)) Variants.none c none) E p K := by
  iintro ⟨⟨H2, H3, H4, H5, H6, H7, H8, H9, H10, H11⟩, ⟨H12, H13, H14, H15, H16, H17, H18, H19, H20⟩, Hk⟩
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩⟩
  iapply Hk
  isplitl [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]
  · unfold owns; iexists _; isplitr
    swap; · iexact H12
    ipureintro; exact w12 _
  isplitl [H13]
  · unfold owns; iexists _; isplitr
    swap; · iexact H13
    ipureintro; exact w13 _
  isplitl [H14]
  · unfold owns; iexists _; isplitr
    swap; · iexact H14
    ipureintro; exact w14 _
  isplitl [H15]
  · unfold owns; iexists _; isplitr
    swap; · iexact H15
    ipureintro; exact w15 _
  isplitl [H16]
  · unfold owns; iexists _; isplitr
    swap; · iexact H16
    ipureintro; exact w16 _
  isplitl [H17]
  · unfold owns; iexists _; isplitr
    swap; · iexact H17
    ipureintro; exact w17 _
  isplitl [H18]
  · unfold owns; iexists _; isplitr
    swap; · iexact H18
    ipureintro; exact w18 _
  isplitl [H19]
  · unfold owns; iexists _; isplitr
    swap; · iexact H19
    ipureintro; exact w19 _
  unfold owns; iexists _; isplitr
  swap; · iexact H20
  ipureintro; exact w20 _

/-- One store over a whole buffer, last, reads back as its payload. -/
theorem read_store {S : Shape} {e : EltTy} (v : View sig .tc .vmem S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load from a buffer that one store covered reads the payload. -/
theorem load_store {S : Shape} {e : EltTy} (v : View sig .tc .vmem S e) {off : Fin S.rank → ℕ} (h : off = fun _ => 0)
    (inb : ∀ a, off a + S.size a ≤ S.size a) (w : S.Idx → Elt F e) (r : Rect S) :
    v.readCov [(⟨Rect.unit off S.size inb, w⟩ : View.Piece (Elt F) S e)] r.toLoadRect = View.ld w r := by
  subst h
  rw [View.readCov_eq_canon_ld _ _ _ (fun y => ⟨_, List.mem_singleton_self _, by
    show y ∈ (Rect.whole S).set; rw [Rect.set_whole]; exact Finset.mem_univ y⟩), View.canon_cons_unit_zero rfl]

/-- The two offsets of a whole buffer. -/
theorem off2 : (![0, 0] : Fin 2 → ℕ) = fun _ => 0 := by decide

/-! The two at the shapes of the kernel's buffers. -/

theorem store512 {e : EltTy} (v : View sig .tc .vmem S512x512 e) (f : v.ty.Contents (Elt F)) (inb : ∀ a, (![0, 0] : Fin 2 → ℕ) a + (![512, 512] : Fin 2 → ℕ) a ≤ S512x512.size a)
    (w : S512x512.Idx → Elt F e) (L : List (View.Piece (Elt F) S512x512 e)) :
    v.read (Elt F) (v.writes (Elt F) f (⟨Rect.unit (s := S512x512) ![0, 0] ![512, 512] inb, w⟩ :: L)) = w := read_store v f off2 inb w L
theorem load512 {e : EltTy} (v : View sig .tc .vmem S512x512 e) (inb : ∀ a, (![0, 0] : Fin 2 → ℕ) a + (![512, 512] : Fin 2 → ℕ) a ≤ S512x512.size a)
    (w : S512x512.Idx → Elt F e) (r : Rect S512x512) :
    v.readCov [(⟨Rect.unit (s := S512x512) ![0, 0] ![512, 512] inb, w⟩ : View.Piece (Elt F) S512x512 e)] r.toLoadRect = View.ld w r := load_store v off2 inb w r
theorem ld512 {e : EltTy} (inb : ∀ a, (![0, 0] : Fin 2 → ℕ) a + (![512, 512] : Fin 2 → ℕ) a ≤ S512x512.size a) (X : S512x512.Idx → Elt F e) :
    View.ld X (Rect.unit (s := S512x512) ![0, 0] ![512, 512] inb) = X := View.ld_unit_zero off2 inb X

theorem ld16 {e : EltTy} (inb : ∀ a, (![0, 0] : Fin 2 → ℕ) a + (![16, 512] : Fin 2 → ℕ) a ≤ S16x512.size a) (X : S16x512.Idx → Elt F e) :
    View.ld X (Rect.unit (s := S16x512) ![0, 0] ![16, 512] inb) = X := View.ld_unit_zero off2 inb X

theorem store1 {e : EltTy} (v : View sig .tc .vmem S1x512 e) (f : v.ty.Contents (Elt F)) (inb : ∀ a, (![0, 0] : Fin 2 → ℕ) a + (![1, 512] : Fin 2 → ℕ) a ≤ S1x512.size a)
    (w : S1x512.Idx → Elt F e) (L : List (View.Piece (Elt F) S1x512 e)) :
    v.read (Elt F) (v.writes (Elt F) f (⟨Rect.unit (s := S1x512) ![0, 0] ![1, 512] inb, w⟩ :: L)) = w := read_store v f off2 inb w L
theorem load1 {e : EltTy} (v : View sig .tc .vmem S1x512 e) (inb : ∀ a, (![0, 0] : Fin 2 → ℕ) a + (![1, 512] : Fin 2 → ℕ) a ≤ S1x512.size a)
    (w : S1x512.Idx → Elt F e) (r : Rect S1x512) :
    v.readCov [(⟨Rect.unit (s := S1x512) ![0, 0] ![1, 512] inb, w⟩ : View.Piece (Elt F) S1x512 e)] r.toLoadRect = View.ld w r := load_store v off2 inb w r
theorem ld1 {e : EltTy} (inb : ∀ a, (![0, 0] : Fin 2 → ℕ) a + (![1, 512] : Fin 2 → ℕ) a ≤ S1x512.size a) (X : S1x512.Idx → Elt F e) :
    View.ld X (Rect.unit (s := S1x512) ![0, 0] ![1, 512] inb) = X := View.ld_unit_zero off2 inb X

theorem store8 {e : EltTy} (v : View sig .tc .vmem S8x512 e) (f : v.ty.Contents (Elt F)) (inb : ∀ a, (![0, 0] : Fin 2 → ℕ) a + (![8, 512] : Fin 2 → ℕ) a ≤ S8x512.size a)
    (w : S8x512.Idx → Elt F e) (L : List (View.Piece (Elt F) S8x512 e)) :
    v.read (Elt F) (v.writes (Elt F) f (⟨Rect.unit (s := S8x512) ![0, 0] ![8, 512] inb, w⟩ :: L)) = w := read_store v f off2 inb w L
theorem load8 {e : EltTy} (v : View sig .tc .vmem S8x512 e) (inb : ∀ a, (![0, 0] : Fin 2 → ℕ) a + (![8, 512] : Fin 2 → ℕ) a ≤ S8x512.size a)
    (w : S8x512.Idx → Elt F e) (r : Rect S8x512) :
    v.readCov [(⟨Rect.unit (s := S8x512) ![0, 0] ![8, 512] inb, w⟩ : View.Piece (Elt F) S8x512 e)] r.toLoadRect = View.ld w r := load_store v off2 inb w r
theorem ld8 {e : EltTy} (inb : ∀ a, (![0, 0] : Fin 2 → ℕ) a + (![8, 512] : Fin 2 → ℕ) a ≤ S8x512.size a) (X : S8x512.Idx → Elt F e) :
    View.ld X (Rect.unit (s := S8x512) ![0, 0] ![8, 512] inb) = X := View.ld_unit_zero off2 inb X

/-! The loads of parts of a buffer, by name. -/

theorem ldRow (s : S8x512.Idx → Elt F .f32) (inb : ∀ a, (![0, 0] : Fin 2 → ℕ) a + (![1, 512] : Fin 2 → ℕ) a ≤ S8x512.size a) :
    View.ld s (Rect.unit (s := S8x512) ![0, 0] ![1, 512] inb) = row s := rfl
theorem ldFst (w : S2x256x256.Idx → Elt F .bf16) (inb : ∀ a, (![0, 0, 0] : Fin 3 → ℕ) a + (![1, 256, 256] : Fin 3 → ℕ) a ≤ S2x256x256.size a) :
    View.ld w (Rect.unit (s := S2x256x256) ![0, 0, 0] ![1, 256, 256] inb) = fst w := rfl
theorem ldSnd (w : S2x256x256.Idx → Elt F .bf16) (inb : ∀ a, (![1, 0, 0] : Fin 3 → ℕ) a + (![1, 256, 256] : Fin 3 → ℕ) a ≤ S2x256x256.size a) :
    View.ld w (Rect.unit (s := S2x256x256) ![1, 0, 0] ![1, 256, 256] inb) = snd w := rfl
theorem startDh : (k0_pay2 : FVec F S8x512 .f32) = (start (F := F)).dh := rfl
theorem startAc : (k0_pay3 : FVec F S8x512 .f32) = (start (F := F)).ac := rfl
theorem startGba : (k0_pay4 : FVec F S1x512 .f32) = (start (F := F)).gba := rfl
theorem startGbi : (k0_pay5 : FVec F S1x512 .f32) = (start (F := F)).gbi := rfl
theorem startGlam : (k0_pay6 : FVec F S1x512 .f32) = (start (F := F)).glam := rfl

/-! The stored values, by name: each definition of `Tile` read from right to left. -/

theorem preA_eq (x : Blk F) : k0_pay8 x.v (fst x.wa) (snd x.wa) x.ba = preA x := rfl
theorem r_eq (x : Blk F) : k0_pay10 (preA x) k0_pay9 = r x := rfl
theorem ig_eq (x : Blk F) : k0_pay11 (k0_pay7 x.v (fst x.wi) (snd x.wi)) x.bi = ig x := rfl
theorem rate_eq (x : Blk F) : k0_pay12 x.lam = rate x := rfl
theorem a_eq (x : Blk F) : k0_pay13 x.lam (preA x) k0_pay9 = a x := rfl
theorem rs_eq (x : Blk F) : k0_pay15 x.lam (preA x) k0_pay9 = rs x := rfl
theorem mult_eq (x : Blk F) : k0_pay16 x.lam (preA x) k0_pay9 = mult x := rfl
theorem inj_eq (x : Blk F) : k0_pay21 x.ug x.dy = inj x := rfl
theorem ahead_eq (x : Blk F) (s : Carry F) : k0_pay22 (a x) (row s.ac) = ahead x s := rfl
theorem b2_eq (x : Blk F) (s : Carry F) : k0_pay27 (inj x) (ahead x s) rows = b2 x s := rfl
theorem a2_eq (x : Blk F) (s : Carry F) : k0_pay28 (ahead x s) rows = a2 x s := rfl
theorem b2s_eq (x : Blk F) (s : Carry F) : k0_pay30 (inj x) (ahead x s) rows = b2s x s := rfl
theorem b3_eq (x : Blk F) (s : Carry F) : k0_pay31 (b2 x s) (k0_pay29 rows) (b2s x s) = b3 x s := rfl
theorem a3_eq (x : Blk F) (s : Carry F) : k0_pay32 (a2 x s) (k0_pay29 rows) = a3 x s := rfl
theorem g0_eq (x : Blk F) (s : Carry F) : k0_pay33 (b2 x s) (a2 x s) (k0_pay29 rows) (b2s x s) (row s.dh) = g0 x s := rfl
theorem g1_eq (x : Blk F) (s : Carry F) : k0_pay34 (b2 x s) (a2 x s) (k0_pay29 rows) (b2s x s) (row s.dh) = g1 x s := rfl
theorem g2_eq (x : Blk F) (s : Carry F) : k0_pay35 (b2 x s) (a2 x s) (k0_pay29 rows) (b2s x s) (row s.dh) = g2 x s := rfl
theorem g3_eq (x : Blk F) (s : Carry F) : k0_pay36 (b2 x s) (a2 x s) (k0_pay29 rows) (b2s x s) (row s.dh) = g3 x s := rfl
theorem g4_eq (x : Blk F) (s : Carry F) : k0_pay37 (b2 x s) (a2 x s) (k0_pay29 rows) (b2s x s) (row s.dh) = g4 x s := rfl
theorem g5_eq (x : Blk F) (s : Carry F) : k0_pay38 (b2 x s) (a2 x s) (k0_pay29 rows) (b2s x s) (row s.dh) = g5 x s := rfl
theorem g6_eq (x : Blk F) (s : Carry F) : k0_pay39 (b2 x s) (a2 x s) (k0_pay29 rows) (b2s x s) (row s.dh) = g6 x s := rfl
theorem g7_eq (x : Blk F) (s : Carry F) : k0_pay40 (b2 x s) (a2 x s) (k0_pay29 rows) (b2s x s) (row s.dh) = g7 x s := rfl
theorem g8_eq (x : Blk F) (s : Carry F) : k0_pay41 (b3 x s) (a3 x s) (g7 x s) = g8 x s := rfl
theorem g9_eq (x : Blk F) (s : Carry F) : k0_pay42 (b3 x s) (a3 x s) (g7 x s) = g9 x s := rfl
theorem g10_eq (x : Blk F) (s : Carry F) : k0_pay43 (b3 x s) (a3 x s) (g7 x s) = g10 x s := rfl
theorem g11_eq (x : Blk F) (s : Carry F) : k0_pay44 (b3 x s) (a3 x s) (g7 x s) = g11 x s := rfl
theorem g12_eq (x : Blk F) (s : Carry F) : k0_pay45 (b3 x s) (a3 x s) (g7 x s) = g12 x s := rfl
theorem g13_eq (x : Blk F) (s : Carry F) : k0_pay46 (b3 x s) (a3 x s) (g7 x s) = g13 x s := rfl
theorem g14_eq (x : Blk F) (s : Carry F) : k0_pay47 (b3 x s) (a3 x s) (g7 x s) = g14 x s := rfl
theorem g15_eq (x : Blk F) (s : Carry F) : k0_pay48 (b3 x s) (a3 x s) (g7 x s) = g15 x s := rfl
theorem g16_eq (x : Blk F) (s : Carry F) : k0_pay49 (b3 x s) (a3 x s) (g7 x s) = g16 x s := rfl
theorem g17_eq (x : Blk F) (s : Carry F) : k0_pay50 (b3 x s) (a3 x s) (g7 x s) = g17 x s := rfl
theorem g18_eq (x : Blk F) (s : Carry F) : k0_pay51 (b3 x s) (a3 x s) (g17 x s) = g18 x s := rfl
theorem g19_eq (x : Blk F) (s : Carry F) : k0_pay52 (b3 x s) (a3 x s) (g17 x s) = g19 x s := rfl
theorem g20_eq (x : Blk F) (s : Carry F) : k0_pay53 (b3 x s) (a3 x s) (g17 x s) = g20 x s := rfl
theorem g21_eq (x : Blk F) (s : Carry F) : k0_pay54 (b3 x s) (a3 x s) (g17 x s) = g21 x s := rfl
theorem g22_eq (x : Blk F) (s : Carry F) : k0_pay55 (b3 x s) (a3 x s) (g17 x s) = g22 x s := rfl
theorem g23_eq (x : Blk F) (s : Carry F) : k0_pay56 (b3 x s) (a3 x s) (g17 x s) = g23 x s := rfl
theorem g24_eq (x : Blk F) (s : Carry F) : k0_pay57 (b3 x s) (a3 x s) (g17 x s) = g24 x s := rfl
theorem g25_eq (x : Blk F) (s : Carry F) : k0_pay58 (b3 x s) (a3 x s) (g17 x s) = g25 x s := rfl
theorem g26_eq (x : Blk F) (s : Carry F) : k0_pay59 (b3 x s) (a3 x s) (g17 x s) = g26 x s := rfl
theorem g27_eq (x : Blk F) (s : Carry F) : k0_pay60 (b3 x s) (a3 x s) (g17 x s) = g27 x s := rfl
theorem g28_eq (x : Blk F) (s : Carry F) : k0_pay61 (b3 x s) (a3 x s) (g27 x s) = g28 x s := rfl
theorem g29_eq (x : Blk F) (s : Carry F) : k0_pay62 (b3 x s) (a3 x s) (g27 x s) = g29 x s := rfl
theorem g30_eq (x : Blk F) (s : Carry F) : k0_pay63 (b3 x s) (a3 x s) (g27 x s) = g30 x s := rfl
theorem g31_eq (x : Blk F) (s : Carry F) : k0_pay64 (b3 x s) (a3 x s) (g27 x s) = g31 x s := rfl
theorem g32_eq (x : Blk F) (s : Carry F) : k0_pay65 (b3 x s) (a3 x s) (g27 x s) = g32 x s := rfl
theorem g33_eq (x : Blk F) (s : Carry F) : k0_pay66 (b3 x s) (a3 x s) (g27 x s) = g33 x s := rfl
theorem g34_eq (x : Blk F) (s : Carry F) : k0_pay67 (b3 x s) (a3 x s) (g27 x s) = g34 x s := rfl
theorem g35_eq (x : Blk F) (s : Carry F) : k0_pay68 (b3 x s) (a3 x s) (g27 x s) = g35 x s := rfl
theorem g36_eq (x : Blk F) (s : Carry F) : k0_pay69 (b3 x s) (a3 x s) (g27 x s) = g36 x s := rfl
theorem g37_eq (x : Blk F) (s : Carry F) : k0_pay70 (b3 x s) (a3 x s) (g27 x s) = g37 x s := rfl
theorem g38_eq (x : Blk F) (s : Carry F) : k0_pay71 (b3 x s) (a3 x s) (g37 x s) = g38 x s := rfl
theorem g39_eq (x : Blk F) (s : Carry F) : k0_pay72 (b3 x s) (a3 x s) (g37 x s) = g39 x s := rfl
theorem g40_eq (x : Blk F) (s : Carry F) : k0_pay73 (b3 x s) (a3 x s) (g37 x s) = g40 x s := rfl
theorem g41_eq (x : Blk F) (s : Carry F) : k0_pay74 (b3 x s) (a3 x s) (g37 x s) = g41 x s := rfl
theorem g42_eq (x : Blk F) (s : Carry F) : k0_pay75 (b3 x s) (a3 x s) (g37 x s) = g42 x s := rfl
theorem g43_eq (x : Blk F) (s : Carry F) : k0_pay76 (b3 x s) (a3 x s) (g37 x s) = g43 x s := rfl
theorem g44_eq (x : Blk F) (s : Carry F) : k0_pay77 (b3 x s) (a3 x s) (g37 x s) = g44 x s := rfl
theorem g45_eq (x : Blk F) (s : Carry F) : k0_pay78 (b3 x s) (a3 x s) (g37 x s) = g45 x s := rfl
theorem g46_eq (x : Blk F) (s : Carry F) : k0_pay79 (b3 x s) (a3 x s) (g37 x s) = g46 x s := rfl
theorem g47_eq (x : Blk F) (s : Carry F) : k0_pay80 (b3 x s) (a3 x s) (g37 x s) = g47 x s := rfl
theorem g48_eq (x : Blk F) (s : Carry F) : k0_pay81 (b3 x s) (a3 x s) (g47 x s) = g48 x s := rfl
theorem g49_eq (x : Blk F) (s : Carry F) : k0_pay82 (b3 x s) (a3 x s) (g47 x s) = g49 x s := rfl
theorem g50_eq (x : Blk F) (s : Carry F) : k0_pay83 (b3 x s) (a3 x s) (g47 x s) = g50 x s := rfl
theorem g51_eq (x : Blk F) (s : Carry F) : k0_pay84 (b3 x s) (a3 x s) (g47 x s) = g51 x s := rfl
theorem g52_eq (x : Blk F) (s : Carry F) : k0_pay85 (b3 x s) (a3 x s) (g47 x s) = g52 x s := rfl
theorem g53_eq (x : Blk F) (s : Carry F) : k0_pay86 (b3 x s) (a3 x s) (g47 x s) = g53 x s := rfl
theorem g54_eq (x : Blk F) (s : Carry F) : k0_pay87 (b3 x s) (a3 x s) (g47 x s) = g54 x s := rfl
theorem g55_eq (x : Blk F) (s : Carry F) : k0_pay88 (b3 x s) (a3 x s) (g47 x s) = g55 x s := rfl
theorem g56_eq (x : Blk F) (s : Carry F) : k0_pay89 (b3 x s) (a3 x s) (g47 x s) = g56 x s := rfl
theorem g57_eq (x : Blk F) (s : Carry F) : k0_pay90 (b3 x s) (a3 x s) (g47 x s) = g57 x s := rfl
theorem dg_eq (x : Blk F) (s : Carry F) : k0_pay97 (b3 x s) (a3 x s) (g0 x s) (g1 x s) (g2 x s) (g3 x s) (g4 x s) (g5 x s) (g6 x s) (g7 x s) (g8 x s) (g9 x s) (g10 x s) (g11 x s) (g12 x s) (g13 x s) (g14 x s) (g15 x s) (g16 x s) (g17 x s) (g18 x s) (g19 x s) (g20 x s) (g21 x s) (g22 x s) (g23 x s) (g24 x s) (g25 x s) (g26 x s) (g27 x s) (g28 x s) (g29 x s) (g30 x s) (g31 x s) (g32 x s) (g33 x s) (g34 x s) (g35 x s) (g36 x s) (g37 x s) (g38 x s) (g39 x s) (g40 x s) (g41 x s) (g42 x s) (g43 x s) (g44 x s) (g45 x s) (g46 x s) (g47 x s) (g48 x s) (g49 x s) (g50 x s) (g51 x s) (g52 x s) (g53 x s) (g54 x s) (g55 x s) (g56 x s) (g57 x s) = dg x s := rfl
theorem back_eq (i1 : ℕ) (x : Blk F) : k0_pay100 (BitVec.ofNat 32 i1) x.hs x.prev = back i1 x := rfl
theorem dgm_eq (x : Blk F) (s : Carry F) : k0_pay101 (mult x) (dg x s) = dgm x s := rfl
theorem dlog_eq (i1 : ℕ) (x : Blk F) (s : Carry F) : k0_pay102 x.v (ig x) (a x) (rs x) (dg x s) (back i1 x) 1#32 = dlog i1 x s := rfl
theorem dpa_eq (i1 : ℕ) (x : Blk F) (s : Carry F) : k0_pay103 x.v (r x) (ig x) (rate x) (a x) (rs x) (dg x s) (back i1 x) 1#32 = dpa i1 x s := rfl
theorem dpi_eq (x : Blk F) (s : Carry F) : k0_pay104 x.v (ig x) (mult x) (dg x s) = dpi x s := rfl
theorem dra_eq (i1 : ℕ) (x : Blk F) (s : Carry F) : k0_pay105 x.v (r x) (ig x) (rate x) (a x) (rs x) (dg x s) (back i1 x) 1#32 = dra i1 x s := rfl
theorem dia_eq (x : Blk F) (s : Carry F) : k0_pay106 x.v (ig x) (mult x) (dg x s) = dia x s := rfl
theorem dv_eq (i1 : ℕ) (x : Blk F) (s : Carry F) : k0_pay110 (ig x) (dgm x s) (k0_pay107 x.v (r x) (ig x) (rate x) (a x) (rs x) (dg x s) (back i1 x) 1#32 (fst x.wa) (snd x.wa)) (k0_pay108 x.v (ig x) (mult x) (dg x s)) (k0_pay109 x.v (ig x) (mult x) (dg x s)) (fst x.wi) (snd x.wi) = dv i1 x s := rfl
theorem dug_eq (x : Blk F) : k0_pay20 x.hs x.ug x.dy = dug x := rfl

/-! What a point leaves, part by part. -/

theorem left_dra (i1 : ℕ) (x : Blk F) (s : Carry F) : (left i1 x s).dra = dra i1 x s := rfl
theorem last_dra (i1 : ℕ) (x : Blk F) (s : Carry F) : (leftLast i1 x s).dra = dra i1 x s := rfl
theorem left_dia (i1 : ℕ) (x : Blk F) (s : Carry F) : (left i1 x s).dia = dia x s := rfl
theorem last_dia (i1 : ℕ) (x : Blk F) (s : Carry F) : (leftLast i1 x s).dia = dia x s := rfl
theorem left_dv (i1 : ℕ) (x : Blk F) (s : Carry F) : (left i1 x s).dv = dv i1 x s := rfl
theorem last_dv (i1 : ℕ) (x : Blk F) (s : Carry F) : (leftLast i1 x s).dv = dv i1 x s := rfl
theorem left_dug (i1 : ℕ) (x : Blk F) (s : Carry F) : (left i1 x s).dug = dug x := rfl
theorem last_dug (i1 : ℕ) (x : Blk F) (s : Carry F) : (leftLast i1 x s).dug = dug x := rfl
theorem left_dh (i1 : ℕ) (x : Blk F) (s : Carry F) : (left i1 x s).out.dh = k0_pay98 (b3 x s) (a3 x s) (g57 x s) := rfl
theorem last_dh (i1 : ℕ) (x : Blk F) (s : Carry F) : (leftLast i1 x s).out.dh = k0_pay98 (b3 x s) (a3 x s) (g57 x s) := rfl
theorem left_ac (i1 : ℕ) (x : Blk F) (s : Carry F) : (left i1 x s).out.ac = k0_pay99 (a x) := rfl
theorem last_ac (i1 : ℕ) (x : Blk F) (s : Carry F) : (leftLast i1 x s).out.ac = k0_pay99 (a x) := rfl
theorem left_gba (i1 : ℕ) (x : Blk F) (s : Carry F) : (left i1 x s).out.gba = k0_pay111 (dpa i1 x s) s.gba := rfl
theorem last_gba (i1 : ℕ) (x : Blk F) (s : Carry F) : (leftLast i1 x s).out.gba = k0_pay111 (dpa i1 x s) s.gba := rfl
theorem left_gbi (i1 : ℕ) (x : Blk F) (s : Carry F) : (left i1 x s).out.gbi = k0_pay112 (dpi x s) s.gbi := rfl
theorem last_gbi (i1 : ℕ) (x : Blk F) (s : Carry F) : (leftLast i1 x s).out.gbi = k0_pay112 (dpi x s) s.gbi := rfl
theorem left_glam (i1 : ℕ) (x : Blk F) (s : Carry F) : (left i1 x s).out.glam = k0_pay113 (r x) (dlog i1 x s) s.glam := rfl
theorem last_glam (i1 : ℕ) (x : Blk F) (s : Carry F) : (leftLast i1 x s).out.glam = k0_pay1 x.lam (k0_pay113 (r x) (dlog i1 x s) s.glam) := rfl

/-- The buffers a point writes, whatever they hold. -/
abbrev anyOut (c : Dev nD) (b : Bufs) : sProp 𝕄 :=
  iprop((∃ d, owns (c : Thread nD τ) b.m12 fullShare d) ∗ (∃ d, owns (c : Thread nD τ) b.m13 fullShare d) ∗ (∃ d, owns (c : Thread nD τ) b.m14 fullShare d) ∗ (∃ d, owns (c : Thread nD τ) b.m15 fullShare d) ∗ (∃ d, owns (c : Thread nD τ) b.m16 fullShare d) ∗ (∃ d, owns (c : Thread nD τ) b.m17 fullShare d) ∗ (∃ d, owns (c : Thread nD τ) b.m18 fullShare d) ∗ (∃ d, owns (c : Thread nD τ) b.m19 fullShare d) ∗ (∃ d, owns (c : Thread nD τ) b.m20 fullShare d))
/-- The buffers a point writes, the carried ones holding what the point before handed on. -/
abbrev carried (c : Dev nD) (b : Bufs) (s : Carry F) : sProp 𝕄 :=
  iprop((∃ d, owns (c : Thread nD τ) b.m12 fullShare d) ∗ (∃ d, owns (c : Thread nD τ) b.m13 fullShare d) ∗ (∃ d, owns (c : Thread nD τ) b.m14 fullShare d) ∗ (∃ d, owns (c : Thread nD τ) b.m15 fullShare d) ∗ owns (c : Thread nD τ) b.m16 fullShare s.gba ∗ owns (c : Thread nD τ) b.m17 fullShare s.gbi ∗ owns (c : Thread nD τ) b.m18 fullShare s.glam ∗ owns (c : Thread nD τ) b.m19 fullShare s.dh ∗ owns (c : Thread nD τ) b.m20 fullShare s.ac)

set_option maxHeartbeats 800000 in
/-- The first point of a column starts from zero. -/
theorem first (c : Dev nD) (i : grid0.Coords) (b : Bufs) (x : Blk F) (hc0 : cond0_0 i) (hc1 : ¬cond0_1 i) (E : Set ℕ) (K : PUnit → sProp 𝕄) :
    iprop(reads c b x ∗ (anyOut c b) ∗ (iprop(reads c b x ∗ writes c b (left (i 1).val x start)) -∗ K ⟨⟩)) ⊢ wp frame (wpE (defs₀ (F := F)) Variants.none c none) E (body i b) K := by
  refine close c b x _ _ E K _ _ _ _ _ _ _ _ _ ?_ ?_ ?_ ?_ ?_ ?_ ?_ ?_ ?_
    ((kernelRun0_A c i b.m2 b.h2 b.m3 b.h3 b.m4 b.h4 b.m5 b.h5 b.m6 b.h6 b.m7 b.h7 b.m8 b.h8 b.m9 b.h9 b.m10 b.h10 b.m11 b.h11 b.m12 b.h12 b.m13 b.h13 b.m14 b.h14 b.m15 b.h15 b.m16 b.h16 b.m17 b.h17 b.m18 b.h18 b.m19 b.h19 b.m20 b.h20 hc0 hc1 x.dy x.hs x.prev x.ug x.wa x.wi x.v x.ba x.bi x.lam).2.2.2.2.2.2.2.2.2 E K)
  all_goals
    intro f
    unfold kernelRun0_A
    dsimp only
    sl_unfold_words
    simp only [store512, store1, store8, View.readAt_eq_ld, load1, load8, Memref.IsWhole.read_unread, ld512, ld1, ld16,
      ldRow, ldFst, ldSnd, startDh, startAc, startGba, startGbi, startGlam]
    try conv in (occs := *) (iota _ _ _ _ _) => all_goals change rows
    simp only [preA_eq, r_eq, ig_eq, rate_eq, a_eq, rs_eq, mult_eq, inj_eq, ahead_eq, b2_eq, a2_eq, b2s_eq, b3_eq, a3_eq, g0_eq, g1_eq, g2_eq, g3_eq, g4_eq, g5_eq, g6_eq, g7_eq, g8_eq, g9_eq, g10_eq, g11_eq, g12_eq, g13_eq, g14_eq, g15_eq, g16_eq, g17_eq, g18_eq, g19_eq, g20_eq, g21_eq, g22_eq, g23_eq, g24_eq, g25_eq, g26_eq, g27_eq, g28_eq, g29_eq, g30_eq, g31_eq, g32_eq, g33_eq, g34_eq, g35_eq, g36_eq, g37_eq, g38_eq, g39_eq, g40_eq, g41_eq, g42_eq, g43_eq, g44_eq, g45_eq, g46_eq, g47_eq, g48_eq, g49_eq, g50_eq, g51_eq, g52_eq, g53_eq, g54_eq, g55_eq, g56_eq, g57_eq, dg_eq, back_eq, dgm_eq, dlog_eq, dpa_eq, dpi_eq, dra_eq, dia_eq, dv_eq, dug_eq, left_dra, last_dra, left_dia, last_dia, left_dv, last_dv, left_dug, last_dug, left_dh, last_dh, left_ac, last_ac, left_gba, last_gba, left_gbi, last_gbi, left_glam, last_glam]
    done

set_option maxHeartbeats 800000 in
/-- A point between the first and the last of a column. -/
theorem between (c : Dev nD) (i : grid0.Coords) (b : Bufs) (x : Blk F) (s : Carry F) (hc0 : ¬cond0_0 i) (hc1 : ¬cond0_1 i) (E : Set ℕ) (K : PUnit → sProp 𝕄) :
    iprop(reads c b x ∗ (carried c b s) ∗ (iprop(reads c b x ∗ writes c b (left (i 1).val x s)) -∗ K ⟨⟩)) ⊢ wp frame (wpE (defs₀ (F := F)) Variants.none c none) E (body i b) K := by
  refine close c b x _ _ E K _ _ _ _ _ _ _ _ _ ?_ ?_ ?_ ?_ ?_ ?_ ?_ ?_ ?_
    ((kernelRun0_B c i b.m2 b.h2 b.m3 b.h3 b.m4 b.h4 b.m5 b.h5 b.m6 b.h6 b.m7 b.h7 b.m8 b.h8 b.m9 b.h9 b.m10 b.h10 b.m11 b.h11 b.m12 b.h12 b.m13 b.h13 b.m14 b.h14 b.m15 b.h15 b.m16 b.h16 b.m17 b.h17 b.m18 b.h18 b.m19 b.h19 b.m20 b.h20 hc0 hc1 x.dy x.hs x.prev x.ug x.wa x.wi x.v x.ba x.bi x.lam s.gba s.gbi s.glam s.dh s.ac).2.2.2.2.2.2.2.2.2 E K)
  all_goals
    intro f
    unfold kernelRun0_B
    dsimp only
    sl_unfold_words
    simp only [store512, store1, store8, View.readAt_eq_ld, load1, load8, Memref.IsWhole.read_unread, ld512, ld1, ld16,
      ldRow, ldFst, ldSnd, startDh, startAc, startGba, startGbi, startGlam]
    try conv in (occs := *) (iota _ _ _ _ _) => all_goals change rows
    simp only [preA_eq, r_eq, ig_eq, rate_eq, a_eq, rs_eq, mult_eq, inj_eq, ahead_eq, b2_eq, a2_eq, b2s_eq, b3_eq, a3_eq, g0_eq, g1_eq, g2_eq, g3_eq, g4_eq, g5_eq, g6_eq, g7_eq, g8_eq, g9_eq, g10_eq, g11_eq, g12_eq, g13_eq, g14_eq, g15_eq, g16_eq, g17_eq, g18_eq, g19_eq, g20_eq, g21_eq, g22_eq, g23_eq, g24_eq, g25_eq, g26_eq, g27_eq, g28_eq, g29_eq, g30_eq, g31_eq, g32_eq, g33_eq, g34_eq, g35_eq, g36_eq, g37_eq, g38_eq, g39_eq, g40_eq, g41_eq, g42_eq, g43_eq, g44_eq, g45_eq, g46_eq, g47_eq, g48_eq, g49_eq, g50_eq, g51_eq, g52_eq, g53_eq, g54_eq, g55_eq, g56_eq, g57_eq, dg_eq, back_eq, dgm_eq, dlog_eq, dpa_eq, dpi_eq, dra_eq, dia_eq, dv_eq, dug_eq, left_dra, last_dra, left_dia, last_dia, left_dv, last_dv, left_dug, last_dug, left_dh, last_dh, left_ac, last_ac, left_gba, last_gba, left_gbi, last_gbi, left_glam, last_glam]
    done

set_option maxHeartbeats 800000 in
/-- The last point of a column. -/
theorem last (c : Dev nD) (i : grid0.Coords) (b : Bufs) (x : Blk F) (s : Carry F) (hc0 : ¬cond0_0 i) (hc1 : cond0_1 i) (E : Set ℕ) (K : PUnit → sProp 𝕄) :
    iprop(reads c b x ∗ (carried c b s) ∗ (iprop(reads c b x ∗ writes c b (leftLast (i 1).val x s)) -∗ K ⟨⟩)) ⊢ wp frame (wpE (defs₀ (F := F)) Variants.none c none) E (body i b) K := by
  refine close c b x _ _ E K _ _ _ _ _ _ _ _ _ ?_ ?_ ?_ ?_ ?_ ?_ ?_ ?_ ?_
    ((kernelRun0_C c i b.m2 b.h2 b.m3 b.h3 b.m4 b.h4 b.m5 b.h5 b.m6 b.h6 b.m7 b.h7 b.m8 b.h8 b.m9 b.h9 b.m10 b.h10 b.m11 b.h11 b.m12 b.h12 b.m13 b.h13 b.m14 b.h14 b.m15 b.h15 b.m16 b.h16 b.m17 b.h17 b.m18 b.h18 b.m19 b.h19 b.m20 b.h20 hc0 hc1 x.dy x.hs x.prev x.ug x.wa x.wi x.v x.ba x.bi x.lam s.gba s.gbi s.glam s.dh s.ac).2.2.2.2.2.2.2.2.2 E K)
  all_goals
    intro f
    unfold kernelRun0_C
    dsimp only
    sl_unfold_words
    simp only [store512, store1, store8, View.readAt_eq_ld, load1, load8, Memref.IsWhole.read_unread, ld512, ld1, ld16,
      ldRow, ldFst, ldSnd, startDh, startAc, startGba, startGbi, startGlam]
    try conv in (occs := *) (iota _ _ _ _ _) => all_goals change rows
    simp only [preA_eq, r_eq, ig_eq, rate_eq, a_eq, rs_eq, mult_eq, inj_eq, ahead_eq, b2_eq, a2_eq, b2s_eq, b3_eq, a3_eq, g0_eq, g1_eq, g2_eq, g3_eq, g4_eq, g5_eq, g6_eq, g7_eq, g8_eq, g9_eq, g10_eq, g11_eq, g12_eq, g13_eq, g14_eq, g15_eq, g16_eq, g17_eq, g18_eq, g19_eq, g20_eq, g21_eq, g22_eq, g23_eq, g24_eq, g25_eq, g26_eq, g27_eq, g28_eq, g29_eq, g30_eq, g31_eq, g32_eq, g33_eq, g34_eq, g35_eq, g36_eq, g37_eq, g38_eq, g39_eq, g40_eq, g41_eq, g42_eq, g43_eq, g44_eq, g45_eq, g46_eq, g47_eq, g48_eq, g49_eq, g50_eq, g51_eq, g52_eq, g53_eq, g54_eq, g55_eq, g56_eq, g57_eq, dg_eq, back_eq, dgm_eq, dlog_eq, dpa_eq, dpi_eq, dra_eq, dia_eq, dv_eq, dug_eq, left_dra, last_dra, left_dia, last_dia, left_dv, last_dv, left_dug, last_dug, left_dh, last_dh, left_ac, last_ac, left_gba, last_gba, left_gbi, last_gbi, left_glam, last_glam]
    done

end Tile

end
-- ==== Proof.KernelRun.lean ====
module

public import proofs.«01_k».proof.Proof.Body
public import Idealize.ShloMosaic.Lib.Claim

/-!
The run of the kernel's program: what its buffers hold after each point of the grid, the pipeline's proof data, the run and
the frame — the arguments end unchanged and no semaphore is left raised.
-/

@[expose] public section

set_option maxRecDepth 16384

noncomputable section

namespace KernelRun

open Cert.KernelIdeal Cert.KernelIdeal.Gen Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg) (c : Dev nD)

local notation "𝕄" => MT nD τ sig Unit (Elt F) ℕ (UR sig nD τ) ℕ

/-- The blocks point `t` reads. -/
abbrev blk (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t⟩

/-- The buffers point `t` works on. -/
abbrev bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, scM0_0, Memref.isWhole_whole _, scM0_1, Memref.isWhole_whole _⟩

/-- The number of the point in its column, which counts the tiles of rows from the last. -/
abbrev tileNo (t : Fin cfg0.N) : ℕ := ((grid0.coords t) 1).val

/-- What point `t` leaves if the point before handed on `s`. -/
def point (t : Fin cfg0.N) (s : Carry F) : Left F :=
  if t.val % 16 = 0 then left (tileNo t) (blk m c t) start
  else if t.val % 16 = 15 then leftLast (tileNo t) (blk m c t) s else left (tileNo t) (blk m c t) s

/-- What point `n` leaves. -/
def outs : (n : ℕ) → n < cfg0.N → Left F
  | 0, h => point m c ⟨0, h⟩ start
  | n + 1, h => point m c ⟨n + 1, h⟩ (outs n (Nat.lt_of_succ_lt h)).out

/-- What point `t - 1` hands on. -/
abbrev handed (t : Fin cfg0.N) : Carry F := (outs m c (t.val - 1) (Nat.lt_of_le_of_lt (Nat.sub_le _ _) t.isLt)).out

theorem outs_first (t : Fin cfg0.N) (h0 : t.val % 16 = 0) : outs m c t.val t.isLt = left (tileNo t) (blk m c t) start := by
  obtain ⟨n, hn⟩ := t
  cases n <;> (dsimp only [outs]; exact if_pos h0)

theorem outs_between (t : Fin cfg0.N) (h0 : ¬t.val % 16 = 0) (h1 : ¬t.val % 16 = 15) :
    outs m c t.val t.isLt = left (tileNo t) (blk m c t) (handed m c t) := by
  obtain ⟨n, hn⟩ := t
  cases n with
  | zero => exact absurd rfl h0
  | succ n => dsimp only [outs]; exact (if_neg h0).trans (if_neg h1)

theorem outs_last (t : Fin cfg0.N) (h0 : ¬t.val % 16 = 0) (h1 : t.val % 16 = 15) :
    outs m c t.val t.isLt = leftLast (tileNo t) (blk m c t) (handed m c t) := by
  obtain ⟨n, hn⟩ := t
  cases n with
  | zero => exact absurd rfl h0
  | succ n => dsimp only [outs]; exact (if_neg h0).trans (if_pos h1)

/-- The invariant before point `n`: the two carried buffers at what the point before left, and the generator's register. -/
def inv : (n : ℕ) → n ≤ cfg0.N → sProp 𝕄
  | 0, _ => Pipeline.ΦA spec0 c
  | n + 1, hn => iprop(iprop(owns (c : Thread nD τ) scM0_0 fullShare (outs m c n hn).out.dh ∗ owns (c : Thread nD τ) scM0_1 fullShare (outs m c n hn).out.ac) ∗ (∃ r, prngReg c r))

theorem inv_zero (n : ℕ) (h : n ≤ cfg0.N) (hz : n = 0) : inv m c n h = Pipeline.ΦA spec0 c := by
  subst hz; rfl

theorem inv_pos (n : ℕ) (h : n ≤ cfg0.N) (hz : n ≠ 0) :
    inv m c n h = iprop(iprop(owns (c : Thread nD τ) scM0_0 fullShare (outs m c (n - 1) (by omega)).out.dh
      ∗ owns (c : Thread nD τ) scM0_1 fullShare (outs m c (n - 1) (by omega)).out.ac) ∗ (∃ r, prngReg c r)) := by
  cases n with
  | zero => exact absurd rfl hz
  | succ n => rfl

/-- The pipeline's proof data: the arrays as the region finds them, the inputs' buffers at their blocks, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).dra
    | ⟨11, _⟩ => (outs m c t.val t.isLt).dia
    | ⟨12, _⟩ => (outs m c t.val t.isLt).dv
    | ⟨13, _⟩ => (outs m c t.val t.isLt).dug
    | ⟨14, _⟩ => (outs m c t.val t.isLt).out.gba
    | ⟨15, _⟩ => (outs m c t.val t.isLt).out.gbi
    | ⟨16, _⟩ => (outs m c t.val t.isLt).out.glam
    | ⟨_ + 17, h⟩ => absurd h (Nat.not_lt.2 (Nat.le_add_left _ _))
  Φ t := inv m c t.val (Nat.le_of_lt_succ t.isLt)
  q w := Pipeline.shareOf spec0 w
  owed _ := 0

theorem arrays (w : Fin cfg0.W) : (dats m 0 c).A w = V m c (Pipeline.arrRef spec0 w) := by
  dsimp only [dats]

theorem inv_castSucc (t : Fin cfg0.N) : (dats m 0 c).Φ t.castSucc = inv m c t.val (Nat.le_of_lt t.isLt) := by
  dsimp only [dats]; exact Pipeline.Dat.Φ_castSucc (inv m c) t

/-! What the body leaves, window by window. -/

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = (outs m c t.val t.isLt).dra := by dsimp only [dats]
theorem after_11 (t : Fin cfg0.N) : (dats m 0 c).after 11 t = (outs m c t.val t.isLt).dia := by dsimp only [dats]
theorem after_12 (t : Fin cfg0.N) : (dats m 0 c).after 12 t = (outs m c t.val t.isLt).dv := by dsimp only [dats]
theorem after_13 (t : Fin cfg0.N) : (dats m 0 c).after 13 t = (outs m c t.val t.isLt).dug := by dsimp only [dats]
theorem after_14 (t : Fin cfg0.N) : (dats m 0 c).after 14 t = (outs m c t.val t.isLt).out.gba := by dsimp only [dats]
theorem after_15 (t : Fin cfg0.N) : (dats m 0 c).after 15 t = (outs m c t.val t.isLt).out.gbi := by dsimp only [dats]
theorem after_16 (t : Fin cfg0.N) : (dats m 0 c).after 16 t = (outs m c t.val t.isLt).out.glam := by dsimp only [dats]

/-! What the buffers hold when the body starts: the inputs' their blocks, the three sums' what the point before left. -/

theorem before_0 (t : Fin cfg0.N) (d) : (dats m 0 c).before 0 t d = iblk m c 0 t :=
  before0_0_of m (dats m 0 c) (arrays m c 0) (after_0 m c) t d
theorem before_1 (t : Fin cfg0.N) (d) : (dats m 0 c).before 1 t d = iblk m c 1 t :=
  before0_1_of m (dats m 0 c) (arrays m c 1) (after_1 m c) t d
theorem before_2 (t : Fin cfg0.N) (d) : (dats m 0 c).before 2 t d = iblk m c 2 t :=
  before0_2_of m (dats m 0 c) (arrays m c 2) (after_2 m c) t d
theorem before_3 (t : Fin cfg0.N) (d) : (dats m 0 c).before 3 t d = iblk m c 3 t :=
  before0_3_of m (dats m 0 c) (arrays m c 3) (after_3 m c) t d
theorem before_4 (t : Fin cfg0.N) (d) : (dats m 0 c).before 4 t d = iblk m c 4 t :=
  before0_4_of m (dats m 0 c) (arrays m c 4) (after_4 m c) t d
theorem before_5 (t : Fin cfg0.N) (d) : (dats m 0 c).before 5 t d = iblk m c 5 t :=
  before0_5_of m (dats m 0 c) (arrays m c 5) (after_5 m c) t d
theorem before_6 (t : Fin cfg0.N) (d) : (dats m 0 c).before 6 t d = iblk m c 6 t :=
  before0_6_of m (dats m 0 c) (arrays m c 6) (after_6 m c) t d
theorem before_7 (t : Fin cfg0.N) (d) : (dats m 0 c).before 7 t d = iblk m c 7 t :=
  before0_7_of m (dats m 0 c) (arrays m c 7) (after_7 m c) t d
theorem before_8 (t : Fin cfg0.N) (d) : (dats m 0 c).before 8 t d = iblk m c 8 t :=
  before0_8_of m (dats m 0 c) (arrays m c 8) (after_8 m c) t d
theorem before_9 (t : Fin cfg0.N) (d) : (dats m 0 c).before 9 t d = iblk m c 9 t :=
  before0_9_of m (dats m 0 c) (arrays m c 9) (after_9 m c) t d
theorem before_14 (t : Fin cfg0.N) (h0 : ¬t.val % 16 = 0) (d) : (dats m 0 c).before 14 t d = (handed m c t).gba := by
  have hN : t.val < 64 := lt_of_lt_of_eq t.isLt (show cfg0.N = 64 from N_0)
  rw [Dat.before_out_kept _ 14 rfl t (by omega) (Bool.eq_false_iff.mpr fun h => by have := (flush0_14 _).mp h; dsimp only at this; omega)
    (fun _ => rfl) (fun _ _ => rfl)]
  dsimp only [dats]
theorem before_15 (t : Fin cfg0.N) (h0 : ¬t.val % 16 = 0) (d) : (dats m 0 c).before 15 t d = (handed m c t).gbi := by
  have hN : t.val < 64 := lt_of_lt_of_eq t.isLt (show cfg0.N = 64 from N_0)
  rw [Dat.before_out_kept _ 15 rfl t (by omega) (Bool.eq_false_iff.mpr fun h => by have := (flush0_15 _).mp h; dsimp only at this; omega)
    (fun _ => rfl) (fun _ _ => rfl)]
  dsimp only [dats]
theorem before_16 (t : Fin cfg0.N) (h0 : ¬t.val % 16 = 0) (d) : (dats m 0 c).before 16 t d = (handed m c t).glam := by
  have hN : t.val < 64 := lt_of_lt_of_eq t.isLt (show cfg0.N = 64 from N_0)
  rw [Dat.before_out_kept _ 16 rfl t (by omega) (Bool.eq_false_iff.mpr fun h => by have := (flush0_16 _).mp h; dsimp only at this; omega)
    (fun _ => rfl) (fun _ _ => rfl)]
  dsimp only [dats]

/-- What the body is called with at point `t`, window by window. -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

/-- What the three theorems on the body give is what the pipeline asks for. -/
theorem done (t : Fin cfg0.N) :
    iprop((reads c (bufs t) (blk m c t) ∗ writes c (bufs t) (outs m c t.val t.isLt)) ∗ (dats m 0 c).owesAt () t.castSucc ∗ (∃ r, prngReg c r)) ⊢ bodyPost m c t := by
  unfold bodyPost
  rw [show (dats m 0 c).owesAt () t.succ = (dats m 0 c).owesAt () t.castSucc from rfl,
    after_0, after_1, after_2, after_3, after_4, after_5, after_6, after_7, after_8, after_9, after_10, after_11, after_12, after_13, after_14, after_15, after_16,
    show (dats m 0 c).Φ t.succ = inv m c (t.val + 1) t.isLt from rfl, inv_pos m c _ _ (Nat.succ_ne_zero _)]
  iintro ⟨⟨⟨H0, H1, H2, H3, H4, H5, H6, H7, H8, H9⟩, ⟨H10, H11, H12, H13, H14, H15, H16, HS0, HS1⟩⟩, Ho, Hg⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 3200000 in
/-- The body at any point. -/
theorem sound_body (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  rw [show bodyAt0 (F := F) t = body (grid0.coords t) (bufs t) from rfl]
  have fin := done m c t
  unfold bodyPre
  simp only [before_0, before_1, before_2, before_3, before_4, before_5, before_6, before_7, before_8, before_9]
  by_cases h0 : t.val % 16 = 0
  · rw [outs_first m c t h0] at fin
    by_cases hz : t.val = 0
    · rw [inv_castSucc m c t, inv_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (first c (grid0.coords t) (bufs t) (blk m c t) ((hcond0_0 t).mpr h0) (fun h => by have := (hcond0_1 t).mp h; omega) Set.univ _)
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10 H11 H12 H13 H14 H15 H16 HS0 HS1]
      · isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        iexact HS1
      iintro H
      iapply fin
      isplitl [H]; · iexact H
      isplitl [Ho]; · iexact Ho
      iexact Hg
    · rw [inv_castSucc m c t, inv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (first c (grid0.coords t) (bufs t) (blk m c t) ((hcond0_0 t).mpr h0) (fun h => by have := (hcond0_1 t).mp h; omega) Set.univ _)
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10 H11 H12 H13 H14 H15 H16 HS0 HS1]
      · isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexists _; iexact HS0
        iexists _; iexact HS1
      iintro H
      iapply fin
      isplitl [H]; · iexact H
      isplitl [Ho]; · iexact Ho
      iexact Hg
  · have hz : t.val ≠ 0 := fun h => h0 (by rw [h])
    simp only [before_14 m c t h0, before_15 m c t h0, before_16 m c t h0]
    rw [inv_castSucc m c t, inv_pos m c _ _ hz]
    by_cases h1 : t.val % 16 = 15
    · rw [outs_last m c t h0 h1] at fin
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (last c (grid0.coords t) (bufs t) (blk m c t) (handed m c t) (fun h => h0 ((hcond0_0 t).mp h)) ((hcond0_1 t).mpr h1) Set.univ _)
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10 H11 H12 H13 H14 H15 H16 HS0 HS1]
      · isplitl [H10]; · iexists _; iexact H10
        isplitl [H11]; · iexists _; iexact H11
        isplitl [H12]; · iexists _; iexact H12
        isplitl [H13]; · iexists _; iexact H13
        isplitl [H14]; · iexact H14
        isplitl [H15]; · iexact H15
        isplitl [H16]; · iexact H16
        isplitl [HS0]; · iexact HS0
        iexact HS1
      iintro H
      iapply fin
      isplitl [H]; · iexact H
      isplitl [Ho]; · iexact Ho
      iexact Hg
    · rw [outs_between m c t h0 h1] at fin
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (between c (grid0.coords t) (bufs t) (blk m c t) (handed m c t) (fun h => h0 ((hcond0_0 t).mp h)) (fun h => h1 ((hcond0_1 t).mp h)) Set.univ _)
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10 H11 H12 H13 H14 H15 H16 HS0 HS1]
      · isplitl [H10]; · iexists _; iexact H10
        isplitl [H11]; · iexists _; iexact H11
        isplitl [H12]; · iexists _; iexact H12
        isplitl [H13]; · iexists _; iexact H13
        isplitl [H14]; · iexact H14
        isplitl [H15]; · iexact H15
        isplitl [H16]; · iexact H16
        isplitl [HS0]; · iexact HS0
        iexact HS1
      iintro H
      iapply fin
      isplitl [H]; · iexact H
      isplitl [Ho]; · iexact Ho
      iexact Hg

theorem row_of_defs (t : Fin cfg0.N) : defs₀ (F := F) .tc cfg0.body (cfg0.bodyArgs t (cfg0.slots t)) = bodyAt0 t := by
  unfold defs₀; rw [Defs.onTc_tc]

/-- The pipeline's obligation on the body, at every point. -/
theorem obligation : BodyObligation (dats (F := F) m 0 c) (defs₀ (F := F)) Variants.none () Set.univ := fun t => by
  rw [bigSep_W0, bigSep_W0, row_of_defs]
  exact triple_restated (sound_body m c t) rfl .rfl fun _ => .rfl

theorem inv_in : Pipeline.ΦA spec0 c ⊢ (dats m 0 c).Φ 0 := by
  rw [show (dats m 0 c).Φ 0 = inv m c 0 (Nat.zero_le _) from rfl, inv_zero m c 0 _ rfl]

theorem inv_out : (dats m 0 c).Φ (Fin.last cfg0.N) ⊢ Pipeline.ΦA spec0 c := by
  have hN : cfg0.N = 64 := N_0
  rw [show (dats m 0 c).Φ (Fin.last cfg0.N) = inv m c (Fin.last cfg0.N).val (Nat.le_of_lt_succ (Fin.last cfg0.N).isLt) from rfl,
    inv_pos m c _ _ (by rw [Fin.val_last]; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every array of the pipeline ends at what the proof data make of it, every other buffer as the region found it, and no
    semaphore is left raised. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays m) (hin := inv_in m) (hout := inv_out m)

/-- The frame: the nine arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (arrays m) ((θ_run defs _ _).mono (fun _ h => h.1) (run m ρ)))
    ((θ_run defs _ _).mono (fun _ h => h.2) (run m ρ))

end KernelRun

end
-- ==== Proof.TileValue.lean ====
module

public import proofs.«01_k».proof.Proof.Tile
public import proofs.«01_k».proof.Proof.Up
public import proofs.«01_k».proof.Proof.Spec

/-!
What a point of the kernel computes when its blocks hold reals: the gates, the recurrence inside the tile and the gradients, each the real
function of the specification at the tile's rows and columns.
-/

@[expose] public section

noncomputable section

namespace TileValue

open Cert.KernelIdeal Cert.KernelIdeal.Gen Tile
open Idealize.ShloMosaic Idealize.ShloMosaic.TcCoe Up Finset

/-- The blocks of the tile whose first row is `s` and whose first column is `512 * c`; `p` are the rows before it. -/
def blk (D : Data) (s c : ℕ) (p : ℕ → ℕ → ℝ) : Blk Ideal where
  dy := (up2 fun t j => D.dy (s + t) (512 * c + j) : FVec Ideal S512x512 .f32)
  hs := (up2 fun t j => D.h (s + t) (512 * c + j) : FVec Ideal S512x512 .f32)
  prev := (up2 p : FVec Ideal S16x512 .f32)
  ug := (up2 fun t j => D.ug (s + t) (512 * c + j) : FVec Ideal S512x512 .f32)
  wa := (up3 fun q k j => D.wa (2 * c + q) k j : FVec Ideal S2x256x256 .bf16)
  wi := (up3 fun q k j => D.wi (2 * c + q) k j : FVec Ideal S2x256x256 .bf16)
  v := (up2 fun t j => D.v (s + t) (512 * c + j) : FVec Ideal S512x512 .f32)
  ba := (up2 fun _ j => D.ba (512 * c + j) : FVec Ideal S1x512 .f32)
  bi := (up2 fun _ j => D.bi (512 * c + j) : FVec Ideal S1x512 .f32)
  lam := (up2 fun _ j => D.lam (512 * c + j) : FVec Ideal S1x512 .f32)

/-- What a point hands on, as reals. -/
def carry (d e : ℕ → ℕ → ℝ) (x y z : ℕ → ℝ) : Carry Ideal where
  dh := (up2 d : FVec Ideal S8x512 .f32)
  ac := (up2 e : FVec Ideal S8x512 .f32)
  gba := (up2 fun _ j => x j : FVec Ideal S1x512 .f32)
  gbi := (up2 fun _ j => y j : FVec Ideal S1x512 .f32)
  glam := (up2 fun _ j => z j : FVec Ideal S1x512 .f32)

theorem start_eq : (start : Carry Ideal) = carry (fun _ _ => 0) (fun _ _ => 0) (fun _ => 0) (fun _ => 0) (fun _ => 0) := by
  unfold start carry k0_pay2 k0_pay3 k0_pay4 k0_pay5 k0_pay6
  simp only [cast_self, const2 (show Scalar.ofBits (F := Ideal) .f32 0x00000000#32 = _ from zero_word)]

theorem row_up (d : ℕ → ℕ → ℝ) : row (F := Ideal) (up2 d : FVec Ideal S8x512 .f32) = (up2 d : FVec Ideal S1x512 .f32) := by
  funext i
  show (((d (0 + 1 * (i 0).val) (0 + 1 * (i 1).val) : ℝ)) : EReal) = _
  simp only [zero_add, one_mul]; rfl
theorem fst_up (f : ℕ → ℕ → ℕ → ℝ) : fst (F := Ideal) (up3 f : FVec Ideal S2x256x256 .bf16) = (up3 f : FVec Ideal S1x256x256 .bf16) := by
  funext i
  show (((f (0 + 1 * (i 0).val) (0 + 1 * (i 1).val) (0 + 1 * (i 2).val) : ℝ)) : EReal) = _
  simp only [zero_add, one_mul]; rfl
theorem snd_up (f : ℕ → ℕ → ℕ → ℝ) : snd (F := Ideal) (up3 f : FVec Ideal S2x256x256 .bf16) = (up3 fun q => f (1 + q) : FVec Ideal S1x256x256 .bf16) := by
  funext i
  show (((f (1 + 1 * (i 0).val) (0 + 1 * (i 1).val) (0 + 1 * (i 2).val) : ℝ)) : EReal) = _
  simp only [zero_add, one_mul]; rfl

theorem mm (f g : ℕ → ℕ → ℝ) : matmul (F := Ideal) dot_S512x256_S256x256_S512x256_1_0_0_1_n_n none (up2 f : FVec Ideal S512x256 .bf16) (up2 g : FVec Ideal S256x256 .bf16)
    (constant S512x256 .f32 0x00000000#32) = up2 fun t j => ∑ k ∈ range 256, f t k * g k j := matmul2 rfl f g none
theorem mmT (f g : ℕ → ℕ → ℝ) : matmul (F := Ideal) dot_S512x256_S256x256_S512x256_1_1_0_0_n_n none (up2 f : FVec Ideal S512x256 .bf16) (up2 g : FVec Ideal S256x256 .bf16)
    (constant S512x256 .f32 0x00000000#32) = up2 fun t j => ∑ k ∈ range 256, f t k * g j k := matmulT2 rfl f g none
theorem const_half {n m : ℕ} : broadcast ⟨2, ![n, m]⟩ (Scalar.ofBits (F := Ideal) .f32 0x3F000000#32) = (up2 fun _ _ => 1 / 2 : FVec Ideal ⟨2, ![n, m]⟩ .f32) := const2 half_word
theorem const_one {n m : ℕ} : broadcast ⟨2, ![n, m]⟩ (Scalar.ofBits (F := Ideal) .f32 0x3F800000#32) = (up2 fun _ _ => 1 : FVec Ideal ⟨2, ![n, m]⟩ .f32) := const2 one_word
theorem const_zero {n m : ℕ} : broadcast ⟨2, ![n, m]⟩ (Scalar.ofBits (F := Ideal) .f32 0x00000000#32) = (up2 fun _ _ => 0 : FVec Ideal ⟨2, ![n, m]⟩ .f32) := const2 zero_word
theorem const_m8 {n m : ℕ} : broadcast ⟨2, ![n, m]⟩ (Scalar.ofBits (F := Ideal) .f32 0xC1000000#32) = (up2 fun _ _ => -8 : FVec Ideal ⟨2, ![n, m]⟩ .f32) := const2 minus_eight_word
theorem const_floor {n m : ℕ} : broadcast ⟨2, ![n, m]⟩ (Scalar.ofBits (F := Ideal) .f32 0x0DA24260#32) = (up2 fun _ _ => Up.floor : FVec Ideal ⟨2, ![n, m]⟩ .f32) := const2 floor_word
theorem const_c {n m : ℕ} : broadcast ⟨2, ![n, m]⟩ (Scalar.ofBits (F := Ideal) .f32 0x3F4C422A#32) = (up2 fun _ _ => gc : FVec Ideal ⟨2, ![n, m]⟩ .f32) := const2 gelu_c_word
theorem const_ca {n m : ℕ} : broadcast ⟨2, ![n, m]⟩ (Named.named κ "ca" 0x3D122279#32 : Ideal .f32) = (up2 fun _ _ => gc * gA : FVec Ideal ⟨2, ![n, m]⟩ .f32) :=
  const2 (IdealRules.named_const.ideal_named_scalar _ _ _ _ rfl)
theorem const_ca3 {n m : ℕ} : broadcast ⟨2, ![n, m]⟩ (Named.named κ "ca3" 0x3DDB33B6#32 : Ideal .f32) = (up2 fun _ _ => 3 * (gc * gA) : FVec Ideal ⟨2, ![n, m]⟩ .f32) :=
  const2 (IdealRules.named_const.ideal_named_scalar _ _ _ _ rfl)
/-- A row of 512 spread over a matrix. -/
theorem spread {n : ℕ} (f : ℕ → ℕ → ℝ) (h) : broadcastTo ⟨2, ![n, 512]⟩ (up2 f : FVec Ideal S1x512 .f32) h = (up2 fun _ j => f 0 j : FVec Ideal ⟨2, ![n, 512]⟩ .f32) :=
  row2 f h (by decide)

variable (D : Data) (s c : ℕ) (p : ℕ → ℕ → ℝ)

/-- A gate's input over a tile of two heads, head by head. -/
theorem pre_eq (w : ℕ → ℕ → ℕ → ℝ) (b : ℕ → ℝ) (t j : ℕ) (hj : j < 512) :
    (if j < 256 then ∑ k ∈ range 256, D.v (s + (0 + t)) (512 * c + (0 + k)) * w (2 * c + 0) k j
      else ∑ k ∈ range 256, D.v (s + (0 + t)) (512 * c + (256 + k)) * w (2 * c + (1 + 0)) k (j - 256)) + b (512 * c + j) = D.pre w b (s + t) (512 * c + j) := by
  unfold Data.pre
  congr 1
  split_ifs with h
  · rw [show (512 * c + j) / 256 = 2 * c by omega, show (512 * c + j) % 256 = j by omega, show 256 * (2 * c) = 512 * c by ring]
    simp only [zero_add, add_zero]
  · rw [show (512 * c + j) / 256 = 2 * c + 1 by omega, show (512 * c + j) % 256 = j - 256 by omega, show 256 * (2 * c + 1) = 512 * c + 256 by ring]
    simp only [zero_add, add_zero, add_assoc]

theorem preA_eq : preA (blk D s c p) = up2 fun t j => D.pre D.wa D.ba (s + t) (512 * c + j) := by
  simp only [preA, blk, k0_pay8, fst_up, snd_up, trunc2, sliceAt, drop2, mm, to_join, join_beside, spread, add2]
  exact up2_congr fun t _ j hj => pre_eq D s c D.wa D.ba t j hj

theorem r_eq : r (blk D s c p) = up2 fun t j => D.r (s + t) (512 * c + j) := by
  rw [r, preA_eq]
  simp only [k0_pay10, k0_pay9, const_half, mul2, tanh2, add2, sig_eq_tanh]
  rfl

theorem ig_eq : ig (blk D s c p) = up2 fun t j => D.ig (s + t) (512 * c + j) := by
  simp only [ig, blk, k0_pay7, k0_pay11, fst_up, snd_up, trunc2, sliceAt, drop2, mm, to_join, join_beside, spread, add2, const_half, mul2, tanh2, sig_eq_tanh]
  exact up2_congr fun t _ j hj => congrArg sig (pre_eq D s c D.wi D.bi t j hj)

/-- The quotient that stands for the logarithm of one and a small number is that logarithm. -/
theorem log_quot (E : ℝ) (hE : 0 < E) : (if decide (1 + E = 1) = true then E else Real.log (1 + E) * E / (1 + E - 1)) = Real.log (1 + E) := by
  rw [if_neg (by simpa using hE.ne'), add_sub_cancel_left, mul_div_cancel_right₀ _ hE.ne']

theorem rate_eq : rate (blk D s c p) = up2 fun _ j => D.sp (512 * c + j) := by
  simp only [rate, blk, k0_pay12, const_zero, const_one, sub2, abs2, exp2, add2, cmp_eq2, mul2, max2]
  rw [log2 _ (fun _ _ => by positivity), mul2, div2 _ _ (fun _ _ _ _ => by simpa using (Real.exp_pos _).ne'), select2, add2]
  refine up2_congr fun t _ j _ => ?_
  rw [log_quot _ (Real.exp_pos _), zero_sub, zero_sub, splus_eq]; rfl

theorem a_eq : a (blk D s c p) = up2 fun t j => D.a (s + t) (512 * c + j) := by
  have hr := r_eq D s c p
  have hp := rate_eq D s c p
  rw [r] at hr
  rw [rate] at hp
  rw [a, k0_pay13]
  simp only [hr, hp, spread, const_m8, mul2, exp2]
  rfl

/-- Where one less the squared decay is above the floor. -/
def Above : Prop := ∀ t < 512, ∀ j < 512, Up.floor ≤ D.om (s + t) (512 * c + j)

theorem om_eq : k0_pay14 (blk D s c p).lam (preA (blk D s c p)) k0_pay9 = up2 fun t j => D.om (s + t) (512 * c + j) := by
  have ha := a_eq D s c p
  rw [a] at ha
  rw [k0_pay14]
  simp only [ha, mul2, const_one, sub2]
  rfl
theorem rs_eq (h : Above D s c) : rs (blk D s c p) = up2 fun t j => (D.mult (s + t) (512 * c + j))⁻¹ := by
  rw [rs, k0_pay15]
  simp only [om_eq, const_floor, max2]
  rw [rsqrt2 _ (fun t _ j _ => lt_max_of_lt_right floor_pos)]
  exact up2_congr fun t ht j hj => by rw [max_eq_left (h t ht j hj)]; rfl
theorem mult_eq (h : Above D s c) : mult (blk D s c p) = up2 fun t j => D.mult (s + t) (512 * c + j) := by
  have hr := rs_eq D s c p h
  rw [rs] at hr
  rw [mult, k0_pay16, hr, om_eq, mul2]
  refine up2_congr fun t ht j hj => ?_
  have := lt_of_lt_of_le floor_pos (h t ht j hj)
  rw [Data.mult, ← div_eq_mul_inv, Real.div_sqrt]

theorem inj_eq : inj (blk D s c p) = up2 fun t j => D.dh (s + t) (512 * c + j) := by
  simp only [inj, blk, k0_pay21, k0_pay19, k0_pay18, k0_pay17, const_half, const_c, const_ca, mul2, add2, tanh2]
  rfl
theorem dug_eq : dug (blk D s c p) = up2 fun t j => D.dug (s + t) (512 * c + j) := by
  simp only [dug, blk, k0_pay20, k0_pay19, k0_pay18, k0_pay17, const_half, const_one, const_c, const_ca, const_ca3, mul2, add2, sub2, tanh2, trunc2]
  rfl

/-! ## The recurrence -/

theorem column_index (i : S512x1.Idx) : i = ValueIdx.ix2 (i 0) 0 := by
  funext a
  match a with
  | ⟨0, _⟩ => rfl
  | ⟨1, _⟩ => exact Fin.ext (by have := (i 1).isLt; change (i 1).val < 1 at this; show (i 1).val = 0; omega)
/-- The rows of a group that have a row one, two or four below them. -/
theorem mask24 : k0_pay24 rows = bits fun t _ => decide (t % 8 < 8 - 1) := by
  have h : ∀ t : Fin 512, k0_pay24 rows (ValueIdx.ix2 t 0) = if decide (t.val % 8 < 8 - 1) then 1#1 else 0#1 := by decide +kernel
  funext i; rw [column_index i]; exact h (i 0)
@[inherit_doc mask24] theorem mask26 : k0_pay26 rows = bits fun t _ => decide (t % 8 < 8 - 2) := by
  have h : ∀ t : Fin 512, k0_pay26 rows (ValueIdx.ix2 t 0) = if decide (t.val % 8 < 8 - 2) then 1#1 else 0#1 := by decide +kernel
  funext i; rw [column_index i]; exact h (i 0)
@[inherit_doc mask24] theorem mask29 : k0_pay29 rows = bits fun t _ => decide (t % 8 < 8 - 4) := by
  have h : ∀ t : Fin 512, k0_pay29 rows (ValueIdx.ix2 t 0) = if decide (t.val % 8 < 8 - 4) then 1#1 else 0#1 := by decide +kernel
  funext i; rw [column_index i]; exact h (i 0)

/-- A bit for each row, spread over the columns. -/
theorem spreadBits (q : ℕ → ℕ → Bool) (h) : broadcastTo S512x512 (bits q : IVec S512x1 1) h = bits fun t _ => q t 0 := column2 q h (by decide)
/-- A rotation by 511, 510 or 508 of 512 rows. -/
theorem up511 (f : ℕ → ℕ → ℝ) (h) : turn 511#32 (up2 f : FVec Ideal S512x512 .f32) h = up2 fun t j => f ((t + 1) % 512) j :=
  (rotate2 f _ h).trans (up2_congr fun t _ j _ => congrArg (fun q => f (q % 512) j) (show t + 512 - 511 = t + 1 by omega))
@[inherit_doc up511] theorem up510 (f : ℕ → ℕ → ℝ) (h) : turn 510#32 (up2 f : FVec Ideal S512x512 .f32) h = up2 fun t j => f ((t + 2) % 512) j :=
  (rotate2 f _ h).trans (up2_congr fun t _ j _ => congrArg (fun q => f (q % 512) j) (show t + 512 - 510 = t + 2 by omega))
@[inherit_doc up511] theorem up508 (f : ℕ → ℕ → ℝ) (h) : turn 508#32 (up2 f : FVec Ideal S512x512 .f32) h = up2 fun t j => f ((t + 4) % 512) j :=
  (rotate2 f _ h).trans (up2_congr fun t _ j _ => congrArg (fun q => f (q % 512) j) (show t + 512 - 508 = t + 4 by omega))

variable (d e : ℕ → ℕ → ℝ) (x y z : ℕ → ℝ)

/-- The decay one row later: the last row takes what the tile after handed over. -/
def later (t j : ℕ) : ℝ := if t < 511 then D.a (s + t + 1) (512 * c + j) else e 0 j
/-- The cotangent of the tile's states from their own rows. -/
def own (t j : ℕ) : ℝ := D.dh (s + t) (512 * c + j)

theorem ahead_eq : ahead (blk D s c p) (carry d e x y z) = up2 (later D s c e) := by
  have hr : row (F := Ideal) (carry d e x y z).ac = (up2 e : FVec Ideal S1x512 .f32) := row_up e
  rw [ahead, hr, a_eq, k0_pay22]
  simp only [cast_self, spread, to_join, join_below, ↓to_turn, turn_up, sliceAt]
  refine up2_congr fun t ht j _ => ?_
  have h1 : (0 + t + 528 - (527#32).toNat % 528) % 528 = t + 1 := by
    show (0 + t + 528 - 527) % 528 = t + 1; omega
  rw [h1, later, zero_add]
  split_ifs <;> first | rfl | omega

theorem b2_eq : b2 (blk D s c p) (carry d e x y z) = up2 (Scan.b2 (own D s c) (later D s c e)) := by
  rw [b2, ahead_eq, inj_eq]
  simp only [k0_pay27, k0_pay25, mask24, mask26, cast_self, spreadBits, ↓to_turn, up511, up510, mul2, add2, select2, decide_eq_true_eq]
  rfl
theorem a2_eq : a2 (blk D s c p) (carry d e x y z) = up2 (Scan.a2 (later D s c e)) := by
  rw [a2, ahead_eq]
  simp only [k0_pay28, k0_pay25, mask24, mask26, cast_self, spreadBits, ↓to_turn, up511, up510, mul2, add2, select2, decide_eq_true_eq]
  rfl
theorem b3_eq : b3 (blk D s c p) (carry d e x y z) = up2 (Scan.b3 (own D s c) (later D s c e)) := by
  have hb := b2_eq D s c p d e x y z
  have ha := a2_eq D s c p d e x y z
  rw [b2] at hb
  rw [a2] at ha
  rw [b3, b2s, b2, k0_pay30, k0_pay31]
  simp only [hb, ha, mask29, cast_self, spreadBits, ↓to_turn, up508, mul2, add2, select2, decide_eq_true_eq]
  rfl
theorem a3_eq : a3 (blk D s c p) (carry d e x y z) = up2 (Scan.a3 (later D s c e)) := by
  rw [a3, a2_eq, k0_pay32]
  simp only [mask29, cast_self, spreadBits, ↓to_turn, up508, mul2, add2, select2, decide_eq_true_eq]
  rfl

/-- The last group takes the row the tile after handed over. -/
theorem group_last (β α : ℕ → ℕ → ℝ) {B A : FVec Ideal S512x512 .f32} (hB : B = up2 β) (hA : A = up2 α) {γ : FVec Ideal S1x512 .f32} (hγ : γ = up2 d) (h₁ h₂) :
    addf (extractStridedSlice S8x512 ![504, 0] B h₁) (mulf (extractStridedSlice S8x512 ![504, 0] A h₁) (broadcastTo S8x512 γ h₂))
      = (up2 (Scan.group β α (d 0) 0) : FVec Ideal S8x512 .f32) := by
  subst hB hA hγ
  simp only [sliceAt, spread, mul2, add2, zero_add]
  rfl
/-- Each group takes the first row of the group after it. -/
theorem group_next (β α : ℕ → ℕ → ℝ) {B A : FVec Ideal S512x512 .f32} (hB : B = up2 β) (hA : A = up2 α) (k o : ℕ) (ho : o = 504 - 8 * (k + 1))
    {γ : FVec Ideal S8x512 .f32} (hγ : γ = up2 (Scan.group β α (d 0) k)) (h₁ h₂ h₃) :
    addf (extractStridedSlice S8x512 ![o, 0] B h₁) (mulf (extractStridedSlice S8x512 ![o, 0] A h₁) (broadcastTo S8x512 (extractStridedSlice S1x512 ![0, 0] γ h₂) h₃))
      = (up2 (Scan.group β α (d 0) (k + 1)) : FVec Ideal S8x512 .f32) := by
  subst hB hA hγ ho
  simp only [sliceAt, spread, mul2, add2, zero_add]
  rfl
/-- Sixty-four groups of eight rows are a tile. -/
theorem groups_eq (xs : List ((s : Shape) × (s.Idx → Ideal .f32))) (G : ℕ → ℕ → ℕ → ℝ)
    (hx : xs = (List.range 64).map fun k => ⟨S8x512, (up2 (G k) : FVec Ideal S8x512 .f32)⟩) (h) :
    concatenate S512x512 0 xs h = (up2 fun t j => G (t / 8) (t % 8) j : FVec Ideal S512x512 .f32) := by
  subst hx
  funext i
  have hi : (i 0).val < 512 := (i 0).isLt
  have hk : (i 0).val / 8 < 64 := by omega
  refine concatenate_apply_piece 0 _ h i ((i 0).val / 8) (by simpa using hk) S8x512 (up2 (G ((i 0).val / 8)) : FVec Ideal S8x512 .f32) (by simp) rfl (8 * ((i 0).val / 8)) ?_
    (ValueIdx.ix2 ⟨(i 0).val % 8, by omega⟩ (i 1)) (fun b hb => ?_) ?_
  · rw [← List.map_take, List.map_map, List.map_map, List.take_range, Nat.min_eq_left hk.le]
    have : ∀ n : ℕ, (List.map ((fun s : Shape => if h : s.rank = S512x512.rank then s.size ((0 : Fin 2).cast h.symm) else 0) ∘ Sigma.fst ∘
        fun k => (⟨S8x512, (up2 (G k) : FVec Ideal S8x512 .f32)⟩ : (s : Shape) × (s.Idx → Ideal .f32))) (List.range n)).sum = 8 * n := by
      intro n
      induction n with
      | zero => rfl
      | succ n ih => rw [List.range_succ, List.map_append, List.sum_append, ih]; rfl
    exact this _
  · match b with
    | ⟨0, _⟩ => exact absurd rfl hb
    | ⟨1, _⟩ => rfl
  · show 8 * ((i 0).val / 8) + (i 0).val % 8 = (i 0).val
    omega

/-- The groups' rows, one after the other, are the gradient of the states. -/
theorem out_eq (t : ℕ) (ht : t < 512) (j : ℕ) (h : j < 512) (hs : s + 511 < 8192) (hj : ∀ j < 512, e 0 j * d 0 j = D.tail (8191 - (s + 511)) (512 * c + j)) :
    Scan.out (Scan.b3 (own D s c) (later D s c e)) (Scan.a3 (later D s c e)) (d 0) t j = D.g (s + t) (512 * c + j) :=
  D.out_eq_g s (512 * c) hs (later D s c e) (d 0) j (fun t ht => if_pos ht) (by rw [← hj j h]; exact congrArg (· * d 0 j) (if_neg (by omega))) t ht

/-- The groups from the last to the first. -/
theorem dg_eq (hs : s + 511 < 8192) (hj : ∀ j < 512, e 0 j * d 0 j = D.tail (8191 - (s + 511)) (512 * c + j)) :
    dg (blk D s c p) (carry d e x y z) = up2 (fun t j => D.g (s + t) (512 * c + j)) ∧
      k0_pay98 (b3 (blk D s c p) (carry d e x y z)) (a3 (blk D s c p) (carry d e x y z)) (g57 (blk D s c p) (carry d e x y z)) = up2 (fun t j => D.g (s + t) (512 * c + j)) := by
  have hr : row (F := Ideal) (carry d e x y z).dh = (up2 d : FVec Ideal S1x512 .f32) := row_up d
  have hb := b3_eq D s c p d e x y z
  have ha := a3_eq D s c p d e x y z
  have e0 : g0 (blk D s c p) (carry d e x y z) = _ := group_last d _ _ hb ha hr _ _
  have e1 : g1 (blk D s c p) (carry d e x y z) = _ := group_next d _ _ hb ha 0 496 rfl e0 _ _ _
  have e2 : g2 (blk D s c p) (carry d e x y z) = _ := group_next d _ _ hb ha 1 488 rfl e1 _ _ _
  have e3 : g3 (blk D s c p) (carry d e x y z) = _ := group_next d _ _ hb ha 2 480 rfl e2 _ _ _
  have e4 : g4 (blk D s c p) (carry d e x y z) = _ := group_next d _ _ hb ha 3 472 rfl e3 _ _ _
  have e5 : g5 (blk D s c p) (carry d e x y z) = _ := group_next d _ _ hb ha 4 464 rfl e4 _ _ _
  have e6 : g6 (blk D s c p) (carry d e x y z) = _ := group_next d _ _ hb ha 5 456 rfl e5 _ _ _
  have e7 : g7 (blk D s c p) (carry d e x y z) = _ := group_next d _ _ hb ha 6 448 rfl e6 _ _ _
  have e8 : g8 (blk D s c p) (carry d e x y z) = _ := group_next d _ _ hb ha 7 440 rfl e7 _ _ _
  have e9 : g9 (blk D s c p) (carry d e x y z) = _ := group_next d _ _ hb ha 8 432 rfl e8 _ _ _
  have e10 : g10 (blk D s c p) (carry d e x y z) = _ := group_next d _ _ hb ha 9 424 rfl e9 _ _ _
  have e11 : g11 (blk D s c p) (carry d e x y z) = _ := group_next d _ _ hb ha 10 416 rfl e10 _ _ _
  have e12 : g12 (blk D s c p) (carry d e x y z) = _ := group_next d _ _ hb ha 11 408 rfl e11 _ _ _
  have e13 : g13 (blk D s c p) (carry d e x y z) = _ := group_next d _ _ hb ha 12 400 rfl e12 _ _ _
  have e14 : g14 (blk D s c p) (carry d e x y z) = _ := group_next d _ _ hb ha 13 392 rfl e13 _ _ _
  have e15 : g15 (blk D s c p) (carry d e x y z) = _ := group_next d _ _ hb ha 14 384 rfl e14 _ _ _
  have e16 : g16 (blk D s c p) (carry d e x y z) = _ := group_next d _ _ hb ha 15 376 rfl e15 _ _ _
  have e17 : g17 (blk D s c p) (carry d e x y z) = _ := group_next d _ _ hb ha 16 368 rfl e16 _ _ _
  have e18 : g18 (blk D s c p) (carry d e x y z) = _ := group_next d _ _ hb ha 17 360 rfl e17 _ _ _
  have e19 : g19 (blk D s c p) (carry d e x y z) = _ := group_next d _ _ hb ha 18 352 rfl e18 _ _ _
  have e20 : g20 (blk D s c p) (carry d e x y z) = _ := group_next d _ _ hb ha 19 344 rfl e19 _ _ _
  have e21 : g21 (blk D s c p) (carry d e x y z) = _ := group_next d _ _ hb ha 20 336 rfl e20 _ _ _
  have e22 : g22 (blk D s c p) (carry d e x y z) = _ := group_next d _ _ hb ha 21 328 rfl e21 _ _ _
  have e23 : g23 (blk D s c p) (carry d e x y z) = _ := group_next d _ _ hb ha 22 320 rfl e22 _ _ _
  have e24 : g24 (blk D s c p) (carry d e x y z) = _ := group_next d _ _ hb ha 23 312 rfl e23 _ _ _
  have e25 : g25 (blk D s c p) (carry d e x y z) = _ := group_next d _ _ hb ha 24 304 rfl e24 _ _ _
  have e26 : g26 (blk D s c p) (carry d e x y z) = _ := group_next d _ _ hb ha 25 296 rfl e25 _ _ _
  have e27 : g27 (blk D s c p) (carry d e x y z) = _ := group_next d _ _ hb ha 26 288 rfl e26 _ _ _
  have e28 : g28 (blk D s c p) (carry d e x y z) = _ := group_next d _ _ hb ha 27 280 rfl e27 _ _ _
  have e29 : g29 (blk D s c p) (carry d e x y z) = _ := group_next d _ _ hb ha 28 272 rfl e28 _ _ _
  have e30 : g30 (blk D s c p) (carry d e x y z) = _ := group_next d _ _ hb ha 29 264 rfl e29 _ _ _
  have e31 : g31 (blk D s c p) (carry d e x y z) = _ := group_next d _ _ hb ha 30 256 rfl e30 _ _ _
  have e32 : g32 (blk D s c p) (carry d e x y z) = _ := group_next d _ _ hb ha 31 248 rfl e31 _ _ _
  have e33 : g33 (blk D s c p) (carry d e x y z) = _ := group_next d _ _ hb ha 32 240 rfl e32 _ _ _
  have e34 : g34 (blk D s c p) (carry d e x y z) = _ := group_next d _ _ hb ha 33 232 rfl e33 _ _ _
  have e35 : g35 (blk D s c p) (carry d e x y z) = _ := group_next d _ _ hb ha 34 224 rfl e34 _ _ _
  have e36 : g36 (blk D s c p) (carry d e x y z) = _ := group_next d _ _ hb ha 35 216 rfl e35 _ _ _
  have e37 : g37 (blk D s c p) (carry d e x y z) = _ := group_next d _ _ hb ha 36 208 rfl e36 _ _ _
  have e38 : g38 (blk D s c p) (carry d e x y z) = _ := group_next d _ _ hb ha 37 200 rfl e37 _ _ _
  have e39 : g39 (blk D s c p) (carry d e x y z) = _ := group_next d _ _ hb ha 38 192 rfl e38 _ _ _
  have e40 : g40 (blk D s c p) (carry d e x y z) = _ := group_next d _ _ hb ha 39 184 rfl e39 _ _ _
  have e41 : g41 (blk D s c p) (carry d e x y z) = _ := group_next d _ _ hb ha 40 176 rfl e40 _ _ _
  have e42 : g42 (blk D s c p) (carry d e x y z) = _ := group_next d _ _ hb ha 41 168 rfl e41 _ _ _
  have e43 : g43 (blk D s c p) (carry d e x y z) = _ := group_next d _ _ hb ha 42 160 rfl e42 _ _ _
  have e44 : g44 (blk D s c p) (carry d e x y z) = _ := group_next d _ _ hb ha 43 152 rfl e43 _ _ _
  have e45 : g45 (blk D s c p) (carry d e x y z) = _ := group_next d _ _ hb ha 44 144 rfl e44 _ _ _
  have e46 : g46 (blk D s c p) (carry d e x y z) = _ := group_next d _ _ hb ha 45 136 rfl e45 _ _ _
  have e47 : g47 (blk D s c p) (carry d e x y z) = _ := group_next d _ _ hb ha 46 128 rfl e46 _ _ _
  have e48 : g48 (blk D s c p) (carry d e x y z) = _ := group_next d _ _ hb ha 47 120 rfl e47 _ _ _
  have e49 : g49 (blk D s c p) (carry d e x y z) = _ := group_next d _ _ hb ha 48 112 rfl e48 _ _ _
  have e50 : g50 (blk D s c p) (carry d e x y z) = _ := group_next d _ _ hb ha 49 104 rfl e49 _ _ _
  have e51 : g51 (blk D s c p) (carry d e x y z) = _ := group_next d _ _ hb ha 50 96 rfl e50 _ _ _
  have e52 : g52 (blk D s c p) (carry d e x y z) = _ := group_next d _ _ hb ha 51 88 rfl e51 _ _ _
  have e53 : g53 (blk D s c p) (carry d e x y z) = _ := group_next d _ _ hb ha 52 80 rfl e52 _ _ _
  have e54 : g54 (blk D s c p) (carry d e x y z) = _ := group_next d _ _ hb ha 53 72 rfl e53 _ _ _
  have e55 : g55 (blk D s c p) (carry d e x y z) = _ := group_next d _ _ hb ha 54 64 rfl e54 _ _ _
  have e56 : g56 (blk D s c p) (carry d e x y z) = _ := group_next d _ _ hb ha 55 56 rfl e55 _ _ _
  have e57 : g57 (blk D s c p) (carry d e x y z) = _ := group_next d _ _ hb ha 56 48 rfl e56 _ _ _
  have e58 : k0_pay91 (b3 (blk D s c p) (carry d e x y z)) (a3 (blk D s c p) (carry d e x y z)) (g57 (blk D s c p) (carry d e x y z)) = _ := group_next d _ _ hb ha 57 40 rfl e57 _ _ _
  have e59 : k0_pay92 (b3 (blk D s c p) (carry d e x y z)) (a3 (blk D s c p) (carry d e x y z)) (g57 (blk D s c p) (carry d e x y z)) = _ := group_next d _ _ hb ha 58 32 rfl e58 _ _ _
  have e60 : k0_pay93 (b3 (blk D s c p) (carry d e x y z)) (a3 (blk D s c p) (carry d e x y z)) (g57 (blk D s c p) (carry d e x y z)) = _ := group_next d _ _ hb ha 59 24 rfl e59 _ _ _
  have e61 : k0_pay94 (b3 (blk D s c p) (carry d e x y z)) (a3 (blk D s c p) (carry d e x y z)) (g57 (blk D s c p) (carry d e x y z)) = _ := group_next d _ _ hb ha 60 16 rfl e60 _ _ _
  have e62 : k0_pay95 (b3 (blk D s c p) (carry d e x y z)) (a3 (blk D s c p) (carry d e x y z)) (g57 (blk D s c p) (carry d e x y z)) = _ := group_next d _ _ hb ha 61 8 rfl e61 _ _ _
  have e63 : k0_pay96 (b3 (blk D s c p) (carry d e x y z)) (a3 (blk D s c p) (carry d e x y z)) (g57 (blk D s c p) (carry d e x y z)) = _ := group_next d _ _ hb ha 62 0 rfl e62 _ _ _
  refine ⟨?_, ?_⟩
  · rw [dg, k0_pay97]
    refine (groups_eq _ (fun k => Scan.group (Scan.b3 (own D s c) (later D s c e)) (Scan.a3 (later D s c e)) (d 0) (63 - k)) ?_ _).trans
      (up2_congr fun t ht j h => out_eq D s c d e t ht j h hs hj)
    rw [e63, e62, e61, e60, e59, e58, e57, e56, e55, e54, e53, e52, e51, e50, e49, e48, e47, e46, e45, e44, e43, e42, e41, e40, e39, e38, e37, e36, e35, e34, e33, e32, e31, e30, e29, e28, e27, e26, e25, e24, e23, e22, e21, e20, e19, e18, e17, e16, e15, e14, e13, e12, e11, e10, e9, e8, e7, e6, e5, e4, e3, e2, e1, e0]
    rfl
  · rw [k0_pay98, cast_self, e63]
    refine up2_congr fun t ht j h => ?_
    rw [← out_eq D s c d e t (by omega) j h hs hj, Scan.out, show t / 8 = 0 by omega, show t % 8 = t by omega]

/-! ## The gradients -/

/-- A gate's gradient over a tile of two heads sent back through the weights, head by head. -/
theorem sent_back (w : ℕ → ℕ → ℕ → ℝ) (E : ℕ → ℕ → ℝ) (t j : ℕ) (hj : j < 512) :
    (if j < 256 then ∑ k ∈ range 256, E (s + (0 + t)) (512 * c + (0 + k)) * w (2 * c + 0) j k
      else ∑ k ∈ range 256, E (s + (0 + t)) (512 * c + (256 + k)) * w (2 * c + (1 + 0)) (j - 256) k) = Data.back w E (s + t) (512 * c + j) := by
  unfold Data.back
  split_ifs with h
  · rw [show (512 * c + j) / 256 = 2 * c by omega, show (512 * c + j) % 256 = j by omega, show 256 * (2 * c) = 512 * c by ring]
    simp only [zero_add, add_zero]
  · rw [show (512 * c + j) / 256 = 2 * c + 1 by omega, show (512 * c + j) % 256 = j - 256 by omega, show 256 * (2 * c + 1) = 512 * c + 256 by ring]
    simp only [zero_add, add_zero, add_assoc]

/-- The sixteen rows before the tile, as the tile at place `i1` from the end reads them. -/
theorem chosen (i1 : ℕ) (h : i1 < 16) : Scalar.select (Scalar.cmpi .slt (BitVec.ofNat 32 i1) 15#32) (up2 p : FVec Ideal S16x512 .f32) (up2 fun _ _ => 0)
    = up2 fun t j => if i1 < 15 then p t j else 0 := by
  have hc : ∀ i : Fin 16, Scalar.cmpi .slt (BitVec.ofNat 32 i.val) 15#32 = if i.val < 15 then 1#1 else 0#1 := by decide +kernel
  rw [hc ⟨i1, h⟩]
  by_cases h' : i1 < 15 <;> simp [Scalar.select, h']

variable (i1 : ℕ)

/-- The blocks and the carried values are those of the tile at place `i1` from the end. -/
structure At : Prop where
  above : Above D s c
  rows : s + 511 < 8192
  place : i1 < 16
  before : ∀ j < 512, (if i1 < 15 then p 15 j else 0) = D.before s (512 * c + j)
  tail : ∀ j < 512, e 0 j * d 0 j = D.tail (8191 - (s + 511)) (512 * c + j)

variable {D s c p d e i1} (H : At D s c p d e i1)
include H

theorem dlog_eq : dlog i1 (blk D s c p) (carry d e x y z) = up2 fun t j => D.dlog (s + t) (512 * c + j) := by
  have hv : (blk D s c p).v = (up2 fun t j => D.v (s + t) (512 * c + j) : FVec Ideal S512x512 .f32) := rfl
  have hh : (blk D s c p).hs = (up2 fun t j => D.h (s + t) (512 * c + j) : FVec Ideal S512x512 .f32) := rfl
  have hp : (blk D s c p).prev = (up2 p : FVec Ideal S16x512 .f32) := rfl
  rw [dlog, back, ig_eq, a_eq, rs_eq D s c p H.above, (dg_eq D s c p d e x y z H.rows H.tail).1, hv, hh, hp, k0_pay100, k0_pay102]
  simp only [const_zero, chosen p i1 H.place, to_join, join_below, ↓to_turn, turn_up, sliceAt, mul2, sub2]
  refine up2_congr fun t ht j hj => ?_
  have h1 : (16 + t + 528 - (1#32).toNat % 528) % 528 = t + 15 := by
    show (16 + t + 528 - 1) % 528 = t + 15; omega
  have h2 : (if t + 15 < 16 then (if i1 < 15 then p (t + 15) (0 + j) else 0) else D.h (s + (t + 15 - 16)) (512 * c + (0 + j))) = D.before (s + t) (512 * c + j) := by
    split_ifs with ha hb
    · obtain rfl : t = 0 := by omega
      have := H.before j hj
      rw [if_pos hb] at this
      simpa using this
    · obtain rfl : t = 0 := by omega
      have := H.before j hj
      rw [if_neg hb] at this
      simpa using this
    · rw [Data.before, if_neg (by omega), show s + (t + 15 - 16) = s + t - 1 by omega, zero_add]
  rw [h1, h2]
  rfl
theorem dpa_eq : dpa i1 (blk D s c p) (carry d e x y z) = up2 fun t j => D.dpa (s + t) (512 * c + j) := by
  have h := dlog_eq x y z H
  rw [dlog] at h
  rw [dpa, k0_pay103]
  simp only [h, r_eq, rate_eq, const_m8, const_one, spread, mul2, sub2]
  rfl
theorem dgm_eq : dgm (blk D s c p) (carry d e x y z) = up2 fun t j => D.dgm (s + t) (512 * c + j) := by
  rw [dgm, mult_eq D s c p H.above, (dg_eq D s c p d e x y z H.rows H.tail).1, k0_pay101, mul2]
  rfl
theorem dpi_eq : dpi (blk D s c p) (carry d e x y z) = up2 fun t j => D.dpi (s + t) (512 * c + j) := by
  have h := dgm_eq x y z H
  rw [dgm] at h
  have hv : (blk D s c p).v = (up2 fun t j => D.v (s + t) (512 * c + j) : FVec Ideal S512x512 .f32) := rfl
  rw [dpi, k0_pay104, h, ig_eq, hv]
  simp only [const_one, mul2, sub2]
  rfl
theorem dra_eq : dra i1 (blk D s c p) (carry d e x y z) = up2 fun t j => D.dpa (s + t) (512 * c + j) := by
  have h := dpa_eq x y z H
  rw [dpa] at h
  rw [dra, k0_pay105, h, trunc2]
theorem dia_eq : dia (blk D s c p) (carry d e x y z) = up2 fun t j => D.dpi (s + t) (512 * c + j) := by
  have h := dpi_eq x y z H
  rw [dpi] at h
  rw [dia, k0_pay106, h, trunc2]
theorem dv_eq : dv i1 (blk D s c p) (carry d e x y z) = up2 fun t j => D.dv (s + t) (512 * c + j) := by
  have h1 := dpa_eq x y z H
  have h2 := dpi_eq x y z H
  have h3 : fst (F := Ideal) (blk D s c p).wa = _ := fst_up fun q k j => D.wa (2 * c + q) k j
  have h4 : snd (F := Ideal) (blk D s c p).wa = _ := snd_up fun q k j => D.wa (2 * c + q) k j
  have h5 : fst (F := Ideal) (blk D s c p).wi = _ := fst_up fun q k j => D.wi (2 * c + q) k j
  have h6 : snd (F := Ideal) (blk D s c p).wi = _ := snd_up fun q k j => D.wi (2 * c + q) k j
  rw [dpa] at h1
  rw [dpi] at h2
  rw [dv, k0_pay107, k0_pay109, k0_pay108, k0_pay110, h1, h2, dgm_eq x y z H, ig_eq, h3, h4, h5, h6]
  simp only [trunc2, sliceAt, drop2, mmT, to_join, join_beside, mul2, add2]
  refine up2_congr fun t ht j hj => ?_
  rw [sent_back s c D.wa D.dpa t j hj, sent_back s c D.wi D.dpi t j hj]
  rfl
omit H in
/-- The sums of the columns of a tile. -/
theorem sums_eq {X : FVec Ideal S512x512 .f32} {f : ℕ → ℕ → ℝ} (hX : X = up2 f) (u : ℕ → ℝ) (h h' h'' hc) :
    addf (up2 fun _ j => u j : FVec Ideal S1x512 .f32) (shapeCast S1x512 (multiReduction (F := Ideal) .add [0] S512 X 0x00000000#32 h h' h'') hc)
      = up2 fun _ j => u j + ∑ t ∈ range 512, f t j := by
  subst hX
  rw [colSums, addRow, add2]
omit H in
theorem pay111_up (f : ℕ → ℕ → ℝ) (u : ℕ → ℝ) : k0_pay111 (F := Ideal) (up2 f : FVec Ideal S512x512 .f32) (up2 fun _ j => u j : FVec Ideal S1x512 .f32) = up2 fun _ j => u j + ∑ t ∈ range 512, f t j :=
  (congrArg (fun w => addf w _) (cast_self _ _)).trans (sums_eq rfl u _ _ _ _)
omit H in
theorem pay112_up (f : ℕ → ℕ → ℝ) (u : ℕ → ℝ) : k0_pay112 (F := Ideal) (up2 f : FVec Ideal S512x512 .f32) (up2 fun _ j => u j : FVec Ideal S1x512 .f32) = up2 fun _ j => u j + ∑ t ∈ range 512, f t j :=
  (congrArg (fun w => addf w _) (cast_self _ _)).trans (sums_eq rfl u _ _ _ _)
omit H in
theorem pay113_up (q f : ℕ → ℕ → ℝ) (u : ℕ → ℝ) : k0_pay113 (F := Ideal) (up2 q : FVec Ideal S512x512 .f32) (up2 f : FVec Ideal S512x512 .f32) (up2 fun _ j => u j : FVec Ideal S1x512 .f32) = up2 fun _ j => u j + ∑ t ∈ range 512, f t j * (-8 * q t j) :=
  (congrArg (fun w => addf w _) (cast_self _ _)).trans (sums_eq (by rw [const_m8, mul2, mul2]) u _ _ _ _)
/-- What the point hands on: the gradient and the decay of the tile's first rows, and the sums with the tile's rows. -/
theorem next_eq : next i1 (blk D s c p) (carry d e x y z) = carry (fun t j => D.g (s + t) (512 * c + j)) (fun t j => D.a (s + t) (512 * c + j))
    (fun j => x j + ∑ t ∈ range 512, D.dpa (s + t) (512 * c + j)) (fun j => y j + ∑ t ∈ range 512, D.dpi (s + t) (512 * c + j))
    (fun j => z j + ∑ t ∈ range 512, D.drate (s + t) (512 * c + j)) := by
  have hx : (carry d e x y z).gba = (up2 fun _ j => x j : FVec Ideal S1x512 .f32) := rfl
  have hy : (carry d e x y z).gbi = (up2 fun _ j => y j : FVec Ideal S1x512 .f32) := rfl
  have hz : (carry d e x y z).glam = (up2 fun _ j => z j : FVec Ideal S1x512 .f32) := rfl
  rw [next, (dg_eq D s c p d e x y z H.rows H.tail).2, a_eq, dpa_eq x y z H, dpi_eq x y z H, dlog_eq x y z H, r_eq, hx, hy, hz, k0_pay99]
  rw [pay111_up, pay112_up, pay113_up, cast_self, sliceAt]
  simp only [zero_add]
  rfl
omit H
theorem finish_eq : finish (blk D s c p) (carry d e x y z) = carry d e x y (fun j => z j * (0 - sig (0 - D.lam (512 * c + j)))) := by
  have hl : (blk D s c p).lam = (up2 fun _ j => D.lam (512 * c + j) : FVec Ideal S1x512 .f32) := rfl
  have hz : (carry d e x y z).glam = (up2 fun _ j => z j : FVec Ideal S1x512 .f32) := rfl
  rw [finish, hl, hz, k0_pay1]
  simp only [cast_self, const_zero, const_half, sub2, mul2, tanh2, add2, sig_eq_tanh]
  rfl

end TileValue

end
-- ==== Proof.KernelValue.lean ====
module

public import proofs.«01_k».proof.Proof.KernelRun
public import proofs.«01_k».proof.Proof.TileValue
public import Idealize.ShloMosaic.Lib.Pipeline.ValueKit.Geometry

/-!
What the kernel's seven result arrays hold when its arguments hold reals: the gradients of the specification.
-/

@[expose] public section

set_option maxRecDepth 16384

noncomputable section

namespace KernelValue

open Cert.KernelIdeal Cert.KernelIdeal.Gen
open Idealize.ShloMosaic Idealize.ShloMosaic.TcCoe Up Finset KernelRun Tile TileValue

variable (m : (ℓ : Loc nD τ sig) → Buf (Elt Ideal) ℓ) (c : Dev nD) (D : Data)

/-- The arguments hold the reals of `D`, and one less the squared decay is nowhere below the floor. -/
structure Holds : Prop where
  dy : m ((c : Thread nD τ).loc main_arg0) = (up2 D.dy : FVec Ideal S8192x2048 .f32)
  h : m ((c : Thread nD τ).loc main_arg1) = (up2 D.h : FVec Ideal S8192x2048 .f32)
  ug : ∃ P : ℕ → ℕ → ℝ, m ((c : Thread nD τ).loc main_arg2) = (up2 P : FVec Ideal S8192x9216 .f32) ∧ ∀ t j, D.ug t j = P t (3072 + j)
  wa : m ((c : Thread nD τ).loc main_arg3) = (up3 D.wa : FVec Ideal S8x256x256 .f32)
  wi : m ((c : Thread nD τ).loc main_arg4) = (up3 D.wi : FVec Ideal S8x256x256 .f32)
  v : m ((c : Thread nD τ).loc main_arg5) = (up2 D.v : FVec Ideal S8192x2048 .f32)
  ba : m ((c : Thread nD τ).loc main_arg6) = (up2 fun _ j => D.ba j : FVec Ideal S1x2048 .f32)
  bi : m ((c : Thread nD τ).loc main_arg7) = (up2 fun _ j => D.bi j : FVec Ideal S1x2048 .f32)
  lam : m ((c : Thread nD τ).loc main_arg8) = (up2 fun _ j => D.lam j : FVec Ideal S1x2048 .f32)
  above : ∀ t < 8192, ∀ j < 2048, Up.floor ≤ D.om t j

/-! ## The blocks a point reads -/

/-- Where each window's block lies: tiles of rows from the last, columns by the tile's number. -/
theorem at_tile : ∀ t : Fin cfg0.N, win0_0.index t = ![15 - t.val % 16, t.val / 16] ∧ win0_1.index t = ![15 - t.val % 16, t.val / 16]
    ∧ win0_2.index t = ![(15 - t.val % 16) * 32 - 1, t.val / 16] ∧ win0_3.index t = ![15 - t.val % 16, t.val / 16 + 6]
    ∧ win0_4.index t = ![t.val / 16, 0, 0] ∧ win0_5.index t = ![t.val / 16, 0, 0] ∧ win0_6.index t = ![15 - t.val % 16, t.val / 16]
    ∧ win0_7.index t = ![0, t.val / 16] ∧ win0_8.index t = ![0, t.val / 16] ∧ win0_9.index t = ![0, t.val / 16] := by decide +kernel

variable {m c D} (H : Holds m c D) (t : Fin cfg0.N)
include H

theorem blk_0 : iblk m c 0 t = (up2 fun r j => D.dy (512 * (15 - t.val % 16) + r) (512 * (t.val / 16) + j) : FVec Ideal S512x512 .f32) := by
  funext y
  have e := (at_tile t).1
  blk_simp [iblk]
  refine (congrFun ((V_main_arg0 m c).trans H.dy) _).trans ?_
  rw [up2_apply, up2_apply]
  blk_simp [e]
  rw [mul_comm (15 - t.val % 16) 512, mul_comm (t.val / 16) 512]

theorem blk_1 : iblk m c 1 t = (up2 fun r j => D.h (512 * (15 - t.val % 16) + r) (512 * (t.val / 16) + j) : FVec Ideal S512x512 .f32) := by
  funext y
  have e := (at_tile t).2.1
  blk_simp [iblk]
  refine (congrFun ((V_main_arg1 m c).trans H.h) _).trans ?_
  rw [up2_apply, up2_apply]
  blk_simp [e]
  rw [mul_comm (15 - t.val % 16) 512, mul_comm (t.val / 16) 512]

theorem blk_2 : iblk m c 2 t = (up2 fun r j => D.h (16 * ((15 - t.val % 16) * 32 - 1) + r) (512 * (t.val / 16) + j) : FVec Ideal S16x512 .f32) := by
  funext y
  have e := (at_tile t).2.2.1
  blk_simp [iblk]
  refine (congrFun ((V_main_arg1 m c).trans H.h) _).trans ?_
  rw [up2_apply, up2_apply]
  blk_simp [e]
  rw [mul_comm ((15 - t.val % 16) * 32 - 1) 16, mul_comm (t.val / 16) 512]

theorem blk_3 : iblk m c 3 t = (up2 fun r j => D.ug (512 * (15 - t.val % 16) + r) (512 * (t.val / 16) + j) : FVec Ideal S512x512 .f32) := by
  obtain ⟨P, hP, hu⟩ := H.ug
  funext y
  have e := (at_tile t).2.2.2.1
  blk_simp [iblk]
  refine (congrFun ((V_main_arg2 m c).trans hP) _).trans ?_
  rw [up2_apply, up2_apply, hu]
  blk_simp [e]
  rw [mul_comm (15 - t.val % 16) 512, show (t.val / 16 + 6) * 512 + (y 1).val = 3072 + (512 * (t.val / 16) + (y 1).val) by ring]

theorem blk_4 : iblk m c 4 t = (up3 fun q k j => D.wa (2 * (t.val / 16) + q) k j : FVec Ideal S2x256x256 .bf16) := by
  have hv : V m c main_v0 = (up3 D.wa : FVec Ideal S8x256x256 .bf16) := by
    have : V m c main_v0 = (fun x : FVec Ideal S8x256x256 .f32 => truncf .bf16 x bitsLt_bf16_f32) (m ((c : Thread nD τ).loc main_arg3)) := by
      simp only [V, hostOps0]
      after_results
    rw [this, H.wa]; rfl
  funext y
  have e := (at_tile t).2.2.2.2.1
  blk_simp [iblk]
  refine (congrFun hv _).trans ?_
  show ((D.wa _ _ _ : ℝ) : EReal) = ((D.wa _ _ _ : ℝ) : EReal)
  blk_simp [e]
  rw [mul_comm (t.val / 16) 2]

theorem blk_5 : iblk m c 5 t = (up3 fun q k j => D.wi (2 * (t.val / 16) + q) k j : FVec Ideal S2x256x256 .bf16) := by
  have hv : V m c main_v1 = (up3 D.wi : FVec Ideal S8x256x256 .bf16) := by
    have : V m c main_v1 = (fun x : FVec Ideal S8x256x256 .f32 => truncf .bf16 x bitsLt_bf16_f32) (m ((c : Thread nD τ).loc main_arg4)) := by
      simp only [V, hostOps0]
      after_results
    rw [this, H.wi]; rfl
  funext y
  have e := (at_tile t).2.2.2.2.2.1
  blk_simp [iblk]
  refine (congrFun hv _).trans ?_
  show ((D.wi _ _ _ : ℝ) : EReal) = ((D.wi _ _ _ : ℝ) : EReal)
  blk_simp [e]
  rw [mul_comm (t.val / 16) 2]

theorem blk_6 : iblk m c 6 t = (up2 fun r j => D.v (512 * (15 - t.val % 16) + r) (512 * (t.val / 16) + j) : FVec Ideal S512x512 .f32) := by
  funext y
  have e := (at_tile t).2.2.2.2.2.2.1
  blk_simp [iblk]
  refine (congrFun ((V_main_arg5 m c).trans H.v) _).trans ?_
  rw [up2_apply, up2_apply]
  blk_simp [e]
  rw [mul_comm (15 - t.val % 16) 512, mul_comm (t.val / 16) 512]

theorem blk_7 : iblk m c 7 t = (up2 fun _ j => D.ba (512 * (t.val / 16) + j) : FVec Ideal S1x512 .f32) := by
  funext y
  have e := (at_tile t).2.2.2.2.2.2.2.1
  blk_simp [iblk]
  refine (congrFun ((V_main_arg6 m c).trans H.ba) _).trans ?_
  rw [up2_apply, up2_apply]
  blk_simp [e]
  rw [mul_comm (t.val / 16) 512]

theorem blk_8 : iblk m c 8 t = (up2 fun _ j => D.bi (512 * (t.val / 16) + j) : FVec Ideal S1x512 .f32) := by
  funext y
  have e := (at_tile t).2.2.2.2.2.2.2.2.1
  blk_simp [iblk]
  refine (congrFun ((V_main_arg7 m c).trans H.bi) _).trans ?_
  rw [up2_apply, up2_apply]
  blk_simp [e]
  rw [mul_comm (t.val / 16) 512]

theorem blk_9 : iblk m c 9 t = (up2 fun _ j => D.lam (512 * (t.val / 16) + j) : FVec Ideal S1x512 .f32) := by
  funext y
  have e := (at_tile t).2.2.2.2.2.2.2.2.2
  blk_simp [iblk]
  refine (congrFun ((V_main_arg8 m c).trans H.lam) _).trans ?_
  rw [up2_apply, up2_apply]
  blk_simp [e]
  rw [mul_comm (t.val / 16) 512]

/-- A point's blocks are the specification's, read at its tile. -/
theorem blk_eq : KernelRun.blk m c t = TileValue.blk D (512 * (15 - t.val % 16)) (t.val / 16) (fun r j => D.h (16 * ((15 - t.val % 16) * 32 - 1) + r) (512 * (t.val / 16) + j)) := by
  unfold KernelRun.blk TileValue.blk
  rw [blk_0 H, blk_1 H, blk_2 H, blk_3 H, blk_4 H, blk_5 H, blk_6 H, blk_7 H, blk_8 H, blk_9 H]

omit H in
theorem tileNo_eq : ∀ t : Fin cfg0.N, tileNo t = t.val % 16 := by decide +kernel

/-! ## What the points leave -/

/-- The sums of the columns of a quantity over the tiles already met, from the last. -/
def tot (f : ℕ → ℕ → ℝ) (q i j : ℕ) : ℝ := ∑ k ∈ range (i + 1), ∑ t ∈ range 512, f (512 * (15 - k) + t) (512 * q + j)

omit H in
theorem tot_zero (f : ℕ → ℕ → ℝ) (q : ℕ) : tot f q 0 = fun j => 0 + ∑ t ∈ range 512, f (512 * 15 + t) (512 * q + j) := by
  funext j; simp [tot]
omit H in
theorem tot_succ (f : ℕ → ℕ → ℝ) (q i : ℕ) : tot f q (i + 1) = fun j => tot f q i j + ∑ t ∈ range 512, f (512 * (15 - (i + 1)) + t) (512 * q + j) := by
  funext j; rw [tot, sum_range_succ]; rfl
omit H in
/-- The sums over all sixteen tiles are the sums over all rows. -/
theorem tot_last (f : ℕ → ℕ → ℝ) (q j : ℕ) : tot f q 15 j = ∑ t ∈ range 8192, f t (512 * q + j) := by
  have h : ∀ n, ∑ k ∈ range n, ∑ t ∈ range 512, f (512 * k + t) (512 * q + j) = ∑ t ∈ range (512 * n), f t (512 * q + j) := fun n => by
    induction n with
    | zero => rfl
    | succ n ih => rw [sum_range_succ, ih, Nat.mul_succ, sum_range_add]
  have := h 16
  rw [← sum_range_reflect] at this
  exact this

/-- What the `i`-th point of a column of tiles hands on. -/
def given (D : Data) (q i : ℕ) : Carry Ideal :=
  carry (fun t j => D.g (512 * (15 - i) + t) (512 * q + j)) (fun t j => D.a (512 * (15 - i) + t) (512 * q + j))
    (tot D.dpa q i) (tot D.dpi q i) (tot D.drate q i)

/-- What the `i`-th point of a column of tiles leaves. -/
def leaves (D : Data) (q i : ℕ) (s : Carry Ideal) : Left Ideal :=
  ⟨(up2 fun t j => D.dpa (512 * (15 - i) + t) (512 * q + j) : FVec Ideal S512x512 .bf16),
    (up2 fun t j => D.dpi (512 * (15 - i) + t) (512 * q + j) : FVec Ideal S512x512 .bf16),
    (up2 fun t j => D.dv (512 * (15 - i) + t) (512 * q + j) : FVec Ideal S512x512 .f32),
    (up2 fun t j => D.dug (512 * (15 - i) + t) (512 * q + j) : FVec Ideal S512x512 .bf16), s⟩

/-- The last point's carry: the decay parameter's sum gets its slope. -/
def closing (D : Data) (q : ℕ) : Carry Ideal :=
  carry (fun t j => D.g t (512 * q + j)) (fun t j => D.a t (512 * q + j)) (tot D.dpa q 15) (tot D.dpi q 15)
    (fun j => tot D.drate q 15 j * (0 - sig (0 - D.lam (512 * q + j))))

theorem at_point (d e : ℕ → ℕ → ℝ) (ht : ∀ j < 512, e 0 j * d 0 j = D.tail (8191 - (512 * (15 - t.val % 16) + 511)) (512 * (t.val / 16) + j)) :
    TileValue.At D (512 * (15 - t.val % 16)) (t.val / 16) (fun r j => D.h (16 * ((15 - t.val % 16) * 32 - 1) + r) (512 * (t.val / 16) + j)) d e (t.val % 16) := by
  have hN : t.val < 64 := t.isLt
  refine ⟨fun r hr j hj => H.above _ (by omega) _ (by omega), by omega, by omega, fun j hj => ?_, ht⟩
  by_cases h : t.val % 16 < 15
  · rw [if_pos h, Data.before, if_neg (by omega)]
    congr 1; omega
  · rw [if_neg h, Data.before, if_pos (by omega)]

/-- What a point does, from a carry that holds the recurrence's tail. -/
theorem left_eq (d e : ℕ → ℕ → ℝ) (x y z : ℕ → ℝ) (ht : ∀ j < 512, e 0 j * d 0 j = D.tail (8191 - (512 * (15 - t.val % 16) + 511)) (512 * (t.val / 16) + j)) :
    left (tileNo t) (KernelRun.blk m c t) (carry d e x y z) = leaves D (t.val / 16) (t.val % 16)
      (carry (fun r j => D.g (512 * (15 - t.val % 16) + r) (512 * (t.val / 16) + j)) (fun r j => D.a (512 * (15 - t.val % 16) + r) (512 * (t.val / 16) + j))
        (fun j => x j + ∑ r ∈ range 512, D.dpa (512 * (15 - t.val % 16) + r) (512 * (t.val / 16) + j)) (fun j => y j + ∑ r ∈ range 512, D.dpi (512 * (15 - t.val % 16) + r) (512 * (t.val / 16) + j))
        (fun j => z j + ∑ r ∈ range 512, D.drate (512 * (15 - t.val % 16) + r) (512 * (t.val / 16) + j))) := by
  have A := at_point H t d e ht
  rw [blk_eq H, tileNo_eq, left, TileValue.dra_eq x y z A, TileValue.dia_eq x y z A, TileValue.dv_eq x y z A, TileValue.dug_eq, TileValue.next_eq x y z A]
  rfl

theorem outs_eq : ∀ n (h : n < cfg0.N), outs m c n h = leaves D (n / 16) (n % 16) (if n % 16 = 15 then closing D (n / 16) else given D (n / 16) (n % 16)) := by
  intro n
  induction n with
  | zero =>
    intro h
    rw [outs_first m c ⟨0, h⟩ rfl, TileValue.start_eq, left_eq H ⟨0, h⟩ (fun _ _ => 0) (fun _ _ => 0) (fun _ => 0) (fun _ => 0) (fun _ => 0) (fun j _ => by simp [Data.tail])]
    rw [if_neg (by decide)]
    simp only [given, Nat.zero_mod, tot_zero]
  | succ n ih =>
    intro h
    have hN : n + 1 < 64 := h
    have ih := ih (Nat.lt_of_succ_lt h)
    by_cases h0 : (n + 1) % 16 = 0
    · rw [outs_first m c ⟨n + 1, h⟩ h0, TileValue.start_eq, left_eq H ⟨n + 1, h⟩ (fun _ _ => 0) (fun _ _ => 0) (fun _ => 0) (fun _ => 0) (fun _ => 0) (fun j _ => by simp [h0, Data.tail])]
      rw [if_neg (by omega)]
      simp only [given, tot_zero, h0]
    · have hq : n / 16 = (n + 1) / 16 := by omega
      have hi : (n + 1) % 16 = n % 16 + 1 := by omega
      have hg : handed m c ⟨n + 1, h⟩ = given D ((n + 1) / 16) (n % 16) := by
        show (outs m c n _).out = _
        rw [ih, if_neg (by omega), hq]; rfl
      have ht : ∀ j < 512, D.a (512 * (15 - n % 16) + 0) (512 * ((n + 1) / 16) + j) * D.g (512 * (15 - n % 16) + 0) (512 * ((n + 1) / 16) + j)
          = D.tail (8191 - (512 * (15 - (n + 1) % 16) + 511)) (512 * ((n + 1) / 16) + j) := fun j _ => by
        rw [Data.tail_eq _ _ _ (by omega), show 512 * (15 - (n + 1) % 16) + 511 + 1 = 512 * (15 - n % 16) + 0 by omega]
      have hl := left_eq H ⟨n + 1, h⟩ (fun t j => D.g (512 * (15 - n % 16) + t) (512 * ((n + 1) / 16) + j)) (fun t j => D.a (512 * (15 - n % 16) + t) (512 * ((n + 1) / 16) + j)) (tot D.dpa ((n + 1) / 16) (n % 16)) (tot D.dpi ((n + 1) / 16) (n % 16)) (tot D.drate ((n + 1) / 16) (n % 16)) ht
      have hs : left (tileNo ⟨n + 1, h⟩) (KernelRun.blk m c ⟨n + 1, h⟩) (given D ((n + 1) / 16) (n % 16)) = leaves D ((n + 1) / 16) ((n + 1) % 16) (given D ((n + 1) / 16) ((n + 1) % 16)) := by
        refine hl.trans ?_
        simp only [given, hi, tot_succ]
      by_cases h1 : (n + 1) % 16 = 15
      · rw [outs_last m c ⟨n + 1, h⟩ h0 h1, if_pos h1, hg, leftLast, hs]
        have hn : next (tileNo ⟨n + 1, h⟩) (KernelRun.blk m c ⟨n + 1, h⟩) (given D ((n + 1) / 16) (n % 16)) = given D ((n + 1) / 16) ((n + 1) % 16) := congrArg Left.out hs
        rw [hn, blk_eq H, given, TileValue.finish_eq]
        simp only [leaves, closing, h1, Nat.sub_self, Nat.mul_zero, Nat.zero_add]
      · rw [outs_between m c ⟨n + 1, h⟩ h0 h1, if_neg h1, hg, hs]

/-! ## The result arrays -/

omit H in
/-- Where each result's block lies. -/
theorem lands : ∀ t : Fin cfg0.N, win0_10.index t = ![15 - t.val % 16, t.val / 16] ∧ win0_11.index t = ![15 - t.val % 16, t.val / 16]
    ∧ win0_12.index t = ![15 - t.val % 16, t.val / 16] ∧ win0_13.index t = ![15 - t.val % 16, t.val / 16]
    ∧ win0_14.index t = ![0, t.val / 16] ∧ win0_15.index t = ![0, t.val / 16] ∧ win0_16.index t = ![0, t.val / 16] := by decide +kernel

omit H in
/-- The three sums are written out by the last point of a column. -/
theorem flushed : ∀ t : Fin cfg0.N, ((cfg0.win 14).flush t = true → t.val % 16 = 15) ∧ ((cfg0.win 15).flush t = true → t.val % 16 = 15)
    ∧ ((cfg0.win 16).flush t = true → t.val % 16 = 15) := by decide +kernel

omit t

theorem arr_10 : (dats m 0 c).arrAt 10 cfg0.N = (up2 D.dpa : FVec Ideal S8192x2048 .bf16) := by
  refine (dats m 0 c).arrAt_eq_of_covers 10 _ (by decide +kernel) fun t hf y => ?_
  have e := (lands t).1
  have h : (dats m 0 c).after 10 t = (up2 fun r j => D.dpa (512 * (15 - t.val % 16) + r) (512 * (t.val / 16) + j) : FVec Ideal S512x512 .bf16) := by
    rw [after_10, outs_eq H]; rfl
  rw [h]
  blk_simp [e]
  rw [up2_apply, up2_apply]
  blk_simp [e]
  rw [mul_comm (15 - t.val % 16) 512, mul_comm (t.val / 16) 512]

theorem arr_11 : (dats m 0 c).arrAt 11 cfg0.N = (up2 D.dpi : FVec Ideal S8192x2048 .bf16) := by
  refine (dats m 0 c).arrAt_eq_of_covers 11 _ (by decide +kernel) fun t hf y => ?_
  have e := (lands t).2.1
  have h : (dats m 0 c).after 11 t = (up2 fun r j => D.dpi (512 * (15 - t.val % 16) + r) (512 * (t.val / 16) + j) : FVec Ideal S512x512 .bf16) := by
    rw [after_11, outs_eq H]; rfl
  rw [h]
  blk_simp [e]
  rw [up2_apply, up2_apply]
  blk_simp [e]
  rw [mul_comm (15 - t.val % 16) 512, mul_comm (t.val / 16) 512]

theorem arr_12 : (dats m 0 c).arrAt 12 cfg0.N = (up2 D.dv : FVec Ideal S8192x2048 .f32) := by
  refine (dats m 0 c).arrAt_eq_of_covers 12 _ (by decide +kernel) fun t hf y => ?_
  have e := (lands t).2.2.1
  have h : (dats m 0 c).after 12 t = (up2 fun r j => D.dv (512 * (15 - t.val % 16) + r) (512 * (t.val / 16) + j) : FVec Ideal S512x512 .f32) := by
    rw [after_12, outs_eq H]; rfl
  rw [h]
  blk_simp [e]
  rw [up2_apply, up2_apply]
  blk_simp [e]
  rw [mul_comm (15 - t.val % 16) 512, mul_comm (t.val / 16) 512]

theorem arr_13 : (dats m 0 c).arrAt 13 cfg0.N = (up2 D.dug : FVec Ideal S8192x2048 .bf16) := by
  refine (dats m 0 c).arrAt_eq_of_covers 13 _ (by decide +kernel) fun t hf y => ?_
  have e := (lands t).2.2.2.1
  have h : (dats m 0 c).after 13 t = (up2 fun r j => D.dug (512 * (15 - t.val % 16) + r) (512 * (t.val / 16) + j) : FVec Ideal S512x512 .bf16) := by
    rw [after_13, outs_eq H]; rfl
  rw [h]
  blk_simp [e]
  rw [up2_apply, up2_apply]
  blk_simp [e]
  rw [mul_comm (15 - t.val % 16) 512, mul_comm (t.val / 16) 512]

theorem arr_14 : (dats m 0 c).arrAt 14 cfg0.N = (up2 fun _ j => D.dba 8192 (j) : FVec Ideal S1x2048 .f32) := by
  refine (dats m 0 c).arrAt_eq_of_covers 14 _ (by decide +kernel) fun t hf y => ?_
  have e := (lands t).2.2.2.2.1
  have h : (dats m 0 c).after 14 t = (up2 fun _ j => D.dba 8192 (512 * (t.val / 16) + j) : FVec Ideal S1x512 .f32) := by
    rw [after_14, outs_eq H, if_pos ((flushed t).1 hf)]
    show (up2 fun _ j => tot D.dpa (t.val / 16) 15 j : FVec Ideal S1x512 .f32) = _
    simp only [tot_last]; rfl
  rw [h]
  blk_simp [e]
  rw [up2_apply, up2_apply]
  blk_simp [e]
  rw [mul_comm (t.val / 16) 512]

theorem arr_15 : (dats m 0 c).arrAt 15 cfg0.N = (up2 fun _ j => D.dbi 8192 (j) : FVec Ideal S1x2048 .f32) := by
  refine (dats m 0 c).arrAt_eq_of_covers 15 _ (by decide +kernel) fun t hf y => ?_
  have e := (lands t).2.2.2.2.2.1
  have h : (dats m 0 c).after 15 t = (up2 fun _ j => D.dbi 8192 (512 * (t.val / 16) + j) : FVec Ideal S1x512 .f32) := by
    rw [after_15, outs_eq H, if_pos ((flushed t).2.1 hf)]
    show (up2 fun _ j => tot D.dpi (t.val / 16) 15 j : FVec Ideal S1x512 .f32) = _
    simp only [tot_last]; rfl
  rw [h]
  blk_simp [e]
  rw [up2_apply, up2_apply]
  blk_simp [e]
  rw [mul_comm (t.val / 16) 512]

theorem arr_16 : (dats m 0 c).arrAt 16 cfg0.N = (up2 fun _ j => D.dlam (j) : FVec Ideal S1x2048 .f32) := by
  refine (dats m 0 c).arrAt_eq_of_covers 16 _ (by decide +kernel) fun t hf y => ?_
  have e := (lands t).2.2.2.2.2.2
  have h : (dats m 0 c).after 16 t = (up2 fun _ j => D.dlam (512 * (t.val / 16) + j) : FVec Ideal S1x512 .f32) := by
    rw [after_16, outs_eq H, if_pos ((flushed t).2.2 hf)]
    show (up2 fun _ j => tot D.drate (t.val / 16) 15 j * (0 - sig (0 - D.lam (512 * (t.val / 16) + j))) : FVec Ideal S1x512 .f32) = _
    simp only [tot_last]; rfl
  rw [h]
  blk_simp [e]
  rw [up2_apply, up2_apply]
  blk_simp [e]
  rw [mul_comm (t.val / 16) 512]

end KernelValue
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference program as lists of host operations: what runs before the forward loop, the forward loop's body, what runs
between the two loops, the reverse loop's body, and what runs after it; and that the program is the chain of these lists.
-/

@[expose] public section

set_option maxRecDepth 8000

noncomputable section

namespace RefOps

open Cert.ReferenceIdeal Cert.ReferenceIdeal.Gen
open Idealize.ShloMosaic Idealize.ShloMosaic.TcCoe Idealize.ShloMosaic.StableHlo Idealize.SL.Sem

variable {F : FTy → Type} [FloatOps F]

local notation "Ops" => List (HloOp τ sig (Elt F))

/-- The two gates' pre-activations, their sigmoids and the sigmoids' derivatives, the decay's factor and `-lam`. -/
abbrev gateOps : Ops :=
  [ nullary main_cst (constant S_ .f32 0x00000000#32),
    unary main_cst main_v0 (broadcastInDim S8192x2048 ![] bcast_S_S8192x2048),
    unary main_arg2 main_v1 (extractStridedSlice S8192x2048 ![0, 3072] · slices_S8192x9216_S8192x2048_0_3072),
    reshape main_arg5 main_v2 rfl shapeCasts_S8192x2048_S8192x8x256,
    binary main_arg3 main_v2 main_v3 (fun l r => Host.dotGeneral dot_S8x256x256_S8192x8x256_S8x256x8192_1_2_2_0_0_1 none l r),
    unary main_v3 main_v4 (transpose S8192x8x256 [2, 0, 1] · transposes_S8x256x8192_S8192x8x256_2_0_1),
    reshape main_v4 main_v5 rfl shapeCasts_S8192x8x256_S8192x2048,
    binary main_v5 main_v0 main_v6 addf,
    unary main_arg6 main_v7 (broadcastInDim S8192x2048 ![0, 1] bcast_S1x2048_S8192x2048_0_1),
    binary main_v6 main_v7 main_v8 addf,
    unary main_v8 main_v9 Host.negf,
    unary main_v9 main_v10 Host.exp,
    nullary main_cst_0 (constant S_ .f32 0x3F800000#32),
    unary main_cst_0 main_v11 (broadcastInDim S8192x2048 ![] bcast_S_S8192x2048),
    binary main_v11 main_v10 main_v12 addf,
    nullary main_cst_1 (constant S_ .f32 0x3F800000#32),
    unary main_cst_1 main_v13 (broadcastInDim S8192x2048 ![] bcast_S_S8192x2048),
    binary main_v13 main_v12 main_v14 Host.divf,
    nullary main_cst_2 (constant S_ .f32 0x3F800000#32),
    unary main_cst_2 main_v15 (broadcastInDim S8192x2048 ![] bcast_S_S8192x2048),
    binary main_v15 main_v14 main_v16 subf,
    binary main_v14 main_v16 main_v17 mulf,
    binary main_arg4 main_v2 main_v18 (fun l r => Host.dotGeneral dot_S8x256x256_S8192x8x256_S8x256x8192_1_2_2_0_0_1 none l r),
    unary main_v18 main_v19 (transpose S8192x8x256 [2, 0, 1] · transposes_S8x256x8192_S8192x8x256_2_0_1),
    reshape main_v19 main_v20 rfl shapeCasts_S8192x8x256_S8192x2048,
    binary main_v20 main_v0 main_v21 addf,
    unary main_arg7 main_v22 (broadcastInDim S8192x2048 ![0, 1] bcast_S1x2048_S8192x2048_0_1),
    binary main_v21 main_v22 main_v23 addf,
    unary main_v23 main_v24 Host.negf,
    unary main_v24 main_v25 Host.exp,
    nullary main_cst_3 (constant S_ .f32 0x3F800000#32),
    unary main_cst_3 main_v26 (broadcastInDim S8192x2048 ![] bcast_S_S8192x2048),
    binary main_v26 main_v25 main_v27 addf,
    nullary main_cst_4 (constant S_ .f32 0x3F800000#32),
    unary main_cst_4 main_v28 (broadcastInDim S8192x2048 ![] bcast_S_S8192x2048),
    binary main_v28 main_v27 main_v29 Host.divf,
    nullary main_cst_5 (constant S_ .f32 0x3F800000#32),
    unary main_cst_5 main_v30 (broadcastInDim S8192x2048 ![] bcast_S_S8192x2048),
    binary main_v30 main_v29 main_v31 subf,
    binary main_v29 main_v31 main_v32 mulf,
    nullary main_cst_6 (constant S_ .f32 0xC1000000#32),
    unary main_cst_6 main_v33 (broadcastInDim S8192x2048 ![] bcast_S_S8192x2048),
    binary main_v33 main_v14 main_v34 mulf,
    unary main_arg8 main_v35 Host.negf ]

/-- The softplus of `-lam` with the two factors its derivative takes. -/
abbrev softplusOps : Ops :=
  [ nullary main_call0_cst (constant S_ .f32 0x00000000#32),
    unary main_call0_cst main_call0_v0 (broadcastInDim S1x2048 ![] bcast_S_S1x2048),
    binary main_v35 main_call0_v0 main_call0_v1 maximumf,
    unary main_call0_cst main_call0_v2 (broadcastInDim S1x2048 ![] bcast_S_S1x2048),
    binary main_v35 main_call0_v2 main_call0_v3 subf,
    binary main_call0_v3 main_call0_v3 main_call0_v4 (cmpf .une),
    unary main_call0_cst main_call0_v5 (broadcastInDim S1x2048 ![] bcast_S_S1x2048),
    binary main_v35 main_call0_v5 main_call0_v6 addf,
    unary main_call0_v3 main_call0_v7 Host.absf,
    unary main_call0_v7 main_call0_v8 Host.negf,
    unary main_call0_v8 main_call0_v9 Host.exp,
    unary main_call0_v9 main_call0_v10 Host.log1p,
    binary main_call0_v1 main_call0_v10 main_call0_v11 addf,
    ternary main_call0_v4 main_call0_v6 main_call0_v11 main_v36_0 select,
    nullary main_call0_cst_0 (constant S_ .f32 0x7F800000#32),
    unary main_call0_cst_0 main_call0_v13 (broadcastInDim S1x2048 ![] bcast_S_S1x2048),
    binary main_v35 main_call0_v13 main_call0_v14 (cmpf .oeq),
    nullary main_call0_cst_1 (constant S_ .f32 0x00000000#32),
    unary main_call0_cst_1 main_call0_v15 (broadcastInDim S1x2048 ![] bcast_S_S1x2048),
    ternary main_call0_v14 main_call0_v15 main_v35 main_call0_v16 select,
    nullary main_call0_cst_2 (constant S_ .f32 0x7F800000#32),
    unary main_call0_cst_2 main_call0_v17 (broadcastInDim S1x2048 ![] bcast_S_S1x2048),
    binary main_v36_0 main_call0_v17 main_call0_v18 (cmpf .oeq),
    nullary main_call0_cst_3 (constant S_ .f32 0x00000000#32),
    unary main_call0_cst_3 main_call0_v19 (broadcastInDim S1x2048 ![] bcast_S_S1x2048),
    ternary main_call0_v18 main_call0_v19 main_v36_0 main_call0_v20 select,
    binary main_call0_v16 main_call0_v20 main_call0_v21 subf,
    unary main_call0_v21 main_v36_1 Host.exp,
    nullary main_call0_cst_4 (constant S_ .f32 0x00000000#32),
    nullary main_call0_cst_5 (constant S_ .f32 0x7F800000#32),
    binary main_call0_cst_4 main_call0_cst_5 main_call0_v23 (cmpf .oeq),
    nullary main_call0_cst_6 (constant S_ .f32 0x00000000#32),
    nullary main_call0_cst_7 (constant S_ .f32 0x00000000#32),
    ternary main_call0_v23 main_call0_cst_7 main_call0_cst_6 main_call0_v24 select,
    nullary main_call0_cst_8 (constant S_ .f32 0x7F800000#32),
    unary main_call0_cst_8 main_call0_v25 (broadcastInDim S1x2048 ![] bcast_S_S1x2048),
    binary main_v36_0 main_call0_v25 main_call0_v26 (cmpf .oeq),
    nullary main_call0_cst_9 (constant S_ .f32 0x00000000#32),
    unary main_call0_cst_9 main_call0_v27 (broadcastInDim S1x2048 ![] bcast_S_S1x2048),
    ternary main_call0_v26 main_call0_v27 main_v36_0 main_call0_v28 select,
    unary main_call0_v24 main_call0_v29 (broadcastInDim S1x2048 ![] bcast_S_S1x2048),
    binary main_call0_v29 main_call0_v28 main_call0_v30 subf,
    unary main_call0_v30 main_call0_v31 Host.exp,
    nullary main_call0_cst_10 (constant S_ .f32 0x00000000#32),
    unary main_call0_cst_10 main_call0_v32 (broadcastInDim S1x2048 ![] bcast_S_S1x2048),
    binary main_call0_v32 main_call0_v31 main_v36_2 mulf ]

/-- The decay, its logarithm and the input's multiplier. -/
abbrev decayOps : Ops :=
  [ unary main_v36_0 main_v37 (broadcastInDim S8192x2048 ![0, 1] bcast_S1x2048_S8192x2048_0_1),
    binary main_v34 main_v37 main_v38 mulf,
    unary main_v38 main_v39 Host.exp,
    nullary main_cst_7 (constant S_ .f32 0x40000000#32),
    unary main_cst_7 main_v40 (broadcastInDim S8192x2048 ![] bcast_S_S8192x2048),
    binary main_v40 main_v38 main_v41 mulf,
    unary main_v41 main_v42 Host.expm1,
    unary main_v41 main_v43 Host.exp,
    unary main_v42 main_v44 Host.negf,
    unary main_v44 main_v45 Host.sqrt,
    nullary main_cst_8 (constant S_ .f32 0x3F000000#32),
    unary main_cst_8 main_v46 (broadcastInDim S8192x2048 ![] bcast_S_S8192x2048),
    binary main_v46 main_v45 main_v47 Host.divf,
    binary main_v29 main_arg5 main_v48 mulf,
    binary main_v45 main_v48 main_v49 mulf ]

/-- The multiplier's derivative, the recurrence's input and the first loop's starting values. -/
abbrev entryOps : Ops :=
  [ nullary main_cst_9 (constant S_ .f32 0x00000000#32),
    unary main_cst_9 main_v50 (broadcastInDim S2048 ![] bcast_S_S2048),
    nullary main_cst_10 (constant S_ .f32 0x00000000#32),
    unary main_cst_10 main_v51 (broadcastInDim S8192x2048 ![] bcast_S_S8192x2048),
    nullary main_cst_11 (constant S_ .f32 0x00000000#32),
    unary main_cst_11 main_v52 (broadcastInDim S8192x2048 ![] bcast_S_S8192x2048),
    nullary main_c (constantI S_ 32 0#32),
    unary main_v39 main_v53_0 id,
    unary main_v49 main_v53_1 id,
    unary main_c main_v53_2 id,
    unary main_v50 main_v53_3 id,
    unary main_v51 main_v53_4 id,
    unary main_v52 main_v53_5 id ]

/-- The branch's `gelu`, its derivative's parts and the cotangents on both sides of the product. -/
abbrev geluOps : Ops :=
  [ binary main_v1 main_v1 main_v54 mulf,
    binary main_v54 main_v1 main_v55 mulf,
    binary main_v1 main_v1 main_v56 mulf,
    nullary main_cst_12 (constant S_ .f32 0x40400000#32),
    unary main_cst_12 main_v57 (broadcastInDim S8192x2048 ![] bcast_S_S8192x2048),
    binary main_v57 main_v56 main_v58 mulf,
    nullary main_cst_13 (constant S_ .f32 0x3D372713#32),
    unary main_cst_13 main_v59 (broadcastInDim S8192x2048 ![] bcast_S_S8192x2048),
    binary main_v59 main_v55 main_v60 mulf,
    binary main_v1 main_v60 main_v61 addf,
    nullary main_cst_14 (constant S_ .f32 0x3F4C422A#32),
    unary main_cst_14 main_v62 (broadcastInDim S8192x2048 ![] bcast_S_S8192x2048),
    binary main_v62 main_v61 main_v63 mulf,
    unary main_v63 main_v64 Host.tanh,
    nullary main_cst_15 (constant S_ .f32 0x3F800000#32),
    unary main_cst_15 main_v65 (broadcastInDim S8192x2048 ![] bcast_S_S8192x2048),
    binary main_v65 main_v64 main_v66 addf,
    nullary main_cst_16 (constant S_ .f32 0x3F800000#32),
    unary main_cst_16 main_v67 (broadcastInDim S8192x2048 ![] bcast_S_S8192x2048),
    binary main_v67 main_v64 main_v68 subf,
    binary main_v66 main_v68 main_v69 mulf,
    nullary main_cst_17 (constant S_ .f32 0x3F800000#32),
    unary main_cst_17 main_v70 (broadcastInDim S8192x2048 ![] bcast_S_S8192x2048),
    binary main_v70 main_v64 main_v71 addf,
    nullary main_cst_18 (constant S_ .f32 0x3F000000#32),
    unary main_cst_18 main_v72 (broadcastInDim S8192x2048 ![] bcast_S_S8192x2048),
    binary main_v72 main_v71 main_v73 mulf,
    binary main_v1 main_v73 main_v74 mulf,
    binary main_v53_4 main_v74 main_v75 mulf,
    nullary main_cst_19 (constant S_ .f32 0x00000000#32),
    unary main_cst_19 main_v76 (broadcastInDim S2048 ![] bcast_S_S2048),
    binary main_v53_4 main_arg0 main_v77 mulf,
    binary main_arg0 main_v74 main_v78 mulf,
    binary main_v1 main_v77 main_v79 mulf,
    binary main_v77 main_v73 main_v80 mulf,
    nullary main_cst_20 (constant S_ .f32 0x3F000000#32),
    unary main_cst_20 main_v81 (broadcastInDim S8192x2048 ![] bcast_S_S8192x2048),
    binary main_v81 main_v79 main_v82 mulf,
    binary main_v82 main_v69 main_v83 mulf,
    nullary main_cst_21 (constant S_ .f32 0x3F4C422A#32),
    unary main_cst_21 main_v84 (broadcastInDim S8192x2048 ![] bcast_S_S8192x2048),
    binary main_v84 main_v83 main_v85 mulf,
    binary main_v80 main_v85 main_v86 addf,
    nullary main_cst_22 (constant S_ .f32 0x3D372713#32),
    unary main_cst_22 main_v87 (broadcastInDim S8192x2048 ![] bcast_S_S8192x2048),
    binary main_v87 main_v85 main_v88 mulf ]

/-- The `gelu` cotangent's end and the second loop's starting values. -/
abbrev backOps : Ops :=
  [ binary main_v88 main_v58 main_v89 mulf,
    binary main_v86 main_v89 main_v90 addf,
    nullary main_cst_23 (constant S_ .f32 0x00000000#32),
    unary main_cst_23 main_v91 (broadcastInDim S2048 ![] bcast_S_S2048),
    nullary main_cst_24 (constant S_ .f32 0x00000000#32),
    unary main_cst_24 main_v92 (broadcastInDim S8192x2048 ![] bcast_S_S8192x2048),
    nullary main_cst_25 (constant S_ .f32 0x00000000#32),
    unary main_cst_25 main_v93 (broadcastInDim S8192x2048 ![] bcast_S_S8192x2048),
    nullary main_c_26 (constantI S_ 32 0#32),
    unary main_v78 main_v94_0 id,
    unary main_v53_5 main_v94_1 id,
    unary main_v39 main_v94_2 id,
    unary main_c_26 main_v94_3 id,
    unary main_v91 main_v94_4 id,
    unary main_v92 main_v94_5 id,
    unary main_v93 main_v94_6 id ]

/-- The cotangents of the multiplier, the decay and the softplus. -/
abbrev gradOps : Ops :=
  [ binary main_v45 main_v94_6 main_v95 mulf,
    binary main_v94_6 main_v48 main_v96 mulf,
    binary main_v29 main_v95 main_v97 mulf,
    binary main_v95 main_arg5 main_v98 mulf,
    binary main_v96 main_v47 main_v99 mulf,
    unary main_v99 main_v100 Host.negf,
    binary main_v100 main_v43 main_v101 mulf,
    nullary main_cst_27 (constant S_ .f32 0x40000000#32),
    unary main_cst_27 main_v102 (broadcastInDim S8192x2048 ![] bcast_S_S8192x2048),
    binary main_v102 main_v101 main_v103 mulf,
    binary main_v94_5 main_v39 main_v104 mulf,
    binary main_v103 main_v104 main_v105 addf,
    binary main_v34 main_v105 main_v106 mulf,
    nullary main_cst_28 (constant S_ .f32 0x00000000#32),
    binary main_v106 main_cst_28 main_v107 (fun x v => Host.reduceAdd x v reducesTo_S8192x2048_S2048_d0 h_S_),
    reshape main_v107 main_v108 rfl shapeCasts_S2048_S1x2048,
    unary main_v36_0 main_v109 (broadcastInDim S8192x2048 ![0, 1] bcast_S1x2048_S8192x2048_0_1),
    binary main_v105 main_v109 main_v110 mulf ]

/-- The softplus' derivative applied. -/
abbrev slopeOps : Ops :=
  [ binary main_v108 main_v36_1 main_v111 mulf ]

/-- The gates' cotangents, the sums over rows and the products with the gate weights. -/
abbrev backOps2 : Ops :=
  [ unary main_v111 main_v112 Host.negf,
    nullary main_cst_29 (constant S_ .f32 0xC1000000#32),
    unary main_cst_29 main_v113 (broadcastInDim S8192x2048 ![] bcast_S_S8192x2048),
    binary main_v113 main_v110 main_v114 mulf,
    binary main_v98 main_v32 main_v115 mulf,
    nullary main_cst_30 (constant S_ .f32 0x00000000#32),
    binary main_v115 main_cst_30 main_v116 (fun x v => Host.reduceAdd x v reducesTo_S8192x2048_S2048_d0 h_S_),
    reshape main_v116 main_v117 rfl shapeCasts_S2048_S1x2048,
    reshape main_v115 main_v118 rfl shapeCasts_S8192x2048_S8192x8x256,
    unary main_v118 main_v119 (transpose S8x256x8192 [1, 2, 0] · transposes_S8192x8x256_S8x256x8192_1_2_0),
    binary main_v119 main_arg4 main_v120 (fun l r => Host.dotGeneral dot_S8x256x8192_S8x256x256_S8x8192x256_1_2_2_1_0_0 none l r),
    unary main_v120 main_v121 (transpose S8192x8x256 [1, 0, 2] · transposes_S8x8192x256_S8192x8x256_1_0_2),
    binary main_v114 main_v17 main_v122 mulf,
    nullary main_cst_31 (constant S_ .f32 0x00000000#32),
    binary main_v122 main_cst_31 main_v123 (fun x v => Host.reduceAdd x v reducesTo_S8192x2048_S2048_d0 h_S_),
    reshape main_v123 main_v124 rfl shapeCasts_S2048_S1x2048,
    reshape main_v122 main_v125 rfl shapeCasts_S8192x2048_S8192x8x256,
    unary main_v125 main_v126 (transpose S8x256x8192 [1, 2, 0] · transposes_S8192x8x256_S8x256x8192_1_2_0),
    binary main_v126 main_arg3 main_v127 (fun l r => Host.dotGeneral dot_S8x256x8192_S8x256x256_S8x8192x256_1_2_2_1_0_0 none l r),
    unary main_v127 main_v128 (transpose S8192x8x256 [1, 0, 2] · transposes_S8x8192x256_S8192x8x256_1_0_2),
    binary main_v121 main_v128 main_v129 addf,
    reshape main_v129 main_v130 rfl shapeCasts_S8192x8x256_S8192x2048,
    binary main_v97 main_v130 main_v131 addf,
    unary main_v122 main_v132 (truncf .bf16 · bitsLt_bf16_f32) ]

/-- The results' casts. -/
abbrev lastOps : Ops :=
  [ unary main_v115 main_v133 (truncf .bf16 · bitsLt_bf16_f32),
    unary main_v90 main_v134 (truncf .bf16 · bitsLt_bf16_f32) ]

/-- The trip's row of the decay. -/
abbrev fwd0 : Ops :=
  [ TRef.nullary (.of main_while0b_call1_c : TRef sig ⟨S_, .i32⟩) (constantI S_ 32 0#32),
    TRef.unaryIndexed (.of main_v53_0 : TRef sig ⟨S8192x2048, .f32⟩) ![(.of main_v53_2 : TRef sig ⟨S_, .i32⟩), (.of main_while0b_call1_c : TRef sig ⟨S_, .i32⟩)] (.of main_while0b_call1_v0 : TRef sig ⟨S1x2048, .f32⟩) (fun x i => Host.dynamicSlice S1x2048 x (fun k => (i k (Shape.Idx.first h_S_)).toInt) sliceFits_S8192x2048_S1x2048),
    TRef.reshape (.of main_while0b_call1_v0 : TRef sig ⟨S1x2048, .f32⟩) (.of main_while0b_v135 : TRef sig ⟨S2048, .f32⟩) rfl shapeCasts_S1x2048_S2048 ]

/-- The trip's row of the input. -/
abbrev fwd1 : Ops :=
  [ TRef.nullary (.of main_while0b_call2_c : TRef sig ⟨S_, .i32⟩) (constantI S_ 32 0#32),
    TRef.unaryIndexed (.of main_v53_1 : TRef sig ⟨S8192x2048, .f32⟩) ![(.of main_v53_2 : TRef sig ⟨S_, .i32⟩), (.of main_while0b_call2_c : TRef sig ⟨S_, .i32⟩)] (.of main_while0b_call2_v0 : TRef sig ⟨S1x2048, .f32⟩) (fun x i => Host.dynamicSlice S1x2048 x (fun k => (i k (Shape.Idx.first h_S_)).toInt) sliceFits_S8192x2048_S1x2048),
    TRef.reshape (.of main_while0b_call2_v0 : TRef sig ⟨S1x2048, .f32⟩) (.of main_while0b_v136 : TRef sig ⟨S2048, .f32⟩) rfl shapeCasts_S1x2048_S2048 ]

/-- The recurrence's step. -/
abbrev fwd2 : Ops :=
  [ binary main_while0b_v135 main_v53_3 main_while0b_v137 mulf,
    binary main_while0b_v137 main_while0b_v136 main_while0b_v138 addf ]

/-- The new state into the stack of states. -/
abbrev fwd3 : Ops :=
  [ TRef.unary (.of main_while0b_v138 : TRef sig ⟨S2048, .f32⟩) (.of main_while0b_call3_v0 : TRef sig ⟨S1x2048, .f32⟩) (broadcastInDim S1x2048 ![1] bcast_S2048_S1x2048_1),
    TRef.nullary (.of main_while0b_call3_c : TRef sig ⟨S_, .i32⟩) (constantI S_ 32 0#32),
    TRef.binaryIndexed (.of main_v53_4 : TRef sig ⟨S8192x2048, .f32⟩) (.of main_while0b_call3_v0 : TRef sig ⟨S1x2048, .f32⟩) ![(.of main_v53_2 : TRef sig ⟨S_, .i32⟩), (.of main_while0b_call3_c : TRef sig ⟨S_, .i32⟩)] (.of main_while0b_v139 : TRef sig ⟨S8192x2048, .f32⟩) (fun x u i => Host.dynamicUpdateSlice x u (fun k => (i k (Shape.Idx.first h_S_)).toInt) updateFits_S8192x2048_S1x2048) ]

/-- The old state into the stack of earlier states. -/
abbrev fwd4 : Ops :=
  [ TRef.unary (.of main_v53_3 : TRef sig ⟨S2048, .f32⟩) (.of main_while0b_call4_v0 : TRef sig ⟨S1x2048, .f32⟩) (broadcastInDim S1x2048 ![1] bcast_S2048_S1x2048_1),
    TRef.nullary (.of main_while0b_call4_c : TRef sig ⟨S_, .i32⟩) (constantI S_ 32 0#32),
    TRef.binaryIndexed (.of main_v53_5 : TRef sig ⟨S8192x2048, .f32⟩) (.of main_while0b_call4_v0 : TRef sig ⟨S1x2048, .f32⟩) ![(.of main_v53_2 : TRef sig ⟨S_, .i32⟩), (.of main_while0b_call4_c : TRef sig ⟨S_, .i32⟩)] (.of main_while0b_v140 : TRef sig ⟨S8192x2048, .f32⟩) (fun x u i => Host.dynamicUpdateSlice x u (fun k => (i k (Shape.Idx.first h_S_)).toInt) updateFits_S8192x2048_S1x2048) ]

/-- The counter steps and the carried buffers take their new contents. -/
abbrev fwd5 : Ops :=
  [ nullary main_while0b_c_37 (constantI S_ 32 1#32),
    binary main_v53_2 main_while0b_c_37 main_while0b_v141 (addi),
    unary main_while0b_v141 main_v53_2 id,
    unary main_while0b_v138 main_v53_3 id,
    unary main_while0b_v139 main_v53_4 id,
    unary main_while0b_v140 main_v53_5 id ]

/-- The row this trip is at, counted from the last. -/
abbrev rev0 : Ops :=
  [ nullary main_while1b_c_38 (constantI S_ 32 8192#32),
    binary main_while1b_c_38 main_v94_3 main_while1b_v135 (subi),
    nullary main_while1b_c_39 (constantI S_ 32 1#32),
    binary main_while1b_v135 main_while1b_c_39 main_while1b_v136 (subi) ]

/-- The row of the state's cotangent. -/
abbrev rev1 : Ops :=
  [ TRef.nullary (.of main_while1b_call5_c : TRef sig ⟨S_, .i32⟩) (constantI S_ 32 0#32),
    TRef.unaryIndexed (.of main_v94_0 : TRef sig ⟨S8192x2048, .f32⟩) ![(.of main_while1b_v136 : TRef sig ⟨S_, .i32⟩), (.of main_while1b_call5_c : TRef sig ⟨S_, .i32⟩)] (.of main_while1b_call5_v0 : TRef sig ⟨S1x2048, .f32⟩) (fun x i => Host.dynamicSlice S1x2048 x (fun k => (i k (Shape.Idx.first h_S_)).toInt) sliceFits_S8192x2048_S1x2048),
    TRef.reshape (.of main_while1b_call5_v0 : TRef sig ⟨S1x2048, .f32⟩) (.of main_while1b_v137 : TRef sig ⟨S2048, .f32⟩) rfl shapeCasts_S1x2048_S2048 ]

/-- The row of the earlier states. -/
abbrev rev2 : Ops :=
  [ TRef.nullary (.of main_while1b_call6_c : TRef sig ⟨S_, .i32⟩) (constantI S_ 32 0#32),
    TRef.unaryIndexed (.of main_v94_1 : TRef sig ⟨S8192x2048, .f32⟩) ![(.of main_while1b_v136 : TRef sig ⟨S_, .i32⟩), (.of main_while1b_call6_c : TRef sig ⟨S_, .i32⟩)] (.of main_while1b_call6_v0 : TRef sig ⟨S1x2048, .f32⟩) (fun x i => Host.dynamicSlice S1x2048 x (fun k => (i k (Shape.Idx.first h_S_)).toInt) sliceFits_S8192x2048_S1x2048),
    TRef.reshape (.of main_while1b_call6_v0 : TRef sig ⟨S1x2048, .f32⟩) (.of main_while1b_v138 : TRef sig ⟨S2048, .f32⟩) rfl shapeCasts_S1x2048_S2048 ]

/-- The row of the decay. -/
abbrev rev3 : Ops :=
  [ TRef.nullary (.of main_while1b_call7_c : TRef sig ⟨S_, .i32⟩) (constantI S_ 32 0#32),
    TRef.unaryIndexed (.of main_v94_2 : TRef sig ⟨S8192x2048, .f32⟩) ![(.of main_while1b_v136 : TRef sig ⟨S_, .i32⟩), (.of main_while1b_call7_c : TRef sig ⟨S_, .i32⟩)] (.of main_while1b_call7_v0 : TRef sig ⟨S1x2048, .f32⟩) (fun x i => Host.dynamicSlice S1x2048 x (fun k => (i k (Shape.Idx.first h_S_)).toInt) sliceFits_S8192x2048_S1x2048),
    TRef.reshape (.of main_while1b_call7_v0 : TRef sig ⟨S1x2048, .f32⟩) (.of main_while1b_v139 : TRef sig ⟨S2048, .f32⟩) rfl shapeCasts_S1x2048_S2048 ]

/-- The cotangent's step. -/
abbrev rev4 : Ops :=
  [ binary main_v94_4 main_while1b_v137 main_while1b_v140 addf,
    binary main_while1b_v139 main_while1b_v140 main_while1b_v141 mulf,
    binary main_while1b_v140 main_while1b_v138 main_while1b_v142 mulf ]

/-- The decay's cotangent into its stack. -/
abbrev rev5 : Ops :=
  [ TRef.unary (.of main_while1b_v142 : TRef sig ⟨S2048, .f32⟩) (.of main_while1b_call8_v0 : TRef sig ⟨S1x2048, .f32⟩) (broadcastInDim S1x2048 ![1] bcast_S2048_S1x2048_1),
    TRef.nullary (.of main_while1b_call8_c : TRef sig ⟨S_, .i32⟩) (constantI S_ 32 0#32),
    TRef.binaryIndexed (.of main_v94_5 : TRef sig ⟨S8192x2048, .f32⟩) (.of main_while1b_call8_v0 : TRef sig ⟨S1x2048, .f32⟩) ![(.of main_while1b_v136 : TRef sig ⟨S_, .i32⟩), (.of main_while1b_call8_c : TRef sig ⟨S_, .i32⟩)] (.of main_while1b_v143 : TRef sig ⟨S8192x2048, .f32⟩) (fun x u i => Host.dynamicUpdateSlice x u (fun k => (i k (Shape.Idx.first h_S_)).toInt) updateFits_S8192x2048_S1x2048) ]

/-- The input's cotangent into its stack. -/
abbrev rev6 : Ops :=
  [ TRef.unary (.of main_while1b_v140 : TRef sig ⟨S2048, .f32⟩) (.of main_while1b_call9_v0 : TRef sig ⟨S1x2048, .f32⟩) (broadcastInDim S1x2048 ![1] bcast_S2048_S1x2048_1),
    TRef.nullary (.of main_while1b_call9_c : TRef sig ⟨S_, .i32⟩) (constantI S_ 32 0#32),
    TRef.binaryIndexed (.of main_v94_6 : TRef sig ⟨S8192x2048, .f32⟩) (.of main_while1b_call9_v0 : TRef sig ⟨S1x2048, .f32⟩) ![(.of main_while1b_v136 : TRef sig ⟨S_, .i32⟩), (.of main_while1b_call9_c : TRef sig ⟨S_, .i32⟩)] (.of main_while1b_v144 : TRef sig ⟨S8192x2048, .f32⟩) (fun x u i => Host.dynamicUpdateSlice x u (fun k => (i k (Shape.Idx.first h_S_)).toInt) updateFits_S8192x2048_S1x2048) ]

/-- The counter steps and the carried buffers take their new contents. -/
abbrev rev7 : Ops :=
  [ nullary main_while1b_c_40 (constantI S_ 32 1#32),
    binary main_v94_3 main_while1b_c_40 main_while1b_v145 (addi),
    unary main_while1b_v145 main_v94_3 id,
    unary main_while1b_v141 main_v94_4 id,
    unary main_while1b_v143 main_v94_5 id,
    unary main_while1b_v144 main_v94_6 id ]

/-- A host program of the reference. -/
abbrev Run (F : FTy → Type) [FloatOps F] := Prog (TpuEff nD τ sig (Elt F) (HostLoop.Sig (Pipeline.Sig Λ₀ (Fin 0) fun p => (pcfgs (F := F) p).Adm) 2) .tc) PUnit

/-- The forward loop's body is its lists in order. -/
theorem fwd_chain : main_while0_body (F := F) = (Pipeline.chain [seq fwd0, seq fwd1, seq fwd2, seq fwd3, seq fwd4, seq fwd5] : Run F) := by
  rewrite [Pipeline.chain_cons, Pipeline.chain_cons, chain_seq_cons, Pipeline.chain_cons, Pipeline.chain_cons, chain_seq_cons]
  chain_rfl

/-- The reverse loop's body is its lists in order. -/
theorem rev_chain : main_while1_body (F := F) = (Pipeline.chain [seq rev0, seq rev1, seq rev2, seq rev3, seq rev4, seq rev5, seq rev6, seq rev7] : Run F) := by
  rewrite [chain_seq_cons, Pipeline.chain_cons, Pipeline.chain_cons, Pipeline.chain_cons, chain_seq_cons, Pipeline.chain_cons, Pipeline.chain_cons, chain_seq_cons]
  chain_rfl

/-- The program's first part. -/
theorem part0_chain (c : Dev nD) : main_part0 (F := F) c = (Pipeline.chainK [seq gateOps, seq softplusOps] (seq decayOps) : Run F) := by
  rewrite [chainK_seq_cons, Pipeline.chainK_cons]
  chain_rfl

/-- The program's second part. -/
theorem part1_chain (c : Dev nD) : main_part1 (F := F) c = (Pipeline.chainK [seq entryOps, HostLoop.enter 0] (seq geluOps) : Run F) := by
  rewrite [chainK_seq_cons, Pipeline.chainK_cons]
  chain_rfl

/-- The program's third part. -/
theorem part2_chain (c : Dev nD) :
    main_part2 (F := F) c = (Pipeline.chainK [seq backOps, HostLoop.enter 1, seq gradOps, seq slopeOps] (seq backOps2) : Run F) := by
  rewrite [chainK_seq_cons, Pipeline.chainK_cons, chainK_seq_cons, Pipeline.chainK_cons]
  chain_rfl

/-- The program's last part. -/
theorem part3_chain (c : Dev nD) : main_part3 (F := F) c = (Pipeline.chain [seq lastOps] : Run F) := by
  rewrite [chain_seq_cons]
  chain_rfl

/-- The program is the lists before the forward loop, that loop, the lists between the loops, the reverse loop, and the lists after it. -/
theorem main_chain (c : Dev nD) : main (F := F) c = (Pipeline.chain [seq gateOps, seq softplusOps, seq decayOps, seq entryOps, HostLoop.enter 0,
    seq geluOps, seq backOps, HostLoop.enter 1, seq gradOps, seq slopeOps, seq backOps2, seq lastOps] : Run F) := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain, Pipeline.chainK_bind_chain]
  chain_rfl

/-! ## Which buffers each list writes -/

/-- The buffers `gateOps` writes, in order. -/
abbrev gateOpsW : List (Ref sig .tc) := [main_cst, main_v0, main_v1, main_v2, main_v3, main_v4, main_v5, main_v6, main_v7, main_v8, main_v9, main_v10, main_cst_0, main_v11, main_v12, main_cst_1, main_v13, main_v14, main_cst_2, main_v15, main_v16, main_v17, main_v18, main_v19, main_v20, main_v21, main_v22, main_v23, main_v24, main_v25, main_cst_3, main_v26, main_v27, main_cst_4, main_v28, main_v29, main_cst_5, main_v30, main_v31, main_v32, main_cst_6, main_v33, main_v34, main_v35]
theorem gateOps_writes : (gateOps : Ops).Forall fun op => op.writes ⊆ (gateOpsW.map (Proc.devRef (τ := τ) .tc)).toFinset := forall_writes_sub_of_map rfl
theorem gateOps_fresh : (gateOps : Ops).Forall fun op => op.fresh = ∅ := forall_fresh_of_map rfl
theorem gateOps_sub : (gateOps : Ops).Forall fun op => op.bufs ⊆ tcRefs τ sig := ⟨nullary_bufs_sub .., unary_bufs_sub .., unary_bufs_sub .., reshape_bufs_sub .., binary_bufs_sub .., unary_bufs_sub .., reshape_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

/-- The buffers `softplusOps` writes, in order. -/
abbrev softplusOpsW : List (Ref sig .tc) := [main_call0_cst, main_call0_v0, main_call0_v1, main_call0_v2, main_call0_v3, main_call0_v4, main_call0_v5, main_call0_v6, main_call0_v7, main_call0_v8, main_call0_v9, main_call0_v10, main_call0_v11, main_v36_0, main_call0_cst_0, main_call0_v13, main_call0_v14, main_call0_cst_1, main_call0_v15, main_call0_v16, main_call0_cst_2, main_call0_v17, main_call0_v18, main_call0_cst_3, main_call0_v19, main_call0_v20, main_call0_v21, main_v36_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v36_2]
theorem softplusOps_writes : (softplusOps : Ops).Forall fun op => op.writes ⊆ (softplusOpsW.map (Proc.devRef (τ := τ) .tc)).toFinset := forall_writes_sub_of_map rfl
theorem softplusOps_fresh : (softplusOps : Ops).Forall fun op => op.fresh = ∅ := forall_fresh_of_map rfl
theorem softplusOps_sub : (softplusOps : Ops).Forall fun op => op.bufs ⊆ tcRefs τ sig := ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub ..⟩

/-- The buffers `decayOps` writes, in order. -/
abbrev decayOpsW : List (Ref sig .tc) := [main_v37, main_v38, main_v39, main_cst_7, main_v40, main_v41, main_v42, main_v43, main_v44, main_v45, main_cst_8, main_v46, main_v47, main_v48, main_v49]
theorem decayOps_writes : (decayOps : Ops).Forall fun op => op.writes ⊆ (decayOpsW.map (Proc.devRef (τ := τ) .tc)).toFinset := forall_writes_sub_of_map rfl
theorem decayOps_fresh : (decayOps : Ops).Forall fun op => op.fresh = ∅ := forall_fresh_of_map rfl
theorem decayOps_sub : (decayOps : Ops).Forall fun op => op.bufs ⊆ tcRefs τ sig := ⟨unary_bufs_sub .., binary_bufs_sub .., unary_bufs_sub .., nullary_bufs_sub .., unary_bufs_sub .., binary_bufs_sub .., unary_bufs_sub .., unary_bufs_sub .., unary_bufs_sub .., unary_bufs_sub .., nullary_bufs_sub .., unary_bufs_sub .., binary_bufs_sub .., binary_bufs_sub .., binary_bufs_sub ..⟩

/-- The buffers `entryOps` writes, in order. -/
abbrev entryOpsW : List (Ref sig .tc) := [main_cst_9, main_v50, main_cst_10, main_v51, main_cst_11, main_v52, main_c, main_v53_0, main_v53_1, main_v53_2, main_v53_3, main_v53_4, main_v53_5]
theorem entryOps_writes : (entryOps : Ops).Forall fun op => op.writes ⊆ (entryOpsW.map (Proc.devRef (τ := τ) .tc)).toFinset := forall_writes_sub_of_map rfl
theorem entryOps_fresh : (entryOps : Ops).Forall fun op => op.fresh = ∅ := forall_fresh_of_map rfl
theorem entryOps_sub : (entryOps : Ops).Forall fun op => op.bufs ⊆ tcRefs τ sig := ⟨nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩

/-- The buffers `geluOps` writes, in order. -/
abbrev geluOpsW : List (Ref sig .tc) := [main_v54, main_v55, main_v56, main_cst_12, main_v57, main_v58, main_cst_13, main_v59, main_v60, main_v61, main_cst_14, main_v62, main_v63, main_v64, main_cst_15, main_v65, main_v66, main_cst_16, main_v67, main_v68, main_v69, main_cst_17, main_v70, main_v71, main_cst_18, main_v72, main_v73, main_v74, main_v75, main_cst_19, main_v76, main_v77, main_v78, main_v79, main_v80, main_cst_20, main_v81, main_v82, main_v83, main_cst_21, main_v84, main_v85, main_v86, main_cst_22, main_v87, main_v88]
theorem geluOps_writes : (geluOps : Ops).Forall fun op => op.writes ⊆ (geluOpsW.map (Proc.devRef (τ := τ) .tc)).toFinset := forall_writes_sub_of_map rfl
theorem geluOps_fresh : (geluOps : Ops).Forall fun op => op.fresh = ∅ := forall_fresh_of_map rfl
theorem geluOps_sub : (geluOps : Ops).Forall fun op => op.bufs ⊆ tcRefs τ sig := ⟨binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The buffers `backOps` writes, in order. -/
abbrev backOpsW : List (Ref sig .tc) := [main_v89, main_v90, main_cst_23, main_v91, main_cst_24, main_v92, main_cst_25, main_v93, main_c_26, main_v94_0, main_v94_1, main_v94_2, main_v94_3, main_v94_4, main_v94_5, main_v94_6]
theorem backOps_writes : (backOps : Ops).Forall fun op => op.writes ⊆ (backOpsW.map (Proc.devRef (τ := τ) .tc)).toFinset := forall_writes_sub_of_map rfl
theorem backOps_fresh : (backOps : Ops).Forall fun op => op.fresh = ∅ := forall_fresh_of_map rfl
theorem backOps_sub : (backOps : Ops).Forall fun op => op.bufs ⊆ tcRefs τ sig := ⟨binary_bufs_sub .., binary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩

/-- The buffers `gradOps` writes, in order. -/
abbrev gradOpsW : List (Ref sig .tc) := [main_v95, main_v96, main_v97, main_v98, main_v99, main_v100, main_v101, main_cst_27, main_v102, main_v103, main_v104, main_v105, main_v106, main_cst_28, main_v107, main_v108, main_v109, main_v110]
theorem gradOps_writes : (gradOps : Ops).Forall fun op => op.writes ⊆ (gradOpsW.map (Proc.devRef (τ := τ) .tc)).toFinset := forall_writes_sub_of_map rfl
theorem gradOps_fresh : (gradOps : Ops).Forall fun op => op.fresh = ∅ := forall_fresh_of_map rfl
theorem gradOps_sub : (gradOps : Ops).Forall fun op => op.bufs ⊆ tcRefs τ sig := ⟨binary_bufs_sub .., binary_bufs_sub .., binary_bufs_sub .., binary_bufs_sub .., binary_bufs_sub .., unary_bufs_sub .., binary_bufs_sub .., nullary_bufs_sub .., unary_bufs_sub .., binary_bufs_sub .., binary_bufs_sub .., binary_bufs_sub .., binary_bufs_sub .., nullary_bufs_sub .., binary_bufs_sub .., reshape_bufs_sub .., unary_bufs_sub .., binary_bufs_sub ..⟩

/-- The buffers `slopeOps` writes, in order. -/
abbrev slopeOpsW : List (Ref sig .tc) := [main_v111]
theorem slopeOps_writes : (slopeOps : Ops).Forall fun op => op.writes ⊆ (slopeOpsW.map (Proc.devRef (τ := τ) .tc)).toFinset := forall_writes_sub_of_map rfl
theorem slopeOps_fresh : (slopeOps : Ops).Forall fun op => op.fresh = ∅ := forall_fresh_of_map rfl
theorem slopeOps_sub : (slopeOps : Ops).Forall fun op => op.bufs ⊆ tcRefs τ sig := binary_bufs_sub ..

/-- The buffers `backOps2` writes, in order. -/
abbrev backOps2W : List (Ref sig .tc) := [main_v112, main_cst_29, main_v113, main_v114, main_v115, main_cst_30, main_v116, main_v117, main_v118, main_v119, main_v120, main_v121, main_v122, main_cst_31, main_v123, main_v124, main_v125, main_v126, main_v127, main_v128, main_v129, main_v130, main_v131, main_v132]
theorem backOps2_writes : (backOps2 : Ops).Forall fun op => op.writes ⊆ (backOps2W.map (Proc.devRef (τ := τ) .tc)).toFinset := forall_writes_sub_of_map rfl
theorem backOps2_fresh : (backOps2 : Ops).Forall fun op => op.fresh = ∅ := forall_fresh_of_map rfl
theorem backOps2_sub : (backOps2 : Ops).Forall fun op => op.bufs ⊆ tcRefs τ sig := ⟨unary_bufs_sub .., nullary_bufs_sub .., unary_bufs_sub .., binary_bufs_sub .., binary_bufs_sub .., nullary_bufs_sub .., binary_bufs_sub .., reshape_bufs_sub .., reshape_bufs_sub .., unary_bufs_sub .., binary_bufs_sub .., unary_bufs_sub .., binary_bufs_sub .., nullary_bufs_sub .., binary_bufs_sub .., reshape_bufs_sub .., reshape_bufs_sub .., unary_bufs_sub .., binary_bufs_sub .., unary_bufs_sub .., binary_bufs_sub .., reshape_bufs_sub .., binary_bufs_sub .., unary_bufs_sub ..⟩

/-- The buffers `lastOps` writes, in order. -/
abbrev lastOpsW : List (Ref sig .tc) := [main_v133, main_v134]
theorem lastOps_writes : (lastOps : Ops).Forall fun op => op.writes ⊆ (lastOpsW.map (Proc.devRef (τ := τ) .tc)).toFinset := forall_writes_sub_of_map rfl
theorem lastOps_fresh : (lastOps : Ops).Forall fun op => op.fresh = ∅ := forall_fresh_of_map rfl
theorem lastOps_sub : (lastOps : Ops).Forall fun op => op.bufs ⊆ tcRefs τ sig := ⟨unary_bufs_sub .., unary_bufs_sub ..⟩

/-- The buffers `fwd0` writes, in order. -/
abbrev fwd0W : List (Ref sig .tc) := [main_while0b_call1_c, main_while0b_call1_v0, main_while0b_v135]
theorem fwd0_writes : (fwd0 : Ops).Forall fun op => op.writes ⊆ (fwd0W.map (Proc.devRef (τ := τ) .tc)).toFinset := forall_writes_sub_of_map rfl
theorem fwd0_fresh : (fwd0 : Ops).Forall fun op => op.fresh = ∅ := forall_fresh_of_map rfl
theorem fwd0_sub : (fwd0 : Ops).Forall fun op => op.bufs ⊆ tcRefs τ sig := ⟨nullary_bufs_sub .., unaryIndexed_bufs_sub .., reshape_bufs_sub ..⟩

/-- The buffers `fwd1` writes, in order. -/
abbrev fwd1W : List (Ref sig .tc) := [main_while0b_call2_c, main_while0b_call2_v0, main_while0b_v136]
theorem fwd1_writes : (fwd1 : Ops).Forall fun op => op.writes ⊆ (fwd1W.map (Proc.devRef (τ := τ) .tc)).toFinset := forall_writes_sub_of_map rfl
theorem fwd1_fresh : (fwd1 : Ops).Forall fun op => op.fresh = ∅ := forall_fresh_of_map rfl
theorem fwd1_sub : (fwd1 : Ops).Forall fun op => op.bufs ⊆ tcRefs τ sig := ⟨nullary_bufs_sub .., unaryIndexed_bufs_sub .., reshape_bufs_sub ..⟩

/-- The buffers `fwd2` writes, in order. -/
abbrev fwd2W : List (Ref sig .tc) := [main_while0b_v137, main_while0b_v138]
theorem fwd2_writes : (fwd2 : Ops).Forall fun op => op.writes ⊆ (fwd2W.map (Proc.devRef (τ := τ) .tc)).toFinset := forall_writes_sub_of_map rfl
theorem fwd2_fresh : (fwd2 : Ops).Forall fun op => op.fresh = ∅ := forall_fresh_of_map rfl
theorem fwd2_sub : (fwd2 : Ops).Forall fun op => op.bufs ⊆ tcRefs τ sig := ⟨binary_bufs_sub .., binary_bufs_sub ..⟩

/-- The buffers `fwd3` writes, in order. -/
abbrev fwd3W : List (Ref sig .tc) := [main_while0b_call3_v0, main_while0b_call3_c, main_while0b_v139]
theorem fwd3_writes : (fwd3 : Ops).Forall fun op => op.writes ⊆ (fwd3W.map (Proc.devRef (τ := τ) .tc)).toFinset := forall_writes_sub_of_map rfl
theorem fwd3_fresh : (fwd3 : Ops).Forall fun op => op.fresh = ∅ := forall_fresh_of_map rfl
theorem fwd3_sub : (fwd3 : Ops).Forall fun op => op.bufs ⊆ tcRefs τ sig := ⟨unary_bufs_sub .., nullary_bufs_sub .., binaryIndexed_bufs_sub ..⟩

/-- The buffers `fwd4` writes, in order. -/
abbrev fwd4W : List (Ref sig .tc) := [main_while0b_call4_v0, main_while0b_call4_c, main_while0b_v140]
theorem fwd4_writes : (fwd4 : Ops).Forall fun op => op.writes ⊆ (fwd4W.map (Proc.devRef (τ := τ) .tc)).toFinset := forall_writes_sub_of_map rfl
theorem fwd4_fresh : (fwd4 : Ops).Forall fun op => op.fresh = ∅ := forall_fresh_of_map rfl
theorem fwd4_sub : (fwd4 : Ops).Forall fun op => op.bufs ⊆ tcRefs τ sig := ⟨unary_bufs_sub .., nullary_bufs_sub .., binaryIndexed_bufs_sub ..⟩

/-- The buffers `fwd5` writes, in order. -/
abbrev fwd5W : List (Ref sig .tc) := [main_while0b_c_37, main_while0b_v141, main_v53_2, main_v53_3, main_v53_4, main_v53_5]
theorem fwd5_writes : (fwd5 : Ops).Forall fun op => op.writes ⊆ (fwd5W.map (Proc.devRef (τ := τ) .tc)).toFinset := forall_writes_sub_of_map rfl
theorem fwd5_fresh : (fwd5 : Ops).Forall fun op => op.fresh = ∅ := forall_fresh_of_map rfl
theorem fwd5_sub : (fwd5 : Ops).Forall fun op => op.bufs ⊆ tcRefs τ sig := ⟨nullary_bufs_sub .., binary_bufs_sub .., unary_bufs_sub .., unary_bufs_sub .., unary_bufs_sub .., unary_bufs_sub ..⟩

/-- The buffers `rev0` writes, in order. -/
abbrev rev0W : List (Ref sig .tc) := [main_while1b_c_38, main_while1b_v135, main_while1b_c_39, main_while1b_v136]
theorem rev0_writes : (rev0 : Ops).Forall fun op => op.writes ⊆ (rev0W.map (Proc.devRef (τ := τ) .tc)).toFinset := forall_writes_sub_of_map rfl
theorem rev0_fresh : (rev0 : Ops).Forall fun op => op.fresh = ∅ := forall_fresh_of_map rfl
theorem rev0_sub : (rev0 : Ops).Forall fun op => op.bufs ⊆ tcRefs τ sig := ⟨nullary_bufs_sub .., binary_bufs_sub .., nullary_bufs_sub .., binary_bufs_sub ..⟩

/-- The buffers `rev1` writes, in order. -/
abbrev rev1W : List (Ref sig .tc) := [main_while1b_call5_c, main_while1b_call5_v0, main_while1b_v137]
theorem rev1_writes : (rev1 : Ops).Forall fun op => op.writes ⊆ (rev1W.map (Proc.devRef (τ := τ) .tc)).toFinset := forall_writes_sub_of_map rfl
theorem rev1_fresh : (rev1 : Ops).Forall fun op => op.fresh = ∅ := forall_fresh_of_map rfl
theorem rev1_sub : (rev1 : Ops).Forall fun op => op.bufs ⊆ tcRefs τ sig := ⟨nullary_bufs_sub .., unaryIndexed_bufs_sub .., reshape_bufs_sub ..⟩

/-- The buffers `rev2` writes, in order. -/
abbrev rev2W : List (Ref sig .tc) := [main_while1b_call6_c, main_while1b_call6_v0, main_while1b_v138]
theorem rev2_writes : (rev2 : Ops).Forall fun op => op.writes ⊆ (rev2W.map (Proc.devRef (τ := τ) .tc)).toFinset := forall_writes_sub_of_map rfl
theorem rev2_fresh : (rev2 : Ops).Forall fun op => op.fresh = ∅ := forall_fresh_of_map rfl
theorem rev2_sub : (rev2 : Ops).Forall fun op => op.bufs ⊆ tcRefs τ sig := ⟨nullary_bufs_sub .., unaryIndexed_bufs_sub .., reshape_bufs_sub ..⟩

/-- The buffers `rev3` writes, in order. -/
abbrev rev3W : List (Ref sig .tc) := [main_while1b_call7_c, main_while1b_call7_v0, main_while1b_v139]
theorem rev3_writes : (rev3 : Ops).Forall fun op => op.writes ⊆ (rev3W.map (Proc.devRef (τ := τ) .tc)).toFinset := forall_writes_sub_of_map rfl
theorem rev3_fresh : (rev3 : Ops).Forall fun op => op.fresh = ∅ := forall_fresh_of_map rfl
theorem rev3_sub : (rev3 : Ops).Forall fun op => op.bufs ⊆ tcRefs τ sig := ⟨nullary_bufs_sub .., unaryIndexed_bufs_sub .., reshape_bufs_sub ..⟩

/-- The buffers `rev4` writes, in order. -/
abbrev rev4W : List (Ref sig .tc) := [main_while1b_v140, main_while1b_v141, main_while1b_v142]
theorem rev4_writes : (rev4 : Ops).Forall fun op => op.writes ⊆ (rev4W.map (Proc.devRef (τ := τ) .tc)).toFinset := forall_writes_sub_of_map rfl
theorem rev4_fresh : (rev4 : Ops).Forall fun op => op.fresh = ∅ := forall_fresh_of_map rfl
theorem rev4_sub : (rev4 : Ops).Forall fun op => op.bufs ⊆ tcRefs τ sig := ⟨binary_bufs_sub .., binary_bufs_sub .., binary_bufs_sub ..⟩

/-- The buffers `rev5` writes, in order. -/
abbrev rev5W : List (Ref sig .tc) := [main_while1b_call8_v0, main_while1b_call8_c, main_while1b_v143]
theorem rev5_writes : (rev5 : Ops).Forall fun op => op.writes ⊆ (rev5W.map (Proc.devRef (τ := τ) .tc)).toFinset := forall_writes_sub_of_map rfl
theorem rev5_fresh : (rev5 : Ops).Forall fun op => op.fresh = ∅ := forall_fresh_of_map rfl
theorem rev5_sub : (rev5 : Ops).Forall fun op => op.bufs ⊆ tcRefs τ sig := ⟨unary_bufs_sub .., nullary_bufs_sub .., binaryIndexed_bufs_sub ..⟩

/-- The buffers `rev6` writes, in order. -/
abbrev rev6W : List (Ref sig .tc) := [main_while1b_call9_v0, main_while1b_call9_c, main_while1b_v144]
theorem rev6_writes : (rev6 : Ops).Forall fun op => op.writes ⊆ (rev6W.map (Proc.devRef (τ := τ) .tc)).toFinset := forall_writes_sub_of_map rfl
theorem rev6_fresh : (rev6 : Ops).Forall fun op => op.fresh = ∅ := forall_fresh_of_map rfl
theorem rev6_sub : (rev6 : Ops).Forall fun op => op.bufs ⊆ tcRefs τ sig := ⟨unary_bufs_sub .., nullary_bufs_sub .., binaryIndexed_bufs_sub ..⟩

/-- The buffers `rev7` writes, in order. -/
abbrev rev7W : List (Ref sig .tc) := [main_while1b_c_40, main_while1b_v145, main_v94_3, main_v94_4, main_v94_5, main_v94_6]
theorem rev7_writes : (rev7 : Ops).Forall fun op => op.writes ⊆ (rev7W.map (Proc.devRef (τ := τ) .tc)).toFinset := forall_writes_sub_of_map rfl
theorem rev7_fresh : (rev7 : Ops).Forall fun op => op.fresh = ∅ := forall_fresh_of_map rfl
theorem rev7_sub : (rev7 : Ops).Forall fun op => op.bufs ⊆ tcRefs τ sig := ⟨nullary_bufs_sub .., binary_bufs_sub .., unary_bufs_sub .., unary_bufs_sub .., unary_bufs_sub .., unary_bufs_sub ..⟩

end RefOps

end
-- ==== Proof.RefRun.lean ====
module

public import proofs.«01_k».proof.Proof.RefOps

/-!
The reference's run: every execution ends, and every buffer ends at the fold of the lists of `RefOps`, the forward loop's body
8192 times and the reverse loop's body 8192 times. The fold is named in five steps, `atGates` … `atEnd`.
-/

@[expose] public section

set_option maxRecDepth 8000

noncomputable section

namespace RefRun

open Cert.ReferenceIdeal Cert.ReferenceIdeal.Gen RefOps
open Idealize.ShloMosaic Idealize.ShloMosaic.TcCoe Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)

variable {F : FTy → Type} [FloatOps F]

local notation "Ops" => List (HloOp τ sig (Elt F))
local notation "𝕄" => MT nD τ sig Unit (Elt F) ℕ (Option PUnit) ℕ

/-! ## The five stretches and the two loops -/

abbrev preI : List Ops := [gateOps, softplusOps, decayOps, entryOps]
abbrev fwdI : List Ops := [fwd0, fwd1, fwd2, fwd3, fwd4, fwd5]
abbrev midI : List Ops := [geluOps, backOps]
abbrev revI : List Ops := [rev0, rev1, rev2, rev3, rev4, rev5, rev6, rev7]
abbrev postI : List Ops := [gradOps, slopeOps, backOps2, lastOps]

/-- A list whose operations touch the core's references only and allocate nothing, before a list of such lists. -/
theorem plain_cons {ops : Ops} {rest : List Ops} (hs : ops.Forall fun op => op.bufs ⊆ tcRefs τ sig)
    (hf : ops.Forall fun op => op.fresh = ∅) (h : Plain rest) : Plain (ops :: rest) :=
  Plain.cons hs h (List.forall_iff_forall_mem.mp hf)

theorem pre_plain : Plain (preI (F := F)) :=
  plain_cons gateOps_sub gateOps_fresh <| plain_cons softplusOps_sub softplusOps_fresh <| plain_cons decayOps_sub decayOps_fresh <|
    plain_cons entryOps_sub entryOps_fresh .nil
theorem fwd_plain : Plain (fwdI (F := F)) :=
  plain_cons fwd0_sub fwd0_fresh <| plain_cons fwd1_sub fwd1_fresh <| plain_cons fwd2_sub fwd2_fresh <| plain_cons fwd3_sub fwd3_fresh <|
    plain_cons fwd4_sub fwd4_fresh <| plain_cons fwd5_sub fwd5_fresh .nil
theorem mid_plain : Plain (midI (F := F)) := plain_cons geluOps_sub geluOps_fresh <| plain_cons backOps_sub backOps_fresh .nil
theorem rev_plain : Plain (revI (F := F)) :=
  plain_cons rev0_sub rev0_fresh <| plain_cons rev1_sub rev1_fresh <| plain_cons rev2_sub rev2_fresh <| plain_cons rev3_sub rev3_fresh <|
    plain_cons rev4_sub rev4_fresh <| plain_cons rev5_sub rev5_fresh <| plain_cons rev6_sub rev6_fresh <| plain_cons rev7_sub rev7_fresh .nil
theorem post_plain : Plain (postI (F := F)) :=
  plain_cons gradOps_sub gradOps_fresh <| plain_cons slopeOps_sub slopeOps_fresh <| plain_cons backOps2_sub backOps2_fresh <|
    plain_cons lastOps_sub lastOps_fresh .nil

/-- The forward loop's condition: the bound, and the counter compared with it. -/
abbrev fwdCond : Ops :=
  [ nullary main_while0c_c_37 (constantI S_ 32 8192#32), binary main_v53_2 main_while0c_c_37 main_while0c_v135 (cmpi .slt) ]
/-- The reverse loop's condition: the bound, and the counter compared with it. -/
abbrev revCond : Ops :=
  [ nullary main_while1c_c_38 (constantI S_ 32 8192#32), binary main_v94_3 main_while1c_c_38 main_while1c_v135 (cmpi .slt) ]

abbrev fwdCondW : List (Ref sig .tc) := [main_while0c_c_37, main_while0c_v135]
abbrev revCondW : List (Ref sig .tc) := [main_while1c_c_38, main_while1c_v135]
theorem fwdCond_writes : (fwdCond : Ops).Forall fun op => op.writes ⊆ (fwdCondW.map (Proc.devRef (τ := τ) .tc)).toFinset := forall_writes_sub_of_map rfl
theorem revCond_writes : (revCond : Ops).Forall fun op => op.writes ⊆ (revCondW.map (Proc.devRef (τ := τ) .tc)).toFinset := forall_writes_sub_of_map rfl

variable (m : (ℓ : Loc nD τ sig) → Buf (Elt F) ℓ) (ρ : Dev nD → PrngReg)

/-- The buffers before the forward loop. -/
def atEntry (c : Dev nD) : Valuation τ sig (Elt F) := afterL preI (launchContents m c)
/-- The buffers before the forward loop's `k`-th trip. -/
abbrev atFwd (k : ℕ) (c : Dev nD) : Valuation τ sig (Elt F) := atTrip fwdCond fwdI (atEntry m) k c
/-- The buffers between the loops' lists: the forward loop has ended. -/
def atStates (c : Dev nD) : Valuation τ sig (Elt F) := after fwdCond (atFwd m 8192 c)
/-- The buffers before the reverse loop. -/
def atTurn (c : Dev nD) : Valuation τ sig (Elt F) := afterL midI (atStates m c)
/-- The buffers before the reverse loop's `k`-th trip. -/
abbrev atRev (k : ℕ) (c : Dev nD) : Valuation τ sig (Elt F) := atTrip revCond revI (atTurn m) k c
/-- The buffers after the reverse loop. -/
def atGrads (c : Dev nD) : Valuation τ sig (Elt F) := after revCond (atRev m 8192 c)
/-- The buffers at the end. -/
def atEnd (c : Dev nD) : Valuation τ sig (Elt F) := afterL postI (atGrads m c)

/-! ## The loops' counters -/

/-- One forward trip leaves the counter one step on, whatever the buffers hold. -/
theorem fwd_counter (V : Valuation τ sig (Elt F)) : afterL fwdI (after fwdCond V) (Proc.devRef .tc main_v53_2) = addi (V (Proc.devRef .tc main_v53_2)) (constantI S_ 32 1#32) := by
  have h (X : Valuation τ sig (Elt F)) : after fwd5 X (Proc.devRef .tc main_v53_2) = addi (X (Proc.devRef .tc main_v53_2)) (constantI S_ 32 1#32) := by
    after_results
    rfl
  simp only [afterL_cons, afterL_nil]
  rw [h, after_of_writes_sub fwd4 _ fwd4_writes (by decide +kernel), after_of_writes_sub fwd3 _ fwd3_writes (by decide +kernel),
    after_of_writes_sub fwd2 _ fwd2_writes (by decide +kernel), after_of_writes_sub fwd1 _ fwd1_writes (by decide +kernel),
    after_of_writes_sub fwd0 _ fwd0_writes (by decide +kernel), after_of_writes_sub fwdCond _ fwdCond_writes (by decide +kernel)]

/-- One reverse trip leaves the counter one step on, whatever the buffers hold. -/
theorem rev_counter (V : Valuation τ sig (Elt F)) : afterL revI (after revCond V) (Proc.devRef .tc main_v94_3) = addi (V (Proc.devRef .tc main_v94_3)) (constantI S_ 32 1#32) := by
  have h (X : Valuation τ sig (Elt F)) : after rev7 X (Proc.devRef .tc main_v94_3) = addi (X (Proc.devRef .tc main_v94_3)) (constantI S_ 32 1#32) := by
    after_results
    rfl
  simp only [afterL_cons, afterL_nil]
  rw [h, after_of_writes_sub rev6 _ rev6_writes (by decide +kernel), after_of_writes_sub rev5 _ rev5_writes (by decide +kernel),
    after_of_writes_sub rev4 _ rev4_writes (by decide +kernel), after_of_writes_sub rev3 _ rev3_writes (by decide +kernel),
    after_of_writes_sub rev2 _ rev2_writes (by decide +kernel), after_of_writes_sub rev1 _ rev1_writes (by decide +kernel),
    after_of_writes_sub rev0 _ rev0_writes (by decide +kernel), after_of_writes_sub revCond _ revCond_writes (by decide +kernel)]

/-- Before the forward loop's `k`-th trip the counter is `k`. -/
theorem atFwd_counter (c : Dev nD) : ∀ k, atFwd m k c (Proc.devRef .tc main_v53_2) = fun _ => Scf.iv 0#32 1#32 k
  | 0 => by
    rw [Scf.iv_zero, show atFwd m 0 c = afterL preI (launchContents m c) from rfl]
    simp only [afterL_cons, afterL_nil]
    after_reads_simp
    rfl
  | k + 1 => by
    rw [show atFwd m (k + 1) c = afterL fwdI (after fwdCond (atFwd m k c)) from rfl, fwd_counter, atFwd_counter c k, Scf.iv_succ]
    rfl

/-- Before the reverse loop's `k`-th trip the counter is `k`. -/
theorem atRev_counter (c : Dev nD) : ∀ k, atRev m k c (Proc.devRef .tc main_v94_3) = fun _ => Scf.iv 0#32 1#32 k
  | 0 => by
    rw [Scf.iv_zero, show atRev m 0 c = afterL midI (atStates m c) from rfl]
    simp only [afterL_cons, afterL_nil]
    after_reads_simp
    rfl
  | k + 1 => by
    rw [show atRev m (k + 1) c = afterL revI (after revCond (atRev m k c)) from rfl, rev_counter, atRev_counter c k, Scf.iv_succ]
    rfl

/-! ## The run -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev lev : GSem nD τ sig → Finset Unit := fun _ => ∅
abbrev lv : GSem nD τ sig → Unit → ℕ := fun _ _ => 0
/-- What rides beside the buffers: that the core owes nothing. -/
abbrev rest (c : Dev nD) : sProp 𝕄 := iprop(∃ W, owes (c : Thread nD τ) (0 : CellTallies nD τ sig Unit) W)

set_option backward.isDefEq.respectTransparency.types false in
/-- The forward loop's condition holds before each of its 8192 trips and fails after the last. -/
theorem fwd_cond : LoopCond (pcfgs (F := F)) defs₀ Variants.none loops rest main_while0_cond fwdCond fwdI (atEntry m) 8192 := by
  intro k hk c bd
  have hctr := atFwd_counter m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atFwd m k c) main_v53_2 HostLoop.idx0)
        (HloOp.result _ (atFwd m k c) main_while0c_c_37 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitr [HR]
  · rw [after_cons, after_cons, after_nil]; iexact Hh
  iexact HR

set_option backward.isDefEq.respectTransparency.types false in
/-- The reverse loop's condition holds before each of its 8192 trips and fails after the last. -/
theorem rev_cond : LoopCond (pcfgs (F := F)) defs₀ Variants.none loops rest main_while1_cond revCond revI (atTurn m) 8192 := by
  intro k hk c bd
  have hctr := atRev_counter m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atRev m k c) main_v94_3 HostLoop.idx0)
        (HloOp.result _ (atRev m k c) main_while1c_c_38 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitr [HR]
  · rw [after_cons, after_cons, after_nil]; iexact Hh
  iexact HR

/-- The forward loop as one segment of the program. -/
abbrev fwdSeg : CSeg (pcfgs (F := F)) adm defs₀ Variants.none lev lv loops tk :=
  loopSeg _ _ _ _ _ _ _ _ 0 main_while0_cond main_while0_body rfl fwdCond fwdI fwd_plain (by rw [fwd_chain]; rfl) 8192 (atEntry m) rest (fwd_cond m)
/-- The reverse loop as one segment of the program. -/
abbrev revSeg : CSeg (pcfgs (F := F)) adm defs₀ Variants.none lev lv loops tk :=
  loopSeg _ _ _ _ _ _ _ _ 1 main_while1_cond main_while1_body rfl revCond revI rev_plain (by rw [rev_chain]; rfl) 8192 (atTurn m) rest (rev_cond m)
/-- A list of stretches as segments. -/
abbrev plainSegs (items : List Ops) (h : Plain items) (V : Dev nD → Valuation τ sig (Elt F)) : List (CSeg (pcfgs (F := F)) adm defs₀ Variants.none lev lv loops tk) :=
  segsOf _ _ _ _ _ _ _ _ rest items h V

/-- The program's segments. -/
def segs : List (CSeg (pcfgs (F := F)) adm defs₀ Variants.none lev lv loops tk) :=
  plainSegs preI pre_plain (launchContents m) ++ fwdSeg m :: (plainSegs midI mid_plain (atStates m) ++ revSeg m :: plainSegs postI post_plain (atGrads m))

/-- The segments' programs are the program's items. -/
theorem segs_prog : (segs m).map CSeg.prog = ((preI.map fun ops => (seq ops : Run F)) ++ HostLoop.enter 0
    :: ((midI.map fun ops => (seq ops : Run F)) ++ HostLoop.enter 1 :: postI.map fun ops => (seq ops : Run F))) := by
  unfold segs
  rw [List.map_append, List.map_cons, List.map_append, List.map_cons, segsOf_prog, segsOf_prog, segsOf_prog]
  rfl

/-- The program is its segments in order. -/
theorem main_segs (c : Dev nD) : main (F := F) c = Pipeline.chain ((segs m).map CSeg.prog) := by
  rw [segs_prog, main_chain c]
  rfl

/-- The segments follow on one another, from the launch's buffers to the fold's end. -/
theorem segs_chains : CSeg.Chains (fun c => iprop(held (c : Thread nD τ) (ucRefs τ sig) (launchContents m c) ∗ rest c)) (segs m)
    (fun c => iprop(held (c : Thread nD τ) (ucRefs τ sig) (atEnd m c) ∗ rest c)) := by
  unfold segs
  refine CSeg.Chains.append (segsOf_chains _ _ _ _ _ _ _ _ rest preI pre_plain _) ⟨fun _ => .rfl, ?_⟩
  refine CSeg.Chains.append (segsOf_chains _ _ _ _ _ _ _ _ rest midI mid_plain _) ⟨fun _ => .rfl, ?_⟩
  exact segsOf_chains _ _ _ _ _ _ _ _ rest postI post_plain _

/-- On every device, from any memory with zero counters, every execution of the reference ends with every buffer at the fold. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none lev lv loops tk m ρ main (segs m)
    (fun c Q => by
      rw [main_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest c))
    (Tₙ := fun c => iprop(held (c : Thread nD τ) (ucRefs τ sig) (atEnd m c)))
    (hch := segs_chains m)
    (hinit := by
      refine Pipeline.initEach lev lv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end RefRun

end
-- ==== Proof.RefFrame.lean ====
module

public import proofs.«01_k».proof.Proof.RefRun

/-!
What the reference's program leaves alone: a buffer no list of operations writes keeps its contents, through both loops. With it
the frame: the nine arguments end unchanged and no semaphore is left raised.
-/

@[expose] public section

set_option maxRecDepth 8000

noncomputable section

namespace RefRun
open Cert.ReferenceIdeal Cert.ReferenceIdeal.Gen RefOps
open Idealize.ShloMosaic Idealize.ShloMosaic.TcCoe Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)
variable {F : FTy → Type} [FloatOps F]
local notation "Ops" => List (HloOp τ sig (Elt F))
local notation "𝕄" => MT nD τ sig Unit (Elt F) ℕ (Option PUnit) ℕ

/-- The buffers the lines before the forward loop may write. -/
abbrev preW : List (List (Ref sig .tc)) := [gateOpsW, softplusOpsW, decayOpsW, entryOpsW]
theorem pre_keep (V : Valuation τ sig (Elt F)) (r : Ref sig .tc) (h : ∀ W ∈ preW, r ∉ W) :
    afterL preI V (Proc.devRef .tc r) = V (Proc.devRef .tc r) := by
  simp only [afterL_cons, afterL_nil]
  rw [after_of_writes_sub entryOps _ entryOps_writes (h _ (by simp)), after_of_writes_sub decayOps _ decayOps_writes (h _ (by simp)), after_of_writes_sub softplusOps _ softplusOps_writes (h _ (by simp)), after_of_writes_sub gateOps _ gateOps_writes (h _ (by simp))]

/-- The buffers a forward trip may write. -/
abbrev fwdW : List (List (Ref sig .tc)) := [fwd0W, fwd1W, fwd2W, fwd3W, fwd4W, fwd5W]
theorem fwd_keep (V : Valuation τ sig (Elt F)) (r : Ref sig .tc) (h : ∀ W ∈ fwdW, r ∉ W) :
    afterL fwdI V (Proc.devRef .tc r) = V (Proc.devRef .tc r) := by
  simp only [afterL_cons, afterL_nil]
  rw [after_of_writes_sub fwd5 _ fwd5_writes (h _ (by simp)), after_of_writes_sub fwd4 _ fwd4_writes (h _ (by simp)), after_of_writes_sub fwd3 _ fwd3_writes (h _ (by simp)), after_of_writes_sub fwd2 _ fwd2_writes (h _ (by simp)), after_of_writes_sub fwd1 _ fwd1_writes (h _ (by simp)), after_of_writes_sub fwd0 _ fwd0_writes (h _ (by simp))]

/-- The buffers the lines between the loops may write. -/
abbrev midW : List (List (Ref sig .tc)) := [geluOpsW, backOpsW]
theorem mid_keep (V : Valuation τ sig (Elt F)) (r : Ref sig .tc) (h : ∀ W ∈ midW, r ∉ W) :
    afterL midI V (Proc.devRef .tc r) = V (Proc.devRef .tc r) := by
  simp only [afterL_cons, afterL_nil]
  rw [after_of_writes_sub backOps _ backOps_writes (h _ (by simp)), after_of_writes_sub geluOps _ geluOps_writes (h _ (by simp))]

/-- The buffers a reverse trip may write. -/
abbrev revW : List (List (Ref sig .tc)) := [rev0W, rev1W, rev2W, rev3W, rev4W, rev5W, rev6W, rev7W]
theorem rev_keep (V : Valuation τ sig (Elt F)) (r : Ref sig .tc) (h : ∀ W ∈ revW, r ∉ W) :
    afterL revI V (Proc.devRef .tc r) = V (Proc.devRef .tc r) := by
  simp only [afterL_cons, afterL_nil]
  rw [after_of_writes_sub rev7 _ rev7_writes (h _ (by simp)), after_of_writes_sub rev6 _ rev6_writes (h _ (by simp)), after_of_writes_sub rev5 _ rev5_writes (h _ (by simp)), after_of_writes_sub rev4 _ rev4_writes (h _ (by simp)), after_of_writes_sub rev3 _ rev3_writes (h _ (by simp)), after_of_writes_sub rev2 _ rev2_writes (h _ (by simp)), after_of_writes_sub rev1 _ rev1_writes (h _ (by simp)), after_of_writes_sub rev0 _ rev0_writes (h _ (by simp))]

/-- The buffers the lines after the reverse loop may write. -/
abbrev postW : List (List (Ref sig .tc)) := [gradOpsW, slopeOpsW, backOps2W, lastOpsW]
theorem post_keep (V : Valuation τ sig (Elt F)) (r : Ref sig .tc) (h : ∀ W ∈ postW, r ∉ W) :
    afterL postI V (Proc.devRef .tc r) = V (Proc.devRef .tc r) := by
  simp only [afterL_cons, afterL_nil]
  rw [after_of_writes_sub lastOps _ lastOps_writes (h _ (by simp)), after_of_writes_sub backOps2 _ backOps2_writes (h _ (by simp)), after_of_writes_sub slopeOps _ slopeOps_writes (h _ (by simp)), after_of_writes_sub gradOps _ gradOps_writes (h _ (by simp))]

variable (m : (ℓ : Loc nD τ sig) → Buf (Elt F) ℓ) (ρ : Dev nD → PrngReg) (c : Dev nD)

theorem atFwd_keep (r : Ref sig .tc) (h : ∀ W ∈ fwdW, r ∉ W) (h' : r ∉ fwdCondW) : ∀ k, atFwd m k c (Proc.devRef .tc r) = atEntry m c (Proc.devRef .tc r)
  | 0 => rfl
  | k + 1 => by
    rw [show atFwd m (k + 1) c = afterL fwdI (after fwdCond (atFwd m k c)) from rfl, fwd_keep _ r h, after_of_writes_sub fwdCond _ fwdCond_writes h',
      atFwd_keep r h h' k]

theorem atStates_keep (r : Ref sig .tc) (h : ∀ W ∈ fwdW, r ∉ W) (h' : r ∉ fwdCondW) : atStates m c (Proc.devRef .tc r) = atEntry m c (Proc.devRef .tc r) := by
  unfold atStates
  rw [after_of_writes_sub fwdCond _ fwdCond_writes h', atFwd_keep m c r h h']

theorem atRev_keep (r : Ref sig .tc) (h : ∀ W ∈ revW, r ∉ W) (h' : r ∉ revCondW) : ∀ k, atRev m k c (Proc.devRef .tc r) = atTurn m c (Proc.devRef .tc r)
  | 0 => rfl
  | k + 1 => by
    rw [show atRev m (k + 1) c = afterL revI (after revCond (atRev m k c)) from rfl, rev_keep _ r h, after_of_writes_sub revCond _ revCond_writes h',
      atRev_keep r h h' k]

theorem atGrads_keep (r : Ref sig .tc) (h : ∀ W ∈ revW, r ∉ W) (h' : r ∉ revCondW) : atGrads m c (Proc.devRef .tc r) = atTurn m c (Proc.devRef .tc r) := by
  unfold atGrads
  rw [after_of_writes_sub revCond _ revCond_writes h', atRev_keep m c r h h']

/-- A buffer that no line writes ends as the launch found it. -/
theorem atEnd_keep (r : Ref sig .tc) (h : ∀ W ∈ preW ++ (fwdW ++ (midW ++ (revW ++ postW))), r ∉ W) (hf : r ∉ fwdCondW) (hr : r ∉ revCondW) :
    atEnd m c (Proc.devRef .tc r) = launchContents m c (Proc.devRef .tc r) := by
  simp only [List.forall_mem_append] at h
  unfold atEnd
  rw [post_keep _ r h.2.2.2.2, atGrads_keep m c r h.2.2.2.1 hr]
  unfold atTurn
  rw [mid_keep _ r h.2.2.1, atStates_keep m c r h.2.1 hf]
  unfold atEntry
  rw [pre_keep _ r h.1]

/-- The frame: the nine arguments end unchanged, and no semaphore is left raised. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c =>
    ⟨(h c main_arg0 rfl).trans (atEnd_keep m c main_arg0 (by decide +kernel) (by decide +kernel) (by decide +kernel)),
     (h c main_arg1 rfl).trans (atEnd_keep m c main_arg1 (by decide +kernel) (by decide +kernel) (by decide +kernel)),
     (h c main_arg2 rfl).trans (atEnd_keep m c main_arg2 (by decide +kernel) (by decide +kernel) (by decide +kernel)),
     (h c main_arg3 rfl).trans (atEnd_keep m c main_arg3 (by decide +kernel) (by decide +kernel) (by decide +kernel)),
     (h c main_arg4 rfl).trans (atEnd_keep m c main_arg4 (by decide +kernel) (by decide +kernel) (by decide +kernel)),
     (h c main_arg5 rfl).trans (atEnd_keep m c main_arg5 (by decide +kernel) (by decide +kernel) (by decide +kernel)),
     (h c main_arg6 rfl).trans (atEnd_keep m c main_arg6 (by decide +kernel) (by decide +kernel) (by decide +kernel)),
     (h c main_arg7 rfl).trans (atEnd_keep m c main_arg7 (by decide +kernel) (by decide +kernel) (by decide +kernel)),
     (h c main_arg8 rfl).trans (atEnd_keep m c main_arg8 (by decide +kernel) (by decide +kernel) (by decide +kernel))⟩,
    sem_eq_zero_of_no_sems (by decide) r.2⟩) (run m ρ)

end RefRun

end
-- ==== Proof.RefEntry.lean ====
module

public import proofs.«01_k».proof.Proof.RefFrame
public import proofs.«01_k».proof.Proof.HostUp
public import proofs.«01_k».proof.Proof.Spec

/-!
What the reference computes before its first loop, on arguments that hold reals: the gates, the decay, the multiplier.
-/

@[expose] public section

set_option maxRecDepth 16384

noncomputable section

namespace RefValue

open Cert.ReferenceIdeal Cert.ReferenceIdeal.Gen RefOps RefRun Up Finset
open Idealize.ShloMosaic Idealize.ShloMosaic.TcCoe Idealize.ShloMosaic.StableHlo Idealize.ShloMosaic.Tactic

/-- The arguments hold the reals of `D`, one less the squared decay is nowhere below the floor, and the states follow the recurrence. -/
structure Given (V : Valuation τ sig (Elt Ideal)) (D : Data) : Prop where
  dy : V (Proc.devRef .tc main_arg0) = (up2 D.dy : FVec Ideal S8192x2048 .f32)
  ug : ∃ P : ℕ → ℕ → ℝ, V (Proc.devRef .tc main_arg2) = (up2 P : FVec Ideal S8192x9216 .f32) ∧ ∀ t j, D.ug t j = P t (3072 + j)
  wa : V (Proc.devRef .tc main_arg3) = (up3 D.wa : FVec Ideal S8x256x256 .f32)
  wi : V (Proc.devRef .tc main_arg4) = (up3 D.wi : FVec Ideal S8x256x256 .f32)
  v : V (Proc.devRef .tc main_arg5) = (up2 D.v : FVec Ideal S8192x2048 .f32)
  ba : V (Proc.devRef .tc main_arg6) = (up2 fun _ j => D.ba j : FVec Ideal S1x2048 .f32)
  bi : V (Proc.devRef .tc main_arg7) = (up2 fun _ j => D.bi j : FVec Ideal S1x2048 .f32)
  lam : V (Proc.devRef .tc main_arg8) = (up2 fun _ j => D.lam j : FVec Ideal S1x2048 .f32)
  above : ∀ t < 8192, ∀ j < 2048, Up.floor ≤ D.om t j
  step : ∀ t < 8192, ∀ j < 2048, D.h t j = D.a t j * D.before t j + D.mult t j * (D.ig t j * D.v t j)

variable {V : Valuation τ sig (Elt Ideal)} {D : Data}

/-! ## The gates -/

theorem gateDot (f g : ℕ → ℕ → ℕ → ℝ) :
    Host.dotGeneral dot_S8x256x256_S8192x8x256_S8x256x8192_1_2_2_0_0_1 none (up3 f : FVec Ideal S8x256x256 .f32) (up3 g : FVec Ideal S8192x8x256 .f32)
      = (up3 fun b j t => ∑ k ∈ range 256, f b k j * g t b k : FVec Ideal S8x256x8192 .f32) := byHead _ f g none

/-- A gate's input from the reals. -/
theorem input_eq (w : ℕ → ℕ → ℕ → ℝ) (b : ℕ → ℝ) (v : ℕ → ℕ → ℝ) :
    addf (addf (shapeCast S8192x2048 (transpose S8192x8x256 [2, 0, 1]
      (Host.dotGeneral dot_S8x256x256_S8192x8x256_S8x256x8192_1_2_2_0_0_1 none (up3 w : FVec Ideal S8x256x256 .f32)
        (shapeCast S8192x8x256 (up2 v : FVec Ideal S8192x2048 .f32) shapeCasts_S8192x2048_S8192x8x256)) transposes_S8x256x8192_S8192x8x256_2_0_1)
        shapeCasts_S8192x8x256_S8192x2048) (broadcastInDim S8192x2048 ![] bcast_S_S8192x2048 (constant S_ .f32 0x00000000#32)))
      (broadcastInDim S8192x2048 ![0, 1] bcast_S1x2048_S8192x2048_0_1 (up2 fun _ j => b j : FVec Ideal S1x2048 .f32))
      = (up2 fun t j => (∑ k ∈ range 256, v t (256 * (j / 256) + k) * w (j / 256) k (j % 256)) + b j : FVec Ideal S8192x2048 .f32) := by
  rw [heads, gateDot, turn201, unheads, hconst2 zero_word, hrow2 _ _ (by decide), add2, add2]
  refine up2_congr fun t _ j _ => ?_
  rw [add_zero]
  congr 1
  exact sum_congr rfl fun k _ => mul_comm _ _

/-- The logistic function as the reference writes it. -/
theorem logistic (f : ℕ → ℕ → ℝ) :
    Host.divf (broadcastInDim S8192x2048 ![] bcast_S_S8192x2048 (constant S_ FTy.f32 0x3F800000#32))
      (addf (broadcastInDim S8192x2048 ![] bcast_S_S8192x2048 (constant S_ FTy.f32 0x3F800000#32)) (Host.exp (Host.negf (up2 f : FVec Ideal S8192x2048 .f32))))
      = up2 fun t j => sig (f t j) := by
  rw [hneg2, hexp2, hconst2 one_word, add2, hdiv2 _ _ (fun t _ j _ => by have := Real.exp_pos (-f t j); positivity)]
  rfl

theorem gate_8 (H : Given V D) : after gateOps V (Proc.devRef .tc main_v8) = (up2 (D.pre D.wa D.ba) : FVec Ideal S8192x2048 .f32) := by
  refine Eq.trans (b := _) ?_ (input_eq D.wa D.ba D.v)
  rw [← H.wa, ← H.v, ← H.ba]
  after_results
  rfl
theorem gate_23 (H : Given V D) : after gateOps V (Proc.devRef .tc main_v23) = (up2 (D.pre D.wi D.bi) : FVec Ideal S8192x2048 .f32) := by
  refine Eq.trans (b := _) ?_ (input_eq D.wi D.bi D.v)
  rw [← H.wi, ← H.v, ← H.bi]
  after_results
  rfl
theorem gate_14 (H : Given V D) : after gateOps V (Proc.devRef .tc main_v14) = (up2 D.r : FVec Ideal S8192x2048 .f32) := by
  refine Eq.trans (b := _) ?_ (logistic (D.pre D.wa D.ba))
  rw [← gate_8 H]
  after_results
theorem gate_29 (H : Given V D) : after gateOps V (Proc.devRef .tc main_v29) = (up2 D.ig : FVec Ideal S8192x2048 .f32) := by
  refine Eq.trans (b := _) ?_ (logistic (D.pre D.wi D.bi))
  rw [← gate_23 H]
  after_results
theorem gate_17 (H : Given V D) : after gateOps V (Proc.devRef .tc main_v17) = (up2 fun t j => D.r t j * (1 - D.r t j) : FVec Ideal S8192x2048 .f32) := by
  have e : after gateOps V (Proc.devRef .tc main_v17) = (mulf (after gateOps V (Proc.devRef .tc main_v14) : FVec Ideal S8192x2048 .f32)
      (subf (broadcastInDim S8192x2048 ![] bcast_S_S8192x2048 (constant S_ .f32 0x3F800000#32)) (after gateOps V (Proc.devRef .tc main_v14) : FVec Ideal S8192x2048 .f32)) : FVec Ideal S8192x2048 .f32) := by
    after_results
  rw [e, gate_14 H, hconst2 one_word, sub2, mul2]
theorem gate_32 (H : Given V D) : after gateOps V (Proc.devRef .tc main_v32) = (up2 fun t j => D.ig t j * (1 - D.ig t j) : FVec Ideal S8192x2048 .f32) := by
  have e : after gateOps V (Proc.devRef .tc main_v32) = (mulf (after gateOps V (Proc.devRef .tc main_v29) : FVec Ideal S8192x2048 .f32)
      (subf (broadcastInDim S8192x2048 ![] bcast_S_S8192x2048 (constant S_ .f32 0x3F800000#32)) (after gateOps V (Proc.devRef .tc main_v29) : FVec Ideal S8192x2048 .f32)) : FVec Ideal S8192x2048 .f32) := by
    after_results
  rw [e, gate_29 H, hconst2 one_word, sub2, mul2]
theorem gate_34 (H : Given V D) : after gateOps V (Proc.devRef .tc main_v34) = (up2 fun t j => -8 * D.r t j : FVec Ideal S8192x2048 .f32) := by
  have e : after gateOps V (Proc.devRef .tc main_v34) = (mulf (broadcastInDim S8192x2048 ![] bcast_S_S8192x2048 (constant S_ .f32 0xC1000000#32))
      (after gateOps V (Proc.devRef .tc main_v14) : FVec Ideal S8192x2048 .f32) : FVec Ideal S8192x2048 .f32) := by
    after_results
  rw [e, gate_14 H, hconst2 minus_eight_word, mul2]
theorem gate_35 (H : Given V D) : after gateOps V (Proc.devRef .tc main_v35) = (up2 fun _ j => -D.lam j : FVec Ideal S1x2048 .f32) := by
  have e : after gateOps V (Proc.devRef .tc main_v35) = (Host.negf (V (Proc.devRef .tc main_arg8) : FVec Ideal S1x2048 .f32) : FVec Ideal S1x2048 .f32) := by
    after_results
  rw [e, H.lam, hneg2]
theorem gate_1 (H : Given V D) : after gateOps V (Proc.devRef .tc main_v1) = (up2 D.ug : FVec Ideal S8192x2048 .f32) := by
  obtain ⟨P, hP, hu⟩ := H.ug
  have e : after gateOps V (Proc.devRef .tc main_v1) = extractStridedSlice S8192x2048 ![0, 3072] (V (Proc.devRef .tc main_arg2) : FVec Ideal S8192x9216 .f32) slices_S8192x9216_S8192x2048_0_3072 := by
    after_results
  rw [e, hP]
  refine (sliceAt 0 3072 P _).trans (up2_congr fun t _ j _ => ?_)
  rw [hu, zero_add]

/-! ## The softplus -/

theorem cmp_inf (f : ℕ → ℕ → ℝ) :
    cmpf .oeq (up2 f : FVec Ideal S1x2048 .f32) (broadcastInDim S1x2048 ![] bcast_S_S1x2048 (constant S_ .f32 0x7F800000#32)) = bits fun _ _ => false := by
  funext i
  show Ideal.cmp .oeq ((f (i 0).val (i 1).val : ℝ) : EReal) (Ideal.ofBits .f32 0x7F800000#32) = _
  rw [inf_word]
  simp [Ideal.cmp, bits]

theorem soft_0 (f : ℕ → ℝ) (h : V (Proc.devRef .tc main_v35) = (up2 fun _ j => f j : FVec Ideal S1x2048 .f32)) :
    after softplusOps V (Proc.devRef .tc main_v36_0) = (up2 fun _ j => splus (f j) : FVec Ideal S1x2048 .f32) := by
  after_results
  rw [h, hconst2 zero_word, sub2, cmp_ne2, max2, add2, habs2, hneg2, hexp2, hlog1p2 _ (fun _ j => by have := Real.exp_pos (-|f j - 0|); positivity), add2, select2]
  refine up2_congr fun _ _ j _ => ?_
  rw [if_neg (by decide), sub_zero, splus_eq]
theorem soft_1 (f : ℕ → ℝ) (h : V (Proc.devRef .tc main_v35) = (up2 fun _ j => f j : FVec Ideal S1x2048 .f32)) :
    after softplusOps V (Proc.devRef .tc main_v36_1) = (up2 fun _ j => sig (f j) : FVec Ideal S1x2048 .f32) := by
  have e : after softplusOps V (Proc.devRef .tc main_v36_1) = (Host.exp (subf (select (cmpf (F := Ideal) .oeq (V (Proc.devRef .tc main_v35) : FVec Ideal S1x2048 .f32) (broadcastInDim S1x2048 ![] bcast_S_S1x2048 (constant S_ .f32 0x7F800000#32)))
        (broadcastInDim S1x2048 ![] bcast_S_S1x2048 (constant S_ .f32 0x00000000#32)) (V (Proc.devRef .tc main_v35) : FVec Ideal S1x2048 .f32))
        (select (cmpf (F := Ideal) .oeq (after softplusOps V (Proc.devRef .tc main_v36_0) : FVec Ideal S1x2048 .f32) (broadcastInDim S1x2048 ![] bcast_S_S1x2048 (constant S_ .f32 0x7F800000#32)))
        (broadcastInDim S1x2048 ![] bcast_S_S1x2048 (constant S_ .f32 0x00000000#32)) (after softplusOps V (Proc.devRef .tc main_v36_0) : FVec Ideal S1x2048 .f32))) : FVec Ideal S1x2048 .f32) := by
    after_results
  rw [e, soft_0 f h, h, cmp_inf, cmp_inf, hconst2 zero_word, select2, select2, sub2, hexp2]
  refine up2_congr fun _ _ j _ => ?_
  simp only [Bool.false_eq_true, if_false]
  rw [exp_sub_splus]

/-! ## The decay and the multiplier -/

/-- The logarithm of the decay. -/
def _root_.Data.ld (D : Data) (t j : ℕ) : ℝ := -8 * D.r t j * D.sp j
theorem two_ld (D : Data) (t j : ℕ) : Real.exp (2 * D.ld t j) = D.a t j * D.a t j := by
  rw [two_mul, Real.exp_add]; rfl
theorem om_ld (D : Data) (t j : ℕ) : -(Real.exp (2 * D.ld t j) - 1) = D.om t j := by
  rw [two_ld, Data.om]; ring

/-- What the decay's lines read. -/
structure Gates (V : Valuation τ sig (Elt Ideal)) (D : Data) : Prop where
  v : V (Proc.devRef .tc main_arg5) = (up2 D.v : FVec Ideal S8192x2048 .f32)
  r : V (Proc.devRef .tc main_v34) = (up2 fun t j => -8 * D.r t j : FVec Ideal S8192x2048 .f32)
  sp : V (Proc.devRef .tc main_v36_0) = (up2 fun _ j => D.sp j : FVec Ideal S1x2048 .f32)
  ig : V (Proc.devRef .tc main_v29) = (up2 D.ig : FVec Ideal S8192x2048 .f32)
  above : ∀ t < 8192, ∀ j < 2048, Up.floor ≤ D.om t j

theorem dec_38 (H : Gates V D) : after decayOps V (Proc.devRef .tc main_v38) = (up2 D.ld : FVec Ideal S8192x2048 .f32) := by
  after_results
  rw [H.r, H.sp, hrow2 _ _ (by decide), mul2]
  rfl
theorem dec_39 (H : Gates V D) : after decayOps V (Proc.devRef .tc main_v39) = (up2 D.a : FVec Ideal S8192x2048 .f32) := by
  have e : after decayOps V (Proc.devRef .tc main_v39) = (Host.exp (after decayOps V (Proc.devRef .tc main_v38) : FVec Ideal S8192x2048 .f32) : FVec Ideal S8192x2048 .f32) := by
    after_results
  rw [e, dec_38 H, hexp2]
  rfl
theorem dec_43 (H : Gates V D) : after decayOps V (Proc.devRef .tc main_v43) = (up2 fun t j => D.a t j * D.a t j : FVec Ideal S8192x2048 .f32) := by
  have e : after decayOps V (Proc.devRef .tc main_v43) = (Host.exp (mulf (broadcastInDim S8192x2048 ![] bcast_S_S8192x2048 (constant S_ .f32 0x40000000#32)) (after decayOps V (Proc.devRef .tc main_v38) : FVec Ideal S8192x2048 .f32)) : FVec Ideal S8192x2048 .f32) := by
    after_results
  rw [e, dec_38 H, hconst2 two_word, mul2, hexp2]
  exact up2_congr fun t _ j _ => two_ld D t j
theorem dec_45 (H : Gates V D) : after decayOps V (Proc.devRef .tc main_v45) = (up2 D.mult : FVec Ideal S8192x2048 .f32) := by
  have e : after decayOps V (Proc.devRef .tc main_v45) = (Host.sqrt (Host.negf (Host.expm1 (mulf (broadcastInDim S8192x2048 ![] bcast_S_S8192x2048 (constant S_ .f32 0x40000000#32)) (after decayOps V (Proc.devRef .tc main_v38) : FVec Ideal S8192x2048 .f32)))) : FVec Ideal S8192x2048 .f32) := by
    after_results
  rw [e, dec_38 H, hconst2 two_word, mul2, hexpm12, hneg2, hsqrt2 _ (fun t ht j hj => by rw [om_ld]; exact Up.floor_pos.le.trans (H.above t ht j hj))]
  exact up2_congr fun t _ j _ => congrArg Real.sqrt (om_ld D t j)
theorem mult_pos {D : Data} {t j : ℕ} (h : Up.floor ≤ D.om t j) : 0 < D.mult t j := Real.sqrt_pos.mpr (Up.floor_pos.trans_le h)
theorem dec_47 (H : Gates V D) : after decayOps V (Proc.devRef .tc main_v47) = (up2 fun t j => 1 / 2 / D.mult t j : FVec Ideal S8192x2048 .f32) := by
  have e : after decayOps V (Proc.devRef .tc main_v47) = (Host.divf (broadcastInDim S8192x2048 ![] bcast_S_S8192x2048 (constant S_ .f32 0x3F000000#32)) (after decayOps V (Proc.devRef .tc main_v45) : FVec Ideal S8192x2048 .f32) : FVec Ideal S8192x2048 .f32) := by
    after_results
  rw [e, dec_45 H, hconst2 half_word, hdiv2 _ _ (fun t ht j hj => (mult_pos (H.above t ht j hj)).ne')]
theorem dec_48 (H : Gates V D) : after decayOps V (Proc.devRef .tc main_v48) = (up2 fun t j => D.ig t j * D.v t j : FVec Ideal S8192x2048 .f32) := by
  have e : after decayOps V (Proc.devRef .tc main_v48) = (mulf (V (Proc.devRef .tc main_v29) : FVec Ideal S8192x2048 .f32) (V (Proc.devRef .tc main_arg5) : FVec Ideal S8192x2048 .f32) : FVec Ideal S8192x2048 .f32) := by
    after_results
  rw [e, H.ig, H.v, mul2]
theorem dec_49 (H : Gates V D) : after decayOps V (Proc.devRef .tc main_v49) = (up2 fun t j => D.mult t j * (D.ig t j * D.v t j) : FVec Ideal S8192x2048 .f32) := by
  have e : after decayOps V (Proc.devRef .tc main_v49) = (mulf (after decayOps V (Proc.devRef .tc main_v45) : FVec Ideal S8192x2048 .f32) (after decayOps V (Proc.devRef .tc main_v48) : FVec Ideal S8192x2048 .f32) : FVec Ideal S8192x2048 .f32) := by
    after_results
  rw [e, dec_45 H, dec_48 H, mul2]

/-! ## Before the first loop -/

/-- A list of operations leaves what it does not write. -/
theorem gate_keep (V : Valuation τ sig (Elt Ideal)) (r : Ref sig .tc) (h : r ∉ gateOpsW) : after gateOps V (Proc.devRef .tc r) = V (Proc.devRef .tc r) :=
  after_of_writes_sub gateOps V gateOps_writes h
@[inherit_doc gate_keep] theorem soft_keep (V : Valuation τ sig (Elt Ideal)) (r : Ref sig .tc) (h : r ∉ softplusOpsW) : after softplusOps V (Proc.devRef .tc r) = V (Proc.devRef .tc r) :=
  after_of_writes_sub softplusOps V softplusOps_writes h
@[inherit_doc gate_keep] theorem dec_keep (V : Valuation τ sig (Elt Ideal)) (r : Ref sig .tc) (h : r ∉ decayOpsW) : after decayOps V (Proc.devRef .tc r) = V (Proc.devRef .tc r) :=
  after_of_writes_sub decayOps V decayOps_writes h
@[inherit_doc gate_keep] theorem ent_keep (V : Valuation τ sig (Elt Ideal)) (r : Ref sig .tc) (h : r ∉ entryOpsW) : after entryOps V (Proc.devRef .tc r) = V (Proc.devRef .tc r) :=
  after_of_writes_sub entryOps V entryOps_writes h

theorem gates (H : Given V D) : Gates (after softplusOps (after gateOps V)) D where
  v := by rw [soft_keep _ _ (by decide +kernel), gate_keep _ _ (by decide +kernel), H.v]
  r := by rw [soft_keep _ _ (by decide +kernel), gate_34 H]
  sp := soft_0 _ (gate_35 H)
  ig := by rw [soft_keep _ _ (by decide +kernel), gate_29 H]
  above := H.above

/-- What the first loop starts from, and what the lines after it read. -/
structure Entry (V : Valuation τ sig (Elt Ideal)) (D : Data) : Prop where
  dy : V (Proc.devRef .tc main_arg0) = (up2 D.dy : FVec Ideal S8192x2048 .f32)
  wa : V (Proc.devRef .tc main_arg3) = (up3 D.wa : FVec Ideal S8x256x256 .f32)
  wi : V (Proc.devRef .tc main_arg4) = (up3 D.wi : FVec Ideal S8x256x256 .f32)
  v : V (Proc.devRef .tc main_arg5) = (up2 D.v : FVec Ideal S8192x2048 .f32)
  ug : V (Proc.devRef .tc main_v1) = (up2 D.ug : FVec Ideal S8192x2048 .f32)
  rr : V (Proc.devRef .tc main_v17) = (up2 fun t j => D.r t j * (1 - D.r t j) : FVec Ideal S8192x2048 .f32)
  ig : V (Proc.devRef .tc main_v29) = (up2 D.ig : FVec Ideal S8192x2048 .f32)
  ii : V (Proc.devRef .tc main_v32) = (up2 fun t j => D.ig t j * (1 - D.ig t j) : FVec Ideal S8192x2048 .f32)
  r8 : V (Proc.devRef .tc main_v34) = (up2 fun t j => -8 * D.r t j : FVec Ideal S8192x2048 .f32)
  sp : V (Proc.devRef .tc main_v36_0) = (up2 fun _ j => D.sp j : FVec Ideal S1x2048 .f32)
  slope : V (Proc.devRef .tc main_v36_1) = (up2 fun _ j => sig (-D.lam j) : FVec Ideal S1x2048 .f32)
  a : V (Proc.devRef .tc main_v39) = (up2 D.a : FVec Ideal S8192x2048 .f32)
  aa : V (Proc.devRef .tc main_v43) = (up2 fun t j => D.a t j * D.a t j : FVec Ideal S8192x2048 .f32)
  mult : V (Proc.devRef .tc main_v45) = (up2 D.mult : FVec Ideal S8192x2048 .f32)
  half : V (Proc.devRef .tc main_v47) = (up2 fun t j => 1 / 2 / D.mult t j : FVec Ideal S8192x2048 .f32)
  iv : V (Proc.devRef .tc main_v48) = (up2 fun t j => D.ig t j * D.v t j : FVec Ideal S8192x2048 .f32)

/-- What the first loop carries in. -/
structure Carried (V : Valuation τ sig (Elt Ideal)) (D : Data) : Prop where
  a : V (Proc.devRef .tc main_v53_0) = (up2 D.a : FVec Ideal S8192x2048 .f32)
  x : V (Proc.devRef .tc main_v53_1) = (up2 fun t j => D.mult t j * (D.ig t j * D.v t j) : FVec Ideal S8192x2048 .f32)
  h : V (Proc.devRef .tc main_v53_3) = (up1 fun _ => 0 : FVec Ideal S2048 .f32)
  hs : V (Proc.devRef .tc main_v53_4) = (up2 fun _ _ => 0 : FVec Ideal S8192x2048 .f32)
  before : V (Proc.devRef .tc main_v53_5) = (up2 fun _ _ => 0 : FVec Ideal S8192x2048 .f32)

theorem hconst1 {n : ℕ} (hb) : broadcastInDim ⟨1, ![n]⟩ ![] hb (constant (F := Ideal) S_ .f32 0x00000000#32) = (up1 fun _ => 0 : FVec Ideal ⟨1, ![n]⟩ .f32) :=
  funext fun _ => zero_word

theorem carried (a : V (Proc.devRef .tc main_v39) = (up2 D.a : FVec Ideal S8192x2048 .f32))
    (x : V (Proc.devRef .tc main_v49) = (up2 fun t j => D.mult t j * (D.ig t j * D.v t j) : FVec Ideal S8192x2048 .f32)) : Carried (after entryOps V) D where
  a := by after_results; exact a
  x := by after_results; exact x
  h := by after_results; exact hconst1 _
  hs := by after_results; exact hconst2 zero_word _
  before := by after_results; exact hconst2 zero_word _

theorem entry_eq (V : Valuation τ sig (Elt Ideal)) : afterL preI V = after entryOps (after decayOps (after softplusOps (after gateOps V))) := rfl

theorem entry_carried (H : Given V D) : Carried (afterL preI V) D := by
  rw [entry_eq]
  exact carried (dec_39 (gates H)) (dec_49 (gates H))

theorem entry (H : Given V D) : Entry (afterL preI V) D where
  dy := by rw [entry_eq, ent_keep _ _ (by decide +kernel), dec_keep _ _ (by decide +kernel), soft_keep _ _ (by decide +kernel), gate_keep _ _ (by decide +kernel), H.dy]
  wa := by rw [entry_eq, ent_keep _ _ (by decide +kernel), dec_keep _ _ (by decide +kernel), soft_keep _ _ (by decide +kernel), gate_keep _ _ (by decide +kernel), H.wa]
  wi := by rw [entry_eq, ent_keep _ _ (by decide +kernel), dec_keep _ _ (by decide +kernel), soft_keep _ _ (by decide +kernel), gate_keep _ _ (by decide +kernel), H.wi]
  v := by rw [entry_eq, ent_keep _ _ (by decide +kernel), dec_keep _ _ (by decide +kernel), soft_keep _ _ (by decide +kernel), gate_keep _ _ (by decide +kernel), H.v]
  ug := by rw [entry_eq, ent_keep _ _ (by decide +kernel), dec_keep _ _ (by decide +kernel), soft_keep _ _ (by decide +kernel), gate_1 H]
  rr := by rw [entry_eq, ent_keep _ _ (by decide +kernel), dec_keep _ _ (by decide +kernel), soft_keep _ _ (by decide +kernel), gate_17 H]
  ig := by rw [entry_eq, ent_keep _ _ (by decide +kernel), dec_keep _ _ (by decide +kernel), soft_keep _ _ (by decide +kernel), gate_29 H]
  ii := by rw [entry_eq, ent_keep _ _ (by decide +kernel), dec_keep _ _ (by decide +kernel), soft_keep _ _ (by decide +kernel), gate_32 H]
  r8 := by rw [entry_eq, ent_keep _ _ (by decide +kernel), dec_keep _ _ (by decide +kernel), soft_keep _ _ (by decide +kernel), gate_34 H]
  sp := by rw [entry_eq, ent_keep _ _ (by decide +kernel), dec_keep _ _ (by decide +kernel), (gates H).sp]
  slope := by rw [entry_eq, ent_keep _ _ (by decide +kernel), dec_keep _ _ (by decide +kernel), soft_1 _ (gate_35 H)]
  a := by rw [entry_eq, ent_keep _ _ (by decide +kernel), dec_39 (gates H)]
  aa := by rw [entry_eq, ent_keep _ _ (by decide +kernel), dec_43 (gates H)]
  mult := by rw [entry_eq, ent_keep _ _ (by decide +kernel), dec_45 (gates H)]
  half := by rw [entry_eq, ent_keep _ _ (by decide +kernel), dec_47 (gates H)]
  iv := by rw [entry_eq, ent_keep _ _ (by decide +kernel), dec_48 (gates H)]

end RefValue

end
-- ==== Proof.RefLoops.lean ====
module

public import proofs.«01_k».proof.Proof.RefEntry

/-!
The reference's two loops on reals: the first rebuilds the states row by row, the second carries the cotangent back through them.
-/

@[expose] public section

set_option maxRecDepth 16384

noncomputable section

namespace RefValue

open Cert.ReferenceIdeal Cert.ReferenceIdeal.Gen RefOps RefRun Up Finset
open Idealize.ShloMosaic Idealize.ShloMosaic.TcCoe Idealize.ShloMosaic.StableHlo Idealize.ShloMosaic.Tactic

theorem up1_congr {n : ℕ} {φ : FTy} {f g : ℕ → ℝ} (h : ∀ j < n, f j = g j) : (up1 f : FVec Ideal ⟨1, ![n]⟩ φ) = up1 g :=
  funext fun i => congrArg Real.toEReal (h _ (i 0).isLt)

/-! ## A row read and a row written -/

theorem iv_toInt (k : ℕ) (hk : k < 8192) : (Scf.iv 0#32 1#32 k).toInt = (k : Int) := by
  simp only [Scf.iv]
  rw [BitVec.zero_add, BitVec.mul_one]
  exact toInt_ofNat_of_lt (by omega)
theorem back_toInt (k : ℕ) (hk : k < 8192) : (8192#32 - Scf.iv 0#32 1#32 k - 1#32).toInt = ((8191 - k : ℕ) : Int) := by
  simp only [Scf.iv]
  rw [BitVec.zero_add, BitVec.mul_one]
  have e : 8192#32 - BitVec.ofNat 32 k - 1#32 = BitVec.ofNat 32 (8191 - k) := by
    apply BitVec.eq_of_toNat_eq
    simp only [BitVec.toNat_sub, BitVec.toNat_ofNat]
    omega
  rw [e]
  exact toInt_ofNat_of_lt (by omega)

theorem read_row (f : ℕ → ℕ → ℝ) (start : Fin 2 → Int) (k : ℕ) (hk : k < 8192) (e0 : start 0 = (k : Int)) (e1 : start 1 = 0) :
    shapeCast S2048 (Host.dynamicSlice S1x2048 (up2 f : FVec Ideal S8192x2048 .f32) start sliceFits_S8192x2048_S1x2048) shapeCasts_S1x2048_S2048
      = (up1 (f k) : FVec Ideal S2048 .f32) :=
  (congrArg (fun w : FVec Ideal S1x2048 .f32 => shapeCast S2048 w shapeCasts_S1x2048_S2048) (rowRead f _ k hk e0 e1 _)).trans (oneRow _ _)
theorem write_row (f : ℕ → ℕ → ℝ) (g : ℕ → ℝ) (start : Fin 2 → Int) (k : ℕ) (hk : k < 8192) (e0 : start 0 = (k : Int)) (e1 : start 1 = 0) :
    Host.dynamicUpdateSlice (up2 f : FVec Ideal S8192x2048 .f32) (broadcastInDim S1x2048 ![1] bcast_S2048_S1x2048_1 (up1 g : FVec Ideal S2048 .f32)) start updateFits_S8192x2048_S1x2048
      = (up2 fun t j => if t = k then g j else f t j : FVec Ideal S8192x2048 .f32) :=
  (congrArg (fun w : FVec Ideal S1x2048 .f32 => Host.dynamicUpdateSlice (up2 f : FVec Ideal S8192x2048 .f32) w start updateFits_S8192x2048_S1x2048)
    (asRow g _ (by decide))).trans (rowWrite f g start k hk e0 e1 _)

variable {V : Valuation τ sig (Elt Ideal)} {D : Data}

/-! ## The forward loop -/

theorem fwd0_row (f : ℕ → ℕ → ℝ) (w : BitVec 32) (k : ℕ) (hk : k < 8192) (hw : w.toInt = (k : Int))
    (hx : V (Proc.devRef .tc main_v53_0) = (up2 f : FVec Ideal S8192x2048 .f32)) (hi : V (Proc.devRef .tc main_v53_2) = fun _ => w) :
    after fwd0 V (Proc.devRef .tc main_while0b_v135) = (up1 (f k) : FVec Ideal S2048 .f32) := by
  after_results
  show shapeCast S2048 (Host.dynamicSlice S1x2048 (V (Proc.devRef .tc main_v53_0) : FVec Ideal S8192x2048 .f32) _ sliceFits_S8192x2048_S1x2048) shapeCasts_S1x2048_S2048 = _
  rw [hx]
  refine read_row f _ k hk ?_ ?_
  · show BitVec.toInt ((HloOp.result _ V (Proc.devRef .tc main_v53_2) : IVec S_ 32) (Shape.Idx.first h_S_)) = _
    rw [nullary_result_ne _ _ _ _ (by decide), hi]
    exact hw
  · show BitVec.toInt ((HloOp.result _ V (Proc.devRef .tc main_while0b_call1_c) : IVec S_ 32) (Shape.Idx.first h_S_)) = _
    rw [nullary_result]
    rfl
theorem fwd1_row (f : ℕ → ℕ → ℝ) (w : BitVec 32) (k : ℕ) (hk : k < 8192) (hw : w.toInt = (k : Int))
    (hx : V (Proc.devRef .tc main_v53_1) = (up2 f : FVec Ideal S8192x2048 .f32)) (hi : V (Proc.devRef .tc main_v53_2) = fun _ => w) :
    after fwd1 V (Proc.devRef .tc main_while0b_v136) = (up1 (f k) : FVec Ideal S2048 .f32) := by
  after_results
  show shapeCast S2048 (Host.dynamicSlice S1x2048 (V (Proc.devRef .tc main_v53_1) : FVec Ideal S8192x2048 .f32) _ sliceFits_S8192x2048_S1x2048) shapeCasts_S1x2048_S2048 = _
  rw [hx]
  refine read_row f _ k hk ?_ ?_
  · show BitVec.toInt ((HloOp.result _ V (Proc.devRef .tc main_v53_2) : IVec S_ 32) (Shape.Idx.first h_S_)) = _
    rw [nullary_result_ne _ _ _ _ (by decide), hi]
    exact hw
  · show BitVec.toInt ((HloOp.result _ V (Proc.devRef .tc main_while0b_call2_c) : IVec S_ 32) (Shape.Idx.first h_S_)) = _
    rw [nullary_result]
    rfl
theorem fwd2_row (f g h : ℕ → ℝ) (hf : V (Proc.devRef .tc main_while0b_v135) = (up1 f : FVec Ideal S2048 .f32)) (hg : V (Proc.devRef .tc main_v53_3) = (up1 g : FVec Ideal S2048 .f32))
    (hh : V (Proc.devRef .tc main_while0b_v136) = (up1 h : FVec Ideal S2048 .f32)) :
    after fwd2 V (Proc.devRef .tc main_while0b_v138) = (up1 fun j => f j * g j + h j : FVec Ideal S2048 .f32) := by
  after_results
  rw [hf, hg, hh, mul1, add1]
theorem fwd3_row (f : ℕ → ℕ → ℝ) (g : ℕ → ℝ) (w : BitVec 32) (k : ℕ) (hk : k < 8192) (hw : w.toInt = (k : Int))
    (hx : V (Proc.devRef .tc main_v53_4) = (up2 f : FVec Ideal S8192x2048 .f32)) (hg : V (Proc.devRef .tc main_while0b_v138) = (up1 g : FVec Ideal S2048 .f32))
    (hi : V (Proc.devRef .tc main_v53_2) = fun _ => w) :
    after fwd3 V (Proc.devRef .tc main_while0b_v139) = (up2 fun t j => if t = k then g j else f t j : FVec Ideal S8192x2048 .f32) := by
  after_results
  show Host.dynamicUpdateSlice (V (Proc.devRef .tc main_v53_4) : FVec Ideal S8192x2048 .f32) (broadcastInDim S1x2048 ![1] bcast_S2048_S1x2048_1 (V (Proc.devRef .tc main_while0b_v138) : FVec Ideal S2048 .f32)) _ updateFits_S8192x2048_S1x2048 = _
  rw [hx, hg]
  refine write_row f g _ k hk ?_ ?_
  · show BitVec.toInt ((HloOp.result _ (HloOp.result _ V) (Proc.devRef .tc main_v53_2) : IVec S_ 32) (Shape.Idx.first h_S_)) = _
    rw [nullary_result_ne _ _ _ _ (by decide), TRef.unary, unary_result_ne _ _ _ _ _ _ (by decide), hi]
    exact hw
  · show BitVec.toInt ((HloOp.result _ (HloOp.result _ V) (Proc.devRef .tc main_while0b_call3_c) : IVec S_ 32) (Shape.Idx.first h_S_)) = _
    rw [nullary_result]
    rfl
theorem fwd4_row (f : ℕ → ℕ → ℝ) (g : ℕ → ℝ) (w : BitVec 32) (k : ℕ) (hk : k < 8192) (hw : w.toInt = (k : Int))
    (hx : V (Proc.devRef .tc main_v53_5) = (up2 f : FVec Ideal S8192x2048 .f32)) (hg : V (Proc.devRef .tc main_v53_3) = (up1 g : FVec Ideal S2048 .f32))
    (hi : V (Proc.devRef .tc main_v53_2) = fun _ => w) :
    after fwd4 V (Proc.devRef .tc main_while0b_v140) = (up2 fun t j => if t = k then g j else f t j : FVec Ideal S8192x2048 .f32) := by
  after_results
  show Host.dynamicUpdateSlice (V (Proc.devRef .tc main_v53_5) : FVec Ideal S8192x2048 .f32) (broadcastInDim S1x2048 ![1] bcast_S2048_S1x2048_1 (V (Proc.devRef .tc main_v53_3) : FVec Ideal S2048 .f32)) _ updateFits_S8192x2048_S1x2048 = _
  rw [hx, hg]
  refine write_row f g _ k hk ?_ ?_
  · show BitVec.toInt ((HloOp.result _ (HloOp.result _ V) (Proc.devRef .tc main_v53_2) : IVec S_ 32) (Shape.Idx.first h_S_)) = _
    rw [nullary_result_ne _ _ _ _ (by decide), TRef.unary, unary_result_ne _ _ _ _ _ _ (by decide), hi]
    exact hw
  · show BitVec.toInt ((HloOp.result _ (HloOp.result _ V) (Proc.devRef .tc main_while0b_call4_c) : IVec S_ 32) (Shape.Idx.first h_S_)) = _
    rw [nullary_result]
    rfl
theorem fwd0_keep (V : Valuation τ sig (Elt Ideal)) (r : Ref sig .tc) (h : r ∉ fwd0W) : after fwd0 V (Proc.devRef .tc r) = V (Proc.devRef .tc r) :=
  after_of_writes_sub fwd0 V fwd0_writes h
theorem fwd1_keep (V : Valuation τ sig (Elt Ideal)) (r : Ref sig .tc) (h : r ∉ fwd1W) : after fwd1 V (Proc.devRef .tc r) = V (Proc.devRef .tc r) :=
  after_of_writes_sub fwd1 V fwd1_writes h
theorem fwd2_keep (V : Valuation τ sig (Elt Ideal)) (r : Ref sig .tc) (h : r ∉ fwd2W) : after fwd2 V (Proc.devRef .tc r) = V (Proc.devRef .tc r) :=
  after_of_writes_sub fwd2 V fwd2_writes h
theorem fwd3_keep (V : Valuation τ sig (Elt Ideal)) (r : Ref sig .tc) (h : r ∉ fwd3W) : after fwd3 V (Proc.devRef .tc r) = V (Proc.devRef .tc r) :=
  after_of_writes_sub fwd3 V fwd3_writes h
theorem fwd4_keep (V : Valuation τ sig (Elt Ideal)) (r : Ref sig .tc) (h : r ∉ fwd4W) : after fwd4 V (Proc.devRef .tc r) = V (Proc.devRef .tc r) :=
  after_of_writes_sub fwd4 V fwd4_writes h
theorem fwd5_keep (V : Valuation τ sig (Elt Ideal)) (r : Ref sig .tc) (h : r ∉ fwd5W) : after fwd5 V (Proc.devRef .tc r) = V (Proc.devRef .tc r) :=
  after_of_writes_sub fwd5 V fwd5_writes h
theorem fwdCond_keep (V : Valuation τ sig (Elt Ideal)) (r : Ref sig .tc) (h : r ∉ fwdCondW) : after fwdCond V (Proc.devRef .tc r) = V (Proc.devRef .tc r) :=
  after_of_writes_sub fwdCond V fwdCond_writes h

/-- Before the forward loop's `k`-th trip the state is the one before row `k`, and the rows met are filled in. -/
structure FwdAt (V : Valuation τ sig (Elt Ideal)) (D : Data) (k : ℕ) : Prop where
  a : V (Proc.devRef .tc main_v53_0) = (up2 D.a : FVec Ideal S8192x2048 .f32)
  x : V (Proc.devRef .tc main_v53_1) = (up2 fun t j => D.mult t j * (D.ig t j * D.v t j) : FVec Ideal S8192x2048 .f32)
  h : V (Proc.devRef .tc main_v53_3) = (up1 (D.before k) : FVec Ideal S2048 .f32)
  hs : V (Proc.devRef .tc main_v53_4) = (up2 fun t j => if t < k then D.h t j else 0 : FVec Ideal S8192x2048 .f32)
  before : V (Proc.devRef .tc main_v53_5) = (up2 fun t j => if t < k then D.before t j else 0 : FVec Ideal S8192x2048 .f32)

/-- One more row of a stack that is filled from the first row. -/
theorem fill (f : ℕ → ℕ → ℝ) (k : ℕ) : (up2 fun t j => if t = k then f k j else if t < k then f t j else 0 : FVec Ideal S8192x2048 .f32)
    = up2 fun t j => if t < k + 1 then f t j else 0 :=
  up2_congr fun t _ j _ => by
    by_cases h : t = k
    · subst h; rw [if_pos rfl, if_pos (Nat.lt_succ_self _)]
    · rw [if_neg h]
      by_cases h' : t < k
      · rw [if_pos h', if_pos (by omega)]
      · rw [if_neg h', if_neg (by omega)]

theorem fwd_step (k : ℕ) (hk : k < 8192) (H : FwdAt V D k) (hc : V (Proc.devRef .tc main_v53_2) = fun _ => Scf.iv 0#32 1#32 k)
    (step : ∀ j < 2048, D.h k j = D.a k j * D.before k j + D.mult k j * (D.ig k j * D.v k j)) : FwdAt (afterL fwdI (after fwdCond V)) D (k + 1) := by
  have hw := iv_toInt k hk
  let V0 := after fwdCond V
  let V1 := after fwd0 V0
  let V2 := after fwd1 V1
  let V3 := after fwd2 V2
  let V4 := after fwd3 V3
  let V5 := after fwd4 V4
  have e : afterL fwdI (after fwdCond V) = after fwd5 V5 := rfl
  have k0 : ∀ r, r ∉ fwdCondW → V0 (Proc.devRef .tc r) = V (Proc.devRef .tc r) := fwdCond_keep V
  have k1 : ∀ r, r ∉ fwd0W → V1 (Proc.devRef .tc r) = V0 (Proc.devRef .tc r) := fwd0_keep V0
  have k2 : ∀ r, r ∉ fwd1W → V2 (Proc.devRef .tc r) = V1 (Proc.devRef .tc r) := fwd1_keep V1
  have k3 : ∀ r, r ∉ fwd2W → V3 (Proc.devRef .tc r) = V2 (Proc.devRef .tc r) := fwd2_keep V2
  have k4 : ∀ r, r ∉ fwd3W → V4 (Proc.devRef .tc r) = V3 (Proc.devRef .tc r) := fwd3_keep V3
  have k5 : ∀ r, r ∉ fwd4W → V5 (Proc.devRef .tc r) = V4 (Proc.devRef .tc r) := fwd4_keep V4
  have k6 : ∀ r, r ∉ fwd5W → after fwd5 V5 (Proc.devRef .tc r) = V5 (Proc.devRef .tc r) := fwd5_keep V5
  have r0 : V1 (Proc.devRef .tc main_while0b_v135) = (up1 (D.a k) : FVec Ideal S2048 .f32) :=
    fwd0_row (V := V0) D.a _ k hk hw (by rw [k0 _ (by decide +kernel), H.a]) (by rw [k0 _ (by decide +kernel), hc])
  have r1 : V2 (Proc.devRef .tc main_while0b_v136) = (up1 fun j => D.mult k j * (D.ig k j * D.v k j) : FVec Ideal S2048 .f32) :=
    fwd1_row (fun t j => D.mult t j * (D.ig t j * D.v t j)) _ k hk hw (by rw [k1 _ (by decide +kernel), k0 _ (by decide +kernel), H.x]) (by rw [k1 _ (by decide +kernel), k0 _ (by decide +kernel), hc])
  have r2 : V3 (Proc.devRef .tc main_while0b_v138) = (up1 (D.h k) : FVec Ideal S2048 .f32) :=
    (fwd2_row (V := V2) _ _ _ (by rw [k2 _ (by decide +kernel), r0]) (by rw [k2 _ (by decide +kernel), k1 _ (by decide +kernel), k0 _ (by decide +kernel), H.h]) r1).trans (up1_congr fun j hj => (step j hj).symm)
  have r3 : V4 (Proc.devRef .tc main_while0b_v139) = (up2 fun t j => if t < k + 1 then D.h t j else 0 : FVec Ideal S8192x2048 .f32) :=
    (fwd3_row (V := V3) _ (D.h k) _ k hk hw (by rw [k3 _ (by decide +kernel), k2 _ (by decide +kernel), k1 _ (by decide +kernel), k0 _ (by decide +kernel), H.hs]) r2 (by rw [k3 _ (by decide +kernel), k2 _ (by decide +kernel), k1 _ (by decide +kernel), k0 _ (by decide +kernel), hc])).trans (fill D.h k)
  have r4 : V5 (Proc.devRef .tc main_while0b_v140) = (up2 fun t j => if t < k + 1 then D.before t j else 0 : FVec Ideal S8192x2048 .f32) :=
    (fwd4_row (V := V4) _ (D.before k) _ k hk hw (by rw [k4 _ (by decide +kernel), k3 _ (by decide +kernel), k2 _ (by decide +kernel), k1 _ (by decide +kernel), k0 _ (by decide +kernel), H.before]) (by rw [k4 _ (by decide +kernel), k3 _ (by decide +kernel), k2 _ (by decide +kernel), k1 _ (by decide +kernel), k0 _ (by decide +kernel), H.h]) (by rw [k4 _ (by decide +kernel), k3 _ (by decide +kernel), k2 _ (by decide +kernel), k1 _ (by decide +kernel), k0 _ (by decide +kernel), hc])).trans (fill D.before k)
  rw [e]
  refine ⟨?_, ?_, ?_, ?_, ?_⟩
  · rw [k6 _ (by decide +kernel), k5 _ (by decide +kernel), k4 _ (by decide +kernel), k3 _ (by decide +kernel), k2 _ (by decide +kernel), k1 _ (by decide +kernel), k0 _ (by decide +kernel), H.a]
  · rw [k6 _ (by decide +kernel), k5 _ (by decide +kernel), k4 _ (by decide +kernel), k3 _ (by decide +kernel), k2 _ (by decide +kernel), k1 _ (by decide +kernel), k0 _ (by decide +kernel), H.x]
  · have : after fwd5 V5 (Proc.devRef .tc main_v53_3) = V5 (Proc.devRef .tc main_while0b_v138) := by after_results; rfl
    rw [this, k5 _ (by decide +kernel), k4 _ (by decide +kernel), r2]
    exact up1_congr fun j _ => by rw [Data.before, if_neg (Nat.succ_ne_zero k), Nat.add_sub_cancel]
  · have : after fwd5 V5 (Proc.devRef .tc main_v53_4) = V5 (Proc.devRef .tc main_while0b_v139) := by after_results; rfl
    rw [this, k5 _ (by decide +kernel), r3]
  · have : after fwd5 V5 (Proc.devRef .tc main_v53_5) = V5 (Proc.devRef .tc main_while0b_v140) := by after_results; rfl
    rw [this, r4]

/-! ## The reverse loop -/

theorem rev0_row (w : BitVec 32) (hc : V (Proc.devRef .tc main_v94_3) = fun _ => w) :
    after rev0 V (Proc.devRef .tc main_while1b_v136) = fun _ => 8192#32 - w - 1#32 := by
  after_results
  rw [hc]
  rfl
theorem rev1_row (f : ℕ → ℕ → ℝ) (w : BitVec 32) (k : ℕ) (hk : k < 8192) (hw : w.toInt = (k : Int))
    (hx : V (Proc.devRef .tc main_v94_0) = (up2 f : FVec Ideal S8192x2048 .f32)) (hi : V (Proc.devRef .tc main_while1b_v136) = fun _ => w) :
    after rev1 V (Proc.devRef .tc main_while1b_v137) = (up1 (f k) : FVec Ideal S2048 .f32) := by
  after_results
  show shapeCast S2048 (Host.dynamicSlice S1x2048 (V (Proc.devRef .tc main_v94_0) : FVec Ideal S8192x2048 .f32) _ sliceFits_S8192x2048_S1x2048) shapeCasts_S1x2048_S2048 = _
  rw [hx]
  refine read_row f _ k hk ?_ ?_
  · show BitVec.toInt ((HloOp.result _ V (Proc.devRef .tc main_while1b_v136) : IVec S_ 32) (Shape.Idx.first h_S_)) = _
    rw [nullary_result_ne _ _ _ _ (by decide), hi]
    exact hw
  · show BitVec.toInt ((HloOp.result _ V (Proc.devRef .tc main_while1b_call5_c) : IVec S_ 32) (Shape.Idx.first h_S_)) = _
    rw [nullary_result]
    rfl
theorem rev2_row (f : ℕ → ℕ → ℝ) (w : BitVec 32) (k : ℕ) (hk : k < 8192) (hw : w.toInt = (k : Int))
    (hx : V (Proc.devRef .tc main_v94_1) = (up2 f : FVec Ideal S8192x2048 .f32)) (hi : V (Proc.devRef .tc main_while1b_v136) = fun _ => w) :
    after rev2 V (Proc.devRef .tc main_while1b_v138) = (up1 (f k) : FVec Ideal S2048 .f32) := by
  after_results
  show shapeCast S2048 (Host.dynamicSlice S1x2048 (V (Proc.devRef .tc main_v94_1) : FVec Ideal S8192x2048 .f32) _ sliceFits_S8192x2048_S1x2048) shapeCasts_S1x2048_S2048 = _
  rw [hx]
  refine read_row f _ k hk ?_ ?_
  · show BitVec.toInt ((HloOp.result _ V (Proc.devRef .tc main_while1b_v136) : IVec S_ 32) (Shape.Idx.first h_S_)) = _
    rw [nullary_result_ne _ _ _ _ (by decide), hi]
    exact hw
  · show BitVec.toInt ((HloOp.result _ V (Proc.devRef .tc main_while1b_call6_c) : IVec S_ 32) (Shape.Idx.first h_S_)) = _
    rw [nullary_result]
    rfl
theorem rev3_row (f : ℕ → ℕ → ℝ) (w : BitVec 32) (k : ℕ) (hk : k < 8192) (hw : w.toInt = (k : Int))
    (hx : V (Proc.devRef .tc main_v94_2) = (up2 f : FVec Ideal S8192x2048 .f32)) (hi : V (Proc.devRef .tc main_while1b_v136) = fun _ => w) :
    after rev3 V (Proc.devRef .tc main_while1b_v139) = (up1 (f k) : FVec Ideal S2048 .f32) := by
  after_results
  show shapeCast S2048 (Host.dynamicSlice S1x2048 (V (Proc.devRef .tc main_v94_2) : FVec Ideal S8192x2048 .f32) _ sliceFits_S8192x2048_S1x2048) shapeCasts_S1x2048_S2048 = _
  rw [hx]
  refine read_row f _ k hk ?_ ?_
  · show BitVec.toInt ((HloOp.result _ V (Proc.devRef .tc main_while1b_v136) : IVec S_ 32) (Shape.Idx.first h_S_)) = _
    rw [nullary_result_ne _ _ _ _ (by decide), hi]
    exact hw
  · show BitVec.toInt ((HloOp.result _ V (Proc.devRef .tc main_while1b_call7_c) : IVec S_ 32) (Shape.Idx.first h_S_)) = _
    rw [nullary_result]
    rfl
theorem rev4_row (f g : ℕ → ℝ) (hf : V (Proc.devRef .tc main_v94_4) = (up1 f : FVec Ideal S2048 .f32)) (hg : V (Proc.devRef .tc main_while1b_v137) = (up1 g : FVec Ideal S2048 .f32)) :
    after rev4 V (Proc.devRef .tc main_while1b_v140) = (up1 fun j => f j + g j : FVec Ideal S2048 .f32) := by
  after_results
  rw [hf, hg, add1]
theorem rev4_next (f g h : ℕ → ℝ) (hf : V (Proc.devRef .tc main_v94_4) = (up1 f : FVec Ideal S2048 .f32)) (hg : V (Proc.devRef .tc main_while1b_v137) = (up1 g : FVec Ideal S2048 .f32))
    (hh : V (Proc.devRef .tc main_while1b_v139) = (up1 h : FVec Ideal S2048 .f32)) :
    after rev4 V (Proc.devRef .tc main_while1b_v141) = (up1 fun j => h j * (f j + g j) : FVec Ideal S2048 .f32) := by
  after_results
  rw [hf, hg, hh, add1, mul1]
theorem rev4_grad (f g h : ℕ → ℝ) (hf : V (Proc.devRef .tc main_v94_4) = (up1 f : FVec Ideal S2048 .f32)) (hg : V (Proc.devRef .tc main_while1b_v137) = (up1 g : FVec Ideal S2048 .f32))
    (hh : V (Proc.devRef .tc main_while1b_v138) = (up1 h : FVec Ideal S2048 .f32)) :
    after rev4 V (Proc.devRef .tc main_while1b_v142) = (up1 fun j => (f j + g j) * h j : FVec Ideal S2048 .f32) := by
  after_results
  rw [hf, hg, hh, add1, mul1]
theorem rev5_row (f : ℕ → ℕ → ℝ) (g : ℕ → ℝ) (w : BitVec 32) (k : ℕ) (hk : k < 8192) (hw : w.toInt = (k : Int))
    (hx : V (Proc.devRef .tc main_v94_5) = (up2 f : FVec Ideal S8192x2048 .f32)) (hg : V (Proc.devRef .tc main_while1b_v142) = (up1 g : FVec Ideal S2048 .f32))
    (hi : V (Proc.devRef .tc main_while1b_v136) = fun _ => w) :
    after rev5 V (Proc.devRef .tc main_while1b_v143) = (up2 fun t j => if t = k then g j else f t j : FVec Ideal S8192x2048 .f32) := by
  after_results
  show Host.dynamicUpdateSlice (V (Proc.devRef .tc main_v94_5) : FVec Ideal S8192x2048 .f32) (broadcastInDim S1x2048 ![1] bcast_S2048_S1x2048_1 (V (Proc.devRef .tc main_while1b_v142) : FVec Ideal S2048 .f32)) _ updateFits_S8192x2048_S1x2048 = _
  rw [hx, hg]
  refine write_row f g _ k hk ?_ ?_
  · show BitVec.toInt ((HloOp.result _ (HloOp.result _ V) (Proc.devRef .tc main_while1b_v136) : IVec S_ 32) (Shape.Idx.first h_S_)) = _
    rw [nullary_result_ne _ _ _ _ (by decide), TRef.unary, unary_result_ne _ _ _ _ _ _ (by decide), hi]
    exact hw
  · show BitVec.toInt ((HloOp.result _ (HloOp.result _ V) (Proc.devRef .tc main_while1b_call8_c) : IVec S_ 32) (Shape.Idx.first h_S_)) = _
    rw [nullary_result]
    rfl
theorem rev6_row (f : ℕ → ℕ → ℝ) (g : ℕ → ℝ) (w : BitVec 32) (k : ℕ) (hk : k < 8192) (hw : w.toInt = (k : Int))
    (hx : V (Proc.devRef .tc main_v94_6) = (up2 f : FVec Ideal S8192x2048 .f32)) (hg : V (Proc.devRef .tc main_while1b_v140) = (up1 g : FVec Ideal S2048 .f32))
    (hi : V (Proc.devRef .tc main_while1b_v136) = fun _ => w) :
    after rev6 V (Proc.devRef .tc main_while1b_v144) = (up2 fun t j => if t = k then g j else f t j : FVec Ideal S8192x2048 .f32) := by
  after_results
  show Host.dynamicUpdateSlice (V (Proc.devRef .tc main_v94_6) : FVec Ideal S8192x2048 .f32) (broadcastInDim S1x2048 ![1] bcast_S2048_S1x2048_1 (V (Proc.devRef .tc main_while1b_v140) : FVec Ideal S2048 .f32)) _ updateFits_S8192x2048_S1x2048 = _
  rw [hx, hg]
  refine write_row f g _ k hk ?_ ?_
  · show BitVec.toInt ((HloOp.result _ (HloOp.result _ V) (Proc.devRef .tc main_while1b_v136) : IVec S_ 32) (Shape.Idx.first h_S_)) = _
    rw [nullary_result_ne _ _ _ _ (by decide), TRef.unary, unary_result_ne _ _ _ _ _ _ (by decide), hi]
    exact hw
  · show BitVec.toInt ((HloOp.result _ (HloOp.result _ V) (Proc.devRef .tc main_while1b_call9_c) : IVec S_ 32) (Shape.Idx.first h_S_)) = _
    rw [nullary_result]
    rfl
theorem rev0_keep (V : Valuation τ sig (Elt Ideal)) (r : Ref sig .tc) (h : r ∉ rev0W) : after rev0 V (Proc.devRef .tc r) = V (Proc.devRef .tc r) :=
  after_of_writes_sub rev0 V rev0_writes h
theorem rev1_keep (V : Valuation τ sig (Elt Ideal)) (r : Ref sig .tc) (h : r ∉ rev1W) : after rev1 V (Proc.devRef .tc r) = V (Proc.devRef .tc r) :=
  after_of_writes_sub rev1 V rev1_writes h
theorem rev2_keep (V : Valuation τ sig (Elt Ideal)) (r : Ref sig .tc) (h : r ∉ rev2W) : after rev2 V (Proc.devRef .tc r) = V (Proc.devRef .tc r) :=
  after_of_writes_sub rev2 V rev2_writes h
theorem rev3_keep (V : Valuation τ sig (Elt Ideal)) (r : Ref sig .tc) (h : r ∉ rev3W) : after rev3 V (Proc.devRef .tc r) = V (Proc.devRef .tc r) :=
  after_of_writes_sub rev3 V rev3_writes h
theorem rev4_keep (V : Valuation τ sig (Elt Ideal)) (r : Ref sig .tc) (h : r ∉ rev4W) : after rev4 V (Proc.devRef .tc r) = V (Proc.devRef .tc r) :=
  after_of_writes_sub rev4 V rev4_writes h
theorem rev5_keep (V : Valuation τ sig (Elt Ideal)) (r : Ref sig .tc) (h : r ∉ rev5W) : after rev5 V (Proc.devRef .tc r) = V (Proc.devRef .tc r) :=
  after_of_writes_sub rev5 V rev5_writes h
theorem rev6_keep (V : Valuation τ sig (Elt Ideal)) (r : Ref sig .tc) (h : r ∉ rev6W) : after rev6 V (Proc.devRef .tc r) = V (Proc.devRef .tc r) :=
  after_of_writes_sub rev6 V rev6_writes h
theorem rev7_keep (V : Valuation τ sig (Elt Ideal)) (r : Ref sig .tc) (h : r ∉ rev7W) : after rev7 V (Proc.devRef .tc r) = V (Proc.devRef .tc r) :=
  after_of_writes_sub rev7 V rev7_writes h
theorem revCond_keep (V : Valuation τ sig (Elt Ideal)) (r : Ref sig .tc) (h : r ∉ revCondW) : after revCond V (Proc.devRef .tc r) = V (Proc.devRef .tc r) :=
  after_of_writes_sub revCond V revCond_writes h

/-- Before the reverse loop's `k`-th trip the cotangent has come through the `k` last rows, whose gradients are filled in. -/
structure RevAt (V : Valuation τ sig (Elt Ideal)) (D : Data) (k : ℕ) : Prop where
  dh : V (Proc.devRef .tc main_v94_0) = (up2 D.dh : FVec Ideal S8192x2048 .f32)
  before : V (Proc.devRef .tc main_v94_1) = (up2 D.before : FVec Ideal S8192x2048 .f32)
  a : V (Proc.devRef .tc main_v94_2) = (up2 D.a : FVec Ideal S8192x2048 .f32)
  ct : V (Proc.devRef .tc main_v94_4) = (up1 (D.tail k) : FVec Ideal S2048 .f32)
  da : V (Proc.devRef .tc main_v94_5) = (up2 fun t j => if 8192 - k ≤ t then D.g t j * D.before t j else 0 : FVec Ideal S8192x2048 .f32)
  dx : V (Proc.devRef .tc main_v94_6) = (up2 fun t j => if 8192 - k ≤ t then D.g t j else 0 : FVec Ideal S8192x2048 .f32)

/-- One more row of a stack that is filled from the last row. -/
theorem fill_back (f : ℕ → ℕ → ℝ) (k : ℕ) (hk : k < 8192) : (up2 fun t j => if t = 8191 - k then f (8191 - k) j else if 8192 - k ≤ t then f t j else 0 : FVec Ideal S8192x2048 .f32)
    = up2 fun t j => if 8192 - (k + 1) ≤ t then f t j else 0 :=
  up2_congr fun t _ j _ => by
    by_cases h : t = 8191 - k
    · subst h; rw [if_pos rfl, if_pos (by omega)]
    · rw [if_neg h]
      by_cases h' : 8192 - k ≤ t
      · rw [if_pos h', if_pos (by omega)]
      · rw [if_neg h', if_neg (by omega)]

theorem rev_step (k : ℕ) (hk : k < 8192) (H : RevAt V D k) (hc : V (Proc.devRef .tc main_v94_3) = fun _ => Scf.iv 0#32 1#32 k) :
    RevAt (afterL revI (after revCond V)) D (k + 1) := by
  have hw := back_toInt k hk
  have hl : 8191 - k < 8192 := by omega
  have hg : ∀ j, D.tail k j + D.dh (8191 - k) j = D.g (8191 - k) j := fun j => by rw [Data.g, show 8191 - (8191 - k) = k by omega]
  let V0 := after revCond V
  let V1 := after rev0 V0
  let V2 := after rev1 V1
  let V3 := after rev2 V2
  let V4 := after rev3 V3
  let V5 := after rev4 V4
  let V6 := after rev5 V5
  let V7 := after rev6 V6
  have e : afterL revI (after revCond V) = after rev7 V7 := rfl
  have k0 : ∀ r, r ∉ revCondW → V0 (Proc.devRef .tc r) = V (Proc.devRef .tc r) := revCond_keep V
  have k1 : ∀ r, r ∉ rev0W → V1 (Proc.devRef .tc r) = V0 (Proc.devRef .tc r) := rev0_keep V0
  have k2 : ∀ r, r ∉ rev1W → V2 (Proc.devRef .tc r) = V1 (Proc.devRef .tc r) := rev1_keep V1
  have k3 : ∀ r, r ∉ rev2W → V3 (Proc.devRef .tc r) = V2 (Proc.devRef .tc r) := rev2_keep V2
  have k4 : ∀ r, r ∉ rev3W → V4 (Proc.devRef .tc r) = V3 (Proc.devRef .tc r) := rev3_keep V3
  have k5 : ∀ r, r ∉ rev4W → V5 (Proc.devRef .tc r) = V4 (Proc.devRef .tc r) := rev4_keep V4
  have k6 : ∀ r, r ∉ rev5W → V6 (Proc.devRef .tc r) = V5 (Proc.devRef .tc r) := rev5_keep V5
  have k7 : ∀ r, r ∉ rev6W → V7 (Proc.devRef .tc r) = V6 (Proc.devRef .tc r) := rev6_keep V6
  have k8 : ∀ r, r ∉ rev7W → after rev7 V7 (Proc.devRef .tc r) = V7 (Proc.devRef .tc r) := rev7_keep V7
  have r0 : V1 (Proc.devRef .tc main_while1b_v136) = fun _ => 8192#32 - Scf.iv 0#32 1#32 k - 1#32 := rev0_row (V := V0) _ (by rw [k0 _ (by decide +kernel), hc])
  have r1 : V2 (Proc.devRef .tc main_while1b_v137) = (up1 (D.dh (8191 - k)) : FVec Ideal S2048 .f32) := rev1_row (V := V1) D.dh _ _ hl hw (by rw [k1 _ (by decide +kernel), k0 _ (by decide +kernel), H.dh]) r0
  have r2 : V3 (Proc.devRef .tc main_while1b_v138) = (up1 (D.before (8191 - k)) : FVec Ideal S2048 .f32) :=
    rev2_row (V := V2) D.before _ _ hl hw (by rw [k2 _ (by decide +kernel), k1 _ (by decide +kernel), k0 _ (by decide +kernel), H.before]) (by rw [k2 _ (by decide +kernel), r0])
  have r3 : V4 (Proc.devRef .tc main_while1b_v139) = (up1 (D.a (8191 - k)) : FVec Ideal S2048 .f32) :=
    rev3_row (V := V3) D.a _ _ hl hw (by rw [k3 _ (by decide +kernel), k2 _ (by decide +kernel), k1 _ (by decide +kernel), k0 _ (by decide +kernel), H.a]) (by rw [k3 _ (by decide +kernel), k2 _ (by decide +kernel), r0])
  have c4 : V4 (Proc.devRef .tc main_v94_4) = (up1 (D.tail k) : FVec Ideal S2048 .f32) := by rw [k4 _ (by decide +kernel), k3 _ (by decide +kernel), k2 _ (by decide +kernel), k1 _ (by decide +kernel), k0 _ (by decide +kernel), H.ct]
  have d4 : V4 (Proc.devRef .tc main_while1b_v137) = (up1 (D.dh (8191 - k)) : FVec Ideal S2048 .f32) := by rw [k4 _ (by decide +kernel), k3 _ (by decide +kernel), r1]
  have b4 : V4 (Proc.devRef .tc main_while1b_v138) = (up1 (D.before (8191 - k)) : FVec Ideal S2048 .f32) := by rw [k4 _ (by decide +kernel), r2]
  have r4 : V5 (Proc.devRef .tc main_while1b_v140) = (up1 (D.g (8191 - k)) : FVec Ideal S2048 .f32) := (rev4_row (V := V4) _ _ c4 d4).trans (up1_congr fun j _ => hg j)
  have r4n : V5 (Proc.devRef .tc main_while1b_v141) = (up1 (D.tail (k + 1)) : FVec Ideal S2048 .f32) := rev4_next (V := V4) _ _ _ c4 d4 r3
  have r4g : V5 (Proc.devRef .tc main_while1b_v142) = (up1 fun j => D.g (8191 - k) j * D.before (8191 - k) j : FVec Ideal S2048 .f32) :=
    (rev4_grad (V := V4) _ _ _ c4 d4 b4).trans (up1_congr fun j _ => by rw [hg])
  have r5 : V6 (Proc.devRef .tc main_while1b_v143) = (up2 fun t j => if 8192 - (k + 1) ≤ t then D.g t j * D.before t j else 0 : FVec Ideal S8192x2048 .f32) :=
    (rev5_row (V := V5) _ _ _ _ hl hw (by rw [k5 _ (by decide +kernel), k4 _ (by decide +kernel), k3 _ (by decide +kernel), k2 _ (by decide +kernel), k1 _ (by decide +kernel), k0 _ (by decide +kernel), H.da]) r4g (by rw [k5 _ (by decide +kernel), k4 _ (by decide +kernel), k3 _ (by decide +kernel), k2 _ (by decide +kernel), r0])).trans (fill_back (fun t j => D.g t j * D.before t j) k hk)
  have r6 : V7 (Proc.devRef .tc main_while1b_v144) = (up2 fun t j => if 8192 - (k + 1) ≤ t then D.g t j else 0 : FVec Ideal S8192x2048 .f32) :=
    (rev6_row (V := V6) _ _ _ _ hl hw (by rw [k6 _ (by decide +kernel), k5 _ (by decide +kernel), k4 _ (by decide +kernel), k3 _ (by decide +kernel), k2 _ (by decide +kernel), k1 _ (by decide +kernel), k0 _ (by decide +kernel), H.dx]) (by rw [k6 _ (by decide +kernel), r4]) (by rw [k6 _ (by decide +kernel), k5 _ (by decide +kernel), k4 _ (by decide +kernel), k3 _ (by decide +kernel), k2 _ (by decide +kernel), r0])).trans (fill_back D.g k hk)
  rw [e]
  refine ⟨?_, ?_, ?_, ?_, ?_, ?_⟩
  · rw [k8 _ (by decide +kernel), k7 _ (by decide +kernel), k6 _ (by decide +kernel), k5 _ (by decide +kernel), k4 _ (by decide +kernel), k3 _ (by decide +kernel), k2 _ (by decide +kernel), k1 _ (by decide +kernel), k0 _ (by decide +kernel), H.dh]
  · rw [k8 _ (by decide +kernel), k7 _ (by decide +kernel), k6 _ (by decide +kernel), k5 _ (by decide +kernel), k4 _ (by decide +kernel), k3 _ (by decide +kernel), k2 _ (by decide +kernel), k1 _ (by decide +kernel), k0 _ (by decide +kernel), H.before]
  · rw [k8 _ (by decide +kernel), k7 _ (by decide +kernel), k6 _ (by decide +kernel), k5 _ (by decide +kernel), k4 _ (by decide +kernel), k3 _ (by decide +kernel), k2 _ (by decide +kernel), k1 _ (by decide +kernel), k0 _ (by decide +kernel), H.a]
  · have : after rev7 V7 (Proc.devRef .tc main_v94_4) = V7 (Proc.devRef .tc main_while1b_v141) := by after_results; rfl
    rw [this, k7 _ (by decide +kernel), k6 _ (by decide +kernel), r4n]
  · have : after rev7 V7 (Proc.devRef .tc main_v94_5) = V7 (Proc.devRef .tc main_while1b_v143) := by after_results; rfl
    rw [this, k7 _ (by decide +kernel), r5]
  · have : after rev7 V7 (Proc.devRef .tc main_v94_6) = V7 (Proc.devRef .tc main_while1b_v144) := by after_results; rfl
    rw [this, r6]

end RefValue

end
-- ==== Proof.RefMid.lean ====
module

public import proofs.«01_k».proof.Proof.RefLoops

/-!
What the reference computes between its loops, on arguments that hold reals: the gelu, the cotangents of the states and of the gelu's input.
-/

@[expose] public section

set_option maxRecDepth 16384

noncomputable section

namespace RefValue

open Cert.ReferenceIdeal Cert.ReferenceIdeal.Gen RefOps RefRun Up Finset
open Idealize.ShloMosaic Idealize.ShloMosaic.TcCoe Idealize.ShloMosaic.StableHlo Idealize.ShloMosaic.Tactic

variable {V : Valuation τ sig (Elt Ideal)} {D : Data}

/-- What the gelu's lines read. -/
structure States (V : Valuation τ sig (Elt Ideal)) (D : Data) : Prop where
  dy : V (Proc.devRef .tc main_arg0) = (up2 D.dy : FVec Ideal S8192x2048 .f32)
  ug : V (Proc.devRef .tc main_v1) = (up2 D.ug : FVec Ideal S8192x2048 .f32)
  hs : V (Proc.devRef .tc main_v53_4) = (up2 D.h : FVec Ideal S8192x2048 .f32)

/-- The hyperbolic tangent's argument, written the other way. -/
theorem gt_eq (u : ℝ) : Real.tanh (6693141 / 8388608 * (u + 12003091 / 268435456 * (u * u * u))) = gt u :=
  congrArg Real.tanh (by rw [gc, gA]; ring)

theorem gelu_64 (H : States V D) : after geluOps V (Proc.devRef .tc main_v64) = (up2 fun t j => gt (D.ug t j) : FVec Ideal S8192x2048 .f32) := by
  have e : after geluOps V (Proc.devRef .tc main_v64) = (Host.tanh (mulf (broadcastInDim S8192x2048 ![] bcast_S_S8192x2048 (constant S_ .f32 0x3F4C422A#32)) (addf (V (Proc.devRef .tc main_v1) : FVec Ideal S8192x2048 .f32) (mulf (broadcastInDim S8192x2048 ![] bcast_S_S8192x2048 (constant S_ .f32 0x3D372713#32)) (mulf (mulf (V (Proc.devRef .tc main_v1) : FVec Ideal S8192x2048 .f32) (V (Proc.devRef .tc main_v1) : FVec Ideal S8192x2048 .f32)) (V (Proc.devRef .tc main_v1) : FVec Ideal S8192x2048 .f32))))) : FVec Ideal S8192x2048 .f32) := by
    after_results
  rw [e, H.ug, mul2, mul2, hconst2 gelu_a_word, mul2, add2, hconst2 gelu_c_word, mul2, htanh2]
  exact up2_congr fun t _ j _ => gt_eq _
theorem gelu_69 (H : States V D) : after geluOps V (Proc.devRef .tc main_v69) = (up2 fun t j => (1 + gt (D.ug t j)) * (1 - gt (D.ug t j)) : FVec Ideal S8192x2048 .f32) := by
  have e : after geluOps V (Proc.devRef .tc main_v69) = (mulf (addf (broadcastInDim S8192x2048 ![] bcast_S_S8192x2048 (constant S_ .f32 0x3F800000#32)) (after geluOps V (Proc.devRef .tc main_v64) : FVec Ideal S8192x2048 .f32)) (subf (broadcastInDim S8192x2048 ![] bcast_S_S8192x2048 (constant S_ .f32 0x3F800000#32)) (after geluOps V (Proc.devRef .tc main_v64) : FVec Ideal S8192x2048 .f32)) : FVec Ideal S8192x2048 .f32) := by
    after_results
  rw [e, gelu_64 H, hconst2 one_word, add2, sub2, mul2]
theorem gelu_73 (H : States V D) : after geluOps V (Proc.devRef .tc main_v73) = (up2 fun t j => 1 / 2 * (1 + gt (D.ug t j)) : FVec Ideal S8192x2048 .f32) := by
  have e : after geluOps V (Proc.devRef .tc main_v73) = (mulf (broadcastInDim S8192x2048 ![] bcast_S_S8192x2048 (constant S_ .f32 0x3F000000#32)) (addf (broadcastInDim S8192x2048 ![] bcast_S_S8192x2048 (constant S_ .f32 0x3F800000#32)) (after geluOps V (Proc.devRef .tc main_v64) : FVec Ideal S8192x2048 .f32)) : FVec Ideal S8192x2048 .f32) := by
    after_results
  rw [e, gelu_64 H, hconst2 one_word, add2, hconst2 half_word, mul2]
theorem gelu_78 (H : States V D) : after geluOps V (Proc.devRef .tc main_v78) = (up2 D.dh : FVec Ideal S8192x2048 .f32) := by
  have e : after geluOps V (Proc.devRef .tc main_v78) = (mulf (V (Proc.devRef .tc main_arg0) : FVec Ideal S8192x2048 .f32) (mulf (V (Proc.devRef .tc main_v1) : FVec Ideal S8192x2048 .f32) (after geluOps V (Proc.devRef .tc main_v73) : FVec Ideal S8192x2048 .f32)) : FVec Ideal S8192x2048 .f32) := by
    after_results
  rw [e, gelu_73 H, H.ug, H.dy, mul2, mul2]
  exact up2_congr fun t _ j _ => by rw [Data.dh, gelu]; ring
theorem gelu_77 (H : States V D) : after geluOps V (Proc.devRef .tc main_v77) = (up2 fun t j => D.h t j * D.dy t j : FVec Ideal S8192x2048 .f32) := by
  have e : after geluOps V (Proc.devRef .tc main_v77) = (mulf (V (Proc.devRef .tc main_v53_4) : FVec Ideal S8192x2048 .f32) (V (Proc.devRef .tc main_arg0) : FVec Ideal S8192x2048 .f32) : FVec Ideal S8192x2048 .f32) := by
    after_results
  rw [e, H.hs, H.dy, mul2]
theorem gelu_85 (H : States V D) : after geluOps V (Proc.devRef .tc main_v85) = (up2 fun t j => 6693141 / 8388608 * (1 / 2 * (D.ug t j * (D.h t j * D.dy t j)) * ((1 + gt (D.ug t j)) * (1 - gt (D.ug t j)))) : FVec Ideal S8192x2048 .f32) := by
  have e : after geluOps V (Proc.devRef .tc main_v85) = (mulf (broadcastInDim S8192x2048 ![] bcast_S_S8192x2048 (constant S_ .f32 0x3F4C422A#32)) (mulf (mulf (broadcastInDim S8192x2048 ![] bcast_S_S8192x2048 (constant S_ .f32 0x3F000000#32)) (mulf (V (Proc.devRef .tc main_v1) : FVec Ideal S8192x2048 .f32) (after geluOps V (Proc.devRef .tc main_v77) : FVec Ideal S8192x2048 .f32))) (after geluOps V (Proc.devRef .tc main_v69) : FVec Ideal S8192x2048 .f32)) : FVec Ideal S8192x2048 .f32) := by
    after_results
  rw [e, gelu_77 H, gelu_69 H, H.ug, mul2, hconst2 half_word, mul2, mul2, hconst2 gelu_c_word, mul2]
theorem gelu_86 (H : States V D) : after geluOps V (Proc.devRef .tc main_v86) = (up2 fun t j => D.h t j * D.dy t j * (1 / 2 * (1 + gt (D.ug t j))) + 6693141 / 8388608 * (1 / 2 * (D.ug t j * (D.h t j * D.dy t j)) * ((1 + gt (D.ug t j)) * (1 - gt (D.ug t j)))) : FVec Ideal S8192x2048 .f32) := by
  have e : after geluOps V (Proc.devRef .tc main_v86) = (addf (mulf (after geluOps V (Proc.devRef .tc main_v77) : FVec Ideal S8192x2048 .f32) (after geluOps V (Proc.devRef .tc main_v73) : FVec Ideal S8192x2048 .f32)) (after geluOps V (Proc.devRef .tc main_v85) : FVec Ideal S8192x2048 .f32) : FVec Ideal S8192x2048 .f32) := by
    after_results
  rw [e, gelu_77 H, gelu_73 H, gelu_85 H, mul2, add2]
theorem gelu_88 (H : States V D) : after geluOps V (Proc.devRef .tc main_v88) = (up2 fun t j => 12003091 / 268435456 * (6693141 / 8388608 * (1 / 2 * (D.ug t j * (D.h t j * D.dy t j)) * ((1 + gt (D.ug t j)) * (1 - gt (D.ug t j))))) : FVec Ideal S8192x2048 .f32) := by
  have e : after geluOps V (Proc.devRef .tc main_v88) = (mulf (broadcastInDim S8192x2048 ![] bcast_S_S8192x2048 (constant S_ .f32 0x3D372713#32)) (after geluOps V (Proc.devRef .tc main_v85) : FVec Ideal S8192x2048 .f32) : FVec Ideal S8192x2048 .f32) := by
    after_results
  rw [e, gelu_85 H, hconst2 gelu_a_word, mul2]
theorem gelu_58 (H : States V D) : after geluOps V (Proc.devRef .tc main_v58) = (up2 fun t j => 3 * (D.ug t j * D.ug t j) : FVec Ideal S8192x2048 .f32) := by
  have e : after geluOps V (Proc.devRef .tc main_v58) = (mulf (broadcastInDim S8192x2048 ![] bcast_S_S8192x2048 (constant S_ .f32 0x40400000#32)) (mulf (V (Proc.devRef .tc main_v1) : FVec Ideal S8192x2048 .f32) (V (Proc.devRef .tc main_v1) : FVec Ideal S8192x2048 .f32)) : FVec Ideal S8192x2048 .f32) := by
    after_results
  rw [e, H.ug, mul2, hconst2 three_word, mul2]
theorem gelu_keep (V : Valuation τ sig (Elt Ideal)) (r : Ref sig .tc) (h : r ∉ geluOpsW) : after geluOps V (Proc.devRef .tc r) = V (Proc.devRef .tc r) :=
  after_of_writes_sub geluOps V geluOps_writes h
theorem back_keep (V : Valuation τ sig (Elt Ideal)) (r : Ref sig .tc) (h : r ∉ backOpsW) : after backOps V (Proc.devRef .tc r) = V (Proc.devRef .tc r) :=
  after_of_writes_sub backOps V backOps_writes h

theorem mid_eq (V : Valuation τ sig (Elt Ideal)) : afterL midI V = after backOps (after geluOps V) := rfl

/-- The cotangent of the gelu's input. -/
theorem mid_90 (H : States V D) : afterL midI V (Proc.devRef .tc main_v90) = (up2 D.dug : FVec Ideal S8192x2048 .f32) := by
  have e (W : Valuation τ sig (Elt Ideal)) : after backOps W (Proc.devRef .tc main_v90) = (addf (W (Proc.devRef .tc main_v86) : FVec Ideal S8192x2048 .f32)
      (mulf (W (Proc.devRef .tc main_v88) : FVec Ideal S8192x2048 .f32) (W (Proc.devRef .tc main_v58) : FVec Ideal S8192x2048 .f32)) : FVec Ideal S8192x2048 .f32) := by
    after_results
  rw [mid_eq, e, gelu_86 H, gelu_88 H, gelu_58 H, mul2, add2]
  exact up2_congr fun t _ j _ => by
    rw [Data.dug, gelu', gc, gA]
    generalize gt (D.ug t j) = x
    ring

/-- Before the reverse loop. -/
theorem turn (H : States V D) (hb : V (Proc.devRef .tc main_v53_5) = (up2 D.before : FVec Ideal S8192x2048 .f32))
    (ha : V (Proc.devRef .tc main_v39) = (up2 D.a : FVec Ideal S8192x2048 .f32)) : RevAt (afterL midI V) D 0 where
  dh := by
    have e (W : Valuation τ sig (Elt Ideal)) : after backOps W (Proc.devRef .tc main_v94_0) = W (Proc.devRef .tc main_v78) := by after_results; rfl
    rw [mid_eq, e, gelu_78 H]
  before := by
    have e (W : Valuation τ sig (Elt Ideal)) : after backOps W (Proc.devRef .tc main_v94_1) = W (Proc.devRef .tc main_v53_5) := by after_results; rfl
    rw [mid_eq, e, gelu_keep _ _ (by decide +kernel), hb]
  a := by
    have e (W : Valuation τ sig (Elt Ideal)) : after backOps W (Proc.devRef .tc main_v94_2) = W (Proc.devRef .tc main_v39) := by after_results; rfl
    rw [mid_eq, e, gelu_keep _ _ (by decide +kernel), ha]
  ct := by
    rw [mid_eq]
    after_results
    exact hconst1 _
  da := by
    rw [mid_eq]
    refine Eq.trans (b := (up2 fun _ _ => 0 : FVec Ideal S8192x2048 .f32)) ?_ (up2_congr fun t ht j _ => by rw [if_neg (by omega)])
    after_results
    exact hconst2 zero_word _
  dx := by
    rw [mid_eq]
    refine Eq.trans (b := (up2 fun _ _ => 0 : FVec Ideal S8192x2048 .f32)) ?_ (up2_congr fun t ht j _ => by rw [if_neg (by omega)])
    after_results
    exact hconst2 zero_word _

end RefValue

end
-- ==== Proof.RefPost.lean ====
module

public import proofs.«01_k».proof.Proof.RefMid

/-!
What the reference computes after its loops, on arguments that hold reals: the gradients of the gates, the gated input and the decay parameter.
-/

@[expose] public section

set_option maxRecDepth 16384

noncomputable section

namespace RefValue

open Cert.ReferenceIdeal Cert.ReferenceIdeal.Gen RefOps RefRun Up Finset
open Idealize.ShloMosaic Idealize.ShloMosaic.TcCoe Idealize.ShloMosaic.StableHlo Idealize.ShloMosaic.Tactic

variable {V : Valuation τ sig (Elt Ideal)} {D : Data}

/-- What the lines after the loops read. -/
structure Grads (V : Valuation τ sig (Elt Ideal)) (D : Data) : Prop extends Entry V D where
  da : V (Proc.devRef .tc main_v94_5) = (up2 fun t j => D.g t j * D.before t j : FVec Ideal S8192x2048 .f32)
  dx : V (Proc.devRef .tc main_v94_6) = (up2 D.g : FVec Ideal S8192x2048 .f32)

theorem colsum_eq (f : ℕ → ℕ → ℝ) :
    shapeCast S1x2048 (Host.reduceAdd (up2 f : FVec Ideal S8192x2048 .f32) (constant (F := Ideal) S_ .f32 0x00000000#32) reducesTo_S8192x2048_S2048_d0 h_S_) shapeCasts_S2048_S1x2048
      = (up2 fun _ j => ∑ t ∈ range 8192, f t j : FVec Ideal S1x2048 .f32) :=
  (congrArg (fun w : FVec Ideal S2048 .f32 => shapeCast S1x2048 w shapeCasts_S2048_S1x2048) (hcolSums f _ _)).trans (addRow _ _)

/-- A gate's gradient through its weights, head by head. -/
theorem back_eq (e : ℕ → ℕ → ℝ) (w : ℕ → ℕ → ℕ → ℝ) :
    transpose S8192x8x256 [1, 0, 2] (Host.dotGeneral dot_S8x256x8192_S8x256x256_S8x8192x256_1_2_2_1_0_0 none
      (transpose S8x256x8192 [1, 2, 0] (shapeCast S8192x8x256 (up2 e : FVec Ideal S8192x2048 .f32) shapeCasts_S8192x2048_S8192x8x256) transposes_S8192x8x256_S8x256x8192_1_2_0)
      (up3 w : FVec Ideal S8x256x256 .f32)) transposes_S8x8192x256_S8192x8x256_1_0_2
      = (up3 fun t b j => ∑ k ∈ range 256, e t (256 * b + k) * w b j k : FVec Ideal S8192x8x256 .f32) := by
  rw [heads, turn120]
  refine Eq.trans (congrArg (fun x : FVec Ideal S8x8192x256 .f32 => transpose S8192x8x256 [1, 0, 2] x transposes_S8x8192x256_S8192x8x256_1_0_2) (byHeadT _ _ _ none)) ?_
  exact turn102 _ _

/-! ## The decay -/

theorem grad_95 (H : Grads V D) : after gradOps V (Proc.devRef .tc main_v95) = (up2 fun t j => D.mult t j * D.g t j : FVec Ideal S8192x2048 .f32) := by
  have e : after gradOps V (Proc.devRef .tc main_v95) = (mulf (V (Proc.devRef .tc main_v45) : FVec Ideal S8192x2048 .f32) (V (Proc.devRef .tc main_v94_6) : FVec Ideal S8192x2048 .f32) : FVec Ideal S8192x2048 .f32) := by
    after_results
  rw [e, H.mult, H.dx, mul2]
theorem grad_97 (H : Grads V D) : after gradOps V (Proc.devRef .tc main_v97) = (up2 fun t j => D.ig t j * (D.mult t j * D.g t j) : FVec Ideal S8192x2048 .f32) := by
  have e : after gradOps V (Proc.devRef .tc main_v97) = (mulf (V (Proc.devRef .tc main_v29) : FVec Ideal S8192x2048 .f32) (after gradOps V (Proc.devRef .tc main_v95) : FVec Ideal S8192x2048 .f32) : FVec Ideal S8192x2048 .f32) := by
    after_results
  rw [e, H.ig, grad_95 H, mul2]
theorem grad_98 (H : Grads V D) : after gradOps V (Proc.devRef .tc main_v98) = (up2 fun t j => D.mult t j * D.g t j * D.v t j : FVec Ideal S8192x2048 .f32) := by
  have e : after gradOps V (Proc.devRef .tc main_v98) = (mulf (after gradOps V (Proc.devRef .tc main_v95) : FVec Ideal S8192x2048 .f32) (V (Proc.devRef .tc main_arg5) : FVec Ideal S8192x2048 .f32) : FVec Ideal S8192x2048 .f32) := by
    after_results
  rw [e, grad_95 H, H.v, mul2]
theorem grad_105 (H : Grads V D) : after gradOps V (Proc.devRef .tc main_v105) = (up2 D.dlog : FVec Ideal S8192x2048 .f32) := by
  have e : after gradOps V (Proc.devRef .tc main_v105) = (addf (mulf (broadcastInDim S8192x2048 ![] bcast_S_S8192x2048 (constant S_ .f32 0x40000000#32)) (mulf (Host.negf (mulf (mulf (V (Proc.devRef .tc main_v94_6) : FVec Ideal S8192x2048 .f32) (V (Proc.devRef .tc main_v48) : FVec Ideal S8192x2048 .f32)) (V (Proc.devRef .tc main_v47) : FVec Ideal S8192x2048 .f32))) (V (Proc.devRef .tc main_v43) : FVec Ideal S8192x2048 .f32))) (mulf (V (Proc.devRef .tc main_v94_5) : FVec Ideal S8192x2048 .f32) (V (Proc.devRef .tc main_v39) : FVec Ideal S8192x2048 .f32)) : FVec Ideal S8192x2048 .f32) := by
    after_results
  rw [e, H.dx, H.iv, H.half, H.aa, H.da, H.a, mul2, mul2, hneg2, mul2, hconst2 two_word, mul2, mul2, add2]
  exact up2_congr fun t _ j _ => by rw [Data.dlog]; ring
theorem grad_108 (H : Grads V D) : after gradOps V (Proc.devRef .tc main_v108) = (up2 fun _ j => ∑ t ∈ range 8192, D.drate t j : FVec Ideal S1x2048 .f32) := by
  have e : after gradOps V (Proc.devRef .tc main_v108) = (shapeCast S1x2048 (Host.reduceAdd (mulf (V (Proc.devRef .tc main_v34) : FVec Ideal S8192x2048 .f32) (after gradOps V (Proc.devRef .tc main_v105) : FVec Ideal S8192x2048 .f32))
      (constant (F := Ideal) S_ .f32 0x00000000#32) reducesTo_S8192x2048_S2048_d0 h_S_) shapeCasts_S2048_S1x2048 : FVec Ideal S1x2048 .f32) := by
    after_results
    rfl
  rw [e, H.r8, grad_105 H, mul2, colsum_eq]
  exact up2_congr fun _ _ j _ => sum_congr rfl fun t _ => mul_comm _ _
theorem grad_110 (H : Grads V D) : after gradOps V (Proc.devRef .tc main_v110) = (up2 fun t j => D.dlog t j * D.sp j : FVec Ideal S8192x2048 .f32) := by
  have e : after gradOps V (Proc.devRef .tc main_v110) = (mulf (after gradOps V (Proc.devRef .tc main_v105) : FVec Ideal S8192x2048 .f32) (broadcastInDim S8192x2048 ![0, 1] bcast_S1x2048_S8192x2048_0_1 (V (Proc.devRef .tc main_v36_0) : FVec Ideal S1x2048 .f32)) : FVec Ideal S8192x2048 .f32) := by
    after_results
  rw [e, grad_105 H, H.sp, hrow2 _ _ (by decide), mul2]
theorem grad_keep (V : Valuation τ sig (Elt Ideal)) (r : Ref sig .tc) (h : r ∉ gradOpsW) : after gradOps V (Proc.devRef .tc r) = V (Proc.devRef .tc r) :=
  after_of_writes_sub gradOps V gradOps_writes h
theorem slope_keep (V : Valuation τ sig (Elt Ideal)) (r : Ref sig .tc) (h : r ∉ slopeOpsW) : after slopeOps V (Proc.devRef .tc r) = V (Proc.devRef .tc r) :=
  after_of_writes_sub slopeOps V slopeOps_writes h
theorem back2_keep (V : Valuation τ sig (Elt Ideal)) (r : Ref sig .tc) (h : r ∉ backOps2W) : after backOps2 V (Proc.devRef .tc r) = V (Proc.devRef .tc r) :=
  after_of_writes_sub backOps2 V backOps2_writes h
theorem last_keep (V : Valuation τ sig (Elt Ideal)) (r : Ref sig .tc) (h : r ∉ lastOpsW) : after lastOps V (Proc.devRef .tc r) = V (Proc.devRef .tc r) :=
  after_of_writes_sub lastOps V lastOps_writes h

/-! ## The gates, the gated input and the parameters -/

/-- What the last lines read. -/
structure Late (V : Valuation τ sig (Elt Ideal)) (D : Data) : Prop where
  wa : V (Proc.devRef .tc main_arg3) = (up3 D.wa : FVec Ideal S8x256x256 .f32)
  wi : V (Proc.devRef .tc main_arg4) = (up3 D.wi : FVec Ideal S8x256x256 .f32)
  rr : V (Proc.devRef .tc main_v17) = (up2 fun t j => D.r t j * (1 - D.r t j) : FVec Ideal S8192x2048 .f32)
  ii : V (Proc.devRef .tc main_v32) = (up2 fun t j => D.ig t j * (1 - D.ig t j) : FVec Ideal S8192x2048 .f32)
  dv : V (Proc.devRef .tc main_v97) = (up2 fun t j => D.ig t j * (D.mult t j * D.g t j) : FVec Ideal S8192x2048 .f32)
  dig : V (Proc.devRef .tc main_v98) = (up2 fun t j => D.mult t j * D.g t j * D.v t j : FVec Ideal S8192x2048 .f32)
  dr : V (Proc.devRef .tc main_v110) = (up2 fun t j => D.dlog t j * D.sp j : FVec Ideal S8192x2048 .f32)
  dlam : V (Proc.devRef .tc main_v111) = (up2 fun _ j => (∑ t ∈ range 8192, D.drate t j) * sig (-D.lam j) : FVec Ideal S1x2048 .f32)

theorem late (H : Grads V D) : Late (after slopeOps (after gradOps V)) D where
  wa := by rw [slope_keep _ _ (by decide +kernel), grad_keep _ _ (by decide +kernel), H.wa]
  wi := by rw [slope_keep _ _ (by decide +kernel), grad_keep _ _ (by decide +kernel), H.wi]
  rr := by rw [slope_keep _ _ (by decide +kernel), grad_keep _ _ (by decide +kernel), H.rr]
  ii := by rw [slope_keep _ _ (by decide +kernel), grad_keep _ _ (by decide +kernel), H.ii]
  dv := by rw [slope_keep _ _ (by decide +kernel), grad_97 H]
  dig := by rw [slope_keep _ _ (by decide +kernel), grad_98 H]
  dr := by rw [slope_keep _ _ (by decide +kernel), grad_110 H]
  dlam := by
    have e (W : Valuation τ sig (Elt Ideal)) : after slopeOps W (Proc.devRef .tc main_v111) = (mulf (W (Proc.devRef .tc main_v108) : FVec Ideal S1x2048 .f32)
        (W (Proc.devRef .tc main_v36_1) : FVec Ideal S1x2048 .f32) : FVec Ideal S1x2048 .f32) := by
      after_results
    rw [e, grad_108 H, grad_keep _ _ (by decide +kernel), H.slope, mul2]

theorem late_dlam (H : Late V D) : after backOps2 V (Proc.devRef .tc main_v112) = (up2 fun _ j => D.dlam j : FVec Ideal S1x2048 .f32) := by
  have e : after backOps2 V (Proc.devRef .tc main_v112) = (Host.negf (V (Proc.devRef .tc main_v111) : FVec Ideal S1x2048 .f32) : FVec Ideal S1x2048 .f32) := by
    after_results
  rw [e, H.dlam, hneg2]
  exact up2_congr fun _ _ j _ => by rw [Data.dlam, zero_sub, zero_sub]; ring
theorem late_dpi (H : Late V D) : after backOps2 V (Proc.devRef .tc main_v115) = (up2 D.dpi : FVec Ideal S8192x2048 .f32) := by
  have e : after backOps2 V (Proc.devRef .tc main_v115) = (mulf (V (Proc.devRef .tc main_v98) : FVec Ideal S8192x2048 .f32) (V (Proc.devRef .tc main_v32) : FVec Ideal S8192x2048 .f32) : FVec Ideal S8192x2048 .f32) := by
    after_results
  rw [e, H.dig, H.ii, mul2]
  exact up2_congr fun t _ j _ => by rw [Data.dpi, Data.dgm]; ring
theorem late_dpa (H : Late V D) : after backOps2 V (Proc.devRef .tc main_v122) = (up2 D.dpa : FVec Ideal S8192x2048 .f32) := by
  have e : after backOps2 V (Proc.devRef .tc main_v122) = (mulf (mulf (broadcastInDim S8192x2048 ![] bcast_S_S8192x2048 (constant S_ .f32 0xC1000000#32)) (V (Proc.devRef .tc main_v110) : FVec Ideal S8192x2048 .f32)) (V (Proc.devRef .tc main_v17) : FVec Ideal S8192x2048 .f32) : FVec Ideal S8192x2048 .f32) := by
    after_results
  rw [e, H.dr, H.rr, hconst2 minus_eight_word, mul2, mul2]
  exact up2_congr fun t _ j _ => by rw [Data.dpa]; ring
theorem late_dbi (H : Late V D) : after backOps2 V (Proc.devRef .tc main_v117) = (up2 fun _ j => D.dbi 8192 j : FVec Ideal S1x2048 .f32) := by
  have e : after backOps2 V (Proc.devRef .tc main_v117) = (shapeCast S1x2048 (Host.reduceAdd (after backOps2 V (Proc.devRef .tc main_v115) : FVec Ideal S8192x2048 .f32)
      (constant (F := Ideal) S_ .f32 0x00000000#32) reducesTo_S8192x2048_S2048_d0 h_S_) shapeCasts_S2048_S1x2048 : FVec Ideal S1x2048 .f32) := by
    after_results
    rfl
  rw [e, late_dpi H, colsum_eq]
  rfl
theorem late_dba (H : Late V D) : after backOps2 V (Proc.devRef .tc main_v124) = (up2 fun _ j => D.dba 8192 j : FVec Ideal S1x2048 .f32) := by
  have e : after backOps2 V (Proc.devRef .tc main_v124) = (shapeCast S1x2048 (Host.reduceAdd (after backOps2 V (Proc.devRef .tc main_v122) : FVec Ideal S8192x2048 .f32)
      (constant (F := Ideal) S_ .f32 0x00000000#32) reducesTo_S8192x2048_S2048_d0 h_S_) shapeCasts_S2048_S1x2048 : FVec Ideal S1x2048 .f32) := by
    after_results
    rfl
  rw [e, late_dpa H, colsum_eq]
  rfl
theorem late_121 (H : Late V D) : after backOps2 V (Proc.devRef .tc main_v121) = (up3 fun t b j => ∑ k ∈ range 256, D.dpi t (256 * b + k) * D.wi b j k : FVec Ideal S8192x8x256 .f32) := by
  refine Eq.trans (b := _) ?_ (back_eq D.dpi D.wi)
  rw [← late_dpi H, ← H.wi]
  after_results
  rfl
theorem late_128 (H : Late V D) : after backOps2 V (Proc.devRef .tc main_v128) = (up3 fun t b j => ∑ k ∈ range 256, D.dpa t (256 * b + k) * D.wa b j k : FVec Ideal S8192x8x256 .f32) := by
  refine Eq.trans (b := _) ?_ (back_eq D.dpa D.wa)
  rw [← late_dpa H, ← H.wa]
  after_results
  rfl
theorem late_dv (H : Late V D) : after backOps2 V (Proc.devRef .tc main_v131) = (up2 D.dv : FVec Ideal S8192x2048 .f32) := by
  have e : after backOps2 V (Proc.devRef .tc main_v131) = (addf (V (Proc.devRef .tc main_v97) : FVec Ideal S8192x2048 .f32) (shapeCast S8192x2048
      (addf (after backOps2 V (Proc.devRef .tc main_v121) : FVec Ideal S8192x8x256 .f32) (after backOps2 V (Proc.devRef .tc main_v128) : FVec Ideal S8192x8x256 .f32))
      shapeCasts_S8192x8x256_S8192x2048) : FVec Ideal S8192x2048 .f32) := by
    after_results
    rfl
  rw [e, H.dv, late_121 H, late_128 H, add3, unheads, add2]
  exact up2_congr fun t _ j _ => by rw [Data.dv, Data.back, Data.back, Data.dgm]; ring
theorem late_dra (H : Late V D) : after backOps2 V (Proc.devRef .tc main_v132) = (up2 D.dpa : FVec Ideal S8192x2048 .bf16) := by
  have e : after backOps2 V (Proc.devRef .tc main_v132) = (truncf .bf16 (after backOps2 V (Proc.devRef .tc main_v122) : FVec Ideal S8192x2048 .f32) bitsLt_bf16_f32 : FVec Ideal S8192x2048 .bf16) := by
    after_results
  rw [e, late_dpa H, trunc2]

/-! ## The results -/

theorem post_eq (V : Valuation τ sig (Elt Ideal)) : afterL postI V = after lastOps (after backOps2 (after slopeOps (after gradOps V))) := rfl

variable (H : Grads V D)
include H

theorem post_dra : afterL postI V (Proc.devRef .tc main_v132) = (up2 D.dpa : FVec Ideal S8192x2048 .bf16) := by
  rw [post_eq, last_keep _ _ (by decide +kernel), late_dra (late H)]
theorem post_dia : afterL postI V (Proc.devRef .tc main_v133) = (up2 D.dpi : FVec Ideal S8192x2048 .bf16) := by
  have e (W : Valuation τ sig (Elt Ideal)) : after lastOps W (Proc.devRef .tc main_v133) = (truncf .bf16 (W (Proc.devRef .tc main_v115) : FVec Ideal S8192x2048 .f32) bitsLt_bf16_f32 : FVec Ideal S8192x2048 .bf16) := by
    after_results
  rw [post_eq, e, late_dpi (late H), trunc2]
theorem post_dv : afterL postI V (Proc.devRef .tc main_v131) = (up2 D.dv : FVec Ideal S8192x2048 .f32) := by
  rw [post_eq, last_keep _ _ (by decide +kernel), late_dv (late H)]
theorem post_dba : afterL postI V (Proc.devRef .tc main_v124) = (up2 fun _ j => D.dba 8192 j : FVec Ideal S1x2048 .f32) := by
  rw [post_eq, last_keep _ _ (by decide +kernel), late_dba (late H)]
theorem post_dbi : afterL postI V (Proc.devRef .tc main_v117) = (up2 fun _ j => D.dbi 8192 j : FVec Ideal S1x2048 .f32) := by
  rw [post_eq, last_keep _ _ (by decide +kernel), late_dbi (late H)]
theorem post_dlam : afterL postI V (Proc.devRef .tc main_v112) = (up2 fun _ j => D.dlam j : FVec Ideal S1x2048 .f32) := by
  rw [post_eq, last_keep _ _ (by decide +kernel), late_dlam (late H)]
omit H in
theorem post_dug (h : V (Proc.devRef .tc main_v90) = (up2 D.dug : FVec Ideal S8192x2048 .f32)) : afterL postI V (Proc.devRef .tc main_v134) = (up2 D.dug : FVec Ideal S8192x2048 .bf16) := by
  have e (W : Valuation τ sig (Elt Ideal)) : after lastOps W (Proc.devRef .tc main_v134) = (truncf .bf16 (W (Proc.devRef .tc main_v90) : FVec Ideal S8192x2048 .f32) bitsLt_bf16_f32 : FVec Ideal S8192x2048 .bf16) := by
    after_results
  rw [post_eq, e, back2_keep _ _ (by decide +kernel), slope_keep _ _ (by decide +kernel), grad_keep _ _ (by decide +kernel), h, trunc2]

end RefValue

end
-- ==== Proof.RefValue.lean ====
module

public import proofs.«01_k».proof.Proof.RefPost

/-!
The reference's results on arguments that hold reals: both loops run to their ends, and the seven results are the gradients of the
specification.
-/

@[expose] public section

set_option maxRecDepth 16384

noncomputable section

namespace RefValue

open Cert.ReferenceIdeal Cert.ReferenceIdeal.Gen RefOps RefRun Up Finset
open Idealize.ShloMosaic Idealize.ShloMosaic.TcCoe Idealize.ShloMosaic.StableHlo Idealize.ShloMosaic.Tactic

/-- What is read after the loops and written before them. -/
abbrev entryRefs : List (Ref sig .tc) := [main_arg0, main_arg3, main_arg4, main_arg5, main_v1, main_v17, main_v29, main_v32, main_v34, main_v36_0, main_v36_1,
  main_v39, main_v43, main_v45, main_v47, main_v48]
theorem Entry.keep {V V' : Valuation τ sig (Elt Ideal)} {D : Data} (H : Entry V D)
    (h : ∀ r ∈ entryRefs, V' (Proc.devRef .tc r) = V (Proc.devRef .tc r)) : Entry V' D where
  dy := (h _ (by simp)).trans H.dy
  wa := (h _ (by simp)).trans H.wa
  wi := (h _ (by simp)).trans H.wi
  v := (h _ (by simp)).trans H.v
  ug := (h _ (by simp)).trans H.ug
  rr := (h _ (by simp)).trans H.rr
  ig := (h _ (by simp)).trans H.ig
  ii := (h _ (by simp)).trans H.ii
  r8 := (h _ (by simp)).trans H.r8
  sp := (h _ (by simp)).trans H.sp
  slope := (h _ (by simp)).trans H.slope
  a := (h _ (by simp)).trans H.a
  aa := (h _ (by simp)).trans H.aa
  mult := (h _ (by simp)).trans H.mult
  half := (h _ (by simp)).trans H.half
  iv := (h _ (by simp)).trans H.iv
theorem entryRefs_fwd : ∀ r ∈ entryRefs, (∀ W ∈ fwdW, r ∉ W) ∧ r ∉ fwdCondW := by decide +kernel
theorem entryRefs_mid : ∀ r ∈ entryRefs, ∀ W ∈ midW, r ∉ W := by decide +kernel
theorem entryRefs_rev : ∀ r ∈ entryRefs, (∀ W ∈ revW, r ∉ W) ∧ r ∉ revCondW := by decide +kernel

variable (m : (ℓ : Loc nD τ sig) → Buf (Elt Ideal) ℓ) (c : Dev nD) {D : Data} (H : Given (launchContents m c) D)
include H

/-! ## The loops -/

theorem entry_at : Entry (atEntry m c) D := entry H

/-- Before the forward loop's `k`-th trip. -/
theorem fwd_at : ∀ k ≤ 8192, FwdAt (atFwd m k c) D k
  | 0, _ => by
    have h : Carried (atFwd m 0 c) D := entry_carried H
    exact ⟨h.a, h.x, h.h.trans (up1_congr fun j _ => by rw [Data.before, if_pos rfl]),
      h.hs.trans (up2_congr fun t _ j _ => by rw [if_neg (Nat.not_lt_zero t)]), h.before.trans (up2_congr fun t _ j _ => by rw [if_neg (Nat.not_lt_zero t)])⟩
  | k + 1, hk => fwd_step k (by omega) (fwd_at k (by omega)) (atFwd_counter m c k) (H.step k (by omega))

theorem states_entry : Entry (atStates m c) D :=
  (entry_at m c H).keep fun r hr => atStates_keep m c r (entryRefs_fwd r hr).1 (entryRefs_fwd r hr).2

theorem turn_at : RevAt (atTurn m c) D 0 := by
  have h := fwd_at m c H 8192 le_rfl
  have E := states_entry m c H
  refine turn ⟨E.dy, E.ug, ?_⟩ ?_ E.a
  · rw [atStates, fwdCond_keep _ _ (by decide +kernel), h.hs]
    exact up2_congr fun t ht j _ => by rw [if_pos ht]
  · rw [atStates, fwdCond_keep _ _ (by decide +kernel), h.before]
    exact up2_congr fun t ht j _ => by rw [if_pos ht]

/-- Before the reverse loop's `k`-th trip. -/
theorem rev_at : ∀ k ≤ 8192, RevAt (atRev m k c) D k
  | 0, _ => turn_at m c H
  | k + 1, hk => rev_step k (by omega) (rev_at k (by omega)) (atRev_counter m c k)

theorem turn_entry : Entry (atTurn m c) D :=
  (states_entry m c H).keep fun r hr => mid_keep _ r (entryRefs_mid r hr)

theorem grads_at : Grads (atGrads m c) D where
  toEntry := (turn_entry m c H).keep fun r hr => atGrads_keep m c r (entryRefs_rev r hr).1 (entryRefs_rev r hr).2
  da := by
    rw [atGrads, revCond_keep _ _ (by decide +kernel), (rev_at m c H 8192 le_rfl).da]
    exact up2_congr fun t _ j _ => by rw [if_pos (by omega)]
  dx := by
    rw [atGrads, revCond_keep _ _ (by decide +kernel), (rev_at m c H 8192 le_rfl).dx]
    exact up2_congr fun t _ j _ => by rw [if_pos (by omega)]

theorem dug_at : atGrads m c (Proc.devRef .tc main_v90) = (up2 D.dug : FVec Ideal S8192x2048 .f32) := by
  have h := fwd_at m c H 8192 le_rfl
  have E := states_entry m c H
  rw [atGrads_keep m c _ (by decide +kernel) (by decide +kernel), atTurn]
  refine mid_90 ⟨E.dy, E.ug, ?_⟩
  rw [atStates, fwdCond_keep _ _ (by decide +kernel), h.hs]
  exact up2_congr fun t ht j _ => by rw [if_pos ht]

/-! ## The results -/

theorem end_dra : atEnd m c (Proc.devRef .tc main_v132) = (up2 D.dpa : FVec Ideal S8192x2048 .bf16) := post_dra (grads_at m c H)
theorem end_dia : atEnd m c (Proc.devRef .tc main_v133) = (up2 D.dpi : FVec Ideal S8192x2048 .bf16) := post_dia (grads_at m c H)
theorem end_dv : atEnd m c (Proc.devRef .tc main_v131) = (up2 D.dv : FVec Ideal S8192x2048 .f32) := post_dv (grads_at m c H)
theorem end_dug : atEnd m c (Proc.devRef .tc main_v134) = (up2 D.dug : FVec Ideal S8192x2048 .bf16) := post_dug (dug_at m c H)
theorem end_dba : atEnd m c (Proc.devRef .tc main_v124) = (up2 fun _ j => D.dba 8192 j : FVec Ideal S1x2048 .f32) := post_dba (grads_at m c H)
theorem end_dbi : atEnd m c (Proc.devRef .tc main_v117) = (up2 fun _ j => D.dbi 8192 j : FVec Ideal S1x2048 .f32) := post_dbi (grads_at m c H)
theorem end_dlam : atEnd m c (Proc.devRef .tc main_v112) = (up2 fun _ j => D.dlam j : FVec Ideal S1x2048 .f32) := post_dlam (grads_at m c H)

end RefValue

end
-- ==== Proof.Values.lean ====
module

public import proofs.«01_k».proof.Defs
public import proofs.«01_k».proof.Proof.Admissible
public import proofs.«01_k».proof.Proof.KernelValue
public import proofs.«01_k».proof.Proof.RefValue

/-!
The results of both programs over the reals, and that they agree.
-/

@[expose] public section

set_option maxRecDepth 16384

noncomputable section

namespace Cert.Proof

open Idealize.ShloMosaic Idealize.ShloMosaic.StableHlo Idealize.SL.Sem Up

/-- Device `c` of the kernel's initial memory holds the reals of `D`, as the kernel and the reference each read them. -/
structure Reads (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (D : Data) : Prop where
  kernel : KernelValue.Holds m c D
  reference : RefValue.Given (launchContents m' c) D

/-- The precondition gives every device its reals. -/
theorem reads (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e : Pre_KernelIdeal_admissible m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    ∃ D : Data, Reads m m' c D := by
  obtain ⟨D, P, dy, h, ⟨ug, hug⟩, wa, wi, v, ba, bi, lam, above, step⟩ := Admissible.reals (e c)
  exact ⟨D, ⟨dy, h, ⟨P, ug, hug⟩, wa, wi, v, ba, bi, lam, above⟩,
    ⟨Eq.trans h0 dy, ⟨P, Eq.trans h2 ug, hug⟩, Eq.trans h3 wa, Eq.trans h4 wi, Eq.trans h5 v, Eq.trans h6 ba, Eq.trans h7 bi, Eq.trans h8 lam, above, step⟩⟩

/-- The kernel's seven results, of the reals. -/
theorem kernel_values (m : (ℓ : Loc Cert.KernelIdeal.nD Cert.KernelIdeal.τ Cert.KernelIdeal.sig) → Buf (Elt Ideal) ℓ) (g : Dev Cert.KernelIdeal.nD → PrngReg)
    (D : Dev Cert.KernelIdeal.nD → Data) (H : ∀ c, KernelValue.Holds m c (D c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = (up2 (D c).dpa : FVec Ideal Cert.KernelIdeal.S8192x2048 .bf16)
      ∧ r.2.mem ((c.tc : Thread Cert.KernelIdeal.nD Cert.KernelIdeal.τ).loc Cert.KernelIdeal.main_v2_1) = (up2 (D c).dpi : FVec Ideal Cert.KernelIdeal.S8192x2048 .bf16)
      ∧ r.2.mem ((c.tc : Thread Cert.KernelIdeal.nD Cert.KernelIdeal.τ).loc Cert.KernelIdeal.main_v2_2) = (up2 (D c).dv : FVec Ideal Cert.KernelIdeal.S8192x2048 .f32)
      ∧ r.2.mem ((c.tc : Thread Cert.KernelIdeal.nD Cert.KernelIdeal.τ).loc Cert.KernelIdeal.main_v2_3) = (up2 (D c).dug : FVec Ideal Cert.KernelIdeal.S8192x2048 .bf16)
      ∧ r.2.mem ((c.tc : Thread Cert.KernelIdeal.nD Cert.KernelIdeal.τ).loc Cert.KernelIdeal.main_v2_4) = (up2 fun _ j => (D c).dba 8192 j : FVec Ideal Cert.KernelIdeal.S1x2048 .f32)
      ∧ r.2.mem ((c.tc : Thread Cert.KernelIdeal.nD Cert.KernelIdeal.τ).loc Cert.KernelIdeal.main_v2_5) = (up2 fun _ j => (D c).dbi 8192 j : FVec Ideal Cert.KernelIdeal.S1x2048 .f32)
      ∧ r.2.mem ((c.tc : Thread Cert.KernelIdeal.nD Cert.KernelIdeal.τ).loc Cert.KernelIdeal.main_v2_6) = (up2 fun _ j => (D c).dlam j : FVec Ideal Cert.KernelIdeal.S1x2048 .f32)) :=
  (θ_run Cert.KernelIdeal.defs _ _).mono (fun _ h c =>
    ⟨((h.1 c).1 10).trans (KernelValue.arr_10 (H c)), ((h.1 c).1 11).trans (KernelValue.arr_11 (H c)), ((h.1 c).1 12).trans (KernelValue.arr_12 (H c)),
      ((h.1 c).1 13).trans (KernelValue.arr_13 (H c)), ((h.1 c).1 14).trans (KernelValue.arr_14 (H c)), ((h.1 c).1 15).trans (KernelValue.arr_15 (H c)),
      ((h.1 c).1 16).trans (KernelValue.arr_16 (H c))⟩) (KernelRun.run m g)

/-- The reference's seven results, of the reals. -/
theorem reference_values (m : (ℓ : Loc Cert.ReferenceIdeal.nD Cert.ReferenceIdeal.τ Cert.ReferenceIdeal.sig) → Buf (Elt Ideal) ℓ) (g : Dev Cert.ReferenceIdeal.nD → PrngReg)
    (D : Dev Cert.ReferenceIdeal.nD → Data) (H : ∀ c, RefValue.Given (launchContents m c) (D c)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v132) = (up2 (D c).dpa : FVec Ideal Cert.ReferenceIdeal.S8192x2048 .bf16)
      ∧ r.2.mem ((c.tc : Thread Cert.ReferenceIdeal.nD Cert.ReferenceIdeal.τ).loc Cert.ReferenceIdeal.main_v133) = (up2 (D c).dpi : FVec Ideal Cert.ReferenceIdeal.S8192x2048 .bf16)
      ∧ r.2.mem ((c.tc : Thread Cert.ReferenceIdeal.nD Cert.ReferenceIdeal.τ).loc Cert.ReferenceIdeal.main_v131) = (up2 (D c).dv : FVec Ideal Cert.ReferenceIdeal.S8192x2048 .f32)
      ∧ r.2.mem ((c.tc : Thread Cert.ReferenceIdeal.nD Cert.ReferenceIdeal.τ).loc Cert.ReferenceIdeal.main_v134) = (up2 (D c).dug : FVec Ideal Cert.ReferenceIdeal.S8192x2048 .bf16)
      ∧ r.2.mem ((c.tc : Thread Cert.ReferenceIdeal.nD Cert.ReferenceIdeal.τ).loc Cert.ReferenceIdeal.main_v124) = (up2 fun _ j => (D c).dba 8192 j : FVec Ideal Cert.ReferenceIdeal.S1x2048 .f32)
      ∧ r.2.mem ((c.tc : Thread Cert.ReferenceIdeal.nD Cert.ReferenceIdeal.τ).loc Cert.ReferenceIdeal.main_v117) = (up2 fun _ j => (D c).dbi 8192 j : FVec Ideal Cert.ReferenceIdeal.S1x2048 .f32)
      ∧ r.2.mem ((c.tc : Thread Cert.ReferenceIdeal.nD Cert.ReferenceIdeal.τ).loc Cert.ReferenceIdeal.main_v112) = (up2 fun _ j => (D c).dlam j : FVec Ideal Cert.ReferenceIdeal.S1x2048 .f32)) :=
  (θ_run Cert.ReferenceIdeal.defs _ _).mono (fun _ h c =>
    ⟨(h c Cert.ReferenceIdeal.main_v132 rfl).trans (RefValue.end_dra m c (H c)), (h c Cert.ReferenceIdeal.main_v133 rfl).trans (RefValue.end_dia m c (H c)),
      (h c Cert.ReferenceIdeal.main_v131 rfl).trans (RefValue.end_dv m c (H c)), (h c Cert.ReferenceIdeal.main_v134 rfl).trans (RefValue.end_dug m c (H c)),
      (h c Cert.ReferenceIdeal.main_v124 rfl).trans (RefValue.end_dba m c (H c)), (h c Cert.ReferenceIdeal.main_v117 rfl).trans (RefValue.end_dbi m c (H c)),
      (h c Cert.ReferenceIdeal.main_v112 rfl).trans (RefValue.end_dlam m c (H c))⟩) (RefRun.run m g)

/-- Both programs end with the same seven results, and leave their arguments as they were. -/
theorem algebraic : Cert.algebraic_KernelIdeal_ReferenceIdeal_pre_admissible := by
  intro m g m' g' e hm
  choose D hD using fun c => reads m m' c e (hm c).1 (hm c).2.2.1 (hm c).2.2.2.1 (hm c).2.2.2.2.1 (hm c).2.2.2.2.2.1 (hm c).2.2.2.2.2.2.1 (hm c).2.2.2.2.2.2.2.1 (hm c).2.2.2.2.2.2.2.2
  refine ⟨fun c => (up2 (D c).dpa : FVec Ideal Cert.KernelIdeal.S8192x2048 .bf16), fun c => (up2 (D c).dpi : FVec Ideal Cert.KernelIdeal.S8192x2048 .bf16),
    fun c => (up2 (D c).dv : FVec Ideal Cert.KernelIdeal.S8192x2048 .f32), fun c => (up2 (D c).dug : FVec Ideal Cert.KernelIdeal.S8192x2048 .bf16),
    fun c => (up2 fun _ j => (D c).dba 8192 j : FVec Ideal Cert.KernelIdeal.S1x2048 .f32), fun c => (up2 fun _ j => (D c).dbi 8192 j : FVec Ideal Cert.KernelIdeal.S1x2048 .f32),
    fun c => (up2 fun _ j => (D c).dlam j : FVec Ideal Cert.KernelIdeal.S1x2048 .f32), ?_, ?_⟩
  · refine (θ_run Cert.KernelIdeal.defs _ _).mono (fun r h c => ?_) (θ_run_and (kernel_values m g D fun c => (hD c).kernel) (KernelRun.frame m g))
    obtain ⟨v0, v1, v2, v3, v4, v5, v6⟩ := h.1 c
    exact ⟨v0, v1, v2, v3, v4, v5, v6, h.2.1 c⟩
  · refine (θ_run Cert.ReferenceIdeal.defs _ _).mono (fun r h c => ?_) (θ_run_and (reference_values m' g' D fun c => (hD c).reference) (RefRun.frame m' g'))
    obtain ⟨v0, v1, v2, v3, v4, v5, v6⟩ := h.1 c
    exact ⟨v0, v1, v2, v3, v4, v5, v6, h.2.1 c⟩

end Cert.Proof

end
-- ==== Proof.Entries.lean ====
module

public import Idealize.ShloMosaic.Lib.ValueIdx

/-!
Entries of an array of three axes at natural coordinates, and a long sum cut into equal parts.
-/

@[expose] public section

noncomputable section

namespace Entries

open Idealize.ShloMosaic Idealize.ShloMosaic.ValueIdx Finset

/-- The origin of two axes is zero throughout. -/
theorem zero2 : (![0, 0] : Fin 2 → ℕ) = fun _ => 0 := funext fun a => by fin_cases a <;> rfl

/-- The origin of three axes is zero throughout. -/
theorem zero3 : (![0, 0, 0] : Fin 3 → ℕ) = fun _ => 0 := funext fun a => by fin_cases a <;> rfl

/-- The entry of `x` at coordinates `i`, `j`, `k`, and zero where there is none. -/
def el {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- An array at an index is its entry at the index's coordinates. -/
theorem eq_el {a b c : ℕ} (x : (⟨3, ![a, b, c]⟩ : Shape).Idx → EReal) (y : (⟨3, ![a, b, c]⟩ : Shape).Idx) {i j k : ℕ}
    (hi : (y 0).val = i) (hj : (y 1).val = j) (hk : (y 2).val = k) : x y = el x i j k := by
  subst hi hj hk
  rw [el, dif_pos ⟨(y 0).isLt, (y 1).isLt, (y 2).isLt⟩]
  congr 1
  funext d
  fin_cases d <;> rfl

/-- A sum of `p * q` terms is the sum of its `p` consecutive parts of `q` terms. -/
theorem sum_parts (f : ℕ → EReal) (p q : ℕ) : ∑ k : Fin (p * q), f k.val = ∑ s ∈ range p, ∑ k : Fin q, f (q * s + k.val) := by
  rw [Fin.sum_univ_eq_sum_range f (p * q)]
  induction p with
  | zero => simp
  | succ p ih =>
    rw [Nat.succ_mul, sum_range_add, ih, sum_range_succ, Fin.sum_univ_eq_sum_range (fun k => f (q * p + k)) q, mul_comm q p]

/-- A value that every fourth point sets to its term, and to which every other point adds its own, is the sum of the terms since it was set. -/
theorem running {N : ℕ} (acc : ∀ n, n < N → EReal) (f : ℕ → EReal) (first : ∀ n h, n % 4 = 0 → acc n h = f n)
    (later : ∀ n h, (n + 1) % 4 ≠ 0 → acc (n + 1) h = acc n (Nat.lt_of_succ_lt h) + f (n + 1)) :
    ∀ n h, acc n h = ∑ s ∈ range (n % 4 + 1), f (n / 4 * 4 + s) := by
  intro n
  induction n with
  | zero => intro h; simpa using first 0 h rfl
  | succ n ih =>
    intro h
    by_cases h0 : (n + 1) % 4 = 0
    · rw [first _ h h0, h0, zero_add, sum_range_one]
      congr 1
      omega
    · rw [later n h h0, ih, sum_range_succ _ ((n + 1) % 4), show (n + 1) % 4 = n % 4 + 1 by omega, show (n + 1) / 4 = n / 4 by omega]
      congr 2
      omega

end Entries

end
-- ==== Proof.Products.lean ====
module

public import proofs.«01_k».proof.Proof.Entries
public import Idealize.ShloMosaic.Lib.MatmulPlain
public import Idealize.ShloMosaic.Lib.ValueLayout

/-!
A product of two blocks with a leading axis of extent one, entry by entry, for each of the three ways of contracting them.
-/

@[expose] public section

noncomputable section

namespace Products

open Idealize.ShloMosaic Idealize.ShloMosaic.ValueIdx Finset Entries

/-- A matrix with a leading axis of extent one. -/
def lead {a b : ℕ} (x : (⟨2, ![a, b]⟩ : Shape).Idx → EReal) : (⟨3, ![1, a, b]⟩ : Shape).Idx → EReal := fun i => x (ix2 (i 1) (i 2))

/-- A matrix at an index is its entry at the index's coordinates. -/
theorem eq_lead {a b : ℕ} (x : (⟨2, ![a, b]⟩ : Shape).Idx → EReal) (y : (⟨2, ![a, b]⟩ : Shape).Idx) {i j : ℕ}
    (hi : (y 0).val = i) (hj : (y 1).val = j) : x y = el (lead x) 0 i j := by
  refine Eq.trans (congrArg x (funext fun d => ?_)) (eq_el (lead x) (ix3 0 (y 0) (y 1)) rfl hi hj)
  fin_cases d <;> rfl

/-- Giving a matrix a leading axis changes no entry. -/
theorem shapeCast_lead {a b : ℕ} (x : FVec Ideal ⟨2, ![a, b]⟩ .bf16) (h) : shapeCast ⟨3, ![1, a, b]⟩ x h = (lead x : FVec Ideal ⟨3, ![1, a, b]⟩ .bf16) := by
  funext y
  obtain ⟨p, r, j, rfl⟩ : ∃ (p : Fin 1) (r : Fin a) (j : Fin b), y = ix3 p r j := ⟨_, _, _, eq_ix3 y⟩
  obtain rfl : p = 0 := Subsingleton.elim _ _
  exact shapeCast_ab_1ab_apply _ _ _ _ _

/-- The constant zero. -/
theorem zero_apply {s : Shape} (i : s.Idx) : (constant (F := Ideal) s .f32 0x00000000#32 i : EReal) = 0 := Ideal.ofBits_zero_f32

/-- Rows of the first by columns of the second. -/
theorem nn {M K N : ℕ} (x : FVec Ideal ⟨3, ![1, M, K]⟩ .bf16) (y : FVec Ideal ⟨3, ![1, K, N]⟩ .bf16) (hx hy) (r : Fin M) (j : Fin N) :
    FloatOps.matmul (DotDims.plain M K N) none (shapeCast ⟨2, ![M, K]⟩ x hx) (shapeCast ⟨2, ![K, N]⟩ y hy) (constant (F := Ideal) _ .f32 0x00000000#32)
      (ix2 r j) = ∑ k : Fin K, x (ix3 0 r k) * y (ix3 0 k j) := by
  rw [Ideal.matmul_plain_apply, zero_apply, zero_add]
  simp only [shapeCast_1ab_ab_apply]

/-- Rows of the first by rows of the second. -/
theorem nt {M K N : ℕ} (x : FVec Ideal ⟨3, ![1, M, K]⟩ .bf16) (y : FVec Ideal ⟨3, ![1, N, K]⟩ .bf16) (hx hy) (r : Fin M) (j : Fin N) :
    FloatOps.matmul (DotDims.transposedRhs M K N) none (shapeCast ⟨2, ![M, K]⟩ x hx) (shapeCast ⟨2, ![N, K]⟩ y hy)
      (constant (F := Ideal) _ .f32 0x00000000#32) (ix2 r j) = ∑ k : Fin K, x (ix3 0 r k) * y (ix3 0 j k) := by
  rw [Ideal.matmul_transposedRhs_apply, zero_apply, zero_add]
  simp only [shapeCast_1ab_ab_apply]

/-- The contraction of two blocks of `K` rows along their rows. -/
def rows (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)), (by decide : (([] ++ [1] ++ [0] : List (Fin 2))).Perm (List.finRange 2)),
    rfl, by show 0 < 2; decide, fun a => by fin_cases a <;> rfl⟩

variable {K M N : ℕ}

/-- Where the contraction reads its first operand. -/
theorem lhs_rows (r : Fin M) (j : Fin N) (k : Fin K) : (rows K M N).lhsIdx (ix2 r j) ((contrEquiv1 (rows K M N) K rfl rfl).symm k) = ix2 k r := by
  funext a
  refine Fin.ext ?_
  fin_cases a
  · exact ((rows K M N).lhsIdx_val_of_single rfl _ _).trans (contrEquiv1_symm_val (rows K M N) K rfl rfl k)
  · rfl

/-- Where the contraction reads its second operand. -/
theorem rhs_rows (r : Fin M) (j : Fin N) (k : Fin K) : (rows K M N).rhsIdx (ix2 r j) ((contrEquiv1 (rows K M N) K rfl rfl).symm k) = ix2 k j := by
  funext a
  refine Fin.ext ?_
  fin_cases a
  · exact ((rows K M N).rhsIdx_val_of_single rfl _ _).trans (contrEquiv1_symm_val (rows K M N) K rfl rfl k)
  · rfl

/-- Columns of the first by columns of the second. -/
theorem tn (x : FVec Ideal ⟨3, ![1, K, M]⟩ .bf16) (y : FVec Ideal ⟨3, ![1, K, N]⟩ .bf16) (hx hy) (r : Fin M) (j : Fin N) :
    FloatOps.matmul (rows K M N) none (shapeCast ⟨2, ![K, M]⟩ x hx) (shapeCast ⟨2, ![K, N]⟩ y hy) (constant (F := Ideal) _ .f32 0x00000000#32)
      (ix2 r j) = ∑ k : Fin K, x (ix3 0 k r) * y (ix3 0 k j) := by
  rw [Ideal.matmul_apply, ← Equiv.sum_comp (contrEquiv1 (rows K M N) K rfl rfl).symm, zero_apply, zero_add]
  refine sum_congr rfl fun k _ => ?_
  rw [lhs_rows, rhs_rows, shapeCast_1ab_ab_apply, shapeCast_1ab_ab_apply]

/-- A matrix rounded and given a leading axis, entry by entry. -/
theorem rounded {M N : ℕ} (x : FVec Ideal ⟨2, ![M, N]⟩ .f32) (h hb) (r : Fin M) (j : Fin N) :
    (shapeCast ⟨3, ![1, M, N]⟩ (truncf .bf16 x hb : FVec Ideal ⟨2, ![M, N]⟩ .bf16) h : FVec Ideal ⟨3, ![1, M, N]⟩ .bf16) (ix3 0 r j) = x (ix2 r j) :=
  shapeCast_ab_1ab_apply _ _ _ _ _

end Products

end
-- ==== Proof.UpX.lean ====
module

public import proofs.«01_k».proof.Defs
public import proofs.«01_k».proof.Proof.Products
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit.Geometry

/-!
The gradient of the up projection with respect to its input: the kernel adds up four products, each over a quarter of the
projection's columns, and the reference takes one product over all of them.
-/

@[expose] public section

set_option maxRecDepth 16384

noncomputable section

namespace UpX

open Idealize.ShloMosaic Idealize.ShloMosaic.TcCoe Idealize.ShloMosaic.ValueIdx Idealize.SL.Sem Finset Entries Products

/-- Part `s` of the gradient's entry at row `r` and column `j`: the product over the `s`-th quarter of the projection's columns. -/
def part (d : (⟨3, ![2, 8192, 6144]⟩ : Shape).Idx → EReal) (w : (⟨3, ![4, 2048, 3072]⟩ : Shape).Idx → EReal) (s r j : ℕ) : EReal :=
  ∑ k : Fin 3072, el d (s / 2) r (3072 * (s % 2) + k.val) * el w s j k.val

/-- The gradient: the sum of the four parts. -/
def dx (d : (⟨3, ![2, 8192, 6144]⟩ : Shape).Idx → EReal) (w : (⟨3, ![4, 2048, 3072]⟩ : Shape).Idx → EReal) :
    (⟨3, ![1, 8192, 2048]⟩ : Shape).Idx → EReal := fun i => ∑ s ∈ range 4, part d w s (i 1).val (i 2).val

section Kernel

open Cert.Kernel2Ideal Cert.Kernel2Ideal.Gen

/-! ## What one point leaves -/

section Point

variable (c : Dev nD) (i : grid0.Coords) (a3 : Memref sig .tc .vmem S1x1024x3072 .bf16) (h3 : a3.IsWhole)
  (a4 : Memref sig .tc .vmem S1x1024x3072 .bf16) (h4 : a4.IsWhole) (a5 : Memref sig .tc .vmem S1x1024x1024 .f32) (h5 : a5.IsWhole)
  (a6 : Memref sig .tc .vmem S1024x1024 .f32) (h6 : a6.IsWhole) (x y : Vec Ideal S1x1024x3072 .bf16) (z : Vec Ideal S1024x1024 .f32)

/-- The first point of a block leaves its product in the accumulator. -/
theorem acc_A (e0 : cond0_0 i) (e1 : ¬cond0_1 i) (e2 : ¬cond0_2 i) :
    sout0_A_0 c i a3 h3 a4 h4 a5 h5 a6 h6 e0 e1 e2 x y = k0_pay2 x y := by
  unfold sout0_A_0
  rw [View.read_writes_eq_canon _ _ _ (scover0_A_0 c i a3 h3 a4 h4 a5 h5 a6 h6 e0 e1 e2 x y)]
  unfold kernelRun0_A
  dsimp only
  sl_unfold_words
  rw [View.canon_unit_zero (S := S1024x1024) zero2]
  simp only [View.readAt_eq_ld, h3.read_unread, h4.read_unread, View.ld_unit_zero (S := S1x1024x3072) zero3]

/-- A later point adds its product. -/
theorem acc_B (e0 : ¬cond0_0 i) (e1 : cond0_1 i) (e2 : ¬cond0_2 i) :
    sout0_B_0 c i a3 h3 a4 h4 a5 h5 a6 h6 e0 e1 e2 x y z = k0_pay3 x y z := by
  unfold sout0_B_0
  rw [View.read_writes_eq_canon _ _ _ (scover0_B_0 c i a3 h3 a4 h4 a5 h5 a6 h6 e0 e1 e2 x y z)]
  unfold kernelRun0_B
  dsimp only
  sl_unfold_words
  rw [View.canon_unit_zero (S := S1024x1024) zero2]
  simp only [View.readAt_eq_ld, h3.read_unread, h4.read_unread, h6.read_unread, View.ld_unit_zero (S := S1x1024x3072) zero3,
    View.ld_unit_zero (S := S1024x1024) zero2]

/-- So does the last. -/
theorem acc_C (e0 : ¬cond0_0 i) (e1 : cond0_1 i) (e2 : cond0_2 i) :
    sout0_C_0 c i a3 h3 a4 h4 a5 h5 a6 h6 e0 e1 e2 x y z = k0_pay3 x y z := by
  unfold sout0_C_0
  rw [View.read_writes_eq_canon _ _ _ (scover0_C_0 c i a3 h3 a4 h4 a5 h5 a6 h6 e0 e1 e2 x y z)]
  unfold kernelRun0_C
  dsimp only
  sl_unfold_words
  rw [View.canon_unit_zero (S := S1024x1024) zero2]
  simp only [View.readAt_eq_ld, h3.read_unread, h4.read_unread, h6.read_unread, View.ld_unit_zero (S := S1x1024x3072) zero3,
    View.ld_unit_zero (S := S1024x1024) zero2]

/-- The last point writes the accumulator out. -/
theorem out_C (e0 : ¬cond0_0 i) (e1 : cond0_1 i) (e2 : cond0_2 i) :
    out0_C_2 c i a3 h3 a4 h4 a5 h5 a6 h6 e0 e1 e2 x y z = k0_pay4 (k0_pay3 x y z) := by
  unfold out0_C_2
  rw [View.read_writes_eq_canon _ _ _ (cover0_C_2 c i a3 h3 a4 h4 a5 h5 a6 h6 e0 e1 e2 x y z)]
  unfold kernelRun0_C
  dsimp only
  sl_unfold_words
  rw [View.canon_unit_zero (S := S1x1024x1024) zero3]
  rw [View.readCov_unit_zero (S := S1024x1024) _ zero2]
  simp only [View.readAt_eq_ld, h3.read_unread, h4.read_unread, h6.read_unread, View.ld_unit_zero (S := S1x1024x3072) zero3,
    View.ld_unit_zero (S := S1024x1024) zero2]

/-- A point's product, entry by entry. -/
theorem product (r j : Fin 1024) : k0_pay1 x y (ix2 r j) = ∑ k : Fin 3072, x (ix3 0 r k) * y (ix3 0 j k) := nt x y _ _ r j

/-- The first point's value, entry by entry. -/
theorem first_apply (r j : Fin 1024) : k0_pay2 x y (ix2 r j) = ∑ k : Fin 3072, x (ix3 0 r k) * y (ix3 0 j k) := by
  rw [← product]
  unfold k0_pay2
  rw [shapeCast_self]

/-- A later point's value, entry by entry. -/
theorem later_apply (r j : Fin 1024) : k0_pay3 x y z (ix2 r j) = z (ix2 r j) + ∑ k : Fin 3072, x (ix3 0 r k) * y (ix3 0 j k) := by
  rw [← product]
  unfold k0_pay3
  rw [shapeCast_self]
  rfl

end Point

/-! ## The blocks a point reads -/

variable (m : (ℓ : Loc nD τ sig) → Buf (Elt Ideal) ℓ) (c : Dev nD)

/-- The activation's gradient. -/
abbrev dup : (⟨3, ![2, 8192, 6144]⟩ : Shape).Idx → EReal := m ((c : Thread nD τ).loc main_arg0)

/-- The up projection. -/
abbrev wup : (⟨3, ![4, 2048, 3072]⟩ : Shape).Idx → EReal := m ((c : Thread nD τ).loc main_arg1)

/-- Where the blocks of a point lie. -/
theorem lies : ∀ t : Fin cfg0.N, win0_0.index t = ![t.val % 4 / 2, t.val / 8, t.val % 2]
    ∧ win0_1.index t = ![t.val % 4, t.val / 4 % 2, 0] ∧ win0_2.index t = ![0, t.val / 8, t.val / 4 % 2] := by decide +kernel

/-- The activation's gradient, as a point reads it. -/
theorem blk_0 (t : Fin cfg0.N) (y : S1x1024x3072.Idx) : (iblk m c 0 t : Vec Ideal S1x1024x3072 .bf16) y
    = el (dup m c) (t.val % 4 / 2) (1024 * (t.val / 8) + (y 1).val) (3072 * (t.val % 2) + (y 2).val) := by
  have e := (lies t).1
  have h : (y 0).val < 1 := (y 0).isLt
  blk_simp [iblk]
  refine (congrFun (V_main_arg0 m c) _).trans (eq_el (dup m c) _ ?_ ?_ ?_) <;> blk_simp [e] <;> omega

/-- The projection, as a point reads it. -/
theorem blk_1 (t : Fin cfg0.N) (y : S1x1024x3072.Idx) : (iblk m c 1 t : Vec Ideal S1x1024x3072 .bf16) y
    = el (wup m c) (t.val % 4) (1024 * (t.val / 4 % 2) + (y 1).val) (y 2).val := by
  have e := (lies t).2.1
  have h : (y 0).val < 1 := (y 0).isLt
  blk_simp [iblk]
  refine (congrFun (V_main_arg1 m c) _).trans (eq_el (wup m c) _ ?_ ?_ ?_) <;> blk_simp [e] <;> omega

/-- A point's part of the gradient. -/
abbrev own (t : Fin cfg0.N) (r j : Fin 1024) : EReal :=
  part (dup m c) (wup m c) (t.val % 4) (1024 * (t.val / 8) + r.val) (1024 * (t.val / 4 % 2) + j.val)

/-- One term of a point's product. -/
theorem term (t : Fin cfg0.N) (r j : Fin 1024) (k : Fin 3072) :
    HMul.hMul (α := EReal) (β := EReal) (γ := EReal) ((iblk m c 0 t : Vec Ideal S1x1024x3072 .bf16) (ix3 0 r k)) ((iblk m c 1 t : Vec Ideal S1x1024x3072 .bf16) (ix3 0 j k))
      = el (dup m c) (t.val % 4 / 2) (1024 * (t.val / 8) + r.val) (3072 * (t.val % 4 % 2) + k.val)
        * el (wup m c) (t.val % 4) (1024 * (t.val / 4 % 2) + j.val) k.val := by
  rw [show t.val % 4 % 2 = t.val % 2 by omega]
  exact congrArg₂ (· * ·) (blk_0 m c t (ix3 0 r k)) (blk_1 m c t (ix3 0 j k))

/-- The first point's value is its part. -/
theorem first_eq (t : Fin cfg0.N) (r j : Fin 1024) : k0_pay2 (iblk m c 0 t) (iblk m c 1 t) (ix2 r j) = own m c t r j :=
  (first_apply _ _ r j).trans (sum_congr rfl fun k _ => term m c t r j k)

/-- A later point adds its part. -/
theorem later_eq (t : Fin cfg0.N) (z : Vec Ideal S1024x1024 .f32) (r j : Fin 1024) :
    k0_pay3 (iblk m c 0 t) (iblk m c 1 t) z (ix2 r j) = z (ix2 r j) + own m c t r j :=
  (later_apply _ _ z r j).trans (congrArg (z (ix2 r j) + ·) (sum_congr rfl fun k _ => term m c t r j k))

/-! ## The accumulator and the result -/

/-- After a point the accumulator holds the parts up to the point's own. -/
theorem scratch (r j : Fin 1024) : ∀ (n : ℕ) (h : n < cfg0.N), (outsAt0 m c n h).2 (ix2 r j)
    = ∑ s ∈ range (n % 4 + 1), part (dup m c) (wup m c) s (1024 * (n / 8) + r.val) (1024 * (n / 4 % 2) + j.val) := by
  intro n
  induction n with
  | zero =>
    intro h
    refine (congrFun (congrArg Prod.snd (outsAt0_A m c ⟨0, h⟩ (by simp) (by simp) (by simp))) _).trans ?_
    dsimp only
    rw [acc_A, first_eq]
    simp [own]
  | succ n ih =>
    intro h
    by_cases h0 : (n + 1) % 4 = 0
    · refine (congrFun (congrArg Prod.snd (outsAt0_A m c ⟨n + 1, h⟩ h0 (by dsimp only; omega) (by dsimp only; omega))) _).trans ?_
      dsimp only
      rw [acc_A, first_eq]
      simp only [own, h0, zero_add, sum_range_one]
    · have e : (outsAt0 m c (n + 1) h).2 (ix2 r j) = (outsAt0 m c n (Nat.lt_of_succ_lt h)).2 (ix2 r j)
          + part (dup m c) (wup m c) ((n + 1) % 4) (1024 * ((n + 1) / 8) + r.val) (1024 * ((n + 1) / 4 % 2) + j.val) := by
        by_cases h2 : (n + 1) % 4 = 3
        · refine (congrFun (congrArg Prod.snd (outsAt0_C m c ⟨n + 1, h⟩ h0 (by dsimp only; omega) h2)) _).trans ?_
          dsimp only
          rw [acc_C, later_eq]
          rfl
        · refine (congrFun (congrArg Prod.snd (outsAt0_B m c ⟨n + 1, h⟩ h0 (by dsimp only; omega) h2)) _).trans ?_
          dsimp only
          rw [acc_B, later_eq]
          rfl
      rw [e, ih, sum_range_succ _ ((n + 1) % 4), show (n + 1) % 4 = n % 4 + 1 by omega, show (n + 1) / 8 = n / 8 by omega,
        show (n + 1) / 4 = n / 4 by omega]

/-- The last point of a block writes the block's four parts. -/
theorem written (t : Fin cfg0.N) (h2 : t.val % 4 = 3) (y : S1x1024x1024.Idx) : (outsAt0 m c t.val t.isLt).1 y
    = ∑ s ∈ range 4, part (dup m c) (wup m c) s (1024 * (t.val / 8) + (y 1).val) (1024 * (t.val / 4 % 2) + (y 2).val) := by
  obtain ⟨a, r, j, rfl⟩ : ∃ (a : Fin 1) (r j : Fin 1024), y = ix3 a r j := ⟨_, _, _, eq_ix3 y⟩
  obtain rfl : a = 0 := Subsingleton.elim _ _
  have e := outsAt0_C m c t (by omega) (by omega) h2
  have s := scratch m c r j t.val t.isLt
  rw [e] at s ⊢
  dsimp only at s ⊢
  rw [acc_C, h2] at s
  rw [out_C]
  unfold k0_pay4
  rw [shapeCast_ab_1ab_apply]
  exact s

/-- The result is the gradient. -/
theorem arr : (dats m 0 c).arrAt 2 cfg0.N = (dx (dup m c) (wup m c) : FVec Ideal S1x8192x2048 .f32) := by
  refine (dats m 0 c).arrAt_eq_of_covers 2 _ (by decide +kernel) fun t hf y => ?_
  have e := (lies t).2.2
  rw [after0_2]
  refine (written m c t ((flush0_2 t).mp hf) y).trans ?_
  unfold dx
  refine sum_congr rfl fun s _ => ?_
  congr 1 <;> blk_simp [e] <;> omega

end Kernel

/-! ## The reference -/

section Reference

open Cert.Reference2Ideal Cert.Reference2Ideal.Read

/-- The reference's product over all columns is the sum of the four parts. -/
theorem plain (d : FVec Ideal S2x8192x6144 .bf16) (w : FVec Ideal S4x2048x3072 .bf16) : val_main_v11 (F := Ideal) d w = (dx d w : FVec Ideal S1x8192x2048 .f32) := by
  funext i
  rw [val_main_v11_apply, val_main_v10_apply]
  refine Eq.trans (b := ∑ k : Fin (4 * 3072), el d (k.val / 6144) (i 1).val (k.val % 6144) * el w (k.val / 3072) (i 2).val (k.val % 3072)) ?_ ?_
  · refine sum_congr rfl fun k _ => ?_
    have hk := k.isLt
    have h1 : (i 1).val < 8192 := (i 1).isLt
    have h2 : (i 2).val < 2048 := (i 2).isLt
    rw [val_main_v9_apply, val_main_v8_apply, val_main_v7_apply, val_main_v3_apply, val_main_v2_apply, val_main_v1_apply]
    refine congrArg₂ (· * ·) (eq_el d _ ?_ ?_ ?_) (eq_el w _ ?_ ?_ ?_)
    · show ((i 1).val * 12288 + k.val) / 6144 % 2 = _; omega
    · show ((i 1).val * 12288 + k.val) / 12288 = _; omega
    · show ((i 1).val * 12288 + k.val) % 6144 = _; omega
    · show ((i 2).val * 12288 + k.val) / 3072 % 4 = _; omega
    · show ((i 2).val * 12288 + k.val) / 12288 = _; omega
    · show ((i 2).val * 12288 + k.val) % 3072 = _; omega
  · rw [sum_parts fun k => el d (k / 6144) (i 1).val (k % 6144) * el w (k / 3072) (i 2).val (k % 3072)]
    refine sum_congr rfl fun s _ => sum_congr rfl fun k _ => ?_
    have hk := k.isLt
    rw [show (3072 * s + k.val) / 6144 = s / 2 by omega, show (3072 * s + k.val) % 6144 = 3072 * (s % 2) + k.val by omega,
      show (3072 * s + k.val) / 3072 = s by omega, show (3072 * s + k.val) % 3072 = k.val by omega]

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => dx (dup m c) (wup m c), ?_, ?_⟩
  · refine (θ_run _ _ _).mono (fun r h c => ?_) (Cert.Kernel2Ideal.Value.run_blocks m g)
    exact ⟨(h c).1.trans (arr m c), (h c).2⟩
  · refine (θ_run _ _ _).mono (fun r h c => ?_) (Cert.Reference2Ideal.Value.run m' g')
    refine ⟨(h c).1.trans ?_, (h c).2⟩
    rw [(hargs c).1, (hargs c).2]
    exact plain _ _

end UpX

end
-- ==== Proof.UpW.lean ====
module

public import proofs.«01_k».proof.Defs
public import proofs.«01_k».proof.Proof.Products
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit.Geometry

/-!
The gradient of the up projection itself: the kernel adds up two products, each over half of the tokens, and the reference takes
one product over all of them.
-/

@[expose] public section

set_option maxRecDepth 16384

noncomputable section

namespace UpW

open Idealize.ShloMosaic Idealize.ShloMosaic.TcCoe Idealize.ShloMosaic.ValueIdx Idealize.SL.Sem Finset Entries Products

/-- Part `s` of the gradient's entry at row `r` and column `j` of the whole projection: the product over the `s`-th half of the
    tokens. -/
def part (h : (⟨2, ![8192, 2048]⟩ : Shape).Idx → EReal) (d : (⟨3, ![2, 8192, 6144]⟩ : Shape).Idx → EReal) (s r j : ℕ) : EReal :=
  ∑ k : Fin 4096, el (lead h) 0 (4096 * s + k.val) r * el d (j / 6144) (4096 * s + k.val) (j % 6144)

/-- The gradient, in four quarters of the columns: the sum of the two parts. -/
def dw (h : (⟨2, ![8192, 2048]⟩ : Shape).Idx → EReal) (d : (⟨3, ![2, 8192, 6144]⟩ : Shape).Idx → EReal) :
    (⟨3, ![4, 2048, 3072]⟩ : Shape).Idx → EReal := fun i => ∑ s ∈ range 2, part h d s (i 1).val (3072 * (i 0).val + (i 2).val)

section Kernel

open Cert.Kernel3Ideal Cert.Kernel3Ideal.Gen

/-! ## What one point leaves -/

section Point

variable (c : Dev nD) (i : grid0.Coords) (a3 : Memref sig .tc .vmem S1x4096x1024 .bf16) (h3 : a3.IsWhole)
  (a4 : Memref sig .tc .vmem S1x4096x1024 .bf16) (h4 : a4.IsWhole) (a5 : Memref sig .tc .vmem S1x1024x1024 .bf16) (h5 : a5.IsWhole)
  (a6 : Memref sig .tc .vmem S1024x1024 .f32) (h6 : a6.IsWhole) (x y : Vec Ideal S1x4096x1024 .bf16) (z : Vec Ideal S1024x1024 .f32)

/-- The first point of a block leaves its product in the accumulator. -/
theorem acc_A (e0 : cond0_0 i) (e1 : ¬cond0_1 i) (e2 : ¬cond0_2 i) :
    sout0_A_0 c i a3 h3 a4 h4 a5 h5 a6 h6 e0 e1 e2 x y = k0_pay2 x y := by
  unfold sout0_A_0
  rw [View.read_writes_eq_canon _ _ _ (scover0_A_0 c i a3 h3 a4 h4 a5 h5 a6 h6 e0 e1 e2 x y)]
  unfold kernelRun0_A
  dsimp only
  sl_unfold_words
  rw [View.canon_unit_zero (S := S1024x1024) zero2]
  simp only [View.readAt_eq_ld, h3.read_unread, h4.read_unread, View.ld_unit_zero (S := S1x4096x1024) zero3]

/-- The second point adds its product. -/
theorem acc_B (e0 : ¬cond0_0 i) (e1 : cond0_1 i) (e2 : cond0_2 i) :
    sout0_B_0 c i a3 h3 a4 h4 a5 h5 a6 h6 e0 e1 e2 x y z = k0_pay3 x y z := by
  unfold sout0_B_0
  rw [View.read_writes_eq_canon _ _ _ (scover0_B_0 c i a3 h3 a4 h4 a5 h5 a6 h6 e0 e1 e2 x y z)]
  unfold kernelRun0_B
  dsimp only
  sl_unfold_words
  rw [View.canon_unit_zero (S := S1024x1024) zero2]
  simp only [View.readAt_eq_ld, h3.read_unread, h4.read_unread, h6.read_unread, View.ld_unit_zero (S := S1x4096x1024) zero3,
    View.ld_unit_zero (S := S1024x1024) zero2]

/-- It writes the accumulator out. -/
theorem out_B (e0 : ¬cond0_0 i) (e1 : cond0_1 i) (e2 : cond0_2 i) :
    out0_B_2 c i a3 h3 a4 h4 a5 h5 a6 h6 e0 e1 e2 x y z = k0_pay4 (k0_pay3 x y z) := by
  unfold out0_B_2
  rw [View.read_writes_eq_canon _ _ _ (cover0_B_2 c i a3 h3 a4 h4 a5 h5 a6 h6 e0 e1 e2 x y z)]
  unfold kernelRun0_B
  dsimp only
  sl_unfold_words
  rw [View.canon_unit_zero (S := S1x1024x1024) zero3]
  rw [View.readCov_unit_zero (S := S1024x1024) _ zero2]
  simp only [View.readAt_eq_ld, h3.read_unread, h4.read_unread, h6.read_unread, View.ld_unit_zero (S := S1x4096x1024) zero3,
    View.ld_unit_zero (S := S1024x1024) zero2]

/-- A point's product, entry by entry. -/
theorem product (r j : Fin 1024) : k0_pay1 x y (ix2 r j) = ∑ k : Fin 4096, x (ix3 0 k r) * y (ix3 0 k j) := tn x y _ _ r j

/-- The first point's value, entry by entry. -/
theorem first_apply (r j : Fin 1024) : k0_pay2 x y (ix2 r j) = ∑ k : Fin 4096, x (ix3 0 k r) * y (ix3 0 k j) := by
  rw [← product]
  unfold k0_pay2
  rw [shapeCast_self]

/-- The second point's value, entry by entry. -/
theorem later_apply (r j : Fin 1024) : k0_pay3 x y z (ix2 r j) = z (ix2 r j) + ∑ k : Fin 4096, x (ix3 0 k r) * y (ix3 0 k j) := by
  rw [← product]
  unfold k0_pay3
  rw [shapeCast_self]
  rfl

end Point

/-! ## The blocks a point reads -/

variable (m : (ℓ : Loc nD τ sig) → Buf (Elt Ideal) ℓ) (c : Dev nD)

/-- The input. -/
abbrev inp : (⟨2, ![8192, 2048]⟩ : Shape).Idx → EReal := m ((c : Thread nD τ).loc main_arg0)

/-- The activation's gradient. -/
abbrev dup : (⟨3, ![2, 8192, 6144]⟩ : Shape).Idx → EReal := m ((c : Thread nD τ).loc main_arg1)

/-- Where the blocks of a point lie. -/
theorem lies : ∀ t : Fin cfg0.N, win0_0.index t = ![0, t.val % 2, t.val / 24]
    ∧ win0_1.index t = ![t.val / 2 % 12 / 6, t.val % 2, t.val / 2 % 12 % 6]
    ∧ win0_2.index t = ![t.val / 2 % 12 / 3, t.val / 24, t.val / 2 % 12 % 3] := by decide +kernel

/-- The kernel reads the input with a leading axis. -/
theorem V_lead : V m c main_v0 = (lead (inp m c) : FVec Ideal S1x8192x2048 .bf16) := by
  have : V m c main_v0 = shapeCast S1x8192x2048 (m ((c : Thread nD τ).loc main_arg0) : FVec Ideal S8192x2048 .bf16) shapeCasts_S8192x2048_S1x8192x2048 := by
    simp only [V, hostOps0]
    after_results
    rfl
  rw [this]
  exact shapeCast_lead _ _

/-- The input, as a point reads it. -/
theorem blk_0 (t : Fin cfg0.N) (y : S1x4096x1024.Idx) : (iblk m c 0 t : Vec Ideal S1x4096x1024 .bf16) y
    = el (lead (inp m c)) 0 (4096 * (t.val % 2) + (y 1).val) (1024 * (t.val / 24) + (y 2).val) := by
  have e := (lies t).1
  have h : (y 0).val < 1 := (y 0).isLt
  blk_simp [iblk]
  refine (congrFun (V_lead m c) _).trans (eq_el (lead (inp m c)) _ ?_ ?_ ?_) <;> blk_simp [e] <;> omega

/-- The activation's gradient, as a point reads it. -/
theorem blk_1 (t : Fin cfg0.N) (y : S1x4096x1024.Idx) : (iblk m c 1 t : Vec Ideal S1x4096x1024 .bf16) y
    = el (dup m c) ((1024 * (t.val / 2 % 12) + (y 2).val) / 6144) (4096 * (t.val % 2) + (y 1).val) ((1024 * (t.val / 2 % 12) + (y 2).val) % 6144) := by
  have e := (lies t).2.1
  have h : (y 0).val < 1 := (y 0).isLt
  have h2 : (y 2).val < 1024 := (y 2).isLt
  blk_simp [iblk]
  refine (congrFun (V_main_arg1 m c) _).trans (eq_el (dup m c) _ ?_ ?_ ?_) <;> blk_simp [e] <;> omega

/-- A point's part of the gradient. -/
abbrev own (t : Fin cfg0.N) (r j : Fin 1024) : EReal :=
  part (inp m c) (dup m c) (t.val % 2) (1024 * (t.val / 24) + r.val) (1024 * (t.val / 2 % 12) + j.val)

/-- The first point's value is its part. -/
theorem first_eq (t : Fin cfg0.N) (r j : Fin 1024) : k0_pay2 (iblk m c 0 t) (iblk m c 1 t) (ix2 r j) = own m c t r j :=
  (first_apply _ _ r j).trans (sum_congr rfl fun k _ => congrArg₂ (· * ·) (blk_0 m c t (ix3 0 k r)) (blk_1 m c t (ix3 0 k j)))

/-- The second point adds its part. -/
theorem later_eq (t : Fin cfg0.N) (z : Vec Ideal S1024x1024 .f32) (r j : Fin 1024) :
    k0_pay3 (iblk m c 0 t) (iblk m c 1 t) z (ix2 r j) = z (ix2 r j) + own m c t r j :=
  (later_apply _ _ z r j).trans (congrArg (z (ix2 r j) + ·)
    (sum_congr rfl fun k _ => congrArg₂ (· * ·) (blk_0 m c t (ix3 0 k r)) (blk_1 m c t (ix3 0 k j))))

/-! ## The accumulator and the result -/

/-- After the first point of a block the accumulator holds the first part. -/
theorem scratch (n : ℕ) (h : n < cfg0.N) (h0 : n % 2 = 0) (r j : Fin 1024) : (outsAt0 m c n h).2 (ix2 r j) = own m c ⟨n, h⟩ r j := by
  refine (congrFun (congrArg Prod.snd (outsAt0_A m c ⟨n, h⟩ h0 (by dsimp only; omega) (by dsimp only; omega))) _).trans ?_
  dsimp only
  rw [acc_A, first_eq]

/-- The second point writes the block's two parts. -/
theorem written (t : Fin cfg0.N) (h1 : t.val % 2 = 1) (y : S1x1024x1024.Idx) : (outsAt0 m c t.val t.isLt).1 y
    = ∑ s ∈ range 2, part (inp m c) (dup m c) s (1024 * (t.val / 24) + (y 1).val) (1024 * (t.val / 2 % 12) + (y 2).val) := by
  obtain ⟨a, r, j, rfl⟩ : ∃ (a : Fin 1) (r j : Fin 1024), y = ix3 a r j := ⟨_, _, _, eq_ix3 y⟩
  obtain rfl : a = 0 := Subsingleton.elim _ _
  rw [outsAt0_B m c t (by omega) h1 h1]
  dsimp only
  rw [out_B]
  refine ((rounded _ _ _ r j).trans (later_eq m c t _ r j)).trans ?_
  rw [scratch m c (t.val - 1) _ (by omega), sum_range_succ, sum_range_one, own, own, h1]
  dsimp only
  rw [show (t.val - 1) % 2 = 0 by omega, show (t.val - 1) / 24 = t.val / 24 by omega, show (t.val - 1) / 2 = t.val / 2 by omega]

/-- The result is the gradient. -/
theorem arr : (dats m 0 c).arrAt 2 cfg0.N = (dw (inp m c) (dup m c) : FVec Ideal S4x2048x3072 .bf16) := by
  refine (dats m 0 c).arrAt_eq_of_covers 2 _ (by decide +kernel) fun t hf y => ?_
  have e := (lies t).2.2
  have h : (y 0).val < 1 := (y 0).isLt
  rw [after0_2]
  refine (written m c t ((flush0_2 t).mp hf) y).trans ?_
  unfold dw
  refine sum_congr rfl fun s _ => ?_
  congr 1 <;> blk_simp [e] <;> omega

end Kernel

/-! ## The reference -/

section Reference

open Cert.Reference3Ideal Cert.Reference3Ideal.Read

/-- The reference's product over all tokens is the sum of the two parts. -/
theorem plain (h : FVec Ideal S8192x2048 .bf16) (d : FVec Ideal S2x8192x6144 .bf16) :
    val_main_v14 (F := Ideal) h d = (dw h d : FVec Ideal S4x2048x3072 .bf16) := by
  funext i
  have h0 : (i 0).val < 4 := (i 0).isLt
  have h1 : (i 1).val < 2048 := (i 1).isLt
  have h2 : (i 2).val < 3072 := (i 2).isLt
  rw [val_main_v14_apply, val_main_v13_apply, val_main_v12_apply, val_main_v11_apply, val_main_v10_apply]
  refine Eq.trans (b := ∑ k : Fin (2 * 4096), el (lead h) 0 k.val (i 1).val
    * el d ((3072 * (i 0).val + (i 2).val) / 6144) k.val ((3072 * (i 0).val + (i 2).val) % 6144)) ?_
    (sum_parts (fun k => el (lead h) 0 k (i 1).val * el d ((3072 * (i 0).val + (i 2).val) / 6144) k ((3072 * (i 0).val + (i 2).val) % 6144)) 2 4096)
  refine sum_congr rfl fun k _ => ?_
  have hk := k.isLt
  rw [val_main_v9_apply, val_main_v8_apply, val_main_v7_apply, val_main_v1_apply, mul_comm]
  refine congrArg₂ (· * ·) (eq_lead h _ rfl ?_) (eq_el d _ ?_ ?_ ?_)
  · show (((i 1).val * 4 + (i 0).val) * 3072 + (i 2).val) / 12288 = (i 1).val; omega
  · show (k.val * 12288 + (((i 1).val * 4 + (i 0).val) * 3072 + (i 2).val) % 12288) / 6144 % 2 = _; omega
  · show (k.val * 12288 + (((i 1).val * 4 + (i 0).val) * 3072 + (i 2).val) % 12288) / 12288 = _; omega
  · show (k.val * 12288 + (((i 1).val * 4 + (i 0).val) * 3072 + (i 2).val) % 12288) % 6144 = _; omega

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => dw (inp m c) (dup m c), ?_, ?_⟩
  · refine (θ_run _ _ _).mono (fun r h c => ?_) (Cert.Kernel3Ideal.Value.run_blocks m g)
    exact ⟨(h c).1.trans (arr m c), (h c).2⟩
  · refine (θ_run _ _ _).mono (fun r h c => ?_) (Cert.Reference3Ideal.Value.run m' g')
    refine ⟨(h c).1.trans ?_, (h c).2⟩
    rw [(hargs c).1, (hargs c).2]
    exact plain _ _

end UpW

end
-- ==== Proof.UpFwd.lean ====
module

public import proofs.«01_k».proof.Defs
public import proofs.«01_k».proof.Proof.Products
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit.Geometry

/-!
The up projection of the forward pass: each grid point of the kernel takes one block of the product whole.
-/

@[expose] public section

set_option maxRecDepth 16384

noncomputable section

namespace UpFwd

open Idealize.ShloMosaic Idealize.ShloMosaic.TcCoe Idealize.ShloMosaic.ValueIdx Idealize.SL.Sem Finset Entries Products

/-- The entry at row `r` and column `j` of the projection of `h` by `w`, whose columns come in four quarters. -/
def entry (h : (⟨2, ![8192, 2048]⟩ : Shape).Idx → EReal) (w : (⟨3, ![4, 2048, 3072]⟩ : Shape).Idx → EReal) (r j : ℕ) : EReal :=
  ∑ k : Fin 2048, el (lead h) 0 r k.val * el w (j / 3072) k.val (j % 3072)

/-- The projection. -/
def up (h : (⟨2, ![8192, 2048]⟩ : Shape).Idx → EReal) (w : (⟨3, ![4, 2048, 3072]⟩ : Shape).Idx → EReal) :
    (⟨3, ![1, 8192, 12288]⟩ : Shape).Idx → EReal := fun i => entry h w (i 1).val (i 2).val

section Kernel

open Cert.Kernel4Ideal Cert.Kernel4Ideal.Gen

/-- What a point writes, entry by entry. -/
theorem product (x : Vec Ideal S1x1024x2048 .bf16) (y : Vec Ideal S1x2048x1536 .bf16) (r : Fin 1024) (j : Fin 1536) :
    (out0_2 x y : Vec Ideal S1x1024x1536 .bf16) (ix3 0 r j) = ∑ k : Fin 2048, x (ix3 0 r k) * y (ix3 0 k j) := by
  unfold out0_2
  rw [View.canon_unit_zero (S := S1x1024x1536) zero3, View.ld_unit_zero (S := S1x1024x2048) zero3, View.ld_unit_zero (S := S1x2048x1536) zero3]
  exact (rounded _ _ _ r j).trans (nn x y _ _ r j)

variable (m : (ℓ : Loc nD τ sig) → Buf (Elt Ideal) ℓ) (c : Dev nD)

/-- The input. -/
abbrev inp : (⟨2, ![8192, 2048]⟩ : Shape).Idx → EReal := m ((c : Thread nD τ).loc main_arg0)

/-- The projection. -/
abbrev wup : (⟨3, ![4, 2048, 3072]⟩ : Shape).Idx → EReal := m ((c : Thread nD τ).loc main_arg1)

/-- Where the blocks of a point lie. -/
theorem lies : ∀ t : Fin cfg0.N, win0_0.index t = ![0, t.val / 8, 0] ∧ win0_1.index t = ![t.val % 8 / 2, 0, t.val % 2]
    ∧ win0_2.index t = ![0, t.val / 8, t.val % 8] := by decide +kernel

/-- The kernel reads the input with a leading axis. -/
theorem V_inp : V m c main_v0 = (lead (inp m c) : FVec Ideal S1x8192x2048 .bf16) := by
  have : V m c main_v0 = shapeCast S1x8192x2048 (m ((c : Thread nD τ).loc main_arg0) : FVec Ideal S8192x2048 .bf16) shapeCasts_S8192x2048_S1x8192x2048 := by
    simp only [V, hostOps0]
    after_results
    rfl
  rw [this]
  exact shapeCast_lead _ _

/-- The input, as a point reads it. -/
theorem blk_0 (t : Fin cfg0.N) (y : S1x1024x2048.Idx) : (iblk m c 0 t : Vec Ideal S1x1024x2048 .bf16) y = el (lead (inp m c)) 0 (1024 * (t.val / 8) + (y 1).val) (y 2).val := by
  have e := (lies t).1
  have h : (y 0).val < 1 := (y 0).isLt
  blk_simp [iblk]
  refine (congrFun (V_inp m c) _).trans (eq_el (lead (inp m c)) _ ?_ ?_ ?_) <;> blk_simp [e] <;> omega

/-- The projection, as a point reads it. -/
theorem blk_1 (t : Fin cfg0.N) (y : S1x2048x1536.Idx) : (iblk m c 1 t : Vec Ideal S1x2048x1536 .bf16) y = el (wup m c) ((1536 * (t.val % 8) + (y 2).val) / 3072) (y 1).val ((1536 * (t.val % 8) + (y 2).val) % 3072) := by
  have e := (lies t).2.1
  have h : (y 0).val < 1 := (y 0).isLt
  have h2 : (y 2).val < 1536 := (y 2).isLt
  blk_simp [iblk]
  refine (congrFun (V_main_arg1 m c) _).trans (eq_el (wup m c) _ ?_ ?_ ?_) <;> blk_simp [e] <;> omega

/-- What a point writes are entries of the result. -/
theorem written (t : Fin cfg0.N) (y : S1x1024x1536.Idx) : (out0_2 (iblk m c 0 t) (iblk m c 1 t) : Vec Ideal S1x1024x1536 .bf16) y
    = entry (inp m c) (wup m c) (1024 * (t.val / 8) + (y 1).val) (1536 * (t.val % 8) + (y 2).val) := by
  obtain ⟨a, r, j, rfl⟩ : ∃ (a : Fin 1) (r : Fin 1024) (j : Fin 1536), y = ix3 a r j := ⟨_, _, _, eq_ix3 y⟩
  obtain rfl : a = 0 := Subsingleton.elim _ _
  exact (product _ _ r j).trans (sum_congr rfl fun k _ => congrArg₂ (· * ·) (blk_0 m c t (ix3 0 r k)) (blk_1 m c t (ix3 0 k j)))

/-- The result, entry by entry. -/
theorem arr : (dats m 0 c).arrAt 2 cfg0.N = (up (inp m c) (wup m c) : FVec Ideal S1x8192x12288 .bf16) := by
  refine (dats m 0 c).arrAt_eq_of_covers 2 _ (by decide +kernel) fun t _ y => ?_
  have e := (lies t).2.2
  have h : (dats m 0 c).after 2 t = (fun y => entry (inp m c) (wup m c) (1024 * (t.val / 8) + (y 1).val) (1536 * (t.val % 8) + (y 2).val) : Vec Ideal S1x1024x1536 .bf16) := by
    rw [after0_2]
    funext y
    exact written m c t y
  rw [h]
  show entry (inp m c) (wup m c) (1024 * (t.val / 8) + (y 1).val) (1536 * (t.val % 8) + (y 2).val) = entry _ _ _ _
  congr 1 <;> blk_simp [e] <;> omega

end Kernel

/-! ## The reference -/

section Reference

open Cert.Reference4Ideal Cert.Reference4Ideal.Read

/-- The reference's product. -/
theorem plain (h : FVec Ideal S8192x2048 .bf16) (w : FVec Ideal S4x2048x3072 .bf16) :
    val_main_v6 (F := Ideal) h w = (up h w : FVec Ideal S1x8192x12288 .bf16) := by
  funext i
  have h2 : (i 2).val < 12288 := (i 2).isLt
  rw [val_main_v6_apply, val_main_v5_apply, val_main_v4_apply]
  change _ = entry h w (i 1).val (i 2).val
  unfold entry
  refine sum_congr rfl fun k _ => ?_
  have hk := k.isLt
  rw [val_main_v3_apply, val_main_v2_apply, val_main_v1_apply, val_main_v0_apply]
  refine congrArg₂ (· * ·) (eq_lead h _ rfl rfl) (eq_el w _ ?_ ?_ ?_)
  · show (k.val * 12288 + (i 2).val) / 3072 % 4 = _; omega
  · show (k.val * 12288 + (i 2).val) / 12288 = _; omega
  · show (k.val * 12288 + (i 2).val) % 3072 = _; omega

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => up (inp m c) (wup m c), ?_, ?_⟩
  · refine (θ_run _ _ _).mono (fun r h c => ?_) (Cert.Kernel4Ideal.Value.run_blocks m g)
    exact ⟨(h c).1.trans (arr m c), (h c).2⟩
  · refine (θ_run _ _ _).mono (fun r h c => ?_) (Cert.Reference4Ideal.Value.run m' g')
    refine ⟨(h c).1.trans ?_, (h c).2⟩
    rw [(hargs c).1, (hargs c).2]
    exact plain _ _

end UpFwd

end
-- ==== Proof.DownX.lean ====
module

public import proofs.«01_k».proof.Defs
public import proofs.«01_k».proof.Proof.Products
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit.Geometry

/-!
The gradient of the down projection's input: each grid point of the kernel takes one block of the product whole.
-/

@[expose] public section

set_option maxRecDepth 16384

noncomputable section

namespace DownX

open Idealize.ShloMosaic Idealize.ShloMosaic.TcCoe Idealize.ShloMosaic.ValueIdx Idealize.SL.Sem Finset Entries Products

/-- The entry at row `r` and column `j` of a product's input's gradient: the gradient `d` of the product by the rows of the weight `w`. -/
def entry (d : (⟨2, ![8192, 2048]⟩ : Shape).Idx → EReal) (w : (⟨2, ![6144, 2048]⟩ : Shape).Idx → EReal) (r j : ℕ) : EReal :=
  ∑ k : Fin 2048, el (lead d) 0 r k.val * el (lead w) 0 j k.val

/-- The gradient. -/
def dx (d : (⟨2, ![8192, 2048]⟩ : Shape).Idx → EReal) (w : (⟨2, ![6144, 2048]⟩ : Shape).Idx → EReal) :
    (⟨3, ![1, 8192, 6144]⟩ : Shape).Idx → EReal := fun i => entry d w (i 1).val (i 2).val

section Kernel

open Cert.Kernel5Ideal Cert.Kernel5Ideal.Gen

/-- What a point writes, entry by entry. -/
theorem product (x : Vec Ideal S1x1024x2048 .bf16) (y : Vec Ideal S1x1536x2048 .bf16) (r : Fin 1024) (j : Fin 1536) :
    (out0_2 x y : Vec Ideal S1x1024x1536 .bf16) (ix3 0 r j) = ∑ k : Fin 2048, x (ix3 0 r k) * y (ix3 0 j k) := by
  unfold out0_2
  rw [View.canon_unit_zero (S := S1x1024x1536) zero3, View.ld_unit_zero (S := S1x1024x2048) zero3, View.ld_unit_zero (S := S1x1536x2048) zero3]
  exact (rounded _ _ _ r j).trans (nt x y _ _ r j)

variable (m : (ℓ : Loc nD τ sig) → Buf (Elt Ideal) ℓ) (c : Dev nD)

/-- The gradient of the product. -/
abbrev ct : (⟨2, ![8192, 2048]⟩ : Shape).Idx → EReal := m ((c : Thread nD τ).loc main_arg0)

/-- The weight. -/
abbrev wt : (⟨2, ![6144, 2048]⟩ : Shape).Idx → EReal := m ((c : Thread nD τ).loc main_arg1)

/-- Where the blocks of a point lie. -/
theorem lies : ∀ t : Fin cfg0.N, win0_0.index t = ![0, t.val / 4, 0] ∧ win0_1.index t = ![0, t.val % 4, 0]
    ∧ win0_2.index t = ![0, t.val / 4, t.val % 4] := by decide +kernel

/-- The kernel reads the gradient of the product with a leading axis. -/
theorem V_ct : V m c main_v0 = (lead (ct m c) : FVec Ideal S1x8192x2048 .bf16) := by
  have : V m c main_v0 = shapeCast S1x8192x2048 (m ((c : Thread nD τ).loc main_arg0) : FVec Ideal S8192x2048 .bf16) shapeCasts_S8192x2048_S1x8192x2048 := by
    simp only [V, hostOps0]
    after_results
    rfl
  rw [this]
  exact shapeCast_lead _ _

/-- The kernel reads the weight with a leading axis. -/
theorem V_wt : V m c main_v1 = (lead (wt m c) : FVec Ideal S1x6144x2048 .bf16) := by
  have : V m c main_v1 = shapeCast S1x6144x2048 (m ((c : Thread nD τ).loc main_arg1) : FVec Ideal S6144x2048 .bf16) shapeCasts_S6144x2048_S1x6144x2048 := by
    simp only [V, hostOps0]
    after_results
    rfl
  rw [this]
  exact shapeCast_lead _ _

/-- The gradient of the product, as a point reads it. -/
theorem blk_0 (t : Fin cfg0.N) (y : S1x1024x2048.Idx) : (iblk m c 0 t : Vec Ideal S1x1024x2048 .bf16) y = el (lead (ct m c)) 0 (1024 * (t.val / 4) + (y 1).val) (y 2).val := by
  have e := (lies t).1
  have h : (y 0).val < 1 := (y 0).isLt
  blk_simp [iblk]
  refine (congrFun (V_ct m c) _).trans (eq_el (lead (ct m c)) _ ?_ ?_ ?_) <;> blk_simp [e] <;> omega

/-- The weight, as a point reads it. -/
theorem blk_1 (t : Fin cfg0.N) (y : S1x1536x2048.Idx) : (iblk m c 1 t : Vec Ideal S1x1536x2048 .bf16) y = el (lead (wt m c)) 0 (1536 * (t.val % 4) + (y 1).val) (y 2).val := by
  have e := (lies t).2.1
  have h : (y 0).val < 1 := (y 0).isLt
  blk_simp [iblk]
  refine (congrFun (V_wt m c) _).trans (eq_el (lead (wt m c)) _ ?_ ?_ ?_) <;> blk_simp [e] <;> omega

/-- What a point writes are entries of the result. -/
theorem written (t : Fin cfg0.N) (y : S1x1024x1536.Idx) : (out0_2 (iblk m c 0 t) (iblk m c 1 t) : Vec Ideal S1x1024x1536 .bf16) y
    = entry (ct m c) (wt m c) (1024 * (t.val / 4) + (y 1).val) (1536 * (t.val % 4) + (y 2).val) := by
  obtain ⟨a, r, j, rfl⟩ : ∃ (a : Fin 1) (r : Fin 1024) (j : Fin 1536), y = ix3 a r j := ⟨_, _, _, eq_ix3 y⟩
  obtain rfl : a = 0 := Subsingleton.elim _ _
  exact (product _ _ r j).trans (sum_congr rfl fun k _ => congrArg₂ (· * ·) (blk_0 m c t (ix3 0 r k)) (blk_1 m c t (ix3 0 j k)))

/-- The result, entry by entry. -/
theorem arr : (dats m 0 c).arrAt 2 cfg0.N = (dx (ct m c) (wt m c) : FVec Ideal S1x8192x6144 .bf16) := by
  refine (dats m 0 c).arrAt_eq_of_covers 2 _ (by decide +kernel) fun t _ y => ?_
  have e := (lies t).2.2
  have h : (dats m 0 c).after 2 t = (fun y => entry (ct m c) (wt m c) (1024 * (t.val / 4) + (y 1).val) (1536 * (t.val % 4) + (y 2).val) : Vec Ideal S1x1024x1536 .bf16) := by
    rw [after0_2]
    funext y
    exact written m c t y
  rw [h]
  show entry (ct m c) (wt m c) (1024 * (t.val / 4) + (y 1).val) (1536 * (t.val % 4) + (y 2).val) = entry _ _ _ _
  congr 1 <;> blk_simp [e] <;> omega

end Kernel

/-! ## The reference -/

section Reference

open Cert.Reference5Ideal Cert.Reference5Ideal.Read

/-- The reference's product. -/
theorem plain (d : FVec Ideal S8192x2048 .bf16) (w : FVec Ideal S6144x2048 .bf16) :
    val_main_v6 (F := Ideal) d w = (dx d w : FVec Ideal S1x8192x6144 .bf16) := by
  funext i
  rw [val_main_v6_apply, val_main_v5_apply, val_main_v4_apply]
  change _ = entry d w (i 1).val (i 2).val
  unfold entry
  refine sum_congr rfl fun k _ => ?_
  rw [val_main_v3_apply, val_main_v1_apply]
  exact congrArg₂ (· * ·) (eq_lead d _ rfl rfl) (eq_lead w _ rfl rfl)

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => dx (ct m c) (wt m c), ?_, ?_⟩
  · refine (θ_run _ _ _).mono (fun r h c => ?_) (Cert.Kernel5Ideal.Value.run_blocks m g)
    exact ⟨(h c).1.trans (arr m c), (h c).2⟩
  · refine (θ_run _ _ _).mono (fun r h c => ?_) (Cert.Reference5Ideal.Value.run m' g')
    refine ⟨(h c).1.trans ?_, (h c).2⟩
    rw [(hargs c).1, (hargs c).2]
    exact plain _ _

end DownX

end
-- ==== Proof.DownW.lean ====
module

public import proofs.«01_k».proof.Defs
public import proofs.«01_k».proof.Proof.Products
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit.Geometry

/-!
The gradient of the down projection: the kernel adds up two products, each over half of the tokens, and the reference takes
one product over all of them.
-/

@[expose] public section

set_option maxRecDepth 16384

noncomputable section

namespace DownW

open Idealize.ShloMosaic Idealize.ShloMosaic.TcCoe Idealize.ShloMosaic.ValueIdx Idealize.SL.Sem Finset Entries Products

/-- Part `s` of the gradient's entry at row `r` and column `j`: the product over the `s`-th half of the tokens. -/
def part (z : (⟨2, ![8192, 6144]⟩ : Shape).Idx → EReal) (d : (⟨2, ![8192, 2048]⟩ : Shape).Idx → EReal) (s r j : ℕ) : EReal :=
  ∑ k : Fin 4096, el (lead z) 0 (4096 * s + k.val) r * el (lead d) 0 (4096 * s + k.val) j

/-- The gradient: the sum of the two parts. -/
def dw (z : (⟨2, ![8192, 6144]⟩ : Shape).Idx → EReal) (d : (⟨2, ![8192, 2048]⟩ : Shape).Idx → EReal) :
    (⟨3, ![1, 6144, 2048]⟩ : Shape).Idx → EReal := fun i => ∑ s ∈ range 2, part z d s (i 1).val (i 2).val

section Kernel

open Cert.Kernel6Ideal Cert.Kernel6Ideal.Gen

/-! ## What one point leaves -/

section Point

variable (c : Dev nD) (i : grid0.Coords) (a3 : Memref sig .tc .vmem S1x4096x1024 .bf16) (h3 : a3.IsWhole)
  (a4 : Memref sig .tc .vmem S1x4096x1024 .bf16) (h4 : a4.IsWhole) (a5 : Memref sig .tc .vmem S1x1024x1024 .bf16) (h5 : a5.IsWhole)
  (a6 : Memref sig .tc .vmem S1024x1024 .f32) (h6 : a6.IsWhole) (x y : Vec Ideal S1x4096x1024 .bf16) (z : Vec Ideal S1024x1024 .f32)

/-- The first point of a block leaves its product in the accumulator. -/
theorem acc_A (e0 : cond0_0 i) (e1 : ¬cond0_1 i) (e2 : ¬cond0_2 i) :
    sout0_A_0 c i a3 h3 a4 h4 a5 h5 a6 h6 e0 e1 e2 x y = k0_pay2 x y := by
  unfold sout0_A_0
  rw [View.read_writes_eq_canon _ _ _ (scover0_A_0 c i a3 h3 a4 h4 a5 h5 a6 h6 e0 e1 e2 x y)]
  unfold kernelRun0_A
  dsimp only
  sl_unfold_words
  rw [View.canon_unit_zero (S := S1024x1024) zero2]
  simp only [View.readAt_eq_ld, h3.read_unread, h4.read_unread, View.ld_unit_zero (S := S1x4096x1024) zero3]

/-- The second point adds its product. -/
theorem acc_B (e0 : ¬cond0_0 i) (e1 : cond0_1 i) (e2 : cond0_2 i) :
    sout0_B_0 c i a3 h3 a4 h4 a5 h5 a6 h6 e0 e1 e2 x y z = k0_pay3 x y z := by
  unfold sout0_B_0
  rw [View.read_writes_eq_canon _ _ _ (scover0_B_0 c i a3 h3 a4 h4 a5 h5 a6 h6 e0 e1 e2 x y z)]
  unfold kernelRun0_B
  dsimp only
  sl_unfold_words
  rw [View.canon_unit_zero (S := S1024x1024) zero2]
  simp only [View.readAt_eq_ld, h3.read_unread, h4.read_unread, h6.read_unread, View.ld_unit_zero (S := S1x4096x1024) zero3,
    View.ld_unit_zero (S := S1024x1024) zero2]

/-- It writes the accumulator out. -/
theorem out_B (e0 : ¬cond0_0 i) (e1 : cond0_1 i) (e2 : cond0_2 i) :
    out0_B_2 c i a3 h3 a4 h4 a5 h5 a6 h6 e0 e1 e2 x y z = k0_pay4 (k0_pay3 x y z) := by
  unfold out0_B_2
  rw [View.read_writes_eq_canon _ _ _ (cover0_B_2 c i a3 h3 a4 h4 a5 h5 a6 h6 e0 e1 e2 x y z)]
  unfold kernelRun0_B
  dsimp only
  sl_unfold_words
  rw [View.canon_unit_zero (S := S1x1024x1024) zero3]
  rw [View.readCov_unit_zero (S := S1024x1024) _ zero2]
  simp only [View.readAt_eq_ld, h3.read_unread, h4.read_unread, h6.read_unread, View.ld_unit_zero (S := S1x4096x1024) zero3,
    View.ld_unit_zero (S := S1024x1024) zero2]

/-- A point's product, entry by entry. -/
theorem product (r j : Fin 1024) : k0_pay1 x y (ix2 r j) = ∑ k : Fin 4096, x (ix3 0 k r) * y (ix3 0 k j) := tn x y _ _ r j

/-- The first point's value, entry by entry. -/
theorem first_apply (r j : Fin 1024) : k0_pay2 x y (ix2 r j) = ∑ k : Fin 4096, x (ix3 0 k r) * y (ix3 0 k j) := by
  rw [← product]
  unfold k0_pay2
  rw [shapeCast_self]

/-- The second point's value, entry by entry. -/
theorem later_apply (r j : Fin 1024) : k0_pay3 x y z (ix2 r j) = z (ix2 r j) + ∑ k : Fin 4096, x (ix3 0 k r) * y (ix3 0 k j) := by
  rw [← product]
  unfold k0_pay3
  rw [shapeCast_self]
  rfl

end Point

/-! ## The blocks a point reads -/

variable (m : (ℓ : Loc nD τ sig) → Buf (Elt Ideal) ℓ) (c : Dev nD)

/-- The product's input. -/
abbrev inp : (⟨2, ![8192, 6144]⟩ : Shape).Idx → EReal := m ((c : Thread nD τ).loc main_arg0)

/-- The gradient of the product. -/
abbrev ct : (⟨2, ![8192, 2048]⟩ : Shape).Idx → EReal := m ((c : Thread nD τ).loc main_arg1)

/-- Where the blocks of a point lie. -/
theorem lies : ∀ t : Fin cfg0.N, win0_0.index t = ![0, t.val % 2, t.val / 4] ∧ win0_1.index t = ![0, t.val % 2, t.val / 2 % 2]
    ∧ win0_2.index t = ![0, t.val / 4, t.val / 2 % 2] := by decide +kernel

/-- The kernel reads the input with a leading axis. -/
theorem V_inp : V m c main_v0 = (lead (inp m c) : FVec Ideal S1x8192x6144 .bf16) := by
  have : V m c main_v0 = shapeCast S1x8192x6144 (m ((c : Thread nD τ).loc main_arg0) : FVec Ideal S8192x6144 .bf16) shapeCasts_S8192x6144_S1x8192x6144 := by
    simp only [V, hostOps0]
    after_results
    rfl
  rw [this]
  exact shapeCast_lead _ _

/-- So it does the gradient of the product. -/
theorem V_ct : V m c main_v1 = (lead (ct m c) : FVec Ideal S1x8192x2048 .bf16) := by
  have : V m c main_v1 = shapeCast S1x8192x2048 (m ((c : Thread nD τ).loc main_arg1) : FVec Ideal S8192x2048 .bf16) shapeCasts_S8192x2048_S1x8192x2048 := by
    simp only [V, hostOps0]
    after_results
    rfl
  rw [this]
  exact shapeCast_lead _ _

/-- The input, as a point reads it. -/
theorem blk_0 (t : Fin cfg0.N) (y : S1x4096x1024.Idx) : (iblk m c 0 t : Vec Ideal S1x4096x1024 .bf16) y
    = el (lead (inp m c)) 0 (4096 * (t.val % 2) + (y 1).val) (1024 * (t.val / 4) + (y 2).val) := by
  have e := (lies t).1
  have h : (y 0).val < 1 := (y 0).isLt
  blk_simp [iblk]
  refine (congrFun (V_inp m c) _).trans (eq_el (lead (inp m c)) _ ?_ ?_ ?_) <;> blk_simp [e] <;> omega

/-- The gradient of the product, as a point reads it. -/
theorem blk_1 (t : Fin cfg0.N) (y : S1x4096x1024.Idx) : (iblk m c 1 t : Vec Ideal S1x4096x1024 .bf16) y
    = el (lead (ct m c)) 0 (4096 * (t.val % 2) + (y 1).val) (1024 * (t.val / 2 % 2) + (y 2).val) := by
  have e := (lies t).2.1
  have h : (y 0).val < 1 := (y 0).isLt
  blk_simp [iblk]
  refine (congrFun (V_ct m c) _).trans (eq_el (lead (ct m c)) _ ?_ ?_ ?_) <;> blk_simp [e] <;> omega

/-- A point's part of the gradient. -/
abbrev own (t : Fin cfg0.N) (r j : Fin 1024) : EReal :=
  part (inp m c) (ct m c) (t.val % 2) (1024 * (t.val / 4) + r.val) (1024 * (t.val / 2 % 2) + j.val)

/-- The first point's value is its part. -/
theorem first_eq (t : Fin cfg0.N) (r j : Fin 1024) : k0_pay2 (iblk m c 0 t) (iblk m c 1 t) (ix2 r j) = own m c t r j :=
  (first_apply _ _ r j).trans (sum_congr rfl fun k _ => congrArg₂ (· * ·) (blk_0 m c t (ix3 0 k r)) (blk_1 m c t (ix3 0 k j)))

/-- The second point adds its part. -/
theorem later_eq (t : Fin cfg0.N) (z : Vec Ideal S1024x1024 .f32) (r j : Fin 1024) :
    k0_pay3 (iblk m c 0 t) (iblk m c 1 t) z (ix2 r j) = z (ix2 r j) + own m c t r j :=
  (later_apply _ _ z r j).trans (congrArg (z (ix2 r j) + ·)
    (sum_congr rfl fun k _ => congrArg₂ (· * ·) (blk_0 m c t (ix3 0 k r)) (blk_1 m c t (ix3 0 k j))))

/-! ## The accumulator and the result -/

/-- After the first point of a block the accumulator holds the first part. -/
theorem scratch (n : ℕ) (h : n < cfg0.N) (h0 : n % 2 = 0) (r j : Fin 1024) : (outsAt0 m c n h).2 (ix2 r j) = own m c ⟨n, h⟩ r j := by
  refine (congrFun (congrArg Prod.snd (outsAt0_A m c ⟨n, h⟩ h0 (by dsimp only; omega) (by dsimp only; omega))) _).trans ?_
  dsimp only
  rw [acc_A, first_eq]

/-- The second point writes the block's two parts. -/
theorem written (t : Fin cfg0.N) (h1 : t.val % 2 = 1) (y : S1x1024x1024.Idx) : (outsAt0 m c t.val t.isLt).1 y
    = ∑ s ∈ range 2, part (inp m c) (ct m c) s (1024 * (t.val / 4) + (y 1).val) (1024 * (t.val / 2 % 2) + (y 2).val) := by
  obtain ⟨a, r, j, rfl⟩ : ∃ (a : Fin 1) (r j : Fin 1024), y = ix3 a r j := ⟨_, _, _, eq_ix3 y⟩
  obtain rfl : a = 0 := Subsingleton.elim _ _
  rw [outsAt0_B m c t (by omega) h1 h1]
  dsimp only
  rw [out_B]
  refine ((rounded _ _ _ r j).trans (later_eq m c t _ r j)).trans ?_
  rw [scratch m c (t.val - 1) _ (by omega), sum_range_succ, sum_range_one, own, own, h1]
  dsimp only
  rw [show (t.val - 1) % 2 = 0 by omega, show (t.val - 1) / 4 = t.val / 4 by omega, show (t.val - 1) / 2 = t.val / 2 by omega]

/-- The result is the gradient. -/
theorem arr : (dats m 0 c).arrAt 2 cfg0.N = (dw (inp m c) (ct m c) : FVec Ideal S1x6144x2048 .bf16) := by
  refine (dats m 0 c).arrAt_eq_of_covers 2 _ (by decide +kernel) fun t hf y => ?_
  have e := (lies t).2.2
  have h : (y 0).val < 1 := (y 0).isLt
  rw [after0_2]
  refine (written m c t ((flush0_2 t).mp hf) y).trans ?_
  unfold dw
  refine sum_congr rfl fun s _ => ?_
  congr 1 <;> blk_simp [e] <;> omega

end Kernel

/-! ## The reference -/

section Reference

open Cert.Reference6Ideal Cert.Reference6Ideal.Read

/-- The reference's product over all tokens is the sum of the two parts. -/
theorem plain (z : FVec Ideal S8192x6144 .bf16) (d : FVec Ideal S8192x2048 .bf16) :
    val_main_v7 (F := Ideal) z d = (dw z d : FVec Ideal S1x6144x2048 .bf16) := by
  funext i
  rw [val_main_v7_apply, val_main_v6_apply, val_main_v5_apply, val_main_v4_apply]
  refine Eq.trans (b := ∑ k : Fin (2 * 4096), el (lead z) 0 k.val (i 1).val * el (lead d) 0 k.val (i 2).val) ?_
    (sum_parts (fun k => el (lead z) 0 k (i 1).val * el (lead d) 0 k (i 2).val) 2 4096)
  refine sum_congr rfl fun k _ => ?_
  rw [val_main_v3_apply, val_main_v1_apply, mul_comm]
  exact congrArg₂ (· * ·) (eq_lead z _ rfl rfl) (eq_lead d _ rfl rfl)

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => dw (inp m c) (ct m c), ?_, ?_⟩
  · refine (θ_run _ _ _).mono (fun r h c => ?_) (Cert.Kernel6Ideal.Value.run_blocks m g)
    exact ⟨(h c).1.trans (arr m c), (h c).2⟩
  · refine (θ_run _ _ _).mono (fun r h c => ?_) (Cert.Reference6Ideal.Value.run m' g')
    refine ⟨(h c).1.trans ?_, (h c).2⟩
    rw [(hargs c).1, (hargs c).2]
    exact plain _ _

end DownW

end
-- ==== Proof.OutX.lean ====
module

public import proofs.«01_k».proof.Defs
public import proofs.«01_k».proof.Proof.Products
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit.Geometry

/-!
The gradient of the output projection's input: each grid point of the kernel takes a block of rows of the product whole.
-/

@[expose] public section

set_option maxRecDepth 16384

noncomputable section

namespace OutX

open Idealize.ShloMosaic Idealize.ShloMosaic.TcCoe Idealize.ShloMosaic.ValueIdx Idealize.SL.Sem Finset Entries Products

/-- The entry at row `r` and column `j` of a product's input's gradient: the gradient `d` of the product by the rows of the weight `w`. -/
def entry (d : (⟨2, ![8192, 2048]⟩ : Shape).Idx → EReal) (w : (⟨2, ![2048, 2048]⟩ : Shape).Idx → EReal) (r j : ℕ) : EReal :=
  ∑ k : Fin 2048, el (lead d) 0 r k.val * el (lead w) 0 j k.val

/-- The gradient. -/
def dx (d : (⟨2, ![8192, 2048]⟩ : Shape).Idx → EReal) (w : (⟨2, ![2048, 2048]⟩ : Shape).Idx → EReal) :
    (⟨3, ![1, 8192, 2048]⟩ : Shape).Idx → EReal := fun i => entry d w (i 1).val (i 2).val

section Kernel

open Cert.Kernel7Ideal Cert.Kernel7Ideal.Gen

/-- What a point writes, entry by entry. -/
theorem product (x : Vec Ideal S1x1024x2048 .bf16) (y : Vec Ideal S1x2048x2048 .bf16) (r : Fin 1024) (j : Fin 2048) :
    (out0_2 x y : Vec Ideal S1x1024x2048 .bf16) (ix3 0 r j) = ∑ k : Fin 2048, x (ix3 0 r k) * y (ix3 0 j k) := by
  unfold out0_2
  rw [View.canon_unit_zero (S := S1x1024x2048) zero3, View.ld_unit_zero (S := S1x1024x2048) zero3, View.ld_unit_zero (S := S1x2048x2048) zero3]
  exact (rounded _ _ _ r j).trans (nt x y _ _ r j)

variable (m : (ℓ : Loc nD τ sig) → Buf (Elt Ideal) ℓ) (c : Dev nD)

/-- The gradient of the product. -/
abbrev ct : (⟨2, ![8192, 2048]⟩ : Shape).Idx → EReal := m ((c : Thread nD τ).loc main_arg0)

/-- The weight. -/
abbrev wt : (⟨2, ![2048, 2048]⟩ : Shape).Idx → EReal := m ((c : Thread nD τ).loc main_arg1)

/-- Where the blocks of a point lie. -/
theorem lies : ∀ t : Fin cfg0.N, win0_0.index t = ![0, t.val, 0] ∧ win0_1.index t = ![0, 0, 0]
    ∧ win0_2.index t = ![0, t.val, 0] := by decide +kernel

/-- The kernel reads the gradient of the product with a leading axis. -/
theorem V_ct : V m c main_v0 = (lead (ct m c) : FVec Ideal S1x8192x2048 .bf16) := by
  have : V m c main_v0 = shapeCast S1x8192x2048 (m ((c : Thread nD τ).loc main_arg0) : FVec Ideal S8192x2048 .bf16) shapeCasts_S8192x2048_S1x8192x2048 := by
    simp only [V, hostOps0]
    after_results
    rfl
  rw [this]
  exact shapeCast_lead _ _

/-- The kernel reads the weight with a leading axis. -/
theorem V_wt : V m c main_v1 = (lead (wt m c) : FVec Ideal S1x2048x2048 .bf16) := by
  have : V m c main_v1 = shapeCast S1x2048x2048 (m ((c : Thread nD τ).loc main_arg1) : FVec Ideal S2048x2048 .bf16) shapeCasts_S2048x2048_S1x2048x2048 := by
    simp only [V, hostOps0]
    after_results
    rfl
  rw [this]
  exact shapeCast_lead _ _

/-- The gradient of the product, as a point reads it. -/
theorem blk_0 (t : Fin cfg0.N) (y : S1x1024x2048.Idx) : (iblk m c 0 t : Vec Ideal S1x1024x2048 .bf16) y = el (lead (ct m c)) 0 (1024 * t.val + (y 1).val) (y 2).val := by
  have e := (lies t).1
  have h : (y 0).val < 1 := (y 0).isLt
  blk_simp [iblk]
  refine (congrFun (V_ct m c) _).trans (eq_el (lead (ct m c)) _ ?_ ?_ ?_) <;> blk_simp [e] <;> omega

/-- The weight, as a point reads it. -/
theorem blk_1 (t : Fin cfg0.N) (y : S1x2048x2048.Idx) : (iblk m c 1 t : Vec Ideal S1x2048x2048 .bf16) y = el (lead (wt m c)) 0 ((y 1).val) (y 2).val := by
  have e := (lies t).2.1
  have h : (y 0).val < 1 := (y 0).isLt
  blk_simp [iblk]
  refine (congrFun (V_wt m c) _).trans (eq_el (lead (wt m c)) _ ?_ ?_ ?_) <;> blk_simp [e] <;> omega

/-- What a point writes are entries of the result. -/
theorem written (t : Fin cfg0.N) (y : S1x1024x2048.Idx) : (out0_2 (iblk m c 0 t) (iblk m c 1 t) : Vec Ideal S1x1024x2048 .bf16) y
    = entry (ct m c) (wt m c) (1024 * t.val + (y 1).val) ((y 2).val) := by
  obtain ⟨a, r, j, rfl⟩ : ∃ (a : Fin 1) (r : Fin 1024) (j : Fin 2048), y = ix3 a r j := ⟨_, _, _, eq_ix3 y⟩
  obtain rfl : a = 0 := Subsingleton.elim _ _
  exact (product _ _ r j).trans (sum_congr rfl fun k _ => congrArg₂ (· * ·) (blk_0 m c t (ix3 0 r k)) (blk_1 m c t (ix3 0 j k)))

/-- The result, entry by entry. -/
theorem arr : (dats m 0 c).arrAt 2 cfg0.N = (dx (ct m c) (wt m c) : FVec Ideal S1x8192x2048 .bf16) := by
  refine (dats m 0 c).arrAt_eq_of_covers 2 _ (by decide +kernel) fun t _ y => ?_
  have e := (lies t).2.2
  have h : (dats m 0 c).after 2 t = (fun y => entry (ct m c) (wt m c) (1024 * t.val + (y 1).val) ((y 2).val) : Vec Ideal S1x1024x2048 .bf16) := by
    rw [after0_2]
    funext y
    exact written m c t y
  rw [h]
  show entry (ct m c) (wt m c) (1024 * t.val + (y 1).val) ((y 2).val) = entry _ _ _ _
  congr 1 <;> blk_simp [e] <;> omega

end Kernel

/-! ## The reference -/

section Reference

open Cert.Reference7Ideal Cert.Reference7Ideal.Read

/-- The reference's product. -/
theorem plain (d : FVec Ideal S8192x2048 .bf16) (w : FVec Ideal S2048x2048 .bf16) :
    val_main_v6 (F := Ideal) d w = (dx d w : FVec Ideal S1x8192x2048 .bf16) := by
  funext i
  rw [val_main_v6_apply, val_main_v5_apply, val_main_v4_apply]
  change _ = entry d w (i 1).val (i 2).val
  unfold entry
  refine sum_congr rfl fun k _ => ?_
  rw [val_main_v3_apply, val_main_v1_apply]
  exact congrArg₂ (· * ·) (eq_lead d _ rfl rfl) (eq_lead w _ rfl rfl)

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => dx (ct m c) (wt m c), ?_, ?_⟩
  · refine (θ_run _ _ _).mono (fun r h c => ?_) (Cert.Kernel7Ideal.Value.run_blocks m g)
    exact ⟨(h c).1.trans (arr m c), (h c).2⟩
  · refine (θ_run _ _ _).mono (fun r h c => ?_) (Cert.Reference7Ideal.Value.run m' g')
    refine ⟨(h c).1.trans ?_, (h c).2⟩
    rw [(hargs c).1, (hargs c).2]
    exact plain _ _

end OutX

end
-- ==== Proof.LruX.lean ====
module

public import proofs.«01_k».proof.Defs
public import proofs.«01_k».proof.Proof.Products
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit.Geometry
public import proofs.«01_k».proof.Proof.OutX

/-!
The gradient of the input of the recurrent block's projection: the same product as for the output projection, whose definition is reused,
by grid points that take half of a row block's columns each.
-/

@[expose] public section

set_option maxRecDepth 16384

noncomputable section

namespace LruX

open Idealize.ShloMosaic Idealize.ShloMosaic.TcCoe Idealize.ShloMosaic.ValueIdx Idealize.SL.Sem Finset Entries Products

open OutX (entry dx)

section Kernel

open Cert.Kernel8Ideal Cert.Kernel8Ideal.Gen

/-- What a point writes, entry by entry. -/
theorem product (x : Vec Ideal S1x1024x2048 .bf16) (y : Vec Ideal S1x1024x2048 .bf16) (r : Fin 1024) (j : Fin 1024) :
    (out0_2 x y : Vec Ideal S1x1024x1024 .f32) (ix3 0 r j) = ∑ k : Fin 2048, x (ix3 0 r k) * y (ix3 0 j k) := by
  unfold out0_2
  rw [View.canon_unit_zero (S := S1x1024x1024) zero3]
  simp only [View.ld_unit_zero (S := S1x1024x2048) zero3]
  exact (shapeCast_ab_1ab_apply _ _ _ _ _).trans (nt x y _ _ r j)

variable (m : (ℓ : Loc nD τ sig) → Buf (Elt Ideal) ℓ) (c : Dev nD)

/-- The gradient of the product. -/
abbrev ct : (⟨2, ![8192, 2048]⟩ : Shape).Idx → EReal := m ((c : Thread nD τ).loc main_arg0)

/-- The weight. -/
abbrev wt : (⟨2, ![2048, 2048]⟩ : Shape).Idx → EReal := m ((c : Thread nD τ).loc main_arg1)

/-- Where the blocks of a point lie. -/
theorem lies : ∀ t : Fin cfg0.N, win0_0.index t = ![0, t.val / 2, 0] ∧ win0_1.index t = ![0, t.val % 2, 0]
    ∧ win0_2.index t = ![0, t.val / 2, t.val % 2] := by decide +kernel

/-- The kernel reads the gradient of the product with a leading axis. -/
theorem V_ct : V m c main_v0 = (lead (ct m c) : FVec Ideal S1x8192x2048 .bf16) := by
  have : V m c main_v0 = shapeCast S1x8192x2048 (m ((c : Thread nD τ).loc main_arg0) : FVec Ideal S8192x2048 .bf16) shapeCasts_S8192x2048_S1x8192x2048 := by
    simp only [V, hostOps0]
    after_results
    rfl
  rw [this]
  exact shapeCast_lead _ _

/-- The kernel reads the weight with a leading axis. -/
theorem V_wt : V m c main_v1 = (lead (wt m c) : FVec Ideal S1x2048x2048 .bf16) := by
  have : V m c main_v1 = shapeCast S1x2048x2048 (m ((c : Thread nD τ).loc main_arg1) : FVec Ideal S2048x2048 .bf16) shapeCasts_S2048x2048_S1x2048x2048 := by
    simp only [V, hostOps0]
    after_results
    rfl
  rw [this]
  exact shapeCast_lead _ _

/-- The gradient of the product, as a point reads it. -/
theorem blk_0 (t : Fin cfg0.N) (y : S1x1024x2048.Idx) : (iblk m c 0 t : Vec Ideal S1x1024x2048 .bf16) y
    = el (lead (ct m c)) 0 (1024 * (t.val / 2) + (y 1).val) (y 2).val := by
  have e := (lies t).1
  have h : (y 0).val < 1 := (y 0).isLt
  blk_simp [iblk]
  refine (congrFun (V_ct m c) _).trans (eq_el (lead (ct m c)) _ ?_ ?_ ?_) <;> blk_simp [e] <;> omega

/-- The weight, as a point reads it. -/
theorem blk_1 (t : Fin cfg0.N) (y : S1x1024x2048.Idx) : (iblk m c 1 t : Vec Ideal S1x1024x2048 .bf16) y
    = el (lead (wt m c)) 0 (1024 * (t.val % 2) + (y 1).val) (y 2).val := by
  have e := (lies t).2.1
  have h : (y 0).val < 1 := (y 0).isLt
  blk_simp [iblk]
  refine (congrFun (V_wt m c) _).trans (eq_el (lead (wt m c)) _ ?_ ?_ ?_) <;> blk_simp [e] <;> omega

/-- What a point writes are entries of the result. -/
theorem written (t : Fin cfg0.N) (y : S1x1024x1024.Idx) : (out0_2 (iblk m c 0 t) (iblk m c 1 t) : Vec Ideal S1x1024x1024 .f32) y
    = entry (ct m c) (wt m c) (1024 * (t.val / 2) + (y 1).val) (1024 * (t.val % 2) + (y 2).val) := by
  obtain ⟨a, r, j, rfl⟩ : ∃ (a : Fin 1) (r : Fin 1024) (j : Fin 1024), y = ix3 a r j := ⟨_, _, _, eq_ix3 y⟩
  obtain rfl : a = 0 := Subsingleton.elim _ _
  exact (product _ _ r j).trans (sum_congr rfl fun k _ => congrArg₂ (· * ·) (blk_0 m c t (ix3 0 r k)) (blk_1 m c t (ix3 0 j k)))

/-- The result, entry by entry. -/
theorem arr : (dats m 0 c).arrAt 2 cfg0.N = (dx (ct m c) (wt m c) : FVec Ideal S1x8192x2048 .f32) := by
  refine (dats m 0 c).arrAt_eq_of_covers 2 _ (by decide +kernel) fun t _ y => ?_
  have e := (lies t).2.2
  have h : (dats m 0 c).after 2 t = (fun y => entry (ct m c) (wt m c) (1024 * (t.val / 2) + (y 1).val) (1024 * (t.val % 2) + (y 2).val) : Vec Ideal S1x1024x1024 .f32) := by
    rw [after0_2]
    funext y
    exact written m c t y
  rw [h]
  show entry (ct m c) (wt m c) (1024 * (t.val / 2) + (y 1).val) (1024 * (t.val % 2) + (y 2).val) = entry _ _ _ _
  congr 1 <;> blk_simp [e] <;> omega

end Kernel

/-! ## The reference -/

section Reference

open Cert.Reference8Ideal Cert.Reference8Ideal.Read

/-- The reference's product. -/
theorem plain (d : FVec Ideal S8192x2048 .bf16) (w : FVec Ideal S2048x2048 .bf16) :
    val_main_v5 (F := Ideal) d w = (dx d w : FVec Ideal S1x8192x2048 .f32) := by
  funext i
  rw [val_main_v5_apply, val_main_v4_apply]
  change _ = entry d w (i 1).val (i 2).val
  unfold entry
  refine sum_congr rfl fun k _ => ?_
  rw [val_main_v3_apply, val_main_v1_apply]
  exact congrArg₂ (· * ·) (eq_lead d _ rfl rfl) (eq_lead w _ rfl rfl)

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => dx (ct m c) (wt m c), ?_, ?_⟩
  · refine (θ_run _ _ _).mono (fun r h c => ?_) (Cert.Kernel8Ideal.Value.run_blocks m g)
    exact ⟨(h c).1.trans (arr m c), (h c).2⟩
  · refine (θ_run _ _ _).mono (fun r h c => ?_) (Cert.Reference8Ideal.Value.run m' g')
    refine ⟨(h c).1.trans ?_, (h c).2⟩
    rw [(hargs c).1, (hargs c).2]
    exact plain _ _

end LruX

end
-- ==== Proof.LruW.lean ====
module

public import proofs.«01_k».proof.Defs
public import proofs.«01_k».proof.Proof.Products
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit.Geometry

/-!
The gradient of the recurrent block's projection: the kernel adds up two products, each over half of the tokens, and the reference takes
one product over all of them.
-/

@[expose] public section

set_option maxRecDepth 16384

noncomputable section

namespace LruW

open Idealize.ShloMosaic Idealize.ShloMosaic.TcCoe Idealize.ShloMosaic.ValueIdx Idealize.SL.Sem Finset Entries Products

/-- Part `s` of the gradient's entry at row `r` and column `j`: the product over the `s`-th half of the tokens. -/
def part (z d : (⟨2, ![8192, 2048]⟩ : Shape).Idx → EReal) (s r j : ℕ) : EReal :=
  ∑ k : Fin 4096, el (lead z) 0 (4096 * s + k.val) r * el (lead d) 0 (4096 * s + k.val) j

/-- The gradient: the sum of the two parts. -/
def dw (z d : (⟨2, ![8192, 2048]⟩ : Shape).Idx → EReal) :
    (⟨3, ![1, 2048, 2048]⟩ : Shape).Idx → EReal := fun i => ∑ s ∈ range 2, part z d s (i 1).val (i 2).val

section Kernel

open Cert.Kernel9Ideal Cert.Kernel9Ideal.Gen

/-! ## What one point leaves -/

section Point

variable (c : Dev nD) (i : grid0.Coords) (a3 : Memref sig .tc .vmem S1x4096x1024 .bf16) (h3 : a3.IsWhole)
  (a4 : Memref sig .tc .vmem S1x4096x1024 .bf16) (h4 : a4.IsWhole) (a5 : Memref sig .tc .vmem S1x1024x1024 .bf16) (h5 : a5.IsWhole)
  (a6 : Memref sig .tc .vmem S1024x1024 .f32) (h6 : a6.IsWhole) (x y : Vec Ideal S1x4096x1024 .bf16) (z : Vec Ideal S1024x1024 .f32)

/-- The first point of a block leaves its product in the accumulator. -/
theorem acc_A (e0 : cond0_0 i) (e1 : ¬cond0_1 i) (e2 : ¬cond0_2 i) :
    sout0_A_0 c i a3 h3 a4 h4 a5 h5 a6 h6 e0 e1 e2 x y = k0_pay2 x y := by
  unfold sout0_A_0
  rw [View.read_writes_eq_canon _ _ _ (scover0_A_0 c i a3 h3 a4 h4 a5 h5 a6 h6 e0 e1 e2 x y)]
  unfold kernelRun0_A
  dsimp only
  sl_unfold_words
  rw [View.canon_unit_zero (S := S1024x1024) zero2]
  simp only [View.readAt_eq_ld, h3.read_unread, h4.read_unread, View.ld_unit_zero (S := S1x4096x1024) zero3]

/-- The second point adds its product. -/
theorem acc_B (e0 : ¬cond0_0 i) (e1 : cond0_1 i) (e2 : cond0_2 i) :
    sout0_B_0 c i a3 h3 a4 h4 a5 h5 a6 h6 e0 e1 e2 x y z = k0_pay3 x y z := by
  unfold sout0_B_0
  rw [View.read_writes_eq_canon _ _ _ (scover0_B_0 c i a3 h3 a4 h4 a5 h5 a6 h6 e0 e1 e2 x y z)]
  unfold kernelRun0_B
  dsimp only
  sl_unfold_words
  rw [View.canon_unit_zero (S := S1024x1024) zero2]
  simp only [View.readAt_eq_ld, h3.read_unread, h4.read_unread, h6.read_unread, View.ld_unit_zero (S := S1x4096x1024) zero3,
    View.ld_unit_zero (S := S1024x1024) zero2]

/-- It writes the accumulator out. -/
theorem out_B (e0 : ¬cond0_0 i) (e1 : cond0_1 i) (e2 : cond0_2 i) :
    out0_B_2 c i a3 h3 a4 h4 a5 h5 a6 h6 e0 e1 e2 x y z = k0_pay4 (k0_pay3 x y z) := by
  unfold out0_B_2
  rw [View.read_writes_eq_canon _ _ _ (cover0_B_2 c i a3 h3 a4 h4 a5 h5 a6 h6 e0 e1 e2 x y z)]
  unfold kernelRun0_B
  dsimp only
  sl_unfold_words
  rw [View.canon_unit_zero (S := S1x1024x1024) zero3]
  rw [View.readCov_unit_zero (S := S1024x1024) _ zero2]
  simp only [View.readAt_eq_ld, h3.read_unread, h4.read_unread, h6.read_unread, View.ld_unit_zero (S := S1x4096x1024) zero3,
    View.ld_unit_zero (S := S1024x1024) zero2]

/-- A point's product, entry by entry. -/
theorem product (r j : Fin 1024) : k0_pay1 x y (ix2 r j) = ∑ k : Fin 4096, x (ix3 0 k r) * y (ix3 0 k j) := tn x y _ _ r j

/-- The first point's value, entry by entry. -/
theorem first_apply (r j : Fin 1024) : k0_pay2 x y (ix2 r j) = ∑ k : Fin 4096, x (ix3 0 k r) * y (ix3 0 k j) := by
  rw [← product]
  unfold k0_pay2
  rw [shapeCast_self]

/-- The second point's value, entry by entry. -/
theorem later_apply (r j : Fin 1024) : k0_pay3 x y z (ix2 r j) = z (ix2 r j) + ∑ k : Fin 4096, x (ix3 0 k r) * y (ix3 0 k j) := by
  rw [← product]
  unfold k0_pay3
  rw [shapeCast_self]
  rfl

end Point

/-! ## The blocks a point reads -/

variable (m : (ℓ : Loc nD τ sig) → Buf (Elt Ideal) ℓ) (c : Dev nD)

/-- The product's input. -/
abbrev inp : (⟨2, ![8192, 2048]⟩ : Shape).Idx → EReal := m ((c : Thread nD τ).loc main_arg0)

/-- The gradient of the product. -/
abbrev ct : (⟨2, ![8192, 2048]⟩ : Shape).Idx → EReal := m ((c : Thread nD τ).loc main_arg1)

/-- Where the blocks of a point lie. -/
theorem lies : ∀ t : Fin cfg0.N, win0_0.index t = ![0, t.val % 2, t.val / 4] ∧ win0_1.index t = ![0, t.val % 2, t.val / 2 % 2]
    ∧ win0_2.index t = ![0, t.val / 4, t.val / 2 % 2] := by decide +kernel

/-- The kernel reads the input with a leading axis. -/
theorem V_inp : V m c main_v0 = (lead (inp m c) : FVec Ideal S1x8192x2048 .bf16) := by
  have : V m c main_v0 = shapeCast S1x8192x2048 (m ((c : Thread nD τ).loc main_arg0) : FVec Ideal S8192x2048 .bf16) shapeCasts_S8192x2048_S1x8192x2048 := by
    simp only [V, hostOps0]
    after_results
    rfl
  rw [this]
  exact shapeCast_lead _ _

/-- So it does the gradient of the product. -/
theorem V_ct : V m c main_v1 = (lead (ct m c) : FVec Ideal S1x8192x2048 .bf16) := by
  have : V m c main_v1 = shapeCast S1x8192x2048 (m ((c : Thread nD τ).loc main_arg1) : FVec Ideal S8192x2048 .bf16) shapeCasts_S8192x2048_S1x8192x2048 := by
    simp only [V, hostOps0]
    after_results
    rfl
  rw [this]
  exact shapeCast_lead _ _

/-- The input, as a point reads it. -/
theorem blk_0 (t : Fin cfg0.N) (y : S1x4096x1024.Idx) : (iblk m c 0 t : Vec Ideal S1x4096x1024 .bf16) y
    = el (lead (inp m c)) 0 (4096 * (t.val % 2) + (y 1).val) (1024 * (t.val / 4) + (y 2).val) := by
  have e := (lies t).1
  have h : (y 0).val < 1 := (y 0).isLt
  blk_simp [iblk]
  refine (congrFun (V_inp m c) _).trans (eq_el (lead (inp m c)) _ ?_ ?_ ?_) <;> blk_simp [e] <;> omega

/-- The gradient of the product, as a point reads it. -/
theorem blk_1 (t : Fin cfg0.N) (y : S1x4096x1024.Idx) : (iblk m c 1 t : Vec Ideal S1x4096x1024 .bf16) y
    = el (lead (ct m c)) 0 (4096 * (t.val % 2) + (y 1).val) (1024 * (t.val / 2 % 2) + (y 2).val) := by
  have e := (lies t).2.1
  have h : (y 0).val < 1 := (y 0).isLt
  blk_simp [iblk]
  refine (congrFun (V_ct m c) _).trans (eq_el (lead (ct m c)) _ ?_ ?_ ?_) <;> blk_simp [e] <;> omega

/-- A point's part of the gradient. -/
abbrev own (t : Fin cfg0.N) (r j : Fin 1024) : EReal :=
  part (inp m c) (ct m c) (t.val % 2) (1024 * (t.val / 4) + r.val) (1024 * (t.val / 2 % 2) + j.val)

/-- The first point's value is its part. -/
theorem first_eq (t : Fin cfg0.N) (r j : Fin 1024) : k0_pay2 (iblk m c 0 t) (iblk m c 1 t) (ix2 r j) = own m c t r j :=
  (first_apply _ _ r j).trans (sum_congr rfl fun k _ => congrArg₂ (· * ·) (blk_0 m c t (ix3 0 k r)) (blk_1 m c t (ix3 0 k j)))

/-- The second point adds its part. -/
theorem later_eq (t : Fin cfg0.N) (z : Vec Ideal S1024x1024 .f32) (r j : Fin 1024) :
    k0_pay3 (iblk m c 0 t) (iblk m c 1 t) z (ix2 r j) = z (ix2 r j) + own m c t r j :=
  (later_apply _ _ z r j).trans (congrArg (z (ix2 r j) + ·)
    (sum_congr rfl fun k _ => congrArg₂ (· * ·) (blk_0 m c t (ix3 0 k r)) (blk_1 m c t (ix3 0 k j))))

/-! ## The accumulator and the result -/

/-- After the first point of a block the accumulator holds the first part. -/
theorem scratch (n : ℕ) (h : n < cfg0.N) (h0 : n % 2 = 0) (r j : Fin 1024) : (outsAt0 m c n h).2 (ix2 r j) = own m c ⟨n, h⟩ r j := by
  refine (congrFun (congrArg Prod.snd (outsAt0_A m c ⟨n, h⟩ h0 (by dsimp only; omega) (by dsimp only; omega))) _).trans ?_
  dsimp only
  rw [acc_A, first_eq]

/-- The second point writes the block's two parts. -/
theorem written (t : Fin cfg0.N) (h1 : t.val % 2 = 1) (y : S1x1024x1024.Idx) : (outsAt0 m c t.val t.isLt).1 y
    = ∑ s ∈ range 2, part (inp m c) (ct m c) s (1024 * (t.val / 4) + (y 1).val) (1024 * (t.val / 2 % 2) + (y 2).val) := by
  obtain ⟨a, r, j, rfl⟩ : ∃ (a : Fin 1) (r j : Fin 1024), y = ix3 a r j := ⟨_, _, _, eq_ix3 y⟩
  obtain rfl : a = 0 := Subsingleton.elim _ _
  rw [outsAt0_B m c t (by omega) h1 h1]
  dsimp only
  rw [out_B]
  refine ((rounded _ _ _ r j).trans (later_eq m c t _ r j)).trans ?_
  rw [scratch m c (t.val - 1) _ (by omega), sum_range_succ, sum_range_one, own, own, h1]
  dsimp only
  rw [show (t.val - 1) % 2 = 0 by omega, show (t.val - 1) / 4 = t.val / 4 by omega, show (t.val - 1) / 2 = t.val / 2 by omega]

/-- The result is the gradient. -/
theorem arr : (dats m 0 c).arrAt 2 cfg0.N = (dw (inp m c) (ct m c) : FVec Ideal S1x2048x2048 .bf16) := by
  refine (dats m 0 c).arrAt_eq_of_covers 2 _ (by decide +kernel) fun t hf y => ?_
  have e := (lies t).2.2
  have h : (y 0).val < 1 := (y 0).isLt
  rw [after0_2]
  refine (written m c t ((flush0_2 t).mp hf) y).trans ?_
  unfold dw
  refine sum_congr rfl fun s _ => ?_
  congr 1 <;> blk_simp [e] <;> omega

end Kernel

/-! ## The reference -/

section Reference

open Cert.Reference9Ideal Cert.Reference9Ideal.Read

/-- The reference's product over all tokens is the sum of the two parts. -/
theorem plain (z : FVec Ideal S8192x2048 .bf16) (d : FVec Ideal S8192x2048 .bf16) :
    val_main_v7 (F := Ideal) z d = (dw z d : FVec Ideal S1x2048x2048 .bf16) := by
  funext i
  rw [val_main_v7_apply, val_main_v6_apply, val_main_v5_apply, val_main_v4_apply]
  refine Eq.trans (b := ∑ k : Fin (2 * 4096), el (lead z) 0 k.val (i 1).val * el (lead d) 0 k.val (i 2).val) ?_
    (sum_parts (fun k => el (lead z) 0 k (i 1).val * el (lead d) 0 k (i 2).val) 2 4096)
  refine sum_congr rfl fun k _ => ?_
  rw [val_main_v3_apply, val_main_v1_apply, mul_comm]
  exact congrArg₂ (· * ·) (eq_lead z _ rfl rfl) (eq_lead d _ rfl rfl)

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => dw (inp m c) (ct m c), ?_, ?_⟩
  · refine (θ_run _ _ _).mono (fun r h c => ?_) (Cert.Kernel9Ideal.Value.run_blocks m g)
    exact ⟨(h c).1.trans (arr m c), (h c).2⟩
  · refine (θ_run _ _ _).mono (fun r h c => ?_) (Cert.Reference9Ideal.Value.run m' g')
    refine ⟨(h c).1.trans ?_, (h c).2⟩
    rw [(hargs c).1, (hargs c).2]
    exact plain _ _

end LruW

end
-- ==== Proof.PoolFwd.lean ====
module

public import proofs.«01_k».proof.Defs
public import proofs.«01_k».proof.Proof.Products
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit.Geometry

/-!
The pooling mixer's projection in the forward pass: each grid point of the kernel takes one block of the product whole.
-/

@[expose] public section

set_option maxRecDepth 16384

noncomputable section

namespace PoolFwd

open Idealize.ShloMosaic Idealize.ShloMosaic.TcCoe Idealize.ShloMosaic.ValueIdx Idealize.SL.Sem Finset Entries Products

/-- The entry at row `r` and column `j` of the projection of `y` by `w`, whose columns come in four quarters. -/
def entry (y : (⟨2, ![8192, 1024]⟩ : Shape).Idx → EReal) (w : (⟨3, ![4, 1024, 512]⟩ : Shape).Idx → EReal) (r j : ℕ) : EReal :=
  ∑ k : Fin 1024, el (lead y) 0 r k.val * el w (j / 512) k.val (j % 512)

/-- The projection. -/
def proj (y : (⟨2, ![8192, 1024]⟩ : Shape).Idx → EReal) (w : (⟨3, ![4, 1024, 512]⟩ : Shape).Idx → EReal) :
    (⟨3, ![1, 8192, 2048]⟩ : Shape).Idx → EReal := fun i => entry y w (i 1).val (i 2).val

section Kernel

open Cert.Kernel10Ideal Cert.Kernel10Ideal.Gen

/-- What a point writes, entry by entry. -/
theorem product (x : Vec Ideal S1x2048x1024 .bf16) (y : Vec Ideal S1x1024x512 .bf16) (r : Fin 2048) (j : Fin 512) :
    (out0_2 x y : Vec Ideal S1x2048x512 .bf16) (ix3 0 r j) = ∑ k : Fin 1024, x (ix3 0 r k) * y (ix3 0 k j) := by
  unfold out0_2
  rw [View.canon_unit_zero (S := S1x2048x512) zero3]
  simp only [View.ld_unit_zero (S := S1x2048x1024) zero3, View.ld_unit_zero (S := S1x1024x512) zero3]
  exact (rounded _ _ _ r j).trans (nn x y _ _ r j)

variable (m : (ℓ : Loc nD τ sig) → Buf (Elt Ideal) ℓ) (c : Dev nD)

/-- The input. -/
abbrev inp : (⟨2, ![8192, 1024]⟩ : Shape).Idx → EReal := m ((c : Thread nD τ).loc main_arg0)

/-- The projection. -/
abbrev wt : (⟨3, ![4, 1024, 512]⟩ : Shape).Idx → EReal := m ((c : Thread nD τ).loc main_arg1)

/-- Where the blocks of a point lie. -/
theorem lies : ∀ t : Fin cfg0.N, win0_0.index t = ![0, t.val / 4, 0] ∧ win0_1.index t = ![t.val % 4, 0, 0]
    ∧ win0_2.index t = ![0, t.val / 4, t.val % 4] := by decide +kernel

/-- The kernel reads the input with a leading axis. -/
theorem V_inp : V m c main_v0 = (lead (inp m c) : FVec Ideal S1x8192x1024 .bf16) := by
  have : V m c main_v0 = shapeCast S1x8192x1024 (m ((c : Thread nD τ).loc main_arg0) : FVec Ideal S8192x1024 .bf16) shapeCasts_S8192x1024_S1x8192x1024 := by
    simp only [V, hostOps0]
    after_results
    rfl
  rw [this]
  exact shapeCast_lead _ _

/-- The input, as a point reads it. -/
theorem blk_0 (t : Fin cfg0.N) (y : S1x2048x1024.Idx) : (iblk m c 0 t : Vec Ideal S1x2048x1024 .bf16) y
    = el (lead (inp m c)) 0 (2048 * (t.val / 4) + (y 1).val) (y 2).val := by
  have e := (lies t).1
  have h : (y 0).val < 1 := (y 0).isLt
  blk_simp [iblk]
  refine (congrFun (V_inp m c) _).trans (eq_el (lead (inp m c)) _ ?_ ?_ ?_) <;> blk_simp [e] <;> omega

/-- The projection, as a point reads it. -/
theorem blk_1 (t : Fin cfg0.N) (y : S1x1024x512.Idx) : (iblk m c 1 t : Vec Ideal S1x1024x512 .bf16) y
    = el (wt m c) ((512 * (t.val % 4) + (y 2).val) / 512) (y 1).val ((512 * (t.val % 4) + (y 2).val) % 512) := by
  have e := (lies t).2.1
  have h : (y 0).val < 1 := (y 0).isLt
  have h2 : (y 2).val < 512 := (y 2).isLt
  blk_simp [iblk]
  refine (congrFun (V_main_arg1 m c) _).trans (eq_el (wt m c) _ ?_ ?_ ?_) <;> blk_simp [e] <;> omega

/-- What a point writes are entries of the result. -/
theorem written (t : Fin cfg0.N) (y : S1x2048x512.Idx) : (out0_2 (iblk m c 0 t) (iblk m c 1 t) : Vec Ideal S1x2048x512 .bf16) y
    = entry (inp m c) (wt m c) (2048 * (t.val / 4) + (y 1).val) (512 * (t.val % 4) + (y 2).val) := by
  obtain ⟨a, r, j, rfl⟩ : ∃ (a : Fin 1) (r : Fin 2048) (j : Fin 512), y = ix3 a r j := ⟨_, _, _, eq_ix3 y⟩
  obtain rfl : a = 0 := Subsingleton.elim _ _
  exact (product _ _ r j).trans (sum_congr rfl fun k _ => congrArg₂ (· * ·) (blk_0 m c t (ix3 0 r k)) (blk_1 m c t (ix3 0 k j)))

/-- The result, entry by entry. -/
theorem arr : (dats m 0 c).arrAt 2 cfg0.N = (proj (inp m c) (wt m c) : FVec Ideal S1x8192x2048 .bf16) := by
  refine (dats m 0 c).arrAt_eq_of_covers 2 _ (by decide +kernel) fun t _ y => ?_
  have e := (lies t).2.2
  have h : (dats m 0 c).after 2 t = (fun y => entry (inp m c) (wt m c) (2048 * (t.val / 4) + (y 1).val) (512 * (t.val % 4) + (y 2).val) : Vec Ideal S1x2048x512 .bf16) := by
    rw [after0_2]
    funext y
    exact written m c t y
  rw [h]
  show entry (inp m c) (wt m c) (2048 * (t.val / 4) + (y 1).val) (512 * (t.val % 4) + (y 2).val) = entry _ _ _ _
  congr 1 <;> blk_simp [e] <;> omega

end Kernel

/-! ## The reference -/

section Reference

open Cert.Reference10Ideal Cert.Reference10Ideal.Read

/-- The reference's product. -/
theorem plain (y : FVec Ideal S8192x1024 .bf16) (w : FVec Ideal S4x1024x512 .bf16) :
    val_main_v6 (F := Ideal) y w = (proj y w : FVec Ideal S1x8192x2048 .bf16) := by
  funext i
  have h2 : (i 2).val < 2048 := (i 2).isLt
  rw [val_main_v6_apply, val_main_v5_apply, val_main_v4_apply]
  change _ = entry y w (i 1).val (i 2).val
  unfold entry
  refine sum_congr rfl fun k _ => ?_
  have hk := k.isLt
  rw [val_main_v0_apply, val_main_v3_apply, val_main_v2_apply, val_main_v1_apply]
  refine congrArg₂ (· * ·) (eq_lead y _ rfl rfl) (eq_el w _ ?_ ?_ ?_)
  · show (k.val * 2048 + (i 2).val) / 512 % 4 = _; omega
  · show (k.val * 2048 + (i 2).val) / 2048 = _; omega
  · show (k.val * 2048 + (i 2).val) % 512 = _; omega

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => proj (inp m c) (wt m c), ?_, ?_⟩
  · refine (θ_run _ _ _).mono (fun r h c => ?_) (Cert.Kernel10Ideal.Value.run_blocks m g)
    exact ⟨(h c).1.trans (arr m c), (h c).2⟩
  · refine (θ_run _ _ _).mono (fun r h c => ?_) (Cert.Reference10Ideal.Value.run m' g')
    refine ⟨(h c).1.trans ?_, (h c).2⟩
    rw [(hargs c).1, (hargs c).2]
    exact plain _ _

end PoolFwd

end
-- ==== Proof.PoolX.lean ====
module

public import proofs.«01_k».proof.Defs
public import proofs.«01_k».proof.Proof.Products
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit.Geometry

/-!
The gradient of the input of the pooling mixer's projection: the kernel adds up four products, each over a quarter of the projection's
columns, and the reference takes one product over all of them.
-/

@[expose] public section

set_option maxRecDepth 16384

noncomputable section

namespace PoolX

open Idealize.ShloMosaic Idealize.ShloMosaic.TcCoe Idealize.ShloMosaic.ValueIdx Idealize.SL.Sem Finset Entries Products

/-- Part `s` of the gradient's entry at row `r` and column `j`: the product over the `s`-th quarter of the projection's columns. -/
def part (d : (⟨2, ![8192, 2048]⟩ : Shape).Idx → EReal) (w : (⟨3, ![4, 1024, 512]⟩ : Shape).Idx → EReal) (s r j : ℕ) : EReal :=
  ∑ k : Fin 512, el (lead d) 0 r (512 * s + k.val) * el w s j k.val

/-- The gradient: the sum of the four parts. -/
def dx (d : (⟨2, ![8192, 2048]⟩ : Shape).Idx → EReal) (w : (⟨3, ![4, 1024, 512]⟩ : Shape).Idx → EReal) :
    (⟨3, ![1, 8192, 1024]⟩ : Shape).Idx → EReal := fun i => ∑ s ∈ range 4, part d w s (i 1).val (i 2).val

section Kernel

open Cert.Kernel11Ideal Cert.Kernel11Ideal.Gen

/-! ## What one point leaves -/

section Point

variable (c : Dev nD) (i : grid0.Coords) (a3 : Memref sig .tc .vmem S1x2048x512 .bf16) (h3 : a3.IsWhole)
  (a4 : Memref sig .tc .vmem S1x1024x512 .bf16) (h4 : a4.IsWhole) (a5 : Memref sig .tc .vmem S1x2048x1024 .f32) (h5 : a5.IsWhole)
  (a6 : Memref sig .tc .vmem S2048x1024 .f32) (h6 : a6.IsWhole) (x : Vec Ideal S1x2048x512 .bf16) (y : Vec Ideal S1x1024x512 .bf16) (z : Vec Ideal S2048x1024 .f32)

/-- The first point of a block leaves its product in the accumulator. -/
theorem acc_A (e0 : cond0_0 i) (e1 : ¬cond0_1 i) (e2 : ¬cond0_2 i) :
    sout0_A_0 c i a3 h3 a4 h4 a5 h5 a6 h6 e0 e1 e2 x y = k0_pay2 x y := by
  unfold sout0_A_0
  rw [View.read_writes_eq_canon _ _ _ (scover0_A_0 c i a3 h3 a4 h4 a5 h5 a6 h6 e0 e1 e2 x y)]
  unfold kernelRun0_A
  dsimp only
  sl_unfold_words
  rw [View.canon_unit_zero (S := S2048x1024) zero2]
  simp only [View.readAt_eq_ld, h3.read_unread, h4.read_unread, View.ld_unit_zero (S := S1x2048x512) zero3,
    View.ld_unit_zero (S := S1x1024x512) zero3]

/-- A later point adds its product. -/
theorem acc_B (e0 : ¬cond0_0 i) (e1 : cond0_1 i) (e2 : ¬cond0_2 i) :
    sout0_B_0 c i a3 h3 a4 h4 a5 h5 a6 h6 e0 e1 e2 x y z = k0_pay3 x y z := by
  unfold sout0_B_0
  rw [View.read_writes_eq_canon _ _ _ (scover0_B_0 c i a3 h3 a4 h4 a5 h5 a6 h6 e0 e1 e2 x y z)]
  unfold kernelRun0_B
  dsimp only
  sl_unfold_words
  rw [View.canon_unit_zero (S := S2048x1024) zero2]
  simp only [View.readAt_eq_ld, h3.read_unread, h4.read_unread, h6.read_unread, View.ld_unit_zero (S := S1x2048x512) zero3,
    View.ld_unit_zero (S := S1x1024x512) zero3, View.ld_unit_zero (S := S2048x1024) zero2]

/-- So does the last. -/
theorem acc_C (e0 : ¬cond0_0 i) (e1 : cond0_1 i) (e2 : cond0_2 i) :
    sout0_C_0 c i a3 h3 a4 h4 a5 h5 a6 h6 e0 e1 e2 x y z = k0_pay3 x y z := by
  unfold sout0_C_0
  rw [View.read_writes_eq_canon _ _ _ (scover0_C_0 c i a3 h3 a4 h4 a5 h5 a6 h6 e0 e1 e2 x y z)]
  unfold kernelRun0_C
  dsimp only
  sl_unfold_words
  rw [View.canon_unit_zero (S := S2048x1024) zero2]
  simp only [View.readAt_eq_ld, h3.read_unread, h4.read_unread, h6.read_unread, View.ld_unit_zero (S := S1x2048x512) zero3,
    View.ld_unit_zero (S := S1x1024x512) zero3, View.ld_unit_zero (S := S2048x1024) zero2]

/-- The last point writes the accumulator out. -/
theorem out_C (e0 : ¬cond0_0 i) (e1 : cond0_1 i) (e2 : cond0_2 i) :
    out0_C_2 c i a3 h3 a4 h4 a5 h5 a6 h6 e0 e1 e2 x y z = k0_pay4 (k0_pay3 x y z) := by
  unfold out0_C_2
  rw [View.read_writes_eq_canon _ _ _ (cover0_C_2 c i a3 h3 a4 h4 a5 h5 a6 h6 e0 e1 e2 x y z)]
  unfold kernelRun0_C
  dsimp only
  sl_unfold_words
  rw [View.canon_unit_zero (S := S1x2048x1024) zero3]
  rw [View.readCov_unit_zero (S := S2048x1024) _ zero2]
  simp only [View.readAt_eq_ld, h3.read_unread, h4.read_unread, h6.read_unread, View.ld_unit_zero (S := S1x2048x512) zero3,
    View.ld_unit_zero (S := S1x1024x512) zero3, View.ld_unit_zero (S := S2048x1024) zero2]

/-- A point's product, entry by entry. -/
theorem product (r : Fin 2048) (j : Fin 1024) : k0_pay1 x y (ix2 r j) = ∑ k : Fin 512, x (ix3 0 r k) * y (ix3 0 j k) := nt x y _ _ r j

/-- The first point's value, entry by entry. -/
theorem first_apply (r : Fin 2048) (j : Fin 1024) : k0_pay2 x y (ix2 r j) = ∑ k : Fin 512, x (ix3 0 r k) * y (ix3 0 j k) := by
  rw [← product]
  unfold k0_pay2
  rw [shapeCast_self]

/-- A later point's value, entry by entry. -/
theorem later_apply (r : Fin 2048) (j : Fin 1024) : k0_pay3 x y z (ix2 r j) = z (ix2 r j) + ∑ k : Fin 512, x (ix3 0 r k) * y (ix3 0 j k) := by
  rw [← product]
  unfold k0_pay3
  rw [shapeCast_self]
  rfl

end Point

/-! ## The blocks a point reads -/

variable (m : (ℓ : Loc nD τ sig) → Buf (Elt Ideal) ℓ) (c : Dev nD)

/-- The gradient of the product. -/
abbrev ct : (⟨2, ![8192, 2048]⟩ : Shape).Idx → EReal := m ((c : Thread nD τ).loc main_arg0)

/-- The projection. -/
abbrev wt : (⟨3, ![4, 1024, 512]⟩ : Shape).Idx → EReal := m ((c : Thread nD τ).loc main_arg1)

/-- Where the blocks of a point lie. -/
theorem lies : ∀ t : Fin cfg0.N, win0_0.index t = ![0, t.val / 4, t.val % 4] ∧ win0_1.index t = ![t.val % 4, 0, 0]
    ∧ win0_2.index t = ![0, t.val / 4, 0] := by decide +kernel

/-- The kernel reads the gradient of the product with a leading axis. -/
theorem V_ct : V m c main_v0 = (lead (ct m c) : FVec Ideal S1x8192x2048 .bf16) := by
  have : V m c main_v0 = shapeCast S1x8192x2048 (m ((c : Thread nD τ).loc main_arg0) : FVec Ideal S8192x2048 .bf16) shapeCasts_S8192x2048_S1x8192x2048 := by
    simp only [V, hostOps0]
    after_results
    rfl
  rw [this]
  exact shapeCast_lead _ _

/-- The gradient of the product, as a point reads it. -/
theorem blk_0 (t : Fin cfg0.N) (y : S1x2048x512.Idx) : (iblk m c 0 t : Vec Ideal S1x2048x512 .bf16) y
    = el (lead (ct m c)) 0 (2048 * (t.val / 4) + (y 1).val) (512 * (t.val % 4) + (y 2).val) := by
  have e := (lies t).1
  have h : (y 0).val < 1 := (y 0).isLt
  blk_simp [iblk]
  refine (congrFun (V_ct m c) _).trans (eq_el (lead (ct m c)) _ ?_ ?_ ?_) <;> blk_simp [e] <;> omega

/-- The projection, as a point reads it. -/
theorem blk_1 (t : Fin cfg0.N) (y : S1x1024x512.Idx) : (iblk m c 1 t : Vec Ideal S1x1024x512 .bf16) y
    = el (wt m c) (t.val % 4) (y 1).val (y 2).val := by
  have e := (lies t).2.1
  have h : (y 0).val < 1 := (y 0).isLt
  blk_simp [iblk]
  refine (congrFun (V_main_arg1 m c) _).trans (eq_el (wt m c) _ ?_ ?_ ?_) <;> blk_simp [e] <;> omega

/-- A point's part of the gradient. -/
abbrev own (r : Fin 2048) (j : Fin 1024) (n : ℕ) : EReal := part (ct m c) (wt m c) (n % 4) (2048 * (n / 4) + r.val) (j.val)

/-- The first point's value is its part. -/
theorem first_eq (t : Fin cfg0.N) (r : Fin 2048) (j : Fin 1024) : k0_pay2 (iblk m c 0 t) (iblk m c 1 t) (ix2 r j) = own m c r j t.val :=
  (first_apply _ _ r j).trans (sum_congr rfl fun k _ => congrArg₂ (· * ·) (blk_0 m c t (ix3 0 r k)) (blk_1 m c t (ix3 0 j k)))

/-- A later point adds its part. -/
theorem later_eq (t : Fin cfg0.N) (z : Vec Ideal S2048x1024 .f32) (r : Fin 2048) (j : Fin 1024) :
    k0_pay3 (iblk m c 0 t) (iblk m c 1 t) z (ix2 r j) = z (ix2 r j) + own m c r j t.val :=
  (later_apply _ _ z r j).trans (congrArg (z (ix2 r j) + ·)
    (sum_congr rfl fun k _ => congrArg₂ (· * ·) (blk_0 m c t (ix3 0 r k)) (blk_1 m c t (ix3 0 j k))))

/-! ## The accumulator and the result -/

/-- After a point the accumulator holds the parts up to the point's own. -/
theorem scratch (r : Fin 2048) (j : Fin 1024) : ∀ (n : ℕ) (h : n < cfg0.N), (outsAt0 m c n h).2 (ix2 r j)
    = ∑ s ∈ range (n % 4 + 1), own m c r j (n / 4 * 4 + s) := by
  refine running (fun n h => (outsAt0 m c n h).2 (ix2 r j)) (own m c r j) (fun n h h0 => ?_) (fun n h h0 => ?_)
  · refine (congrFun (congrArg Prod.snd (outsAt0_A m c ⟨n, h⟩ h0 (by dsimp only; omega) (by dsimp only; omega))) _).trans ?_
    dsimp only
    rw [acc_A, first_eq]
  · by_cases h2 : (n + 1) % 4 = 3
    · refine (congrFun (congrArg Prod.snd (outsAt0_C m c ⟨n + 1, h⟩ h0 (by dsimp only; omega) h2)) _).trans ?_
      dsimp only
      rw [acc_C, later_eq]
      rfl
    · refine (congrFun (congrArg Prod.snd (outsAt0_B m c ⟨n + 1, h⟩ h0 (by dsimp only; omega) h2)) _).trans ?_
      dsimp only
      rw [acc_B, later_eq]
      rfl

/-- The last point of a block writes the block's four parts. -/
theorem written (t : Fin cfg0.N) (h2 : t.val % 4 = 3) (y : S1x2048x1024.Idx) : (outsAt0 m c t.val t.isLt).1 y
    = ∑ s ∈ range 4, part (ct m c) (wt m c) (s) (2048 * (t.val / 4) + (y 1).val) ((y 2).val) := by
  obtain ⟨a, r, j, rfl⟩ : ∃ (a : Fin 1) (r : Fin 2048) (j : Fin 1024), y = ix3 a r j := ⟨_, _, _, eq_ix3 y⟩
  obtain rfl : a = 0 := Subsingleton.elim _ _
  have e := outsAt0_C m c t (by omega) (by omega) h2
  have s := scratch m c r j t.val t.isLt
  rw [e] at s ⊢
  dsimp only at s ⊢
  rw [acc_C, h2] at s
  rw [out_C]
  refine (shapeCast_ab_1ab_apply _ _ _ _ _).trans (s.trans (sum_congr rfl fun q hq => ?_))
  have hq := mem_range.mp hq
  rw [own, show (t.val / 4 * 4 + q) % 4 = q by omega, show (t.val / 4 * 4 + q) / 4 = t.val / 4 by omega]

/-- The result is the gradient. -/
theorem arr : (dats m 0 c).arrAt 2 cfg0.N = (dx (ct m c) (wt m c) : FVec Ideal S1x8192x1024 .f32) := by
  refine (dats m 0 c).arrAt_eq_of_covers 2 _ (by decide +kernel) fun t hf y => ?_
  have e := (lies t).2.2
  have h : (y 0).val < 1 := (y 0).isLt
  rw [after0_2]
  refine (written m c t ((flush0_2 t).mp hf) y).trans ?_
  unfold dx
  refine sum_congr rfl fun s _ => ?_
  congr 1 <;> blk_simp [e] <;> omega

end Kernel

/-! ## The reference -/

section Reference

open Cert.Reference11Ideal Cert.Reference11Ideal.Read

/-- The reference's product over all columns is the sum of the four parts. -/
theorem plain (d : FVec Ideal S8192x2048 .bf16) (w : FVec Ideal S4x1024x512 .bf16) :
    val_main_v7 (F := Ideal) d w = (dx d w : FVec Ideal S1x8192x1024 .f32) := by
  funext i
  have h2 : (i 2).val < 1024 := (i 2).isLt
  rw [val_main_v7_apply, val_main_v6_apply]
  refine Eq.trans (b := ∑ k : Fin (4 * 512), el (lead d) 0 (i 1).val k.val * el w (k.val / 512) (i 2).val (k.val % 512)) ?_ ?_
  · refine sum_congr rfl fun k _ => ?_
    have hk := k.isLt
    rw [val_main_v5_apply, val_main_v3_apply, val_main_v2_apply, val_main_v1_apply]
    refine congrArg₂ (· * ·) (eq_lead d _ rfl rfl) (eq_el w _ ?_ ?_ ?_)
    · show ((i 2).val * 2048 + k.val) / 512 % 4 = _; omega
    · show ((i 2).val * 2048 + k.val) / 2048 = _; omega
    · show ((i 2).val * 2048 + k.val) % 512 = _; omega
  · rw [sum_parts fun k => el (lead d) 0 (i 1).val k * el w (k / 512) (i 2).val (k % 512)]
    refine sum_congr rfl fun s _ => sum_congr rfl fun k _ => ?_
    have hk := k.isLt
    rw [show (512 * s + k.val) / 512 = s by omega, show (512 * s + k.val) % 512 = k.val by omega]

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => dx (ct m c) (wt m c), ?_, ?_⟩
  · refine (θ_run _ _ _).mono (fun r h c => ?_) (Cert.Kernel11Ideal.Value.run_blocks m g)
    exact ⟨(h c).1.trans (arr m c), (h c).2⟩
  · refine (θ_run _ _ _).mono (fun r h c => ?_) (Cert.Reference11Ideal.Value.run m' g')
    refine ⟨(h c).1.trans ?_, (h c).2⟩
    rw [(hargs c).1, (hargs c).2]
    exact plain _ _

end PoolX

end
-- ==== Proof.PoolW.lean ====
module

public import proofs.«01_k».proof.Defs
public import proofs.«01_k».proof.Proof.Products
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit.Geometry

/-!
The gradient of the pooling mixer's projection: the kernel adds up four products, each over a quarter of the tokens, and the reference
takes one product over all of them.
-/

@[expose] public section

set_option maxRecDepth 16384

noncomputable section

namespace PoolW

open Idealize.ShloMosaic Idealize.ShloMosaic.TcCoe Idealize.ShloMosaic.ValueIdx Idealize.SL.Sem Finset Entries Products

/-- Part `s` of the gradient's entry at row `r` and column `j` of the whole projection: the product over the `s`-th quarter of the tokens. -/
def part (y : (⟨2, ![8192, 1024]⟩ : Shape).Idx → EReal) (d : (⟨2, ![8192, 2048]⟩ : Shape).Idx → EReal) (s r j : ℕ) : EReal :=
  ∑ k : Fin 2048, el (lead y) 0 (2048 * s + k.val) r * el (lead d) 0 (2048 * s + k.val) j

/-- The gradient, in four quarters of the columns: the sum of the four parts. -/
def dw (y : (⟨2, ![8192, 1024]⟩ : Shape).Idx → EReal) (d : (⟨2, ![8192, 2048]⟩ : Shape).Idx → EReal) :
    (⟨3, ![4, 1024, 512]⟩ : Shape).Idx → EReal := fun i => ∑ s ∈ range 4, part y d s (i 1).val (512 * (i 0).val + (i 2).val)

section Kernel

open Cert.Kernel12Ideal Cert.Kernel12Ideal.Gen

/-! ## What one point leaves -/

section Point

variable (c : Dev nD) (i : grid0.Coords) (a3 : Memref sig .tc .vmem S1x2048x1024 .bf16) (h3 : a3.IsWhole)
  (a4 : Memref sig .tc .vmem S1x2048x512 .bf16) (h4 : a4.IsWhole) (a5 : Memref sig .tc .vmem S1x1024x512 .bf16) (h5 : a5.IsWhole)
  (a6 : Memref sig .tc .vmem S1024x512 .f32) (h6 : a6.IsWhole) (x : Vec Ideal S1x2048x1024 .bf16) (y : Vec Ideal S1x2048x512 .bf16) (z : Vec Ideal S1024x512 .f32)

/-- The first point of a block leaves its product in the accumulator. -/
theorem acc_A (e0 : cond0_0 i) (e1 : ¬cond0_1 i) (e2 : ¬cond0_2 i) :
    sout0_A_0 c i a3 h3 a4 h4 a5 h5 a6 h6 e0 e1 e2 x y = k0_pay2 x y := by
  unfold sout0_A_0
  rw [View.read_writes_eq_canon _ _ _ (scover0_A_0 c i a3 h3 a4 h4 a5 h5 a6 h6 e0 e1 e2 x y)]
  unfold kernelRun0_A
  dsimp only
  sl_unfold_words
  rw [View.canon_unit_zero (S := S1024x512) zero2]
  simp only [View.readAt_eq_ld, h3.read_unread, h4.read_unread, View.ld_unit_zero (S := S1x2048x1024) zero3,
    View.ld_unit_zero (S := S1x2048x512) zero3]

/-- A later point adds its product. -/
theorem acc_B (e0 : ¬cond0_0 i) (e1 : cond0_1 i) (e2 : ¬cond0_2 i) :
    sout0_B_0 c i a3 h3 a4 h4 a5 h5 a6 h6 e0 e1 e2 x y z = k0_pay3 x y z := by
  unfold sout0_B_0
  rw [View.read_writes_eq_canon _ _ _ (scover0_B_0 c i a3 h3 a4 h4 a5 h5 a6 h6 e0 e1 e2 x y z)]
  unfold kernelRun0_B
  dsimp only
  sl_unfold_words
  rw [View.canon_unit_zero (S := S1024x512) zero2]
  simp only [View.readAt_eq_ld, h3.read_unread, h4.read_unread, h6.read_unread, View.ld_unit_zero (S := S1x2048x1024) zero3,
    View.ld_unit_zero (S := S1x2048x512) zero3, View.ld_unit_zero (S := S1024x512) zero2]

/-- So does the last. -/
theorem acc_C (e0 : ¬cond0_0 i) (e1 : cond0_1 i) (e2 : cond0_2 i) :
    sout0_C_0 c i a3 h3 a4 h4 a5 h5 a6 h6 e0 e1 e2 x y z = k0_pay3 x y z := by
  unfold sout0_C_0
  rw [View.read_writes_eq_canon _ _ _ (scover0_C_0 c i a3 h3 a4 h4 a5 h5 a6 h6 e0 e1 e2 x y z)]
  unfold kernelRun0_C
  dsimp only
  sl_unfold_words
  rw [View.canon_unit_zero (S := S1024x512) zero2]
  simp only [View.readAt_eq_ld, h3.read_unread, h4.read_unread, h6.read_unread, View.ld_unit_zero (S := S1x2048x1024) zero3,
    View.ld_unit_zero (S := S1x2048x512) zero3, View.ld_unit_zero (S := S1024x512) zero2]

/-- The last point writes the accumulator out. -/
theorem out_C (e0 : ¬cond0_0 i) (e1 : cond0_1 i) (e2 : cond0_2 i) :
    out0_C_2 c i a3 h3 a4 h4 a5 h5 a6 h6 e0 e1 e2 x y z = k0_pay4 (k0_pay3 x y z) := by
  unfold out0_C_2
  rw [View.read_writes_eq_canon _ _ _ (cover0_C_2 c i a3 h3 a4 h4 a5 h5 a6 h6 e0 e1 e2 x y z)]
  unfold kernelRun0_C
  dsimp only
  sl_unfold_words
  rw [View.canon_unit_zero (S := S1x1024x512) zero3]
  rw [View.readCov_unit_zero (S := S1024x512) _ zero2]
  simp only [View.readAt_eq_ld, h3.read_unread, h4.read_unread, h6.read_unread, View.ld_unit_zero (S := S1x2048x1024) zero3,
    View.ld_unit_zero (S := S1x2048x512) zero3, View.ld_unit_zero (S := S1024x512) zero2]

/-- A point's product, entry by entry. -/
theorem product (r : Fin 1024) (j : Fin 512) : k0_pay1 x y (ix2 r j) = ∑ k : Fin 2048, x (ix3 0 k r) * y (ix3 0 k j) := tn x y _ _ r j

/-- The first point's value, entry by entry. -/
theorem first_apply (r : Fin 1024) (j : Fin 512) : k0_pay2 x y (ix2 r j) = ∑ k : Fin 2048, x (ix3 0 k r) * y (ix3 0 k j) := by
  rw [← product]
  unfold k0_pay2
  rw [shapeCast_self]

/-- A later point's value, entry by entry. -/
theorem later_apply (r : Fin 1024) (j : Fin 512) : k0_pay3 x y z (ix2 r j) = z (ix2 r j) + ∑ k : Fin 2048, x (ix3 0 k r) * y (ix3 0 k j) := by
  rw [← product]
  unfold k0_pay3
  rw [shapeCast_self]
  rfl

end Point

/-! ## The blocks a point reads -/

variable (m : (ℓ : Loc nD τ sig) → Buf (Elt Ideal) ℓ) (c : Dev nD)

/-- The input. -/
abbrev inp : (⟨2, ![8192, 1024]⟩ : Shape).Idx → EReal := m ((c : Thread nD τ).loc main_arg0)

/-- The gradient of the product. -/
abbrev ct : (⟨2, ![8192, 2048]⟩ : Shape).Idx → EReal := m ((c : Thread nD τ).loc main_arg1)

/-- Where the blocks of a point lie. -/
theorem lies : ∀ t : Fin cfg0.N, win0_0.index t = ![0, t.val % 4, 0] ∧ win0_1.index t = ![0, t.val % 4, t.val / 4]
    ∧ win0_2.index t = ![t.val / 4, 0, 0] := by decide +kernel

/-- The kernel reads the input with a leading axis. -/
theorem V_inp : V m c main_v0 = (lead (inp m c) : FVec Ideal S1x8192x1024 .bf16) := by
  have : V m c main_v0 = shapeCast S1x8192x1024 (m ((c : Thread nD τ).loc main_arg0) : FVec Ideal S8192x1024 .bf16) shapeCasts_S8192x1024_S1x8192x1024 := by
    simp only [V, hostOps0]
    after_results
    rfl
  rw [this]
  exact shapeCast_lead _ _

/-- So it does the gradient of the product. -/
theorem V_ct : V m c main_v1 = (lead (ct m c) : FVec Ideal S1x8192x2048 .bf16) := by
  have : V m c main_v1 = shapeCast S1x8192x2048 (m ((c : Thread nD τ).loc main_arg1) : FVec Ideal S8192x2048 .bf16) shapeCasts_S8192x2048_S1x8192x2048 := by
    simp only [V, hostOps0]
    after_results
    rfl
  rw [this]
  exact shapeCast_lead _ _

/-- The input, as a point reads it. -/
theorem blk_0 (t : Fin cfg0.N) (y : S1x2048x1024.Idx) : (iblk m c 0 t : Vec Ideal S1x2048x1024 .bf16) y
    = el (lead (inp m c)) 0 (2048 * (t.val % 4) + (y 1).val) (y 2).val := by
  have e := (lies t).1
  have h : (y 0).val < 1 := (y 0).isLt
  blk_simp [iblk]
  refine (congrFun (V_inp m c) _).trans (eq_el (lead (inp m c)) _ ?_ ?_ ?_) <;> blk_simp [e] <;> omega

/-- The gradient of the product, as a point reads it. -/
theorem blk_1 (t : Fin cfg0.N) (y : S1x2048x512.Idx) : (iblk m c 1 t : Vec Ideal S1x2048x512 .bf16) y
    = el (lead (ct m c)) 0 (2048 * (t.val % 4) + (y 1).val) (512 * (t.val / 4) + (y 2).val) := by
  have e := (lies t).2.1
  have h : (y 0).val < 1 := (y 0).isLt
  blk_simp [iblk]
  refine (congrFun (V_ct m c) _).trans (eq_el (lead (ct m c)) _ ?_ ?_ ?_) <;> blk_simp [e] <;> omega

/-- A point's part of the gradient. -/
abbrev own (r : Fin 1024) (j : Fin 512) (n : ℕ) : EReal := part (inp m c) (ct m c) (n % 4) (r.val) (512 * (n / 4) + j.val)

/-- The first point's value is its part. -/
theorem first_eq (t : Fin cfg0.N) (r : Fin 1024) (j : Fin 512) : k0_pay2 (iblk m c 0 t) (iblk m c 1 t) (ix2 r j) = own m c r j t.val :=
  (first_apply _ _ r j).trans (sum_congr rfl fun k _ => congrArg₂ (· * ·) (blk_0 m c t (ix3 0 k r)) (blk_1 m c t (ix3 0 k j)))

/-- A later point adds its part. -/
theorem later_eq (t : Fin cfg0.N) (z : Vec Ideal S1024x512 .f32) (r : Fin 1024) (j : Fin 512) :
    k0_pay3 (iblk m c 0 t) (iblk m c 1 t) z (ix2 r j) = z (ix2 r j) + own m c r j t.val :=
  (later_apply _ _ z r j).trans (congrArg (z (ix2 r j) + ·)
    (sum_congr rfl fun k _ => congrArg₂ (· * ·) (blk_0 m c t (ix3 0 k r)) (blk_1 m c t (ix3 0 k j))))

/-! ## The accumulator and the result -/

/-- After a point the accumulator holds the parts up to the point's own. -/
theorem scratch (r : Fin 1024) (j : Fin 512) : ∀ (n : ℕ) (h : n < cfg0.N), (outsAt0 m c n h).2 (ix2 r j)
    = ∑ s ∈ range (n % 4 + 1), own m c r j (n / 4 * 4 + s) := by
  refine running (fun n h => (outsAt0 m c n h).2 (ix2 r j)) (own m c r j) (fun n h h0 => ?_) (fun n h h0 => ?_)
  · refine (congrFun (congrArg Prod.snd (outsAt0_A m c ⟨n, h⟩ h0 (by dsimp only; omega) (by dsimp only; omega))) _).trans ?_
    dsimp only
    rw [acc_A, first_eq]
  · by_cases h2 : (n + 1) % 4 = 3
    · refine (congrFun (congrArg Prod.snd (outsAt0_C m c ⟨n + 1, h⟩ h0 (by dsimp only; omega) h2)) _).trans ?_
      dsimp only
      rw [acc_C, later_eq]
      rfl
    · refine (congrFun (congrArg Prod.snd (outsAt0_B m c ⟨n + 1, h⟩ h0 (by dsimp only; omega) h2)) _).trans ?_
      dsimp only
      rw [acc_B, later_eq]
      rfl

/-- The last point of a block writes the block's four parts. -/
theorem written (t : Fin cfg0.N) (h2 : t.val % 4 = 3) (y : S1x1024x512.Idx) : (outsAt0 m c t.val t.isLt).1 y
    = ∑ s ∈ range 4, part (inp m c) (ct m c) (s) ((y 1).val) (512 * (t.val / 4) + (y 2).val) := by
  obtain ⟨a, r, j, rfl⟩ : ∃ (a : Fin 1) (r : Fin 1024) (j : Fin 512), y = ix3 a r j := ⟨_, _, _, eq_ix3 y⟩
  obtain rfl : a = 0 := Subsingleton.elim _ _
  have e := outsAt0_C m c t (by omega) (by omega) h2
  have s := scratch m c r j t.val t.isLt
  rw [e] at s ⊢
  dsimp only at s ⊢
  rw [acc_C, h2] at s
  rw [out_C]
  refine (rounded _ _ _ r j).trans (s.trans (sum_congr rfl fun q hq => ?_))
  have hq := mem_range.mp hq
  rw [own, show (t.val / 4 * 4 + q) % 4 = q by omega, show (t.val / 4 * 4 + q) / 4 = t.val / 4 by omega]

/-- The result is the gradient. -/
theorem arr : (dats m 0 c).arrAt 2 cfg0.N = (dw (inp m c) (ct m c) : FVec Ideal S4x1024x512 .bf16) := by
  refine (dats m 0 c).arrAt_eq_of_covers 2 _ (by decide +kernel) fun t hf y => ?_
  have e := (lies t).2.2
  have h : (y 0).val < 1 := (y 0).isLt
  rw [after0_2]
  refine (written m c t ((flush0_2 t).mp hf) y).trans ?_
  unfold dw
  refine sum_congr rfl fun s _ => ?_
  congr 1 <;> blk_simp [e] <;> omega

end Kernel

/-! ## The reference -/

section Reference

open Cert.Reference12Ideal Cert.Reference12Ideal.Read

/-- The reference's product over all tokens is the sum of the four parts. -/
theorem plain (y : FVec Ideal S8192x1024 .bf16) (d : FVec Ideal S8192x2048 .bf16) :
    val_main_v10 (F := Ideal) y d = (dw y d : FVec Ideal S4x1024x512 .bf16) := by
  funext i
  have h0 : (i 0).val < 4 := (i 0).isLt
  have h1 : (i 1).val < 1024 := (i 1).isLt
  have h2 : (i 2).val < 512 := (i 2).isLt
  rw [val_main_v10_apply, val_main_v9_apply, val_main_v8_apply, val_main_v7_apply, val_main_v6_apply]
  refine Eq.trans (b := ∑ k : Fin (4 * 2048), el (lead y) 0 k.val (i 1).val * el (lead d) 0 k.val (512 * (i 0).val + (i 2).val)) ?_
    (sum_parts (fun k => el (lead y) 0 k (i 1).val * el (lead d) 0 k (512 * (i 0).val + (i 2).val)) 4 2048)
  refine sum_congr rfl fun k _ => ?_
  rw [val_main_v5_apply, val_main_v1_apply, mul_comm]
  refine congrArg₂ (· * ·) (eq_lead y _ rfl ?_) (eq_lead d _ rfl ?_)
  · show (((i 1).val * 4 + (i 0).val) * 512 + (i 2).val) / 2048 = (i 1).val; omega
  · show (((i 1).val * 4 + (i 0).val) * 512 + (i 2).val) % 2048 = _; omega

variable (m : (ℓ : Loc nD τ sig) → Buf (Elt Ideal) ℓ) (ρ : Dev nD → PrngReg)

/-- The reference ends, keeps its arguments and leaves no semaphore raised. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Value.run m ρ)

end Reference

/-- On the same arguments the kernel's result is the reference's. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => dw (inp m c) (ct m c), ?_, ?_⟩
  · refine (θ_run _ _ _).mono (fun r h c => ?_) (Cert.Kernel12Ideal.Value.run_blocks m g)
    exact ⟨(h c).1.trans (arr m c), (h c).2⟩
  · refine (θ_run _ _ _).mono (fun r h c => ?_) (Cert.Reference12Ideal.Value.run m' g')
    refine ⟨(h c).1.trans ?_, (h c).2⟩
    rw [(hargs c).1, (hargs c).2]
    exact plain _ _

end PoolW

end
-- ==== Proof.Adam.lean ====
module

public import proofs.«01_k».proof.Proof.Products

/-!
The optimiser's step on one weight: what it makes of an entry of the weight, of its gradient and of its two running means. The constants are
the single-precision numbers both programs print.
-/

@[expose] public section

noncomputable section

namespace Adam

open Idealize.ShloMosaic

/-- A printed single-precision number. -/
abbrev num (b : BitVec 32) : EReal := FloatOps.ofBits (F := Ideal) .f32 b

/-- The new mean of the gradient: 0.9 of the old and 0.1 of the gradient. -/
def mean (g m : EReal) : EReal := num 0x3F666666#32 * m + num 0x3DCCCCCD#32 * g

/-- The new mean of the gradient's square: 0.999 of the old and 0.001 of the square. -/
def square (g v : EReal) : EReal := num 0x3F7FBE77#32 * v + num 0x3A83126F#32 * (g * g)

/-- The change of the weight: the corrected mean over the root of the corrected mean square (with 1e-8 added), then 0.01 of the weight, all
    times -0.001. -/
def change (w g m v : EReal) : EReal := num 0xBA83126F#32 *
  (Ideal.div (Ideal.div (mean g m) (num 0x3F26BD02#32))
      (FloatOps.sqrt (F := Ideal) (φ := .f32) (Ideal.div (square g v) (num 0x3C231ACC#32)) + num 0x322BCC77#32)
    + num 0x3C23D70A#32 * w)

/-! ## The same on whole arrays -/

variable {s : Shape} (w g m v : s.Idx → EReal)

/-- The new means of the gradient. -/
def means : s.Idx → EReal := fun i => mean (g i) (m i)

/-- The new means of the square. -/
def squares : s.Idx → EReal := fun i => square (g i) (v i)

/-- The changes of the weight. -/
def changes : s.Idx → EReal := fun i => change (w i) (g i) (m i) (v i)

/-! ## The reference's expressions -/

variable (h : (⟨0, ![]⟩ : Shape).BroadcastsInDim s ![])

/-- A constant in every entry. -/
abbrev all (b : BitVec 32) : FVec Ideal s .f32 := broadcastInDim s ![] h (constant (F := Ideal) ⟨0, ![]⟩ .f32 b)

/-- The reference's new means of the gradient. -/
theorem plain_means : (addf (mulf (all h 0x3F666666#32) (m : FVec Ideal s .f32)) (mulf (all h 0x3DCCCCCD#32) (g : FVec Ideal s .f32)) : FVec Ideal s .f32)
    = means g m := rfl

/-- The reference's new means of the square. -/
theorem plain_squares : (addf (mulf (all h 0x3F7FBE77#32) (v : FVec Ideal s .f32))
    (mulf (all h 0x3A83126F#32) (mulf (g : FVec Ideal s .f32) (g : FVec Ideal s .f32))) : FVec Ideal s .f32) = squares g v := rfl

/-- The reference's changes of the weight, from the new means. -/
theorem plain_changes : (mulf (all h 0xBA83126F#32) (addf (Host.divf (Host.divf (means g m : FVec Ideal s .f32) (all h 0x3F26BD02#32))
    (addf (Host.sqrt (Host.divf (squares g v : FVec Ideal s .f32) (all h 0x3C231ACC#32))) (all h 0x322BCC77#32)))
    (mulf (all h 0x3C23D70A#32) (w : FVec Ideal s .f32))) : FVec Ideal s .f32) = changes w g m v := rfl

end Adam

end
-- ==== Proof.AdamIn.lean ====
module

public import proofs.«01_k».proof.Defs
public import proofs.«01_k».proof.Proof.Adam
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read

/-!
The optimiser's step on the input projection (2048 rows of 2304, blocks of 128 rows): the kernel takes it block by block, the reference at once.
-/

@[expose] public section

noncomputable section

namespace AdamIn

open Idealize.ShloMosaic Idealize.ShloMosaic.TcCoe Idealize.SL.Sem Adam

section Reference

open Cert.Reference13Ideal

/-- The reference ends, keeps its arguments and leaves no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run _ _ _).mono (fun r h => ⟨fun c => (h c).2.2.2, sem_eq_zero_of_no_sems (by decide) r.2⟩) (Value.run m ρ)

end Reference

/-- On the same arguments the kernel's three results are the reference's. -/
theorem algebraic : Cert.algebraic_Kernel13Ideal_Reference13Ideal (hKernel13Ideal := Cert.Kernel13Ideal.Gen.facts)
    (hReference13Ideal := Cert.Reference13Ideal.Gen.facts) := by
  intro m g m' g' _ hargs
  let w (c : Dev Cert.Kernel13Ideal.nD) := m ((c.tc : Thread Cert.Kernel13Ideal.nD Cert.Kernel13Ideal.τ).loc Cert.Kernel13Ideal.main_arg0)
  let d (c : Dev Cert.Kernel13Ideal.nD) := m ((c.tc : Thread Cert.Kernel13Ideal.nD Cert.Kernel13Ideal.τ).loc Cert.Kernel13Ideal.main_arg1)
  let a (c : Dev Cert.Kernel13Ideal.nD) := m ((c.tc : Thread Cert.Kernel13Ideal.nD Cert.Kernel13Ideal.τ).loc Cert.Kernel13Ideal.main_arg2)
  let b (c : Dev Cert.Kernel13Ideal.nD) := m ((c.tc : Thread Cert.Kernel13Ideal.nD Cert.Kernel13Ideal.τ).loc Cert.Kernel13Ideal.main_arg3)
  refine ⟨fun c => changes (w c) (d c) (a c) (b c), fun c => means (d c) (a c), fun c => squares (d c) (b c), ?_, ?_⟩
  · exact Cert.Kernel13Ideal.Value.run m g
  · refine (θ_run _ _ _).mono (fun r h c => ?_) (Cert.Reference13Ideal.Value.run m' g')
    obtain ⟨h0, h1, h2, hk⟩ := h c
    obtain ⟨e0, e1, e2, e3⟩ := hargs c
    rw [e0, e1, e2, e3] at h0
    rw [e1, e2] at h1
    rw [e1, e3] at h2
    exact ⟨h0.trans (plain_changes _ _ _ _ _), h1.trans (plain_means _ _ _), h2.trans (plain_squares _ _ _), hk⟩

end AdamIn

end
-- ==== Proof.AdamPool.lean ====
module

public import proofs.«01_k».proof.Defs
public import proofs.«01_k».proof.Proof.Adam
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read

/-!
The optimiser's step on the pooling mixer's weight (256 rows of 256, one block): the kernel takes it block by block, the reference at once.
-/

@[expose] public section

noncomputable section

namespace AdamPool

open Idealize.ShloMosaic Idealize.ShloMosaic.TcCoe Idealize.SL.Sem Adam

section Reference

open Cert.Reference14Ideal

/-- The reference ends, keeps its arguments and leaves no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run _ _ _).mono (fun r h => ⟨fun c => (h c).2.2.2, sem_eq_zero_of_no_sems (by decide) r.2⟩) (Value.run m ρ)

end Reference

/-- On the same arguments the kernel's three results are the reference's. -/
theorem algebraic : Cert.algebraic_Kernel14Ideal_Reference14Ideal (hKernel14Ideal := Cert.Kernel14Ideal.Gen.facts)
    (hReference14Ideal := Cert.Reference14Ideal.Gen.facts) := by
  intro m g m' g' _ hargs
  let w (c : Dev Cert.Kernel14Ideal.nD) := m ((c.tc : Thread Cert.Kernel14Ideal.nD Cert.Kernel14Ideal.τ).loc Cert.Kernel14Ideal.main_arg0)
  let d (c : Dev Cert.Kernel14Ideal.nD) := m ((c.tc : Thread Cert.Kernel14Ideal.nD Cert.Kernel14Ideal.τ).loc Cert.Kernel14Ideal.main_arg1)
  let a (c : Dev Cert.Kernel14Ideal.nD) := m ((c.tc : Thread Cert.Kernel14Ideal.nD Cert.Kernel14Ideal.τ).loc Cert.Kernel14Ideal.main_arg2)
  let b (c : Dev Cert.Kernel14Ideal.nD) := m ((c.tc : Thread Cert.Kernel14Ideal.nD Cert.Kernel14Ideal.τ).loc Cert.Kernel14Ideal.main_arg3)
  refine ⟨fun c => changes (w c) (d c) (a c) (b c), fun c => means (d c) (a c), fun c => squares (d c) (b c), ?_, ?_⟩
  · exact Cert.Kernel14Ideal.Value.run m g
  · refine (θ_run _ _ _).mono (fun r h c => ?_) (Cert.Reference14Ideal.Value.run m' g')
    obtain ⟨h0, h1, h2, hk⟩ := h c
    obtain ⟨e0, e1, e2, e3⟩ := hargs c
    rw [e0, e1, e2, e3] at h0
    rw [e1, e2] at h1
    rw [e1, e3] at h2
    exact ⟨h0.trans (plain_changes _ _ _ _ _), h1.trans (plain_means _ _ _), h2.trans (plain_squares _ _ _), hk⟩

end AdamPool

end
-- ==== Proof.AdamGate.lean ====
module

public import proofs.«01_k».proof.Defs
public import proofs.«01_k».proof.Proof.Adam
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read

/-!
The optimiser's step on a gate of the recurrence (512 rows of 256, one block): the kernel takes it block by block, the reference at once.
-/

@[expose] public section

noncomputable section

namespace AdamGate

open Idealize.ShloMosaic Idealize.ShloMosaic.TcCoe Idealize.SL.Sem Adam

section Reference

open Cert.Reference15Ideal

/-- The reference ends, keeps its arguments and leaves no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run _ _ _).mono (fun r h => ⟨fun c => (h c).2.2.2, sem_eq_zero_of_no_sems (by decide) r.2⟩) (Value.run m ρ)

end Reference

/-- On the same arguments the kernel's three results are the reference's. -/
theorem algebraic : Cert.algebraic_Kernel15Ideal_Reference15Ideal (hKernel15Ideal := Cert.Kernel15Ideal.Gen.facts)
    (hReference15Ideal := Cert.Reference15Ideal.Gen.facts) := by
  intro m g m' g' _ hargs
  let w (c : Dev Cert.Kernel15Ideal.nD) := m ((c.tc : Thread Cert.Kernel15Ideal.nD Cert.Kernel15Ideal.τ).loc Cert.Kernel15Ideal.main_arg0)
  let d (c : Dev Cert.Kernel15Ideal.nD) := m ((c.tc : Thread Cert.Kernel15Ideal.nD Cert.Kernel15Ideal.τ).loc Cert.Kernel15Ideal.main_arg1)
  let a (c : Dev Cert.Kernel15Ideal.nD) := m ((c.tc : Thread Cert.Kernel15Ideal.nD Cert.Kernel15Ideal.τ).loc Cert.Kernel15Ideal.main_arg2)
  let b (c : Dev Cert.Kernel15Ideal.nD) := m ((c.tc : Thread Cert.Kernel15Ideal.nD Cert.Kernel15Ideal.τ).loc Cert.Kernel15Ideal.main_arg3)
  refine ⟨fun c => changes (w c) (d c) (a c) (b c), fun c => means (d c) (a c), fun c => squares (d c) (b c), ?_, ?_⟩
  · exact Cert.Kernel15Ideal.Value.run m g
  · refine (θ_run _ _ _).mono (fun r h c => ?_) (Cert.Reference15Ideal.Value.run m' g')
    obtain ⟨h0, h1, h2, hk⟩ := h c
    obtain ⟨e0, e1, e2, e3⟩ := hargs c
    rw [e0, e1, e2, e3] at h0
    rw [e1, e2] at h1
    rw [e1, e3] at h2
    exact ⟨h0.trans (plain_changes _ _ _ _ _), h1.trans (plain_means _ _ _), h2.trans (plain_squares _ _ _), hk⟩

end AdamGate

end
-- ==== Proof.AdamPoolProj.lean ====
module

public import proofs.«01_k».proof.Defs
public import proofs.«01_k».proof.Proof.Adam
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read

/-!
The optimiser's step on the pooling mixer's projection (1024 rows of 512, blocks of 256 rows): the kernel takes it block by block, the reference at once.
-/

@[expose] public section

noncomputable section

namespace AdamPoolProj

open Idealize.ShloMosaic Idealize.ShloMosaic.TcCoe Idealize.SL.Sem Adam

section Reference

open Cert.Reference16Ideal

/-- The reference ends, keeps its arguments and leaves no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run _ _ _).mono (fun r h => ⟨fun c => (h c).2.2.2, sem_eq_zero_of_no_sems (by decide) r.2⟩) (Value.run m ρ)

end Reference

/-- On the same arguments the kernel's three results are the reference's. -/
theorem algebraic : Cert.algebraic_Kernel16Ideal_Reference16Ideal (hKernel16Ideal := Cert.Kernel16Ideal.Gen.facts)
    (hReference16Ideal := Cert.Reference16Ideal.Gen.facts) := by
  intro m g m' g' _ hargs
  let w (c : Dev Cert.Kernel16Ideal.nD) := m ((c.tc : Thread Cert.Kernel16Ideal.nD Cert.Kernel16Ideal.τ).loc Cert.Kernel16Ideal.main_arg0)
  let d (c : Dev Cert.Kernel16Ideal.nD) := m ((c.tc : Thread Cert.Kernel16Ideal.nD Cert.Kernel16Ideal.τ).loc Cert.Kernel16Ideal.main_arg1)
  let a (c : Dev Cert.Kernel16Ideal.nD) := m ((c.tc : Thread Cert.Kernel16Ideal.nD Cert.Kernel16Ideal.τ).loc Cert.Kernel16Ideal.main_arg2)
  let b (c : Dev Cert.Kernel16Ideal.nD) := m ((c.tc : Thread Cert.Kernel16Ideal.nD Cert.Kernel16Ideal.τ).loc Cert.Kernel16Ideal.main_arg3)
  refine ⟨fun c => changes (w c) (d c) (a c) (b c), fun c => means (d c) (a c), fun c => squares (d c) (b c), ?_, ?_⟩
  · exact Cert.Kernel16Ideal.Value.run m g
  · refine (θ_run _ _ _).mono (fun r h c => ?_) (Cert.Reference16Ideal.Value.run m' g')
    obtain ⟨h0, h1, h2, hk⟩ := h c
    obtain ⟨e0, e1, e2, e3⟩ := hargs c
    rw [e0, e1, e2, e3] at h0
    rw [e1, e2] at h1
    rw [e1, e3] at h2
    exact ⟨h0.trans (plain_changes _ _ _ _ _), h1.trans (plain_means _ _ _), h2.trans (plain_squares _ _ _), hk⟩

end AdamPoolProj

end
-- ==== Proof.AdamOut.lean ====
module

public import proofs.«01_k».proof.Defs
public import proofs.«01_k».proof.Proof.Adam
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read

/-!
The optimiser's step on the output projection or the projection of the recurrence (512 rows of 2048, blocks of 128 rows): the kernel takes it block by block, the reference at once.
-/

@[expose] public section

noncomputable section

namespace AdamOut

open Idealize.ShloMosaic Idealize.ShloMosaic.TcCoe Idealize.SL.Sem Adam

section Reference

open Cert.Reference17Ideal

/-- The reference ends, keeps its arguments and leaves no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run _ _ _).mono (fun r h => ⟨fun c => (h c).2.2.2, sem_eq_zero_of_no_sems (by decide) r.2⟩) (Value.run m ρ)

end Reference

/-- On the same arguments the kernel's three results are the reference's. -/
theorem algebraic : Cert.algebraic_Kernel17Ideal_Reference17Ideal (hKernel17Ideal := Cert.Kernel17Ideal.Gen.facts)
    (hReference17Ideal := Cert.Reference17Ideal.Gen.facts) := by
  intro m g m' g' _ hargs
  let w (c : Dev Cert.Kernel17Ideal.nD) := m ((c.tc : Thread Cert.Kernel17Ideal.nD Cert.Kernel17Ideal.τ).loc Cert.Kernel17Ideal.main_arg0)
  let d (c : Dev Cert.Kernel17Ideal.nD) := m ((c.tc : Thread Cert.Kernel17Ideal.nD Cert.Kernel17Ideal.τ).loc Cert.Kernel17Ideal.main_arg1)
  let a (c : Dev Cert.Kernel17Ideal.nD) := m ((c.tc : Thread Cert.Kernel17Ideal.nD Cert.Kernel17Ideal.τ).loc Cert.Kernel17Ideal.main_arg2)
  let b (c : Dev Cert.Kernel17Ideal.nD) := m ((c.tc : Thread Cert.Kernel17Ideal.nD Cert.Kernel17Ideal.τ).loc Cert.Kernel17Ideal.main_arg3)
  refine ⟨fun c => changes (w c) (d c) (a c) (b c), fun c => means (d c) (a c), fun c => squares (d c) (b c), ?_, ?_⟩
  · exact Cert.Kernel17Ideal.Value.run m g
  · refine (θ_run _ _ _).mono (fun r h c => ?_) (Cert.Reference17Ideal.Value.run m' g')
    obtain ⟨h0, h1, h2, hk⟩ := h c
    obtain ⟨e0, e1, e2, e3⟩ := hargs c
    rw [e0, e1, e2, e3] at h0
    rw [e1, e2] at h1
    rw [e1, e3] at h2
    exact ⟨h0.trans (plain_changes _ _ _ _ _), h1.trans (plain_means _ _ _), h2.trans (plain_squares _ _ _), hk⟩

end AdamOut

end
-- ==== Proof.AdamUp.lean ====
module

public import proofs.«01_k».proof.Defs
public import proofs.«01_k».proof.Proof.Adam
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read

/-!
The optimiser's step on the up projection (2048 rows of 3072, blocks of 128 rows): the kernel takes it block by block, the reference at once.
-/

@[expose] public section

noncomputable section

namespace AdamUp

open Idealize.ShloMosaic Idealize.ShloMosaic.TcCoe Idealize.SL.Sem Adam

section Reference

open Cert.Reference18Ideal

/-- The reference ends, keeps its arguments and leaves no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run _ _ _).mono (fun r h => ⟨fun c => (h c).2.2.2, sem_eq_zero_of_no_sems (by decide) r.2⟩) (Value.run m ρ)

end Reference

/-- On the same arguments the kernel's three results are the reference's. -/
theorem algebraic : Cert.algebraic_Kernel18Ideal_Reference18Ideal (hKernel18Ideal := Cert.Kernel18Ideal.Gen.facts)
    (hReference18Ideal := Cert.Reference18Ideal.Gen.facts) := by
  intro m g m' g' _ hargs
  let w (c : Dev Cert.Kernel18Ideal.nD) := m ((c.tc : Thread Cert.Kernel18Ideal.nD Cert.Kernel18Ideal.τ).loc Cert.Kernel18Ideal.main_arg0)
  let d (c : Dev Cert.Kernel18Ideal.nD) := m ((c.tc : Thread Cert.Kernel18Ideal.nD Cert.Kernel18Ideal.τ).loc Cert.Kernel18Ideal.main_arg1)
  let a (c : Dev Cert.Kernel18Ideal.nD) := m ((c.tc : Thread Cert.Kernel18Ideal.nD Cert.Kernel18Ideal.τ).loc Cert.Kernel18Ideal.main_arg2)
  let b (c : Dev Cert.Kernel18Ideal.nD) := m ((c.tc : Thread Cert.Kernel18Ideal.nD Cert.Kernel18Ideal.τ).loc Cert.Kernel18Ideal.main_arg3)
  refine ⟨fun c => changes (w c) (d c) (a c) (b c), fun c => means (d c) (a c), fun c => squares (d c) (b c), ?_, ?_⟩
  · exact Cert.Kernel18Ideal.Value.run m g
  · refine (θ_run _ _ _).mono (fun r h c => ?_) (Cert.Reference18Ideal.Value.run m' g')
    obtain ⟨h0, h1, h2, hk⟩ := h c
    obtain ⟨e0, e1, e2, e3⟩ := hargs c
    rw [e0, e1, e2, e3] at h0
    rw [e1, e2] at h1
    rw [e1, e3] at h2
    exact ⟨h0.trans (plain_changes _ _ _ _ _), h1.trans (plain_means _ _ _), h2.trans (plain_squares _ _ _), hk⟩

end AdamUp

end
-- ==== Proof.AdamDown.lean ====
module

public import proofs.«01_k».proof.Defs
public import proofs.«01_k».proof.Proof.Adam
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read

/-!
The optimiser's step on the down projection (1536 rows of 2048, blocks of 128 rows): the kernel takes it block by block, the reference at once.
-/

@[expose] public section

noncomputable section

namespace AdamDown

open Idealize.ShloMosaic Idealize.ShloMosaic.TcCoe Idealize.SL.Sem Adam

section Reference

open Cert.Reference19Ideal

/-- The reference ends, keeps its arguments and leaves no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run _ _ _).mono (fun r h => ⟨fun c => (h c).2.2.2, sem_eq_zero_of_no_sems (by decide) r.2⟩) (Value.run m ρ)

end Reference

/-- On the same arguments the kernel's three results are the reference's. -/
theorem algebraic : Cert.algebraic_Kernel19Ideal_Reference19Ideal (hKernel19Ideal := Cert.Kernel19Ideal.Gen.facts)
    (hReference19Ideal := Cert.Reference19Ideal.Gen.facts) := by
  intro m g m' g' _ hargs
  let w (c : Dev Cert.Kernel19Ideal.nD) := m ((c.tc : Thread Cert.Kernel19Ideal.nD Cert.Kernel19Ideal.τ).loc Cert.Kernel19Ideal.main_arg0)
  let d (c : Dev Cert.Kernel19Ideal.nD) := m ((c.tc : Thread Cert.Kernel19Ideal.nD Cert.Kernel19Ideal.τ).loc Cert.Kernel19Ideal.main_arg1)
  let a (c : Dev Cert.Kernel19Ideal.nD) := m ((c.tc : Thread Cert.Kernel19Ideal.nD Cert.Kernel19Ideal.τ).loc Cert.Kernel19Ideal.main_arg2)
  let b (c : Dev Cert.Kernel19Ideal.nD) := m ((c.tc : Thread Cert.Kernel19Ideal.nD Cert.Kernel19Ideal.τ).loc Cert.Kernel19Ideal.main_arg3)
  refine ⟨fun c => changes (w c) (d c) (a c) (b c), fun c => means (d c) (a c), fun c => squares (d c) (b c), ?_, ?_⟩
  · exact Cert.Kernel19Ideal.Value.run m g
  · refine (θ_run _ _ _).mono (fun r h c => ?_) (Cert.Reference19Ideal.Value.run m' g')
    obtain ⟨h0, h1, h2, hk⟩ := h c
    obtain ⟨e0, e1, e2, e3⟩ := hargs c
    rw [e0, e1, e2, e3] at h0
    rw [e1, e2] at h1
    rw [e1, e3] at h2
    exact ⟨h0.trans (plain_changes _ _ _ _ _), h1.trans (plain_means _ _ _), h2.trans (plain_squares _ _ _), hk⟩

end AdamDown

end
-- ==== Proof.lean ====
/- The claims about the kernels' programs, their idealizations and the references, put together from the modules that prove them. -/
module

public import proofs.«01_k».proof.Defs
public import proofs.«01_k».proof.Proof.PlainRun
public import proofs.«01_k».proof.Proof.Values
public import proofs.«01_k».proof.Proof.UpX
public import proofs.«01_k».proof.Proof.UpW
public import proofs.«01_k».proof.Proof.UpFwd
public import proofs.«01_k».proof.Proof.DownX
public import proofs.«01_k».proof.Proof.DownW
public import proofs.«01_k».proof.Proof.OutX
public import proofs.«01_k».proof.Proof.LruX
public import proofs.«01_k».proof.Proof.LruW
public import proofs.«01_k».proof.Proof.PoolFwd
public import proofs.«01_k».proof.Proof.PoolX
public import proofs.«01_k».proof.Proof.PoolW
public import proofs.«01_k».proof.Proof.AdamIn
public import proofs.«01_k».proof.Proof.AdamPool
public import proofs.«01_k».proof.Proof.AdamGate
public import proofs.«01_k».proof.Proof.AdamPoolProj
public import proofs.«01_k».proof.Proof.AdamOut
public import proofs.«01_k».proof.Proof.AdamUp
public import proofs.«01_k».proof.Proof.AdamDown

@[expose] public section

noncomputable section

namespace Cert.Proof

open Idealize.ShloMosaic Idealize.SL.Sem

/-- The two named constants stand for the numbers they are said to stand for. -/
theorem preserves : Cert.preserves_Kernel_KernelIdeal :=
  ⟨IdealRules.named_const.statement Cert.KernelIdeal.κ "ca" .f32 0x3D122279#32 _ rfl,
    IdealRules.named_const.statement Cert.KernelIdeal.κ "ca3" .f32 0x3DDB33B6#32 _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Admissible.facts,
  fun m ρ _ => PlainRun.frame m ρ, fun m ρ _ => KernelRun.frame m ρ, fun m ρ _ => KernelRun.frame m ρ, fun m ρ _ => RefRun.frame m ρ,
  fun m ρ _ => RefRun.frame m ρ,
  fun m ρ _ => Cert.Kernel2.Gen.frame m ρ, fun m ρ _ => Cert.Kernel2Ideal.Gen.frame m ρ, fun m ρ _ => UpX.frame m ρ,
  fun m ρ _ => Cert.Kernel3.Gen.frame m ρ, fun m ρ _ => Cert.Kernel3Ideal.Gen.frame m ρ, fun m ρ _ => UpW.frame m ρ,
  fun m ρ _ => Cert.Kernel4.Gen.frame m ρ, fun m ρ _ => Cert.Kernel4Ideal.Gen.frame m ρ, fun m ρ _ => UpFwd.frame m ρ,
  fun m ρ _ => Cert.Kernel5.Gen.frame m ρ, fun m ρ _ => Cert.Kernel5Ideal.Gen.frame m ρ, fun m ρ _ => DownX.frame m ρ,
  fun m ρ _ => Cert.Kernel6.Gen.frame m ρ, fun m ρ _ => Cert.Kernel6Ideal.Gen.frame m ρ, fun m ρ _ => DownW.frame m ρ,
  fun m ρ _ => Cert.Kernel7.Gen.frame m ρ, fun m ρ _ => Cert.Kernel7Ideal.Gen.frame m ρ, fun m ρ _ => OutX.frame m ρ,
  fun m ρ _ => Cert.Kernel8.Gen.frame m ρ, fun m ρ _ => Cert.Kernel8Ideal.Gen.frame m ρ, fun m ρ _ => LruX.frame m ρ,
  fun m ρ _ => Cert.Kernel9.Gen.frame m ρ, fun m ρ _ => Cert.Kernel9Ideal.Gen.frame m ρ, fun m ρ _ => LruW.frame m ρ,
  fun m ρ _ => Cert.Kernel10.Gen.frame m ρ, fun m ρ _ => Cert.Kernel10Ideal.Gen.frame m ρ, fun m ρ _ => PoolFwd.frame m ρ,
  fun m ρ _ => Cert.Kernel11.Gen.frame m ρ, fun m ρ _ => Cert.Kernel11Ideal.Gen.frame m ρ, fun m ρ _ => PoolX.frame m ρ,
  fun m ρ _ => Cert.Kernel12.Gen.frame m ρ, fun m ρ _ => Cert.Kernel12Ideal.Gen.frame m ρ, fun m ρ _ => PoolW.frame m ρ,
  fun m ρ _ => Cert.Kernel13.Gen.frame m ρ, fun m ρ _ => Cert.Kernel13Ideal.Gen.frame m ρ, fun m ρ _ => AdamIn.frame m ρ,
  fun m ρ _ => Cert.Kernel14.Gen.frame m ρ, fun m ρ _ => Cert.Kernel14Ideal.Gen.frame m ρ, fun m ρ _ => AdamPool.frame m ρ,
  fun m ρ _ => Cert.Kernel15.Gen.frame m ρ, fun m ρ _ => Cert.Kernel15Ideal.Gen.frame m ρ, fun m ρ _ => AdamGate.frame m ρ,
  fun m ρ _ => Cert.Kernel16.Gen.frame m ρ, fun m ρ _ => Cert.Kernel16Ideal.Gen.frame m ρ, fun m ρ _ => AdamPoolProj.frame m ρ,
  fun m ρ _ => Cert.Kernel17.Gen.frame m ρ, fun m ρ _ => Cert.Kernel17Ideal.Gen.frame m ρ, fun m ρ _ => AdamOut.frame m ρ,
  fun m ρ _ => Cert.Kernel18.Gen.frame m ρ, fun m ρ _ => Cert.Kernel18Ideal.Gen.frame m ρ, fun m ρ _ => AdamUp.frame m ρ,
  fun m ρ _ => Cert.Kernel19.Gen.frame m ρ, fun m ρ _ => Cert.Kernel19Ideal.Gen.frame m ρ, fun m ρ _ => AdamDown.frame m ρ,
  preserves, algebraic,
  trivial, UpX.algebraic,
  trivial, UpW.algebraic,
  trivial, UpFwd.algebraic,
  trivial, DownX.algebraic,
  trivial, DownW.algebraic,
  trivial, OutX.algebraic,
  trivial, LruX.algebraic,
  trivial, LruW.algebraic,
  trivial, PoolFwd.algebraic,
  trivial, PoolX.algebraic,
  trivial, PoolW.algebraic,
  trivial, AdamIn.algebraic,
  trivial, AdamPool.algebraic,
  trivial, AdamGate.algebraic,
  trivial, AdamPoolProj.algebraic,
  trivial, AdamOut.algebraic,
  trivial, AdamUp.algebraic,
  trivial, AdamDown.algebraic⟩

end Cert.Proof

end
